-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_open [hPre_gates_open : Cert.Pre_gates_open.Facts] (m : (ℓ : Loc Cert.KernelIdeal.nD Cert.KernelIdeal.τ Cert.KernelIdeal.sig) → Buf (Elt Ideal) ℓ) : Prop :=
  ∀ c : Dev Cert.KernelIdeal.nD,
    (Cert.Pre_gates_open.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_open [hPre_gates_open : Cert.Pre_gates_open.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_open.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_gates_open [hKernelIdeal : Cert.KernelIdeal.Facts] [hPre_gates_open : Cert.Pre_gates_open.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_open m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_gates_open [hReferenceIdeal : Cert.ReferenceIdeal.Facts] [hPre_gates_open : Cert.Pre_gates_open.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_open m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def preserves_Kernel_KernelIdeal : Prop :=
  True

def algebraic_KernelIdeal_ReferenceIdeal_pre_gates_open [hKernelIdeal : Cert.KernelIdeal.Facts] [hReferenceIdeal : Cert.ReferenceIdeal.Facts] [hPre_gates_open : Cert.Pre_gates_open.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_open m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v55_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_v55_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_OutProj_OutProjIdeal : Prop :=
  True

def algebraic_OutProjIdeal_OutRefIdeal [hOutProjIdeal : Cert.OutProjIdeal.Facts] [hOutRefIdeal : Cert.OutRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)
      ∧ m' ((c.tc : Thread Cert.OutRefIdeal.nD Cert.OutRefIdeal.τ).loc Cert.OutRefIdeal.main_arg2) = m ((c.tc : Thread Cert.OutProjIdeal.nD Cert.OutProjIdeal.τ).loc Cert.OutProjIdeal.main_arg2)
      ∧ m' ((c.tc : Thread Cert.OutRefIdeal.nD Cert.OutRefIdeal.τ).loc Cert.OutRefIdeal.main_arg3) = m ((c.tc : Thread Cert.OutProjIdeal.nD Cert.OutProjIdeal.τ).loc Cert.OutProjIdeal.main_arg3)
      ∧ m' ((c.tc : Thread Cert.OutRefIdeal.nD Cert.OutRefIdeal.τ).loc Cert.OutRefIdeal.main_arg4) = m ((c.tc : Thread Cert.OutProjIdeal.nD Cert.OutProjIdeal.τ).loc Cert.OutProjIdeal.main_arg4)
      ∧ m' ((c.tc : Thread Cert.OutRefIdeal.nD Cert.OutRefIdeal.τ).loc Cert.OutRefIdeal.main_arg5) = m ((c.tc : Thread Cert.OutProjIdeal.nD Cert.OutProjIdeal.τ).loc Cert.OutProjIdeal.main_arg5)
      ∧ m' ((c.tc : Thread Cert.OutRefIdeal.nD Cert.OutRefIdeal.τ).loc Cert.OutRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v8_0)) (v1 : (c : Dev Cert.OutProjIdeal.nD) → Buf (Elt Ideal) ((c.tc : Thread Cert.OutProjIdeal.nD Cert.OutProjIdeal.τ).loc Cert.OutProjIdeal.main_v8_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v8_0) = v0 c
          ∧ r.2.mem ((c.tc : Thread Cert.OutProjIdeal.nD Cert.OutProjIdeal.τ).loc Cert.OutProjIdeal.main_v8_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v32) = v0 c
          ∧ r.2.mem ((c.tc : Thread Cert.OutRefIdeal.nD Cert.OutRefIdeal.τ).loc Cert.OutRefIdeal.main_v47) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v6)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v6) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v20) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v6)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v6) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v14) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def Claim : Prop :=
  ∃ (hKernel : Cert.Kernel.Facts) (hKernelIdeal : Cert.KernelIdeal.Facts) (hReferenceIdeal : Cert.ReferenceIdeal.Facts) (hOutProj : Cert.OutProj.Facts) (hOutProjIdeal : Cert.OutProjIdeal.Facts) (hOutRefIdeal : Cert.OutRefIdeal.Facts) (hMlp : Cert.Mlp.Facts) (hMlpIdeal : Cert.MlpIdeal.Facts) (hMlpRefIdeal : Cert.MlpRefIdeal.Facts) (hPle : Cert.Ple.Facts) (hPleIdeal : Cert.PleIdeal.Facts) (hPleRefIdeal : Cert.PleRefIdeal.Facts) (hPre_gates_open : Cert.Pre_gates_open.Facts),
    quiescent_Kernel (hKernel := hKernel)
    ∧ quiescent_KernelIdeal (hKernelIdeal := hKernelIdeal)
    ∧ quiescent_KernelIdeal_pre_gates_open (hKernelIdeal := hKernelIdeal) (hPre_gates_open := hPre_gates_open)
    ∧ quiescent_ReferenceIdeal (hReferenceIdeal := hReferenceIdeal)
    ∧ quiescent_ReferenceIdeal_pre_gates_open (hReferenceIdeal := hReferenceIdeal) (hPre_gates_open := hPre_gates_open)
    ∧ quiescent_OutProj (hOutProj := hOutProj)
    ∧ quiescent_OutProjIdeal (hOutProjIdeal := hOutProjIdeal)
    ∧ quiescent_OutRefIdeal (hOutRefIdeal := hOutRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Ple (hPle := hPle)
    ∧ quiescent_PleIdeal (hPleIdeal := hPleIdeal)
    ∧ quiescent_PleRefIdeal (hPleRefIdeal := hPleRefIdeal)
    ∧ preserves_Kernel_KernelIdeal
    ∧ algebraic_KernelIdeal_ReferenceIdeal_pre_gates_open (hKernelIdeal := hKernelIdeal) (hReferenceIdeal := hReferenceIdeal) (hPre_gates_open := hPre_gates_open)
    ∧ preserves_OutProj_OutProjIdeal
    ∧ algebraic_OutProjIdeal_OutRefIdeal (hOutProjIdeal := hOutProjIdeal) (hOutRefIdeal := hOutRefIdeal)
    ∧ preserves_Mlp_MlpIdeal
    ∧ algebraic_MlpIdeal_MlpRefIdeal (hMlpIdeal := hMlpIdeal) (hMlpRefIdeal := hMlpRefIdeal)
    ∧ preserves_Ple_PleIdeal
    ∧ algebraic_PleIdeal_PleRefIdeal (hPleIdeal := hPleIdeal) (hPleRefIdeal := hPleRefIdeal)
-- ==== Pre_gates_open.lean ====
abbrev S16x2048x2048 : Shape := ⟨3, ![16, 2048, 2048]⟩
abbrev S1x2048 : Shape := ⟨2, ![1, 2048]⟩
abbrev S1x2048x4656 : Shape := ⟨3, ![1, 2048, 4656]⟩
abbrev S1x4x1024 : Shape := ⟨3, ![1, 4, 1024]⟩
abbrev S1x1024 : Shape := ⟨2, ![1, 1024]⟩
abbrev S1x16x64x64 : Shape := ⟨4, ![1, 16, 64, 64]⟩
abbrev S1x16x64 : Shape := ⟨3, ![1, 16, 64]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x4656 : Shape := ⟨2, ![2048, 4656]⟩
abbrev S16x2048x4656 : Shape := ⟨3, ![16, 2048, 4656]⟩
abbrev S16x2048x1024 : Shape := ⟨3, ![16, 2048, 1024]⟩
abbrev S16x2051x1024 : Shape := ⟨3, ![16, 2051, 1024]⟩
abbrev S1024 : Shape := ⟨1, ![1024]⟩
abbrev S1x1x1024 : Shape := ⟨3, ![1, 1, 1024]⟩
abbrev S16x2048x16x64 : Shape := ⟨4, ![16, 2048, 16, 64]⟩
abbrev S16x64x64 : Shape := ⟨3, ![16, 64, 64]⟩
abbrev S16x64x16x2048 : Shape := ⟨4, ![16, 64, 16, 2048]⟩
abbrev S16x64 : Shape := ⟨2, ![16, 64]⟩
abbrev S1x1x16x64 : Shape := ⟨4, ![1, 1, 16, 64]⟩

class Facts : Prop where
  shapeCasts_S1x2048_S2048 : S1x2048.ShapeCasts S2048
  reducesTo_S16x2048x2048_S16x2048_d2 : S16x2048x2048.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x2048_0_1_2 : S16x2048x1.BroadcastsInDim S16x2048x2048 (![0, 1, 2] : Fin 3 → Fin S16x2048x2048.rank)
  bcast_S2048_S1x1x2048_2 : S2048.BroadcastsInDim S1x1x2048 (![2] : Fin 1 → Fin S1x1x2048.rank)
  bcast_S1x1x2048_S16x2048x2048_0_1_2 : S1x1x2048.BroadcastsInDim S16x2048x2048 (![0, 1, 2] : Fin 3 → Fin S16x2048x2048.rank)
  shapeCasts_S1x2048x4656_S2048x4656 : S1x2048x4656.ShapeCasts S2048x4656
  slices_S16x2048x4656_S16x2048x1024_0_0_0 : S16x2048x4656.Slices ![0, 0, 0] S16x2048x1024
  pads_S16x2048x1024_S16x2051x1024_000_300_000 : S16x2048x1024.Pads (![0, 3, 0] : Fin 3 → Nat) ![0, 0, 0] ![0, 0, 0] S16x2051x1024
  shapeCasts_S1x1024_S1024 : S1x1024.ShapeCasts S1024
  slices_S16x2051x1024_S16x2048x1024_0_0_0 : S16x2051x1024.Slices ![0, 0, 0] S16x2048x1024
  slices_S1x4x1024_S1x1x1024_0_0_0 : S1x4x1024.Slices ![0, 0, 0] S1x1x1024
  shapeCasts_S1x1x1024_S1024 : S1x1x1024.ShapeCasts S1024
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  bcast_S_S16x2048x1024 : S_.BroadcastsInDim S16x2048x1024 (![] : Fin 0 → Fin S16x2048x1024.rank)
  slices_S16x2051x1024_S16x2048x1024_0_1_0 : S16x2051x1024.Slices ![0, 1, 0] S16x2048x1024
  slices_S1x4x1024_S1x1x1024_0_1_0 : S1x4x1024.Slices ![0, 1, 0] S1x1x1024
  slices_S16x2051x1024_S16x2048x1024_0_2_0 : S16x2051x1024.Slices ![0, 2, 0] S16x2048x1024
  slices_S1x4x1024_S1x1x1024_0_2_0 : S1x4x1024.Slices ![0, 2, 0] S1x1x1024
  slices_S16x2051x1024_S16x2048x1024_0_3_0 : S16x2051x1024.Slices ![0, 3, 0] S16x2048x1024
  slices_S1x4x1024_S1x1x1024_0_3_0 : S1x4x1024.Slices ![0, 3, 0] S1x1x1024
  shapeCasts_S16x2048x1024_S16x2048x16x64 : S16x2048x1024.ShapeCasts S16x2048x16x64
  shapeCasts_S1x16x64x64_S16x64x64 : S1x16x64x64.ShapeCasts S16x64x64
  transposes_S16x64x16x2048_S16x2048x16x64_2_3_0_1 : S16x64x16x2048.Transposes [2, 3, 0, 1] S16x2048x16x64
  shapeCasts_S1x16x64_S16x64 : S1x16x64.ShapeCasts S16x64
  bcast_S16x64_S1x1x16x64_2_3 : S16x64.BroadcastsInDim S1x1x16x64 (![2, 3] : Fin 2 → Fin S1x1x16x64.rank)
  bcast_S1x1x16x64_S16x2048x16x64_0_1_2_3 : S1x1x16x64.BroadcastsInDim S16x2048x16x64 (![0, 1, 2, 3] : Fin 4 → Fin S16x2048x16x64.rank)
  bcast_S_S16x2048x16x64 : S_.BroadcastsInDim S16x2048x16x64 (![] : Fin 0 → Fin S16x2048x16x64.rank)
  shapeCasts_S16x2048x16x64_S16x2048x1024 : S16x2048x16x64.ShapeCasts S16x2048x1024
  bcast_S_S1024 : S_.BroadcastsInDim S1024 (![] : Fin 0 → Fin S1024.rank)
  dot_S16x2048x2048_S2048x4656_S16x2048x4656_2_0_01_1_n_n_wf : DotDims.WF S16x2048x2048 S2048x4656 S16x2048x4656 [2] [0] [0, 1] [1] [] []
  dot_S16x64x64_S16x2048x16x64_S16x64x16x2048_1_3_2_01_0_2_wf : DotDims.WF S16x64x64 S16x2048x16x64 S16x64x16x2048 [1] [3] [2] [0, 1] [0] [2]

variable [Facts]

def dot_S16x2048x2048_S2048x4656_S16x2048x4656_2_0_01_1_n_n : DotDims S16x2048x2048 S2048x4656 S16x2048x4656 where
  lhsContracting := [2]
  rhsContracting := [0]
  lhsNonContracting := [0, 1]
  rhsNonContracting := [1]
  lhsBatch := []
  rhsBatch := []
  wf := dot_S16x2048x2048_S2048x4656_S16x2048x4656_2_0_01_1_n_n_wf
def dot_S16x64x64_S16x2048x16x64_S16x64x16x2048_1_3_2_01_0_2 : DotDims S16x64x64 S16x2048x16x64 S16x64x16x2048 where
  lhsContracting := [1]
  rhsContracting := [3]
  lhsNonContracting := [2]
  rhsNonContracting := [0, 1]
  lhsBatch := [0]
  rhsBatch := [2]
  wf := dot_S16x64x64_S16x2048x16x64_S16x64x16x2048_1_3_2_01_0_2_wf
def fn_part4 {F : FTy → Type} [FloatOps F] (main_v83 : FVec F S16x2048x1024 .f32) (main_v84 : FVec F S16x2048x1024 .f32) : IVec S16x2048x1024 1 :=
  let main_v85 : IVec S16x2048x1024 1 := cmpf .oge main_v83 main_v84
  let main_cst_10 : FVec F S_ .f32 := constant S_ .f32 0x00000000#32
  let main_v86 : FVec F S16x2048x1024 .f32 := broadcastInDim S16x2048x1024 ![] bcast_S_S16x2048x1024 main_cst_10
  let main_v87 : IVec S16x2048x1024 1 := cmpf .oeq main_v83 main_v86
  let main_v88 : IVec S16x2048x1024 1 := ori main_v85 main_v87
  main_v88

def fn_part3 {F : FTy → Type} [FloatOps F] (main_arg9 : FVec F S1x1024 .f32) (main_v64 : FVec F S16x2048x16x64 .f32) : IVec S16x2048x1024 1 :=
  let main_v65 : FVec F S16x2048x1024 .f32 := shapeCast S16x2048x1024 main_v64 shapeCasts_S16x2048x16x64_S16x2048x1024
  let main_v66 : FVec F S1024 .f32 := shapeCast S1024 main_arg9 shapeCasts_S1x1024_S1024
  let main_v67 : FVec F S1024 .f32 := Host.negf main_v66
  let main_cst_6 : FVec F S_ .f32 := constant S_ .f32 0xC1000000#32
  let main_v68 : FVec F S16x2048x1024 .f32 := broadcastInDim S16x2048x1024 ![] bcast_S_S16x2048x1024 main_cst_6
  let main_v69 : FVec F S16x2048x1024 .f32 := mulf main_v68 main_v65
  let main_cst_7 : FVec F S_ .f32 := constant S_ .f32 0x00000000#32
  let main_v70 : FVec F S1024 .f32 := broadcastInDim S1024 ![] bcast_S_S1024 main_cst_7
  let main_v71 : FVec F S1024 .f32 := maximumf main_v67 main_v70
  let main_v72 : FVec F S1024 .f32 := Host.absf main_v67
  let main_v73 : FVec F S1024 .f32 := Host.negf main_v72
  let main_v74 : FVec F S1024 .f32 := Host.exp main_v73
  let main_v75 : FVec F S1024 .f32 := Host.log1p main_v74
  let main_v76 : FVec F S1024 .f32 := addf main_v71 main_v75
  let main_v77 : FVec F S1x1x1024 .f32 := broadcastInDim S1x1x1024 ![2] bcast_S1024_S1x1x1024_2 main_v76
  let main_v78 : FVec F S16x2048x1024 .f32 := broadcastInDim S16x2048x1024 ![0, 1, 2] bcast_S1x1x1024_S16x2048x1024_0_1_2 main_v77
  let main_v79 : FVec F S16x2048x1024 .f32 := mulf main_v69 main_v78
  let main_v80 : FVec F S16x2048x1024 .f32 := Host.exp main_v79
  let main_v81 : FVec F S16x2048x1024 .f32 := mulf main_v80 main_v80
  let main_cst_8 : FVec F S_ .f32 := constant S_ .f32 0x3F800000#32
  let main_v82 : FVec F S16x2048x1024 .f32 := broadcastInDim S16x2048x1024 ![] bcast_S_S16x2048x1024 main_cst_8
  let main_v83 : FVec F S16x2048x1024 .f32 := subf main_v82 main_v81
  let main_cst_9 : FVec F S_ .f32 := constant S_ .f32 0x0DA24260#32
  let main_v84 : FVec F S16x2048x1024 .f32 := broadcastInDim S16x2048x1024 ![] bcast_S_S16x2048x1024 main_cst_9
  fn_part4 (F := F) main_v83 main_v84

def fn_part2 {F : FTy → Type} [FloatOps F] (main_arg5 : FVec F S1x16x64x64 .f32) (main_arg6 : FVec F S1x16x64 .f32) (main_arg9 : FVec F S1x1024 .f32) (main_v18 : FVec F S1024 .f32) (main_v40 : FVec F S16x2048x1024 .f32) (main_v41 : FVec F S16x2048x1024 .f32) (main_v42 : FVec F S1x1x1024 .f32) : IVec S16x2048x1024 1 :=
  let main_v43 : FVec F S1024 .f32 := shapeCast S1024 main_v42 shapeCasts_S1x1x1024_S1024
  let main_v44 : FVec F S1x1x1024 .f32 := broadcastInDim S1x1x1024 ![2] bcast_S1024_S1x1x1024_2 main_v43
  let main_v45 : FVec F S16x2048x1024 .f32 := broadcastInDim S16x2048x1024 ![0, 1, 2] bcast_S1x1x1024_S16x2048x1024_0_1_2 main_v44
  let main_v46 : FVec F S16x2048x1024 .f32 := mulf main_v41 main_v45
  let main_v47 : FVec F S16x2048x1024 .f32 := addf main_v40 main_v46
  let main_v48 : FVec F S1x1x1024 .f32 := broadcastInDim S1x1x1024 ![2] bcast_S1024_S1x1x1024_2 main_v18
  let main_v49 : FVec F S16x2048x1024 .f32 := broadcastInDim S16x2048x1024 ![0, 1, 2] bcast_S1x1x1024_S16x2048x1024_0_1_2 main_v48
  let main_v50 : FVec F S16x2048x1024 .f32 := addf main_v49 main_v47
  let main_v51 : FVec F S16x2048x16x64 .f32 := shapeCast S16x2048x16x64 main_v50 shapeCasts_S16x2048x1024_S16x2048x16x64
  let main_v52 : FVec F S16x64x64 .f32 := shapeCast S16x64x64 main_arg5 shapeCasts_S1x16x64x64_S16x64x64
  let main_v53 : FVec F S16x64x16x2048 .f32 := (fun l r => Host.dotGeneral dot_S16x64x64_S16x2048x16x64_S16x64x16x2048_1_3_2_01_0_2 none l r) main_v52 main_v51
  let main_v54 : FVec F S16x2048x16x64 .f32 := (transpose S16x2048x16x64 [2, 3, 0, 1] · transposes_S16x64x16x2048_S16x2048x16x64_2_3_0_1) main_v53
  let main_v55 : FVec F S16x64 .f32 := shapeCast S16x64 main_arg6 shapeCasts_S1x16x64_S16x64
  let main_v56 : FVec F S1x1x16x64 .f32 := broadcastInDim S1x1x16x64 ![2, 3] bcast_S16x64_S1x1x16x64_2_3 main_v55
  let main_v57 : FVec F S16x2048x16x64 .f32 := broadcastInDim S16x2048x16x64 ![0, 1, 2, 3] bcast_S1x1x16x64_S16x2048x16x64_0_1_2_3 main_v56
  let main_v58 : FVec F S16x2048x16x64 .f32 := addf main_v54 main_v57
  let main_v59 : FVec F S16x2048x16x64 .f32 := Host.negf main_v58
  let main_v60 : FVec F S16x2048x16x64 .f32 := Host.exp main_v59
  let main_cst_4 : FVec F S_ .f32 := constant S_ .f32 0x3F800000#32
  let main_v61 : FVec F S16x2048x16x64 .f32 := broadcastInDim S16x2048x16x64 ![] bcast_S_S16x2048x16x64 main_cst_4
  let main_v62 : FVec F S16x2048x16x64 .f32 := addf main_v61 main_v60
  let main_cst_5 : FVec F S_ .f32 := constant S_ .f32 0x3F800000#32
  let main_v63 : FVec F S16x2048x16x64 .f32 := broadcastInDim S16x2048x16x64 ![] bcast_S_S16x2048x16x64 main_cst_5
  let main_v64 : FVec F S16x2048x16x64 .f32 := Host.divf main_v63 main_v62
  fn_part3 (F := F) main_arg9 main_v64

def fn_part1 {F : FTy → Type} [FloatOps F] (main_arg3 : FVec F S1x4x1024 .f32) (main_arg5 : FVec F S1x16x64x64 .f32) (main_arg6 : FVec F S1x16x64 .f32) (main_arg9 : FVec F S1x1024 .f32) (main_v17 : FVec F S16x2051x1024 .f32) (main_v18 : FVec F S1024 .f32) (main_v19 : FVec F S16x2048x1024 .f32) : IVec S16x2048x1024 1 :=
  let main_v20 : FVec F S1x1x1024 .f32 := (extractStridedSlice S1x1x1024 ![0, 0, 0] · slices_S1x4x1024_S1x1x1024_0_0_0) main_arg3
  let main_v21 : FVec F S1024 .f32 := shapeCast S1024 main_v20 shapeCasts_S1x1x1024_S1024
  let main_v22 : FVec F S1x1x1024 .f32 := broadcastInDim S1x1x1024 ![2] bcast_S1024_S1x1x1024_2 main_v21
  let main_v23 : FVec F S16x2048x1024 .f32 := broadcastInDim S16x2048x1024 ![0, 1, 2] bcast_S1x1x1024_S16x2048x1024_0_1_2 main_v22
  let main_v24 : FVec F S16x2048x1024 .f32 := mulf main_v19 main_v23
  let main_cst_3 : FVec F S_ .f32 := constant S_ .f32 0x00000000#32
  let main_v25 : FVec F S16x2048x1024 .f32 := broadcastInDim S16x2048x1024 ![] bcast_S_S16x2048x1024 main_cst_3
  let main_v26 : FVec F S16x2048x1024 .f32 := addf main_v25 main_v24
  let main_v27 : FVec F S16x2048x1024 .f32 := (extractStridedSlice S16x2048x1024 ![0, 1, 0] · slices_S16x2051x1024_S16x2048x1024_0_1_0) main_v17
  let main_v28 : FVec F S1x1x1024 .f32 := (extractStridedSlice S1x1x1024 ![0, 1, 0] · slices_S1x4x1024_S1x1x1024_0_1_0) main_arg3
  let main_v29 : FVec F S1024 .f32 := shapeCast S1024 main_v28 shapeCasts_S1x1x1024_S1024
  let main_v30 : FVec F S1x1x1024 .f32 := broadcastInDim S1x1x1024 ![2] bcast_S1024_S1x1x1024_2 main_v29
  let main_v31 : FVec F S16x2048x1024 .f32 := broadcastInDim S16x2048x1024 ![0, 1, 2] bcast_S1x1x1024_S16x2048x1024_0_1_2 main_v30
  let main_v32 : FVec F S16x2048x1024 .f32 := mulf main_v27 main_v31
  let main_v33 : FVec F S16x2048x1024 .f32 := addf main_v26 main_v32
  let main_v34 : FVec F S16x2048x1024 .f32 := (extractStridedSlice S16x2048x1024 ![0, 2, 0] · slices_S16x2051x1024_S16x2048x1024_0_2_0) main_v17
  let main_v35 : FVec F S1x1x1024 .f32 := (extractStridedSlice S1x1x1024 ![0, 2, 0] · slices_S1x4x1024_S1x1x1024_0_2_0) main_arg3
  let main_v36 : FVec F S1024 .f32 := shapeCast S1024 main_v35 shapeCasts_S1x1x1024_S1024
  let main_v37 : FVec F S1x1x1024 .f32 := broadcastInDim S1x1x1024 ![2] bcast_S1024_S1x1x1024_2 main_v36
  let main_v38 : FVec F S16x2048x1024 .f32 := broadcastInDim S16x2048x1024 ![0, 1, 2] bcast_S1x1x1024_S16x2048x1024_0_1_2 main_v37
  let main_v39 : FVec F S16x2048x1024 .f32 := mulf main_v34 main_v38
  let main_v40 : FVec F S16x2048x1024 .f32 := addf main_v33 main_v39
  let main_v41 : FVec F S16x2048x1024 .f32 := (extractStridedSlice S16x2048x1024 ![0, 3, 0] · slices_S16x2051x1024_S16x2048x1024_0_3_0) main_v17
  let main_v42 : FVec F S1x1x1024 .f32 := (extractStridedSlice S1x1x1024 ![0, 3, 0] · slices_S1x4x1024_S1x1x1024_0_3_0) main_arg3
  fn_part2 (F := F) main_arg5 main_arg6 main_arg9 main_v18 main_v40 main_v41 main_v42

def fn {F : FTy → Type} [FloatOps F] (main_arg0 : FVec F S16x2048x2048 .f32) (main_arg1 : FVec F S1x2048 .f32) (main_arg2 : FVec F S1x2048x4656 .f32) (main_arg3 : FVec F S1x4x1024 .f32) (main_arg4 : FVec F S1x1024 .f32) (main_arg5 : FVec F S1x16x64x64 .f32) (main_arg6 : FVec F S1x16x64 .f32) (main_arg7 : FVec F S1x16x64x64 .f32) (main_arg8 : FVec F S1x16x64 .f32) (main_arg9 : FVec F S1x1024 .f32) (main_arg10 : FVec F S1x1024 .f32) : IVec S16x2048x1024 1 :=
  let main_v0 : FVec F S2048 .f32 := shapeCast S2048 main_arg1 shapeCasts_S1x2048_S2048
  let main_v1 : FVec F S16x2048x2048 .f32 := mulf main_arg0 main_arg0
  let main_cst : FVec F S_ .f32 := constant S_ .f32 0x00000000#32
  let main_v2 : FVec F S16x2048 .f32 := (fun x v => Host.reduceAdd x v reducesTo_S16x2048x2048_S16x2048_d2 h_S_) main_v1 main_cst
  let main_v3 : FVec F S16x2048x1 .f32 := broadcastInDim S16x2048x1 ![0, 1] bcast_S16x2048_S16x2048x1_0_1 main_v2
  let main_cst_0 : FVec F S_ .f32 := constant S_ .f32 0x45000000#32
  let main_v4 : FVec F S16x2048x1 .f32 := broadcastInDim S16x2048x1 ![] bcast_S_S16x2048x1 main_cst_0
  let main_v5 : FVec F S16x2048x1 .f32 := Host.divf main_v3 main_v4
  let main_cst_1 : FVec F S_ .f32 := constant S_ .f32 0x358637BD#32
  let main_v6 : FVec F S16x2048x1 .f32 := broadcastInDim S16x2048x1 ![] bcast_S_S16x2048x1 main_cst_1
  let main_v7 : FVec F S16x2048x1 .f32 := addf main_v5 main_v6
  let main_v8 : FVec F S16x2048x1 .f32 := Host.rsqrt main_v7
  let main_v9 : FVec F S16x2048x2048 .f32 := broadcastInDim S16x2048x2048 ![0, 1, 2] bcast_S16x2048x1_S16x2048x2048_0_1_2 main_v8
  let main_v10 : FVec F S16x2048x2048 .f32 := mulf main_arg0 main_v9
  let main_v11 : FVec F S1x1x2048 .f32 := broadcastInDim S1x1x2048 ![2] bcast_S2048_S1x1x2048_2 main_v0
  let main_v12 : FVec F S16x2048x2048 .f32 := broadcastInDim S16x2048x2048 ![0, 1, 2] bcast_S1x1x2048_S16x2048x2048_0_1_2 main_v11
  let main_v13 : FVec F S16x2048x2048 .f32 := mulf main_v10 main_v12
  let main_v14 : FVec F S2048x4656 .f32 := shapeCast S2048x4656 main_arg2 shapeCasts_S1x2048x4656_S2048x4656
  let main_v15 : FVec F S16x2048x4656 .f32 := (fun l r => Host.dotGeneral dot_S16x2048x2048_S2048x4656_S16x2048x4656_2_0_01_1_n_n none l r) main_v13 main_v14
  let main_v16 : FVec F S16x2048x1024 .f32 := (extractStridedSlice S16x2048x1024 ![0, 0, 0] · slices_S16x2048x4656_S16x2048x1024_0_0_0) main_v15
  let main_cst_2 : FVec F S_ .f32 := constant S_ .f32 0x00000000#32
  let main_v17 : FVec F S16x2051x1024 .f32 := (fun x v => pad S16x2051x1024 ![0, 3, 0] ![0, 0, 0] ![0, 0, 0] x v pads_S16x2048x1024_S16x2051x1024_000_300_000 h_S_) main_v16 main_cst_2
  let main_v18 : FVec F S1024 .f32 := shapeCast S1024 main_arg4 shapeCasts_S1x1024_S1024
  let main_v19 : FVec F S16x2048x1024 .f32 := (extractStridedSlice S16x2048x1024 ![0, 0, 0] · slices_S16x2051x1024_S16x2048x1024_0_0_0) main_v17
  fn_part1 (F := F) main_arg3 main_arg5 main_arg6 main_arg9 main_v17 main_v18 main_v19
-- ==== Kernel.lean ====
abbrev S16x2048x2048 : Shape := ⟨3, ![16, 2048, 2048]⟩
abbrev S1x2048 : Shape := ⟨2, ![1, 2048]⟩
abbrev S1x2048x4656 : Shape := ⟨3, ![1, 2048, 4656]⟩
abbrev S1x4x1024 : Shape := ⟨3, ![1, 4, 1024]⟩
abbrev S1x1024 : Shape := ⟨2, ![1, 1024]⟩
abbrev S1x16x64x64 : Shape := ⟨4, ![1, 16, 64, 64]⟩
abbrev S1x16x64 : Shape := ⟨3, ![1, 16, 64]⟩
abbrev S32768x2048 : Shape := ⟨2, ![32768, 2048]⟩
abbrev S2048x4656 : Shape := ⟨2, ![2048, 4656]⟩
abbrev S2048x48 : Shape := ⟨2, ![2048, 48]⟩
abbrev S2048x4x12 : Shape := ⟨3, ![2048, 4, 12]⟩
abbrev S_ : Shape := ⟨0, ![]⟩
abbrev S2048x4x16 : Shape := ⟨3, ![2048, 4, 16]⟩
abbrev S2048x1024 : Shape := ⟨2, ![2048, 1024]⟩
abbrev S2048x256 : Shape := ⟨2, ![2048, 256]⟩
abbrev S2048x64 : Shape := ⟨2, ![2048, 64]⟩
abbrev S2048x1600 : Shape := ⟨2, ![2048, 1600]⟩
abbrev S1600x2048 : Shape := ⟨2, ![1600, 2048]⟩
abbrev S4x1024 : Shape := ⟨2, ![4, 1024]⟩
abbrev S1024 : Shape := ⟨1, ![1024]⟩
abbrev S16x64x64 : Shape := ⟨3, ![16, 64, 64]⟩
abbrev S4x4x64x64 : Shape := ⟨4, ![4, 4, 64, 64]⟩
abbrev S4x4 : Shape := ⟨2, ![4, 4]⟩
abbrev S4x4x64x1x64 : Shape := ⟨5, ![4, 4, 64, 1, 64]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S16x64 : Shape := ⟨2, ![16, 64]⟩
abbrev S2048 : Shape := ⟨1, ![2048]⟩
abbrev S32768x1024 : Shape := ⟨2, ![32768, 1024]⟩
abbrev S32768x256 : Shape := ⟨2, ![32768, 256]⟩
abbrev S32768x512 : Shape := ⟨2, ![32768, 512]⟩
abbrev S1024x32768 : Shape := ⟨2, ![1024, 32768]⟩
abbrev S512x32768 : Shape := ⟨2, ![512, 32768]⟩
abbrev S64x32768 : Shape := ⟨2, ![64, 32768]⟩
abbrev S512x2048 : Shape := ⟨2, ![512, 2048]⟩
abbrev S512x1024 : Shape := ⟨2, ![512, 1024]⟩
abbrev S512x256 : Shape := ⟨2, ![512, 256]⟩
abbrev S512x512 : Shape := ⟨2, ![512, 512]⟩
abbrev S1024x512 : Shape := ⟨2, ![1024, 512]⟩
abbrev S64x512 : Shape := ⟨2, ![64, 512]⟩
abbrev S8x1024 : Shape := ⟨2, ![8, 1024]⟩
abbrev S512 : Shape := ⟨1, ![512]⟩
abbrev S512x1 : Shape := ⟨2, ![512, 1]⟩
abbrev S512x128 : Shape := ⟨2, ![512, 128]⟩
abbrev S64x8x1024 : Shape := ⟨3, ![64, 8, 1024]⟩
abbrev S1x1x1024 : Shape := ⟨3, ![1, 1, 1024]⟩
abbrev S1x8x1024 : Shape := ⟨3, ![1, 8, 1024]⟩
abbrev S63x8x1024 : Shape := ⟨3, ![63, 8, 1024]⟩
abbrev S64x8x256 : Shape := ⟨3, ![64, 8, 256]⟩
abbrev S1x256x256 : Shape := ⟨3, ![1, 256, 256]⟩
abbrev S256x256 : Shape := ⟨2, ![256, 256]⟩
abbrev S1x256 : Shape := ⟨2, ![1, 256]⟩
abbrev S1024x2048 : Shape := ⟨2, ![1024, 2048]⟩
abbrev S256x2048 : Shape := ⟨2, ![256, 2048]⟩
abbrev S256x512 : Shape := ⟨2, ![256, 512]⟩
abbrev S64x2048 : Shape := ⟨2, ![64, 2048]⟩

abbrev nBuf : Space → Nat
  | .hbm => 79
  | .vmem => 35
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x4656, .f32⟩
  | .hbm, ⟨3, _⟩ => ⟨S1x4x1024, .f32⟩
  | .hbm, ⟨4, _⟩ => ⟨S1x1024, .f32⟩
  | .hbm, ⟨5, _⟩ => ⟨S1x16x64x64, .f32⟩
  | .hbm, ⟨6, _⟩ => ⟨S1x16x64, .f32⟩
  | .hbm, ⟨7, _⟩ => ⟨S1x16x64x64, .f32⟩
  | .hbm, ⟨8, _⟩ => ⟨S1x16x64, .f32⟩
  | .hbm, ⟨9, _⟩ => ⟨S1x1024, .f32⟩
  | .hbm, ⟨10, _⟩ => ⟨S1x1024, .f32⟩
  | .hbm, ⟨11, _⟩ => ⟨S32768x2048, .f32⟩
  | .hbm, ⟨12, _⟩ => ⟨S2048x4656, .f32⟩
  | .hbm, ⟨13, _⟩ => ⟨S2048x4656, .bf16⟩
  | .hbm, ⟨14, _⟩ => ⟨S2048x48, .bf16⟩
  | .hbm, ⟨15, _⟩ => ⟨S2048x4x12, .bf16⟩
  | .hbm, ⟨16, _⟩ => ⟨S_, .i32⟩
  | .hbm, ⟨17, _⟩ => ⟨S_, .bf16⟩
  | .hbm, ⟨18, _⟩ => ⟨S2048x4x16, .bf16⟩
  | .hbm, ⟨19, _⟩ => ⟨S2048x1024, .bf16⟩
  | .hbm, ⟨20, _⟩ => ⟨S2048x256, .bf16⟩
  | .hbm, ⟨21, _⟩ => ⟨S2048x256, .bf16⟩
  | .hbm, ⟨22, _⟩ => ⟨S2048x64, .bf16⟩
  | .hbm, ⟨23, _⟩ => ⟨S2048x1600, .bf16⟩
  | .hbm, ⟨24, _⟩ => ⟨S1600x2048, .bf16⟩
  | .hbm, ⟨25, _⟩ => ⟨S4x1024, .f32⟩
  | .hbm, ⟨26, _⟩ => ⟨S1024, .f32⟩
  | .hbm, ⟨27, _⟩ => ⟨S1x1024, .f32⟩
  | .hbm, ⟨28, _⟩ => ⟨S16x64x64, .f32⟩
  | .hbm, ⟨29, _⟩ => ⟨S4x4x64x64, .f32⟩
  | .hbm, ⟨30, _⟩ => ⟨S4x4, .i32⟩
  | .hbm, ⟨31, _⟩ => ⟨S4x4, .i32⟩
  | .hbm, ⟨32, _⟩ => ⟨S_, .i32⟩
  | .hbm, ⟨33, _⟩ => ⟨S4x4, .i32⟩
  | .hbm, ⟨34, _⟩ => ⟨S4x4, .i32⟩
  | .hbm, ⟨35, _⟩ => ⟨S4x4, .i1⟩
  | .hbm, ⟨36, _⟩ => ⟨S4x4, .f32⟩
  | .hbm, ⟨37, _⟩ => ⟨S4x4x64x1x64, .f32⟩
  | .hbm, ⟨38, _⟩ => ⟨S1x4x1x4x1, .f32⟩
  | .hbm, ⟨39, _⟩ => ⟨S4x4x64x4x64, .f32⟩
  | .hbm, ⟨40, _⟩ => ⟨S4x4x64x4x64, .f32⟩
  | .hbm, ⟨41, _⟩ => ⟨S4x4x64x4x64, .f32⟩
  | .hbm, ⟨42, _⟩ => ⟨S4x256x256, .f32⟩
  | .hbm, ⟨43, _⟩ => ⟨S4x256x256, .bf16⟩
  | .hbm, ⟨44, _⟩ => ⟨S16x64, .f32⟩
  | .hbm, ⟨45, _⟩ => ⟨S1x1024, .f32⟩
  | .hbm, ⟨46, _⟩ => ⟨S16x64x64, .f32⟩
  | .hbm, ⟨47, _⟩ => ⟨S4x4x64x64, .f32⟩
  | .hbm, ⟨48, _⟩ => ⟨S4x4, .i32⟩
  | .hbm, ⟨49, _⟩ => ⟨S4x4, .i32⟩
  | .hbm, ⟨50, _⟩ => ⟨S_, .i32⟩
  | .hbm, ⟨51, _⟩ => ⟨S4x4, .i32⟩
  | .hbm, ⟨52, _⟩ => ⟨S4x4, .i32⟩
  | .hbm, ⟨53, _⟩ => ⟨S4x4, .i1⟩
  | .hbm, ⟨54, _⟩ => ⟨S4x4, .f32⟩
  | .hbm, ⟨55, _⟩ => ⟨S4x4x64x1x64, .f32⟩
  | .hbm, ⟨56, _⟩ => ⟨S1x4x1x4x1, .f32⟩
  | .hbm, ⟨57, _⟩ => ⟨S4x4x64x4x64, .f32⟩
  | .hbm, ⟨58, _⟩ => ⟨S4x4x64x4x64, .f32⟩
  | .hbm, ⟨59, _⟩ => ⟨S4x4x64x4x64, .f32⟩
  | .hbm, ⟨60, _⟩ => ⟨S4x256x256, .f32⟩
  | .hbm, ⟨61, _⟩ => ⟨S4x256x256, .bf16⟩
  | .hbm, ⟨62, _⟩ => ⟨S16x64, .f32⟩
  | .hbm, ⟨63, _⟩ => ⟨S1x1024, .f32⟩
  | .hbm, ⟨64, _⟩ => ⟨S1024, .f32⟩
  | .hbm, ⟨65, _⟩ => ⟨S1x1024, .f32⟩
  | .hbm, ⟨66, _⟩ => ⟨S1024, .f32⟩
  | .hbm, ⟨67, _⟩ => ⟨S1x1024, .f32⟩
  | .hbm, ⟨68, _⟩ => ⟨S2048, .f32⟩
  | .hbm, ⟨69, _⟩ => ⟨S1x2048, .f32⟩
  | .hbm, ⟨70, _⟩ => ⟨S32768x1024, .bf16⟩
  | .hbm, ⟨71, _⟩ => ⟨S32768x256, .f32⟩
  | .hbm, ⟨72, _⟩ => ⟨S32768x256, .f32⟩
  | .hbm, ⟨73, _⟩ => ⟨S32768x512, .bf16⟩
  | .hbm, ⟨74, _⟩ => ⟨S32768x512, .bf16⟩
  | .hbm, ⟨75, _⟩ => ⟨S1024x32768, .bf16⟩
  | .hbm, ⟨76, _⟩ => ⟨S512x32768, .bf16⟩
  | .hbm, ⟨77, _⟩ => ⟨S512x32768, .bf16⟩
  | .hbm, ⟨78, _⟩ => ⟨S64x32768, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4656, .bf16⟩
  | .local _ .vmem, ⟨4, _⟩ => ⟨S1600x2048, .bf16⟩
  | .local _ .vmem, ⟨5, _⟩ => ⟨S4x1024, .f32⟩
  | .local _ .vmem, ⟨6, _⟩ => ⟨S1x1024, .f32⟩
  | .local _ .vmem, ⟨7, _⟩ => ⟨S4x256x256, .bf16⟩
  | .local _ .vmem, ⟨8, _⟩ => ⟨S1x1024, .f32⟩
  | .local _ .vmem, ⟨9, _⟩ => ⟨S4x256x256, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S1024x512, .bf16⟩
  | .local _ .vmem, ⟨24, _⟩ => ⟨S1024x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S64x512, .f32⟩
  | .local _ .vmem, ⟨30, _⟩ => ⟨S64x512, .f32⟩
  | .local _ .vmem, ⟨31, _⟩ => ⟨S8x1024, .f32⟩
  | .local _ .vmem, ⟨32, _⟩ => ⟨S512x1024, .f32⟩
  | .local _ .vmem, ⟨33, _⟩ => ⟨S512x1024, .f32⟩
  | .local _ .vmem, ⟨34, _⟩ => ⟨S8x1024, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_1 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55_0 : Ref sig .tc := ⟨.hbm, 70, rfl⟩
abbrev main_v55_1 : Ref sig .tc := ⟨.hbm, 71, rfl⟩
abbrev main_v55_2 : Ref sig .tc := ⟨.hbm, 72, rfl⟩
abbrev main_v55_3 : Ref sig .tc := ⟨.hbm, 73, rfl⟩
abbrev main_v55_4 : Ref sig .tc := ⟨.hbm, 74, rfl⟩
abbrev main_v55_5 : Ref sig .tc := ⟨.hbm, 75, rfl⟩
abbrev main_v55_6 : Ref sig .tc := ⟨.hbm, 76, rfl⟩
abbrev main_v55_7 : Ref sig .tc := ⟨.hbm, 77, rfl⟩
abbrev main_v55_8 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1600x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceIdeal.lean ====
abbrev S16x2048x2048 : Shape := ⟨3, ![16, 2048, 2048]⟩
abbrev S1x2048 : Shape := ⟨2, ![1, 2048]⟩
abbrev S1x2048x4656 : Shape := ⟨3, ![1, 2048, 4656]⟩
abbrev S1x4x1024 : Shape := ⟨3, ![1, 4, 1024]⟩
abbrev S1x1024 : Shape := ⟨2, ![1, 1024]⟩
abbrev S1x16x64x64 : Shape := ⟨4, ![1, 16, 64, 64]⟩
abbrev S1x16x64 : Shape := ⟨3, ![1, 16, 64]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x4656 : Shape := ⟨2, ![2048, 4656]⟩
abbrev S16x2048x4656 : Shape := ⟨3, ![16, 2048, 4656]⟩
abbrev S16x2048x1024 : Shape := ⟨3, ![16, 2048, 1024]⟩
abbrev S16x2048x256 : Shape := ⟨3, ![16, 2048, 256]⟩
abbrev S16x2051x1024 : Shape := ⟨3, ![16, 2051, 1024]⟩
abbrev S1024 : Shape := ⟨1, ![1024]⟩
abbrev S1x1x1024 : Shape := ⟨3, ![1, 1, 1024]⟩
abbrev S16x2048x16x64 : Shape := ⟨4, ![16, 2048, 16, 64]⟩
abbrev S16x64x64 : Shape := ⟨3, ![16, 64, 64]⟩
abbrev S16x64x16x2048 : Shape := ⟨4, ![16, 64, 16, 2048]⟩
abbrev S16x64 : Shape := ⟨2, ![16, 64]⟩
abbrev S1x1x16x64 : Shape := ⟨4, ![1, 1, 16, 64]⟩
abbrev S16x1024 : Shape := ⟨2, ![16, 1024]⟩
abbrev S2048x16x1024 : Shape := ⟨3, ![2048, 16, 1024]⟩
abbrev S1x16x1024 : Shape := ⟨3, ![1, 16, 1024]⟩
abbrev S32768x1024 : Shape := ⟨2, ![32768, 1024]⟩
abbrev S32768x256 : Shape := ⟨2, ![32768, 256]⟩

abbrev nBuf : Space → Nat
  | .hbm => 205
  | .vmem => 0
  | .smem => 0
  | _ => 0

abbrev hbmTy0_0 (i : Nat) : BufTy := match i % 128 with
  | 0 => ⟨S16x2048x2048, .f32⟩
  | 1 => ⟨S1x2048, .f32⟩
  | 2 => ⟨S1x2048x4656, .f32⟩
  | 3 => ⟨S1x4x1024, .f32⟩
  | 4 => ⟨S1x1024, .f32⟩
  | 5 => ⟨S1x16x64x64, .f32⟩
  | 6 => ⟨S1x16x64, .f32⟩
  | 7 => ⟨S1x16x64x64, .f32⟩
  | 8 => ⟨S1x16x64, .f32⟩
  | 9 => ⟨S1x1024, .f32⟩
  | 10 => ⟨S1x1024, .f32⟩
  | 11 => ⟨S2048, .f32⟩
  | 12 => ⟨S16x2048x2048, .f32⟩
  | 13 => ⟨S_, .f32⟩
  | 14 => ⟨S16x2048, .f32⟩
  | 15 => ⟨S16x2048x1, .f32⟩
  | 16 => ⟨S_, .f32⟩
  | 17 => ⟨S16x2048x1, .f32⟩
  | 18 => ⟨S16x2048x1, .f32⟩
  | 19 => ⟨S_, .f32⟩
  | 20 => ⟨S16x2048x1, .f32⟩
  | 21 => ⟨S16x2048x1, .f32⟩
  | 22 => ⟨S16x2048x1, .f32⟩
  | 23 => ⟨S16x2048x2048, .f32⟩
  | 24 => ⟨S16x2048x2048, .f32⟩
  | 25 => ⟨S1x1x2048, .f32⟩
  | 26 => ⟨S16x2048x2048, .f32⟩
  | 27 => ⟨S16x2048x2048, .f32⟩
  | 28 => ⟨S2048x4656, .f32⟩
  | 29 => ⟨S16x2048x4656, .f32⟩
  | 30 => ⟨S16x2048x1024, .f32⟩
  | 31 => ⟨S16x2048x1024, .f32⟩
  | 32 => ⟨S16x2048x256, .f32⟩
  | 33 => ⟨S16x2048x256, .f32⟩
  | 34 => ⟨S_, .i32⟩
  | 35 => ⟨S_, .f32⟩
  | 36 => ⟨S16x2051x1024, .f32⟩
  | 37 => ⟨S1024, .f32⟩
  | 38 => ⟨S16x2048x1024, .f32⟩
  | 39 => ⟨S1x1x1024, .f32⟩
  | 40 => ⟨S1024, .f32⟩
  | 41 => ⟨S1x1x1024, .f32⟩
  | 42 => ⟨S16x2048x1024, .f32⟩
  | 43 => ⟨S16x2048x1024, .f32⟩
  | 44 => ⟨S_, .f32⟩
  | 45 => ⟨S16x2048x1024, .f32⟩
  | 46 => ⟨S16x2048x1024, .f32⟩
  | 47 => ⟨S16x2048x1024, .f32⟩
  | 48 => ⟨S1x1x1024, .f32⟩
  | 49 => ⟨S1024, .f32⟩
  | 50 => ⟨S1x1x1024, .f32⟩
  | 51 => ⟨S16x2048x1024, .f32⟩
  | 52 => ⟨S16x2048x1024, .f32⟩
  | 53 => ⟨S16x2048x1024, .f32⟩
  | 54 => ⟨S16x2048x1024, .f32⟩
  | 55 => ⟨S1x1x1024, .f32⟩
  | 56 => ⟨S1024, .f32⟩
  | 57 => ⟨S1x1x1024, .f32⟩
  | 58 => ⟨S16x2048x1024, .f32⟩
  | 59 => ⟨S16x2048x1024, .f32⟩
  | 60 => ⟨S16x2048x1024, .f32⟩
  | 61 => ⟨S16x2048x1024, .f32⟩
  | 62 => ⟨S1x1x1024, .f32⟩
  | 63 => ⟨S1024, .f32⟩
  | 64 => ⟨S1x1x1024, .f32⟩
  | 65 => ⟨S16x2048x1024, .f32⟩
  | 66 => ⟨S16x2048x1024, .f32⟩
  | 67 => ⟨S16x2048x1024, .f32⟩
  | 68 => ⟨S1x1x1024, .f32⟩
  | 69 => ⟨S16x2048x1024, .f32⟩
  | 70 => ⟨S16x2048x1024, .f32⟩
  | 71 => ⟨S16x2048x16x64, .f32⟩
  | 72 => ⟨S16x64x64, .f32⟩
  | 73 => ⟨S16x64x16x2048, .f32⟩
  | 74 => ⟨S16x2048x16x64, .f32⟩
  | 75 => ⟨S16x64, .f32⟩
  | 76 => ⟨S1x1x16x64, .f32⟩
  | 77 => ⟨S16x2048x16x64, .f32⟩
  | 78 => ⟨S16x2048x16x64, .f32⟩
  | 79 => ⟨S16x2048x16x64, .f32⟩
  | 80 => ⟨S16x2048x16x64, .f32⟩
  | 81 => ⟨S_, .f32⟩
  | 82 => ⟨S16x2048x16x64, .f32⟩
  | 83 => ⟨S16x2048x16x64, .f32⟩
  | 84 => ⟨S_, .f32⟩
  | 85 => ⟨S16x2048x16x64, .f32⟩
  | 86 => ⟨S16x2048x16x64, .f32⟩
  | 87 => ⟨S16x2048x1024, .f32⟩
  | 88 => ⟨S16x64x64, .f32⟩
  | 89 => ⟨S16x64x16x2048, .f32⟩
  | 90 => ⟨S16x2048x16x64, .f32⟩
  | 91 => ⟨S16x64, .f32⟩
  | 92 => ⟨S1x1x16x64, .f32⟩
  | 93 => ⟨S16x2048x16x64, .f32⟩
  | 94 => ⟨S16x2048x16x64, .f32⟩
  | 95 => ⟨S16x2048x16x64, .f32⟩
  | 96 => ⟨S16x2048x16x64, .f32⟩
  | 97 => ⟨S_, .f32⟩
  | 98 => ⟨S16x2048x16x64, .f32⟩
  | 99 => ⟨S16x2048x16x64, .f32⟩
  | 100 => ⟨S_, .f32⟩
  | 101 => ⟨S16x2048x16x64, .f32⟩
  | 102 => ⟨S16x2048x16x64, .f32⟩
  | 103 => ⟨S16x2048x1024, .f32⟩
  | 104 => ⟨S_, .f32⟩
  | 105 => ⟨S16x2048x1024, .f32⟩
  | 106 => ⟨S16x2048x1024, .f32⟩
  | 107 => ⟨S1024, .f32⟩
  | 108 => ⟨S1024, .f32⟩
  | 109 => ⟨S_, .f32⟩
  | 110 => ⟨S1024, .f32⟩
  | 111 => ⟨S1024, .f32⟩
  | 112 => ⟨S1024, .f32⟩
  | 113 => ⟨S1024, .f32⟩
  | 114 => ⟨S1024, .i1⟩
  | 115 => ⟨S1024, .f32⟩
  | 116 => ⟨S1024, .f32⟩
  | 117 => ⟨S1024, .f32⟩
  | 118 => ⟨S1024, .f32⟩
  | 119 => ⟨S1024, .f32⟩
  | 120 => ⟨S1024, .f32⟩
  | 121 => ⟨S1024, .f32⟩
  | 122 => ⟨S1024, .f32⟩
  | 123 => ⟨S1x1x1024, .f32⟩
  | 124 => ⟨S16x2048x1024, .f32⟩
  | 125 => ⟨S16x2048x1024, .f32⟩
  | 126 => ⟨S16x2048x1024, .f32⟩
  | 127 => ⟨S_, .f32⟩
  | _ => ⟨S16x2048x2048, .f32⟩

abbrev hbmTy0_1 (i : Nat) : BufTy := match i % 128 with
  | 0 => ⟨S16x2048x1024, .f32⟩
  | 1 => ⟨S16x2048x1024, .f32⟩
  | 2 => ⟨S16x2048x1024, .f32⟩
  | 3 => ⟨S16x2048x1024, .f32⟩
  | 4 => ⟨S16x2048x1024, .f32⟩
  | 5 => ⟨S16x2048x1024, .f32⟩
  | 6 => ⟨S16x2048x1024, .f32⟩
  | 7 => ⟨S_, .f32⟩
  | 8 => ⟨S16x1024, .f32⟩
  | 9 => ⟨S2048x16x1024, .f32⟩
  | 10 => ⟨S2048x16x1024, .f32⟩
  | 11 => ⟨S_, .f32⟩
  | 12 => ⟨S2048x16x1024, .f32⟩
  | 13 => ⟨S_, .i32⟩
  | 14 => ⟨S2048x16x1024, .f32⟩
  | 15 => ⟨S2048x16x1024, .f32⟩
  | 16 => ⟨S_, .i32⟩
  | 17 => ⟨S16x1024, .f32⟩
  | 18 => ⟨S2048x16x1024, .f32⟩
  | 19 => ⟨S_, .i32⟩
  | 20 => ⟨S_, .i1⟩
  | 21 => ⟨S_, .i32⟩
  | 22 => ⟨S_, .i32⟩
  | 23 => ⟨S1x16x1024, .f32⟩
  | 24 => ⟨S16x1024, .f32⟩
  | 25 => ⟨S_, .i32⟩
  | 26 => ⟨S_, .i32⟩
  | 27 => ⟨S1x16x1024, .f32⟩
  | 28 => ⟨S16x1024, .f32⟩
  | 29 => ⟨S16x1024, .f32⟩
  | 30 => ⟨S16x1024, .f32⟩
  | 31 => ⟨S1x16x1024, .f32⟩
  | 32 => ⟨S_, .i32⟩
  | 33 => ⟨S_, .i32⟩
  | 34 => ⟨S2048x16x1024, .f32⟩
  | 35 => ⟨S_, .i32⟩
  | 36 => ⟨S_, .i32⟩
  | 37 => ⟨S16x2048x1024, .f32⟩
  | 38 => ⟨S16x2048x1024, .f32⟩
  | 39 => ⟨S16x2048x1024, .f32⟩
  | 40 => ⟨S_, .f32⟩
  | 41 => ⟨S16x2048x1024, .f32⟩
  | 42 => ⟨S16x2048x1024, .f32⟩
  | 43 => ⟨S16x2048x1024, .f32⟩
  | 44 => ⟨S_, .f32⟩
  | 45 => ⟨S16x2048x1024, .f32⟩
  | 46 => ⟨S16x2048x1024, .f32⟩
  | 47 => ⟨S16x2048x1024, .f32⟩
  | 48 => ⟨S_, .f32⟩
  | 49 => ⟨S16x2048x1024, .f32⟩
  | 50 => ⟨S16x2048x1024, .f32⟩
  | 51 => ⟨S_, .f32⟩
  | 52 => ⟨S16x2048x1024, .f32⟩
  | 53 => ⟨S16x2048x1024, .f32⟩
  | 54 => ⟨S16x2048x1024, .f32⟩
  | 55 => ⟨S16x2048x1024, .f32⟩
  | 56 => ⟨S1024, .f32⟩
  | 57 => ⟨S16x2048x1024, .f32⟩
  | 58 => ⟨S_, .f32⟩
  | 59 => ⟨S16x2048, .f32⟩
  | 60 => ⟨S16x2048x1, .f32⟩
  | 61 => ⟨S_, .f32⟩
  | 62 => ⟨S16x2048x1, .f32⟩
  | 63 => ⟨S16x2048x1, .f32⟩
  | 64 => ⟨S_, .f32⟩
  | 65 => ⟨S16x2048x1, .f32⟩
  | 66 => ⟨S16x2048x1, .f32⟩
  | 67 => ⟨S16x2048x1, .f32⟩
  | 68 => ⟨S16x2048x1024, .f32⟩
  | 69 => ⟨S16x2048x1024, .f32⟩
  | 70 => ⟨S1x1x1024, .f32⟩
  | 71 => ⟨S16x2048x1024, .f32⟩
  | 72 => ⟨S16x2048x1024, .f32⟩
  | 73 => ⟨S32768x1024, .f32⟩
  | 74 => ⟨S32768x1024, .bf16⟩
  | 75 => ⟨S32768x256, .f32⟩
  | 76 => ⟨S32768x256, .f32⟩
  | _ => ⟨S16x2048x2048, .f32⟩

abbrev hbmTy (i : Nat) : BufTy := match i / 128 with
  | 0 => hbmTy0_0 i
  | 1 => hbmTy0_1 i
  | _ => ⟨S16x2048x2048, .f32⟩

abbrev bufTy : (tb : Table) → Fin (tcTables nBuf tb) → BufTy
  | .hbm, ⟨i, _⟩ => hbmTy i
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_call0_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_3 : Ref sig .tc := ⟨.hbm, 81, rfl⟩
abbrev main_v64 : Ref sig .tc := ⟨.hbm, 82, rfl⟩
abbrev main_v65 : Ref sig .tc := ⟨.hbm, 83, rfl⟩
abbrev main_cst_4 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_5 : Ref sig .tc := ⟨.hbm, 97, rfl⟩
abbrev main_v78 : Ref sig .tc := ⟨.hbm, 98, rfl⟩
abbrev main_v79 : Ref sig .tc := ⟨.hbm, 99, rfl⟩
abbrev main_cst_6 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_7 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_call1_cst : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_call1_v5 : Ref sig .tc := ⟨.hbm, 115, rfl⟩
abbrev main_call1_v6 : Ref sig .tc := ⟨.hbm, 116, rfl⟩
abbrev main_call1_v7 : Ref sig .tc := ⟨.hbm, 117, rfl⟩
abbrev main_call1_v8 : Ref sig .tc := ⟨.hbm, 118, rfl⟩
abbrev main_call1_v9 : Ref sig .tc := ⟨.hbm, 119, rfl⟩
abbrev main_call1_v10 : Ref sig .tc := ⟨.hbm, 120, rfl⟩
abbrev main_call1_v11 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_8 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_9 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_10 : Ref sig .tc := ⟨.hbm, 139, rfl⟩
abbrev main_v102 : Ref sig .tc := ⟨.hbm, 140, rfl⟩
abbrev main_c_11 : Ref sig .tc := ⟨.hbm, 141, rfl⟩
abbrev main_v103_0 : Ref sig .tc := ⟨.hbm, 142, rfl⟩
abbrev main_v103_1 : Ref sig .tc := ⟨.hbm, 143, rfl⟩
abbrev main_v103_2 : Ref sig .tc := ⟨.hbm, 144, rfl⟩
abbrev main_v103_3 : Ref sig .tc := ⟨.hbm, 145, rfl⟩
abbrev main_v103_4 : Ref sig .tc := ⟨.hbm, 146, rfl⟩
abbrev main_while0c_c_23 : Ref sig .tc := ⟨.hbm, 147, rfl⟩
abbrev main_while0c_v137 : Ref sig .tc := ⟨.hbm, 148, rfl⟩
abbrev main_while0b_call2_c : Ref sig .tc := ⟨.hbm, 149, rfl⟩
abbrev main_while0b_call2_c_0 : Ref sig .tc := ⟨.hbm, 150, rfl⟩
abbrev main_while0b_call2_v0 : Ref sig .tc := ⟨.hbm, 151, rfl⟩
abbrev main_while0b_v137 : Ref sig .tc := ⟨.hbm, 152, rfl⟩
abbrev main_while0b_call3_c : Ref sig .tc := ⟨.hbm, 153, rfl⟩
abbrev main_while0b_call3_c_0 : Ref sig .tc := ⟨.hbm, 154, rfl⟩
abbrev main_while0b_call3_v0 : Ref sig .tc := ⟨.hbm, 155, rfl⟩
abbrev main_while0b_v138 : Ref sig .tc := ⟨.hbm, 156, rfl⟩
abbrev main_while0b_v139 : Ref sig .tc := ⟨.hbm, 157, rfl⟩
abbrev main_while0b_v140 : Ref sig .tc := ⟨.hbm, 158, rfl⟩
abbrev main_while0b_call4_v0 : Ref sig .tc := ⟨.hbm, 159, rfl⟩
abbrev main_while0b_call4_c : Ref sig .tc := ⟨.hbm, 160, rfl⟩
abbrev main_while0b_call4_c_0 : Ref sig .tc := ⟨.hbm, 161, rfl⟩
abbrev main_while0b_v141 : Ref sig .tc := ⟨.hbm, 162, rfl⟩
abbrev main_while0b_c_23 : Ref sig .tc := ⟨.hbm, 163, rfl⟩
abbrev main_while0b_v142 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_cst_12 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_cst_13 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_cst_14 : Ref sig .tc := ⟨.hbm, 176, rfl⟩
abbrev main_v113 : Ref sig .tc := ⟨.hbm, 177, rfl⟩
abbrev main_v114 : Ref sig .tc := ⟨.hbm, 178, rfl⟩
abbrev main_cst_15 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_cst_16 : Ref sig .tc := ⟨.hbm, 186, rfl⟩
abbrev main_v121 : Ref sig .tc := ⟨.hbm, 187, rfl⟩
abbrev main_v122 : Ref sig .tc := ⟨.hbm, 188, rfl⟩
abbrev main_cst_17 : Ref sig .tc := ⟨.hbm, 189, rfl⟩
abbrev main_v123 : Ref sig .tc := ⟨.hbm, 190, rfl⟩
abbrev main_v124 : Ref sig .tc := ⟨.hbm, 191, rfl⟩
abbrev main_cst_18 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩

abbrev nD : Nat := 1
abbrev τ : Topo := Topo.v7x

variable {F : FTy → Type} [FloatOps F]

abbrev main_while0_count : Scf.Loop 32 := ⟨0#32, 2048#32, 1#32⟩
-- ==== OutProj.lean ====
abbrev S32768x2048 : Shape := ⟨2, ![32768, 2048]⟩
abbrev S32768x1024 : Shape := ⟨2, ![32768, 1024]⟩
abbrev S1x1024 : Shape := ⟨2, ![1, 1024]⟩
abbrev S1x2048x2048 : Shape := ⟨3, ![1, 2048, 2048]⟩
abbrev S1x2048 : Shape := ⟨2, ![1, 2048]⟩
abbrev S1024 : Shape := ⟨1, ![1024]⟩
abbrev S2048x2048 : Shape := ⟨2, ![2048, 2048]⟩
abbrev S2048 : Shape := ⟨1, ![2048]⟩
abbrev S512x2048 : Shape := ⟨2, ![512, 2048]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩

abbrev nBuf : Space → Nat
  | .hbm => 17
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .f32⟩
  | .hbm, ⟨3, _⟩ => ⟨S1x1024, .f32⟩
  | .hbm, ⟨4, _⟩ => ⟨S1x2048x2048, .f32⟩
  | .hbm, ⟨5, _⟩ => ⟨S1x2048, .f32⟩
  | .hbm, ⟨6, _⟩ => ⟨S1x2048, .f32⟩
  | .hbm, ⟨7, _⟩ => ⟨S1024, .f32⟩
  | .hbm, ⟨8, _⟩ => ⟨S1x1024, .f32⟩
  | .hbm, ⟨9, _⟩ => ⟨S2048x2048, .f32⟩
  | .hbm, ⟨10, _⟩ => ⟨S2048x2048, .bf16⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S32768x2048, .f32⟩
  | .hbm, ⟨16, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S2048x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutRefIdeal.lean ====
abbrev S32768x2048 : Shape := ⟨2, ![32768, 2048]⟩
abbrev S32768x1024 : Shape := ⟨2, ![32768, 1024]⟩
abbrev S1x1024 : Shape := ⟨2, ![1, 1024]⟩
abbrev S1x2048x2048 : Shape := ⟨3, ![1, 2048, 2048]⟩
abbrev S1x2048 : Shape := ⟨2, ![1, 2048]⟩
abbrev S1024 : Shape := ⟨1, ![1024]⟩
abbrev S_ : Shape := ⟨0, ![]⟩
abbrev S32768 : Shape := ⟨1, ![32768]⟩
abbrev S32768x1 : Shape := ⟨2, ![32768, 1]⟩
abbrev S2048x2048 : Shape := ⟨2, ![2048, 2048]⟩
abbrev S2048 : Shape := ⟨1, ![2048]⟩

abbrev nBuf : Space → Nat
  | .hbm => 64
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .f32⟩
  | .hbm, ⟨3, _⟩ => ⟨S1x1024, .f32⟩
  | .hbm, ⟨4, _⟩ => ⟨S1x2048x2048, .f32⟩
  | .hbm, ⟨5, _⟩ => ⟨S1x2048, .f32⟩
  | .hbm, ⟨6, _⟩ => ⟨S1x2048, .f32⟩
  | .hbm, ⟨7, _⟩ => ⟨S32768x1024, .f32⟩
  | .hbm, ⟨8, _⟩ => ⟨S1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S32768x2048, .f32⟩
  | .hbm, ⟨26, _⟩ => ⟨S2048x2048, .f32⟩
  | .hbm, ⟨27, _⟩ => ⟨S32768x2048, .f32⟩
  | .hbm, ⟨28, _⟩ => ⟨S2048, .f32⟩
  | .hbm, ⟨29, _⟩ => ⟨S32768x2048, .f32⟩
  | .hbm, ⟨30, _⟩ => ⟨S_, .f32⟩
  | .hbm, ⟨31, _⟩ => ⟨S32768, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1, .f32⟩
  | .hbm, ⟨40, _⟩ => ⟨S32768x2048, .f32⟩
  | .hbm, ⟨41, _⟩ => ⟨S32768x2048, .f32⟩
  | .hbm, ⟨42, _⟩ => ⟨S1x2048, .f32⟩
  | .hbm, ⟨43, _⟩ => ⟨S32768x2048, .f32⟩
  | .hbm, ⟨44, _⟩ => ⟨S32768x2048, .f32⟩
  | .hbm, ⟨45, _⟩ => ⟨S32768x2048, .f32⟩
  | .hbm, ⟨46, _⟩ => ⟨S2048, .f32⟩
  | .hbm, ⟨47, _⟩ => ⟨S32768x2048, .f32⟩
  | .hbm, ⟨48, _⟩ => ⟨S_, .f32⟩
  | .hbm, ⟨49, _⟩ => ⟨S32768, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S32768x1, .f32⟩
  | .hbm, ⟨58, _⟩ => ⟨S32768x2048, .f32⟩
  | .hbm, ⟨59, _⟩ => ⟨S32768x2048, .f32⟩
  | .hbm, ⟨60, _⟩ => ⟨S1x2048, .f32⟩
  | .hbm, ⟨61, _⟩ => ⟨S32768x2048, .f32⟩
  | .hbm, ⟨62, _⟩ => ⟨S32768x2048, .f32⟩
  | .hbm, ⟨63, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Mlp.lean ====
abbrev S32768x2048 : Shape := ⟨2, ![32768, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S2048x8192 : Shape := ⟨2, ![2048, 8192]⟩
abbrev S8192x2048 : Shape := ⟨2, ![8192, 2048]⟩
abbrev S2048 : Shape := ⟨1, ![2048]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S1x2048x8192, .f32⟩
  | .hbm, ⟨2, _⟩ => ⟨S1x8192x2048, .f32⟩
  | .hbm, ⟨3, _⟩ => ⟨S1x2048, .f32⟩
  | .hbm, ⟨4, _⟩ => ⟨S2048x8192, .f32⟩
  | .hbm, ⟨5, _⟩ => ⟨S2048x8192, .bf16⟩
  | .hbm, ⟨6, _⟩ => ⟨S8192x2048, .f32⟩
  | .hbm, ⟨7, _⟩ => ⟨S8192x2048, .bf16⟩
  | .hbm, ⟨8, _⟩ => ⟨S2048, .f32⟩
  | .hbm, ⟨9, _⟩ => ⟨S1x2048, .f32⟩
  | .hbm, ⟨10, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpRefIdeal.lean ====
abbrev S32768x2048 : Shape := ⟨2, ![32768, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S2048x8192 : Shape := ⟨2, ![2048, 8192]⟩
abbrev S32768x8192 : Shape := ⟨2, ![32768, 8192]⟩
abbrev S_ : Shape := ⟨0, ![]⟩
abbrev S8192x2048 : Shape := ⟨2, ![8192, 2048]⟩
abbrev S2048 : Shape := ⟨1, ![2048]⟩
abbrev S32768 : Shape := ⟨1, ![32768]⟩
abbrev S32768x1 : Shape := ⟨2, ![32768, 1]⟩

abbrev nBuf : Space → Nat
  | .hbm => 30
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x8192, .f32⟩
  | .hbm, ⟨2, _⟩ => ⟨S1x8192x2048, .f32⟩
  | .hbm, ⟨3, _⟩ => ⟨S1x2048, .f32⟩
  | .hbm, ⟨4, _⟩ => ⟨S32768x2048, .f32⟩
  | .hbm, ⟨5, _⟩ => ⟨S2048x8192, .f32⟩
  | .hbm, ⟨6, _⟩ => ⟨S32768x8192, .f32⟩
  | .hbm, ⟨7, _⟩ => ⟨S_, .f32⟩
  | .hbm, ⟨8, _⟩ => ⟨S32768x8192, .f32⟩
  | .hbm, ⟨9, _⟩ => ⟨S32768x8192, .f32⟩
  | .hbm, ⟨10, _⟩ => ⟨S32768x8192, .f32⟩
  | .hbm, ⟨11, _⟩ => ⟨S8192x2048, .f32⟩
  | .hbm, ⟨12, _⟩ => ⟨S32768x2048, .f32⟩
  | .hbm, ⟨13, _⟩ => ⟨S2048, .f32⟩
  | .hbm, ⟨14, _⟩ => ⟨S32768x2048, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x2048, .f32⟩
  | .hbm, ⟨26, _⟩ => ⟨S32768x2048, .f32⟩
  | .hbm, ⟨27, _⟩ => ⟨S1x2048, .f32⟩
  | .hbm, ⟨28, _⟩ => ⟨S32768x2048, .f32⟩
  | .hbm, ⟨29, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Ple.lean ====
abbrev S32768x2048 : Shape := ⟨2, ![32768, 2048]⟩
abbrev S1x16x2048x256 : Shape := ⟨4, ![1, 16, 2048, 256]⟩
abbrev S1x2048x2048 : Shape := ⟨3, ![1, 2048, 2048]⟩
abbrev S1x256x2048 : Shape := ⟨3, ![1, 256, 2048]⟩
abbrev S16x2048x256 : Shape := ⟨3, ![16, 2048, 256]⟩
abbrev S32768x256 : Shape := ⟨2, ![32768, 256]⟩
abbrev S2048x2048 : Shape := ⟨2, ![2048, 2048]⟩
abbrev S256x2048 : Shape := ⟨2, ![256, 2048]⟩
abbrev S512x2048 : Shape := ⟨2, ![512, 2048]⟩
abbrev S512x256 : Shape := ⟨2, ![512, 256]⟩
abbrev S256x256 : Shape := ⟨2, ![256, 256]⟩

abbrev nBuf : Space → Nat
  | .hbm => 12
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S1x16x2048x256, .f32⟩
  | .hbm, ⟨3, _⟩ => ⟨S1x2048x2048, .f32⟩
  | .hbm, ⟨4, _⟩ => ⟨S1x256x2048, .f32⟩
  | .hbm, ⟨5, _⟩ => ⟨S16x2048x256, .f32⟩
  | .hbm, ⟨6, _⟩ => ⟨S32768x256, .f32⟩
  | .hbm, ⟨7, _⟩ => ⟨S2048x2048, .f32⟩
  | .hbm, ⟨8, _⟩ => ⟨S2048x2048, .bf16⟩
  | .hbm, ⟨9, _⟩ => ⟨S256x2048, .f32⟩
  | .hbm, ⟨10, _⟩ => ⟨S256x2048, .bf16⟩
  | .hbm, ⟨11, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S2048x2048, .bf16⟩
  | .local _ .vmem, ⟨7, _⟩ => ⟨S256x2048, .bf16⟩
  | .local _ .vmem, ⟨8, _⟩ => ⟨S512x2048, .f32⟩
  | .local _ .vmem, ⟨9, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleRefIdeal.lean ====
abbrev S32768x2048 : Shape := ⟨2, ![32768, 2048]⟩
abbrev S1x16x2048x256 : Shape := ⟨4, ![1, 16, 2048, 256]⟩
abbrev S1x2048x2048 : Shape := ⟨3, ![1, 2048, 2048]⟩
abbrev S1x256x2048 : Shape := ⟨3, ![1, 256, 2048]⟩
abbrev S2048x2048 : Shape := ⟨2, ![2048, 2048]⟩
abbrev S_ : Shape := ⟨0, ![]⟩
abbrev S16x2048x256 : Shape := ⟨3, ![16, 2048, 256]⟩
abbrev S32768x256 : Shape := ⟨2, ![32768, 256]⟩
abbrev S256x2048 : Shape := ⟨2, ![256, 2048]⟩

abbrev nBuf : Space → Nat
  | .hbm => 22
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S1x16x2048x256, .f32⟩
  | .hbm, ⟨3, _⟩ => ⟨S1x2048x2048, .f32⟩
  | .hbm, ⟨4, _⟩ => ⟨S1x256x2048, .f32⟩
  | .hbm, ⟨5, _⟩ => ⟨S32768x2048, .f32⟩
  | .hbm, ⟨6, _⟩ => ⟨S2048x2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768x2048, .f32⟩
  | .hbm, ⟨15, _⟩ => ⟨S32768x2048, .f32⟩
  | .hbm, ⟨16, _⟩ => ⟨S16x2048x256, .f32⟩
  | .hbm, ⟨17, _⟩ => ⟨S32768x256, .f32⟩
  | .hbm, ⟨18, _⟩ => ⟨S256x2048, .f32⟩
  | .hbm, ⟨19, _⟩ => ⟨S32768x2048, .f32⟩
  | .hbm, ⟨20, _⟩ => ⟨S32768x2048, .f32⟩
  | .hbm, ⟨21, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.RefKeep.lean ====
/-
  The reference of the recurrent call writes none of its arguments.

  Its program is five lines of host operations, one loop of 2048 trips and one line after the loop. Each line's
  results are named in a list; a buffer in none of the lists holds at the end what it held at the start.
-/
module

public import proofs.«01_k».proof.Proof.Gen.ReferenceIdeal.Run

@[expose] public section

set_option maxRecDepth 16384

noncomputable section

namespace Cert.ReferenceIdeal.RowValue

open Idealize.ShloMosaic Idealize.ShloMosaic.TcCoe Idealize.ShloMosaic.StableHlo
open Cert.ReferenceIdeal.Gen Cert.ReferenceIdeal.Value

variable {F : FTy → Type} [FloatOps F]

/-- The buffers the line after the loop writes. -/
abbrev postW : List (Ref sig .tc) := [main_v104, main_v105, main_v106, main_cst_12, main_v107, main_v108, main_v109, main_cst_13, main_v110, main_v111, main_v112, main_cst_14, main_v113, main_v114, main_cst_15, main_v115, main_v116, main_v117, main_v118, main_v119, main_v120, main_cst_16, main_v121, main_v122, main_cst_17, main_v123, main_v124, main_cst_18, main_v125, main_v126, main_v127, main_v128, main_v129, main_v130, main_v131, main_v132, main_v133, main_v134, main_v135, main_v136]

theorem post_writes : (hostOps0_5 : List (HloOp τ sig (Elt F))).Forall fun op => op.writes ⊆ (postW.map (Proc.devRef (τ := τ) .tc)).toFinset :=
  StableHlo.forall_writes_sub_of_map rfl

/-- The buffers one trip of the loop writes. -/
abbrev tripW : List (Ref sig .tc) := condOps_W ++ while0Ops0_W ++ while0Ops0_1_W ++ while0Ops0_2_W ++ while0Ops0_3_W ++ while0Ops0_4_W

/-- The buffers the lines before the loop write. -/
abbrev preW : List (Ref sig .tc) := hostOps0_W ++ hostOps0_1_W ++ hostOps0_2_W ++ hostOps0_3_W ++ hostOps0_4_W

/-- A buffer no line before the loop writes enters the loop as it was. -/
theorem pre_keep (V : Valuation τ sig (Elt F)) (r : Ref sig .tc) (h : r ∉ preW) :
    afterL preI V (Proc.devRef .tc r) = V (Proc.devRef .tc r) := by
  simp only [List.mem_append, not_or] at h
  obtain ⟨⟨⟨⟨h0, h1⟩, h2⟩, h3⟩, h4⟩ := h
  simp only [afterL_cons, afterL_nil]
  rw [after_of_writes_sub _ _ hostOps0_4_writes h4, after_of_writes_sub _ _ hostOps0_3_writes h3, after_of_writes_sub _ _ hostOps0_2_writes h2,
    after_of_writes_sub _ _ hostOps0_1_writes h1, after_of_writes_sub _ _ hostOps0_writes h0]

/-- A buffer no line of the loop writes is the same before every trip. -/
theorem trip_keep (W : Dev nD → Valuation τ sig (Elt F)) (r : Ref sig .tc) (h : r ∉ tripW) (c : Dev nD) :
    ∀ k, atTrip condOps bodyI W k c (Proc.devRef .tc r) = W c (Proc.devRef .tc r)
  | 0 => rfl
  | k + 1 => by
    have ih := trip_keep W r h c k
    simp only [List.mem_append, not_or] at h
    obtain ⟨⟨⟨⟨⟨hc, h0⟩, h1⟩, h2⟩, h3⟩, h4⟩ := h
    rw [atTrip_succ]
    simp only [afterL_cons, afterL_nil]
    rw [after_of_writes_sub _ _ while0Ops0_4_writes h4, after_of_writes_sub _ _ while0Ops0_3_writes h3, after_of_writes_sub _ _ while0Ops0_2_writes h2,
      after_of_writes_sub _ _ while0Ops0_1_writes h1, after_of_writes_sub _ _ while0Ops0_writes h0, after_of_writes_sub _ _ condOps_writes hc]
    exact ih

variable (m : (ℓ : Loc nD τ sig) → Buf (Elt F) ℓ) (ρ : Dev nD → PrngReg)

/-- Before the line after the loop, a buffer the loop does not write is what the lines before the loop left. -/
theorem mid_keep (c : Dev nD) (r : Ref sig .tc) (h : r ∉ tripW) :
    after condOps (atTrip condOps bodyI (entryContents preI m) 2048 c) (Proc.devRef .tc r) = entryContents preI m c (Proc.devRef .tc r) := by
  rw [after_of_writes_sub _ _ condOps_writes (by simp only [List.mem_append, not_or] at h; exact h.1.1.1.1.1)]
  exact trip_keep _ r h c 2048

/-- A buffer nothing writes ends as it began. -/
theorem final_keep (c : Dev nD) (r : Ref sig .tc) (h : r ∉ postW) (h' : r ∉ tripW) (h'' : r ∉ preW) :
    finalContents condOps preI bodyI postI 2048 m c (Proc.devRef .tc r) = m ((c.tc : Thread nD τ).loc r) := by
  show afterL postI (after condOps (atTrip condOps bodyI (entryContents preI m) 2048 c)) (Proc.devRef .tc r) = _
  simp only [postI, afterL_cons, afterL_nil]
  rw [after_of_writes_sub _ _ post_writes h]
  exact (mid_keep m c r h').trans (pre_keep _ r h'')

/-- None of the eleven arguments is written. -/
theorem args_keep (c : Dev nD) (i : Fin 11) :
    finalContents condOps preI bodyI postI 2048 m c (Proc.devRef .tc (![main_arg0, main_arg1, main_arg2, main_arg3, main_arg4, main_arg5, main_arg6, main_arg7, main_arg8, main_arg9, main_arg10] i))
      = m ((c.tc : Thread nD τ).loc (![main_arg0, main_arg1, main_arg2, main_arg3, main_arg4, main_arg5, main_arg6, main_arg7, main_arg8, main_arg9, main_arg10] i)) :=
  final_keep m c _ ((by decide +kernel : ∀ i : Fin 11, _ ∉ postW) i) ((by decide +kernel : ∀ i : Fin 11, _ ∉ tripW) i) ((by decide +kernel : ∀ i : Fin 11, _ ∉ preW) i)

end Cert.ReferenceIdeal.RowValue

end
-- ==== Proof.OutVal.lean ====
/- The output projection call: the kernel's two arrays and the reference's two arrays, element by element. -/
module

public import proofs.«01_k».proof.Defs
public import proofs.«01_k».proof.Proof.Gen.OutProjIdeal.Value
public import proofs.«01_k».proof.Proof.Gen.OutRefIdeal.Run
public import Idealize.ShloMosaic.Lib.Pointwise
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem
open scoped BigOperators

/-! ## The row the call computes -/

namespace Cert.OutRow

/-- A row scaled to root mean square one (its length is the number of bits `q`), times the gain. -/
def rms (q : BitVec 32) {n : Nat} (f g : Fin n → EReal) (k : Fin n) : EReal :=
  f k * Ideal.rsqrt (Ideal.div (∑ x, f x * f x) (Ideal.ofBits .f32 q) + Ideal.ofBits .f32 0x358637BD#32) * g k

/-- The projection of the two mixers' rows: the first as it is, the second normed. -/
def dRow (y z g : Fin 1024 → EReal) (w : Fin 2048 → Fin 2048 → EReal) (k : Fin 2048) : EReal :=
  ∑ x : Fin 1024, y x * w ⟨x.val, by omega⟩ k + ∑ x : Fin 1024, rms 0x44800000#32 z g x * w ⟨1024 + x.val, by omega⟩ k

/-- The residual row after the projection. -/
def hRow (h : Fin 2048 → EReal) (d g : Fin 2048 → EReal) (k : Fin 2048) : EReal := h k + rms 0x45000000#32 d g k

/-- The normed residual row. -/
def aRow (h : Fin 2048 → EReal) (d g g' : Fin 2048 → EReal) (k : Fin 2048) : EReal := rms 0x45000000#32 (hRow h d g) g' k

end Cert.OutRow

namespace Cert.OutRefIdeal.RowValue

open Cert.OutRefIdeal Cert.OutRefIdeal.Gen
open Cert.OutRow

/-- The second mixer's rows, normed. -/
def nrmZ (z : FVec Ideal S32768x1024 .f32) (g : FVec Ideal S1x1024 .f32) : FVec Ideal S32768x1024 .f32 :=
  mulf (mulf z (broadcastInDim S32768x1024 ![0, 1] bcast_S32768x1_S32768x1024_0_1 (Host.rsqrt (addf (Host.divf (broadcastInDim S32768x1 ![0] bcast_S32768_S32768x1_0 (Host.reduceAdd (mulf z z) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ g shapeCasts_S1x1024_S1024)))

/-- Rows of the model's width, normed. -/
def nrmD (z : FVec Ideal S32768x2048 .f32) (g : FVec Ideal S1x2048 .f32) : FVec Ideal S32768x2048 .f32 :=
  mulf (mulf z (broadcastInDim S32768x2048 ![0, 1] bcast_S32768x1_S32768x2048_0_1 (Host.rsqrt (addf (Host.divf (broadcastInDim S32768x1 ![0] bcast_S32768_S32768x1_0 (Host.reduceAdd (mulf z z) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (shapeCast _ g shapeCasts_S1x2048_S2048)))

/-- The projection of the two mixers' rows side by side. -/
def proj (y : FVec Ideal S32768x1024 .bf16) (z : FVec Ideal S32768x1024 .f32) (w : FVec Ideal S1x2048x2048 .f32) : FVec Ideal S32768x2048 .f32 :=
  Host.dotGeneral dot_S32768x2048_S2048x2048_S32768x2048_1_0_0_1_n_n none (concatenate S32768x2048 1 [⟨S32768x1024, (extf .f32 y bitsLt_bf16_f32)⟩, ⟨S32768x1024, z⟩] concatenates_S32768x1024_S32768x1024_S32768x2048_d1) (shapeCast _ w shapeCasts_S1x2048x2048_S2048x2048)

/-- The residual stream, as the reference composes it of its arrays. -/
def resH (h : FVec Ideal S32768x2048 .f32) (y : FVec Ideal S32768x1024 .bf16) (z : FVec Ideal S32768x1024 .f32) (g0 : FVec Ideal S1x1024 .f32)
    (w : FVec Ideal S1x2048x2048 .f32) (g1 : FVec Ideal S1x2048 .f32) : FVec Ideal S32768x2048 .f32 :=
  addf h (nrmD (proj y (nrmZ z g0) w) g1)

/-- The next block's input, as the reference composes it of its arrays. -/
def resA (h : FVec Ideal S32768x2048 .f32) (y : FVec Ideal S32768x1024 .bf16) (z : FVec Ideal S32768x1024 .f32) (g0 : FVec Ideal S1x1024 .f32)
    (w : FVec Ideal S1x2048x2048 .f32) (g1 g2 : FVec Ideal S1x2048 .f32) : FVec Ideal S32768x2048 .bf16 :=
  truncf .bf16 (nrmD (resH h y z g0 w g1) g2) bitsLt_bf16_f32

theorem nrmZ_apply (z : FVec Ideal S32768x1024 .f32) (g : FVec Ideal S1x1024 .f32) (r : Fin 32768) (k : Fin 1024) :
    nrmZ z g (ix2 r k) = rms 0x44800000#32 (fun x => z (ix2 r x)) (fun x => g (ix2 0 x)) k := by
  pointwise [nrmZ, rms]

theorem nrmD_apply (z : FVec Ideal S32768x2048 .f32) (g : FVec Ideal S1x2048 .f32) (r : Fin 32768) (k : Fin 2048) :
    nrmD z g (ix2 r k) = rms 0x45000000#32 (fun x => z (ix2 r x)) (fun x => g (ix2 0 x)) k := by
  pointwise [nrmD, rms]

theorem proj_apply (y : FVec Ideal S32768x1024 .bf16) (z : FVec Ideal S32768x1024 .f32) (w : FVec Ideal S1x2048x2048 .f32) (r : Fin 32768) (k : Fin 2048) :
    proj y z w (ix2 r k) = ∑ x : Fin 1024, y (ix2 r x) * w (ix3 0 ⟨x.val, by omega⟩ k) + ∑ x : Fin 1024, z (ix2 r x) * w (ix3 0 ⟨1024 + x.val, by omega⟩ k) := by
  pointwise [proj, dot_S32768x2048_S2048x2048_S32768x2048_1_0_0_1_n_n]

theorem projZ_apply (y : FVec Ideal S32768x1024 .bf16) (z : FVec Ideal S32768x1024 .f32) (g : FVec Ideal S1x1024 .f32) (w : FVec Ideal S1x2048x2048 .f32) (r : Fin 32768) :
    (fun k : Fin 2048 => proj y (nrmZ z g) w (ix2 r k)) = dRow (fun x => y (ix2 r x)) (fun x => z (ix2 r x)) (fun x => g (ix2 0 x)) (fun x k => w (ix3 0 x k)) := by
  funext k
  rw [proj_apply]
  simp only [nrmZ_apply]
  rfl

theorem resH_apply (h : FVec Ideal S32768x2048 .f32) (y : FVec Ideal S32768x1024 .bf16) (z : FVec Ideal S32768x1024 .f32) (g0 : FVec Ideal S1x1024 .f32)
    (w : FVec Ideal S1x2048x2048 .f32) (g1 : FVec Ideal S1x2048 .f32) (r : Fin 32768) (k : Fin 2048) : resH h y z g0 w g1 (ix2 r k)
      = hRow (fun x => h (ix2 r x)) (dRow (fun x => y (ix2 r x)) (fun x => z (ix2 r x)) (fun x => g0 (ix2 0 x)) (fun x k => w (ix3 0 x k))) (fun x => g1 (ix2 0 x)) k := by
  show h (ix2 r k) + nrmD _ _ (ix2 r k) = _
  rw [nrmD_apply, projZ_apply]
  rfl

theorem resA_apply (h : FVec Ideal S32768x2048 .f32) (y : FVec Ideal S32768x1024 .bf16) (z : FVec Ideal S32768x1024 .f32) (g0 : FVec Ideal S1x1024 .f32)
    (w : FVec Ideal S1x2048x2048 .f32) (g1 g2 : FVec Ideal S1x2048 .f32) (r : Fin 32768) (k : Fin 2048) : resA h y z g0 w g1 g2 (ix2 r k)
      = aRow (fun x => h (ix2 r x)) (dRow (fun x => y (ix2 r x)) (fun x => z (ix2 r x)) (fun x => g0 (ix2 0 x)) (fun x k => w (ix3 0 x k))) (fun x => g1 (ix2 0 x)) (fun x => g2 (ix2 0 x)) k := by
  show nrmD _ _ (ix2 r k) = _
  rw [nrmD_apply]
  simp only [resH_apply]
  rfl

end Cert.OutRefIdeal.RowValue

namespace Cert.OutProjIdeal.RowValue

open Cert.OutProjIdeal Cert.OutProjIdeal.Gen
open Cert.OutRow
open Idealize.ShloMosaic.Pipeline (Dat)
open Cert.OutRefIdeal.RowValue (resH resA resH_apply resA_apply)

variable (m : (ℓ : Loc nD τ sig) → Buf (Elt Ideal) ℓ)

/-! ## The arrays the call reads -/

/-- The second mixer's gain, as the call reads it. -/
theorem V_v1 (c : Dev nD) : V m c main_v1 = (shapeCast S1x1024 (shapeCast S1024 (m ((c : Thread nD τ).loc main_arg3) : FVec Ideal S1x1024 .f32) shapeCasts_S1x1024_S1024) shapeCasts_S1024_S1x1024 : FVec Ideal S1x1024 .f32) := by
  show StableHlo.after hostOps0 _ (Proc.devRef .tc main_v1) = _
  after_results <;> rfl

/-- The projection's gain, as the call reads it. -/
theorem V_v5 (c : Dev nD) : V m c main_v5 = (shapeCast S1x2048 (shapeCast S2048 (m ((c : Thread nD τ).loc main_arg5) : FVec Ideal S1x2048 .f32) shapeCasts_S1x2048_S2048) shapeCasts_S2048_S1x2048 : FVec Ideal S1x2048 .f32) := by
  show StableHlo.after hostOps0 _ (Proc.devRef .tc main_v5) = _
  after_results <;> rfl

/-- The next norm's gain, as the call reads it. -/
theorem V_v7 (c : Dev nD) : V m c main_v7 = (shapeCast S1x2048 (shapeCast S2048 (m ((c : Thread nD τ).loc main_arg6) : FVec Ideal S1x2048 .f32) shapeCasts_S1x2048_S2048) shapeCasts_S2048_S1x2048 : FVec Ideal S1x2048 .f32) := by
  show StableHlo.after hostOps0 _ (Proc.devRef .tc main_v7) = _
  after_results <;> rfl

/-- The weights, as the call reads them. -/
theorem V_v3 (c : Dev nD) : V m c main_v3 = (truncf .bf16 (shapeCast S2048x2048 (m ((c : Thread nD τ).loc main_arg4) : FVec Ideal S1x2048x2048 .f32) shapeCasts_S1x2048x2048_S2048x2048) bitsLt_bf16_f32 : FVec Ideal S2048x2048 .bf16) := by
  show StableHlo.after hostOps0 _ (Proc.devRef .tc main_v3) = _
  after_results <;> rfl

theorem gain1024_apply (g : FVec Ideal S1x1024 .f32) (k : Fin 1024) :
    (shapeCast S1x1024 (shapeCast S1024 g shapeCasts_S1x1024_S1024) shapeCasts_S1024_S1x1024 : FVec Ideal S1x1024 .f32) (ix2 0 k) = g (ix2 0 k) := by
  pointwise

theorem gain2048_apply (g : FVec Ideal S1x2048 .f32) (k : Fin 2048) :
    (shapeCast S1x2048 (shapeCast S2048 g shapeCasts_S1x2048_S2048) shapeCasts_S2048_S1x2048 : FVec Ideal S1x2048 .f32) (ix2 0 k) = g (ix2 0 k) := by
  pointwise

theorem weight_apply (p : FVec Ideal S1x2048x2048 .f32) (r k : Fin 2048) :
    (truncf .bf16 (shapeCast S2048x2048 p shapeCasts_S1x2048x2048_S2048x2048) bitsLt_bf16_f32 : FVec Ideal S2048x2048 .bf16) (ix2 r k)
      = p (ix3 0 r k) := by
  pointwise

/-- The windows' block indices: row tiles move with the point, weights and gains stay. -/
theorem idx (t : Fin cfg0.N) : (win0_0.index t 0 = t.val ∧ win0_0.index t 1 = 0) ∧ (win0_1.index t 0 = t.val ∧ win0_1.index t 1 = 0) ∧ (win0_2.index t 0 = t.val ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = t.val ∧ win0_7.index t 1 = 0) ∧ (win0_8.index t 0 = t.val ∧ win0_8.index t 1 = 0) :=
  (by decide +kernel : ∀ t : Fin grid0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = t.val ∧ win0_7.index t 1 = 0) ∧ (win0_8.index t 0 = t.val ∧ win0_8.index t 1 = 0)) t

theorem lt64 (t : Fin cfg0.N) : t.val < 64 := lt_of_lt_of_eq t.isLt N_0

/-- Row `r` of tile `t`. -/
def row (t : Fin cfg0.N) (r : Fin 512) : Fin 32768 := ⟨512 * t.val + r.val, by have := lt64 t; omega⟩

theorem blk0 (c : Dev nD) (t : Fin cfg0.N) (r : Fin 512) (k : Fin 2048) : (iblk m c 0 t : Vec Ideal S512x2048 .f32) (ix2 r k)
    = (m ((c : Thread nD τ).loc main_arg0) : FVec Ideal S32768x2048 .f32) (ix2 (row t r) k) := by
  unfold iblk
  rw [View.read_apply]
  show V m c main_arg0 _ = _
  rw [V_main_arg0]
  refine congrArg (m _) (funext fun a => Fin.ext ?_)
  match a with
  | ⟨0, _⟩ => show win0_0.index t 0 * 512 + 1 * r.val = 512 * t.val + r.val; rw [(idx t).1.1]; omega
  | ⟨1, _⟩ => show win0_0.index t 1 * 2048 + 1 * k.val = k.val; rw [(idx t).1.2]; omega

theorem blk1 (c : Dev nD) (t : Fin cfg0.N) (r : Fin 512) (k : Fin 1024) : (iblk m c 1 t : Vec Ideal S512x1024 .bf16) (ix2 r k)
    = (m ((c : Thread nD τ).loc main_arg1) : FVec Ideal S32768x1024 .bf16) (ix2 (row t r) k) := by
  unfold iblk
  rw [View.read_apply]
  show V m c main_arg1 _ = _
  rw [V_main_arg1]
  refine congrArg (m _) (funext fun a => Fin.ext ?_)
  match a with
  | ⟨0, _⟩ => show win0_1.index t 0 * 512 + 1 * r.val = 512 * t.val + r.val; rw [(idx t).2.1.1]; omega
  | ⟨1, _⟩ => show win0_1.index t 1 * 1024 + 1 * k.val = k.val; rw [(idx t).2.1.2]; omega

theorem blk2 (c : Dev nD) (t : Fin cfg0.N) (r : Fin 512) (k : Fin 1024) : (iblk m c 2 t : Vec Ideal S512x1024 .f32) (ix2 r k)
    = (m ((c : Thread nD τ).loc main_arg2) : FVec Ideal S32768x1024 .f32) (ix2 (row t r) k) := by
  unfold iblk
  rw [View.read_apply]
  show V m c main_arg2 _ = _
  rw [V_main_arg2]
  refine congrArg (m _) (funext fun a => Fin.ext ?_)
  match a with
  | ⟨0, _⟩ => show win0_2.index t 0 * 512 + 1 * r.val = 512 * t.val + r.val; rw [(idx t).2.2.1.1]; omega
  | ⟨1, _⟩ => show win0_2.index t 1 * 1024 + 1 * k.val = k.val; rw [(idx t).2.2.1.2]; omega

theorem blk3 (c : Dev nD) (t : Fin cfg0.N) (k : Fin 1024) : (iblk m c 3 t : Vec Ideal S1x1024 .f32) (ix2 0 k)
    = (m ((c : Thread nD τ).loc main_arg3) : FVec Ideal S1x1024 .f32) (ix2 0 k) := by
  unfold iblk
  rw [View.read_apply]
  show V m c main_v1 _ = _
  rw [V_v1]
  have e : ((cfg0.win 3).blk t).view.emb (ix2 0 k) = (ix2 0 k : S1x1024.Idx) := funext fun a => Fin.ext (by
    match a with
    | ⟨0, _⟩ => show win0_3.index t 0 * 1 + 1 * 0 = 0; rw [(idx t).2.2.2.1.1]
    | ⟨1, _⟩ => show win0_3.index t 1 * 1024 + 1 * k.val = k.val; rw [(idx t).2.2.2.1.2]; omega)
  rw [e]
  exact gain1024_apply _ _

theorem blk5 (c : Dev nD) (t : Fin cfg0.N) (k : Fin 2048) : (iblk m c 5 t : Vec Ideal S1x2048 .f32) (ix2 0 k)
    = (m ((c : Thread nD τ).loc main_arg5) : FVec Ideal S1x2048 .f32) (ix2 0 k) := by
  unfold iblk
  rw [View.read_apply]
  show V m c main_v5 _ = _
  rw [V_v5]
  have e : ((cfg0.win 5).blk t).view.emb (ix2 0 k) = (ix2 0 k : S1x2048.Idx) := funext fun a => Fin.ext (by
    match a with
    | ⟨0, _⟩ => show win0_5.index t 0 * 1 + 1 * 0 = 0; rw [(idx t).2.2.2.2.2.1.1]
    | ⟨1, _⟩ => show win0_5.index t 1 * 2048 + 1 * k.val = k.val; rw [(idx t).2.2.2.2.2.1.2]; omega)
  rw [e]
  exact gain2048_apply _ _

theorem blk6 (c : Dev nD) (t : Fin cfg0.N) (k : Fin 2048) : (iblk m c 6 t : Vec Ideal S1x2048 .f32) (ix2 0 k)
    = (m ((c : Thread nD τ).loc main_arg6) : FVec Ideal S1x2048 .f32) (ix2 0 k) := by
  unfold iblk
  rw [View.read_apply]
  show V m c main_v7 _ = _
  rw [V_v7]
  have e : ((cfg0.win 6).blk t).view.emb (ix2 0 k) = (ix2 0 k : S1x2048.Idx) := funext fun a => Fin.ext (by
    match a with
    | ⟨0, _⟩ => show win0_6.index t 0 * 1 + 1 * 0 = 0; rw [(idx t).2.2.2.2.2.2.1.1]
    | ⟨1, _⟩ => show win0_6.index t 1 * 2048 + 1 * k.val = k.val; rw [(idx t).2.2.2.2.2.2.1.2]; omega)
  rw [e]
  exact gain2048_apply _ _

theorem blk4 (c : Dev nD) (t : Fin cfg0.N) (r : Fin 2048) (k : Fin 2048) : (iblk m c 4 t : Vec Ideal S2048x2048 .bf16) (ix2 r k)
    = (m ((c : Thread nD τ).loc main_arg4) : FVec Ideal S1x2048x2048 .f32) (ix3 0 r k) := by
  unfold iblk
  rw [View.read_apply]
  show V m c main_v3 _ = _
  rw [V_v3]
  have e : ((cfg0.win 4).blk t).view.emb (ix2 r k) = (ix2 r k : S2048x2048.Idx) := funext fun a => Fin.ext (by
    match a with
    | ⟨0, _⟩ => show win0_4.index t 0 * 2048 + 1 * r.val = r.val; rw [(idx t).2.2.2.2.1.1]; omega
    | ⟨1, _⟩ => show win0_4.index t 1 * 2048 + 1 * k.val = k.val; rw [(idx t).2.2.2.2.1.2]; omega)
  rw [e]
  exact weight_apply _ _ _

/-! ## One tile -/

/-- The tile's projected row. -/
def dTile (x0 : Vec Ideal S512x2048 .f32) (x1 : Vec Ideal S512x1024 .bf16) (x2 : Vec Ideal S512x1024 .f32) (x3 : Vec Ideal S1x1024 .f32) (x4 : Vec Ideal S2048x2048 .bf16) (r : Fin 512) (k : Fin 2048) : EReal :=
  dRow (fun x => x1 (ix2 r x)) (fun x => x2 (ix2 r x)) (fun x => x3 (ix2 0 x)) (fun x k => x4 (ix2 x k)) k

/-- The residual the body leaves at a tile's row, of the tile's blocks. -/
def tileH (x0 : Vec Ideal S512x2048 .f32) (x1 : Vec Ideal S512x1024 .bf16) (x2 : Vec Ideal S512x1024 .f32) (x3 : Vec Ideal S1x1024 .f32) (x4 : Vec Ideal S2048x2048 .bf16) (x5 : Vec Ideal S1x2048 .f32) : Vec Ideal S512x2048 .f32 := fun i =>
  hRow (fun x => x0 (ix2 (i 0) x)) (dTile x0 x1 x2 x3 x4 (i 0)) (fun x => x5 (ix2 0 x)) (i 1)

/-- The normed residual the body leaves at a tile's row, of the tile's blocks. -/
def tileA (x0 : Vec Ideal S512x2048 .f32) (x1 : Vec Ideal S512x1024 .bf16) (x2 : Vec Ideal S512x1024 .f32) (x3 : Vec Ideal S1x1024 .f32) (x4 : Vec Ideal S2048x2048 .bf16) (x5 : Vec Ideal S1x2048 .f32) (x6 : Vec Ideal S1x2048 .f32) : Vec Ideal S512x2048 .bf16 := fun i =>
  aRow (fun x => x0 (ix2 (i 0) x)) (dTile x0 x1 x2 x3 x4 (i 0)) (fun x => x5 (ix2 0 x)) (fun x => x6 (ix2 0 x)) (i 1)

/-- The second slab's rows are the tile's rows from 256. -/
theorem emb_hi (r : Fin 256) (k : Fin 2048) : r0_7.emb (ix2 r k : S256x2048.Idx) = (ix2 ⟨256 + r.val, by omega⟩ k : S512x2048.Idx) :=
  funext fun a => Fin.ext (by
    match a with
    | ⟨0, _⟩ => show 256 + 1 * r.val = 256 + r.val; omega
    | ⟨1, _⟩ => show 0 + 1 * k.val = k.val; omega)

/-- The first slab's rows are the tile's first. -/
theorem emb_lo (r : Fin 256) (k : Fin 2048) : r0_5.emb (ix2 r k : S256x2048.Idx) = (ix2 ⟨r.val, by omega⟩ k : S512x2048.Idx) :=
  funext fun a => Fin.ext (by
    match a with
    | ⟨0, _⟩ => show 0 + 1 * r.val = r.val; omega
    | ⟨1, _⟩ => show 0 + 1 * k.val = k.val; omega)

/-- The first slab's projection. -/
theorem lo_apply (x0 : Vec Ideal S512x2048 .f32) (x1 : Vec Ideal S512x1024 .bf16) (x2 : Vec Ideal S512x1024 .f32) (x3 : Vec Ideal S1x1024 .f32) (x4 : Vec Ideal S2048x2048 .bf16) (x5 : Vec Ideal S1x2048 .f32) (x6 : Vec Ideal S1x2048 .f32) (r : Fin 256) (k : Fin 2048) : k0_pay11 x0 x1 x2 x3 x4 x5 x6 (ix2 r k) = dTile x0 x1 x2 x3 x4 ⟨r.val, by omega⟩ k := by
  unfold k0_pay11
  unfold_payloads
  pointwise [dTile, dRow, rms, dot_S256x1024_S1024x2048_S256x2048_1_0_0_1_n_n]

/-- The second slab's projection. -/
theorem hi_apply (x0 : Vec Ideal S512x2048 .f32) (x1 : Vec Ideal S512x1024 .bf16) (x2 : Vec Ideal S512x1024 .f32) (x3 : Vec Ideal S1x1024 .f32) (x4 : Vec Ideal S2048x2048 .bf16) (x5 : Vec Ideal S1x2048 .f32) (x6 : Vec Ideal S1x2048 .f32) (r : Fin 256) (k : Fin 2048) : k0_pay12 x0 x1 x2 x3 x4 x5 x6 (ix2 r k) = dTile x0 x1 x2 x3 x4 ⟨256 + r.val, by omega⟩ k := by
  unfold k0_pay12
  unfold_payloads
  pointwise [dTile, dRow, rms, dot_S256x1024_S1024x2048_S256x2048_1_0_0_1_n_n]

/-- The first slab's residual, of its projection. -/
theorem pay5_apply (v23 v48 : Vec Ideal S256x2048 .f32) (v49 : Vec Ideal S1x2048 .f32) (r : Fin 256) (k : Fin 2048) (h d g : Fin 2048 → EReal)
    (hd : ∀ x, v23 (ix2 r x) = d x) (hh : ∀ x, v48 (ix2 r x) = h x) (hg : ∀ x, v49 (ix2 0 x) = g x) :
    k0_pay5 v23 v48 v49 (ix2 r k) = hRow h d g k := by
  unfold_payloads
  pointwise [hRow, rms, hd, hh, hg]

/-- The second slab's. -/
theorem pay9_apply (v23 v48 : Vec Ideal S256x2048 .f32) (v49 : Vec Ideal S1x2048 .f32) (r : Fin 256) (k : Fin 2048) (h d g : Fin 2048 → EReal)
    (hd : ∀ x, v23 (ix2 r x) = d x) (hh : ∀ x, v48 (ix2 r x) = h x) (hg : ∀ x, v49 (ix2 0 x) = g x) :
    k0_pay9 v23 v48 v49 (ix2 r k) = hRow h d g k := by
  unfold_payloads
  pointwise [hRow, rms, hd, hh, hg]

/-- The first slab's normed residual, of its projection. -/
theorem pay8_apply (v65 : Vec Ideal S1x2048 .f32) (v23 v48 : Vec Ideal S256x2048 .f32) (v49 : Vec Ideal S1x2048 .f32) (r : Fin 256) (k : Fin 2048) (h d g : Fin 2048 → EReal)
    (hd : ∀ x, v23 (ix2 r x) = d x) (hh : ∀ x, v48 (ix2 r x) = h x) (hg : ∀ x, v49 (ix2 0 x) = g x)
    (g' : Fin 2048 → EReal) (hg' : ∀ x, v65 (ix2 0 x) = g' x) :
    k0_pay8 (k0_pay5 v23 v48 v49) (k0_pay6 v65) (k0_pay7 v23 v48 v49) (ix2 r k) = aRow h d g g' k := by
  have e := fun x => pay5_apply v23 v48 v49 r x h d g hd hh hg
  unfold k0_pay8 k0_pay6 k0_pay7
  pointwise [aRow, rms, e, hg']

/-- The second slab's. -/
theorem pay10_apply (v98 : Vec Ideal S1x2048 .f32) (v23 v48 : Vec Ideal S256x2048 .f32) (v49 : Vec Ideal S1x2048 .f32) (r : Fin 256) (k : Fin 2048) (h d g : Fin 2048 → EReal)
    (hd : ∀ x, v23 (ix2 r x) = d x) (hh : ∀ x, v48 (ix2 r x) = h x) (hg : ∀ x, v49 (ix2 0 x) = g x)
    (g' : Fin 2048 → EReal) (hg' : ∀ x, v98 (ix2 0 x) = g' x) :
    k0_pay10 v23 v48 v49 v98 (ix2 r k) = aRow h d g g' k := by
  have e := fun x => pay9_apply v23 v48 v49 r x h d g hd hh hg
  unfold k0_pay10
  pointwise [aRow, rms, e, hg']

/-- The rows of a slab of the residual. -/
theorem ld_hi (x0 : Vec Ideal S512x2048 .f32) (r : Fin 256) (k : Fin 2048) : View.ld x0 r0_7 (ix2 r k) = x0 (ix2 ⟨256 + r.val, by omega⟩ k) := by
  pointwise

theorem ld_lo (x0 : Vec Ideal S512x2048 .f32) (r : Fin 256) (k : Fin 2048) : View.ld x0 r0_5 (ix2 r k) = x0 (ix2 ⟨r.val, by omega⟩ k) := by
  pointwise

theorem ld_gain (x5 : Vec Ideal S1x2048 .f32) (k : Fin 2048) : View.ld x5 r0_6 (ix2 0 k) = x5 (ix2 0 k) := by
  pointwise

/-- The body's two slabs of 256 rows are the tile's rows of the residual. -/
theorem outH_eq (x0 : Vec Ideal S512x2048 .f32) (x1 : Vec Ideal S512x1024 .bf16) (x2 : Vec Ideal S512x1024 .f32) (x3 : Vec Ideal S1x1024 .f32) (x4 : Vec Ideal S2048x2048 .bf16) (x5 : Vec Ideal S1x2048 .f32) (x6 : Vec Ideal S1x2048 .f32) : out0_7 x0 x1 x2 x3 x4 x5 x6 = tileH x0 x1 x2 x3 x4 x5 := by
  funext y
  unfold out0_7
  refine View.canon_apply_of_pieces (tileH x0 x1 x2 x3 x4 x5) _ ?_ y (cover0_7 _ _ y)
  intro p hp j
  simp only [List.mem_cons, List.not_mem_nil, or_false] at hp
  obtain rfl | rfl := hp
  · change S256x2048.Idx at j
    idx_vars j
    rw [emb_hi]
    exact pay9_apply _ _ _ _ _ _ _ _ (fun x => hi_apply x0 x1 x2 x3 x4 x5 x6 j0 x) (fun x => ld_hi x0 j0 x) (fun x => ld_gain x5 x)
  · change S256x2048.Idx at j
    idx_vars j
    rw [emb_lo]
    exact pay5_apply _ _ _ _ _ _ _ _ (fun x => lo_apply x0 x1 x2 x3 x4 x5 x6 j0 x) (fun x => ld_lo x0 j0 x) (fun x => ld_gain x5 x)

/-- … and of the normed residual. -/
theorem outA_eq (x0 : Vec Ideal S512x2048 .f32) (x1 : Vec Ideal S512x1024 .bf16) (x2 : Vec Ideal S512x1024 .f32) (x3 : Vec Ideal S1x1024 .f32) (x4 : Vec Ideal S2048x2048 .bf16) (x5 : Vec Ideal S1x2048 .f32) (x6 : Vec Ideal S1x2048 .f32) : out0_8 x0 x1 x2 x3 x4 x5 x6 = tileA x0 x1 x2 x3 x4 x5 x6 := by
  funext y
  unfold out0_8
  refine View.canon_apply_of_pieces (tileA x0 x1 x2 x3 x4 x5 x6) _ ?_ y (cover0_8 _ _ y)
  intro p hp j
  simp only [List.mem_cons, List.not_mem_nil, or_false] at hp
  obtain rfl | rfl := hp
  · change S256x2048.Idx at j
    idx_vars j
    rw [emb_hi]
    exact pay10_apply _ _ _ _ _ _ _ _ _ (fun x => hi_apply x0 x1 x2 x3 x4 x5 x6 j0 x) (fun x => ld_hi x0 j0 x) (fun x => ld_gain x5 x) _ (fun x => ld_gain x6 x)
  · change S256x2048.Idx at j
    idx_vars j
    rw [emb_lo]
    exact pay8_apply _ _ _ _ _ _ _ _ _ (fun x => lo_apply x0 x1 x2 x3 x4 x5 x6 j0 x) (fun x => ld_lo x0 j0 x) (fun x => ld_gain x5 x) _ (fun x => ld_gain x6 x)

/-- A tile of the arrays is the rows of the residual. -/
theorem tileH_eq (c : Dev nD) (t : Fin cfg0.N) (r : Fin 512) (k : Fin 2048) :
    tileH (iblk m c 0 t) (iblk m c 1 t) (iblk m c 2 t) (iblk m c 3 t) (iblk m c 4 t) (iblk m c 5 t) (ix2 r k) = resH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t r) k) := by
  rw [resH_apply]
  unfold tileH dTile
  simp only [ix2_0, ix2_1, blk0, blk1, blk2, blk3, blk4, blk5]

/-- … and of the normed residual. -/
theorem tileA_eq (c : Dev nD) (t : Fin cfg0.N) (r : Fin 512) (k : Fin 2048) :
    tileA (iblk m c 0 t) (iblk m c 1 t) (iblk m c 2 t) (iblk m c 3 t) (iblk m c 4 t) (iblk m c 5 t) (iblk m c 6 t) (ix2 r k) = resA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t r) k) := by
  rw [resA_apply]
  unfold tileA dTile
  simp only [ix2_0, ix2_1, blk0, blk1, blk2, blk3, blk4, blk5, blk6]

/-! ## The arrays -/

theorem flushedH (c : Dev nD) (t : Fin cfg0.N) (hf : (cfg0.win 7).flush t = true) :
    (dats m 0 c).flushed 7 t = ((cfg0.win 7).blk t).view.read (Elt Ideal) (resH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) : Buf (Elt Ideal) ((c : Thread nD τ).loc main_v8_0)) := by
  rw [Value.flushed7, outH_eq]
  funext j
  change S512x2048.Idx at j
  idx_vars j
  rw [View.read_apply]
  refine (tileH_eq m c t j0 j1).trans (congrArg _ ?_)
  refine funext fun a => Fin.ext ?_
  match a with
  | ⟨0, _⟩ => show 512 * t.val + j0.val = win0_7.index t 0 * 512 + 1 * j0.val; rw [(idx t).2.2.2.2.2.2.2.1.1]; omega
  | ⟨1, _⟩ => show j1.val = win0_7.index t 1 * 2048 + 1 * j1.val; rw [(idx t).2.2.2.2.2.2.2.1.2]; omega

/-- The call's array is the reference's. -/
theorem finalH (c : Dev nD) : (dats m 0 c).arrAt 7 cfg0.N = (resH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) : Buf (Elt Ideal) ((c : Thread nD τ).loc main_v8_0)) :=
  (dats m 0 c).arrAt_eq_of_cover 7 _ (fun t hf => flushedH m c t hf) fun i => by
    have h0 : (i 0 : Nat) < 32768 := (i 0).isLt
    have h1 : (i 1 : Nat) < 2048 := (i 1).isLt
    have hN : cfg0.N = 64 := N_0
    let t : Fin cfg0.N := ⟨(i 0 : Nat) / 512, by rw [hN]; omega⟩
    have ht : t.val = (i 0 : Nat) / 512 := rfl
    refine ⟨t, flush0_7 t, ?_⟩
    show i ∈ ((View.whole main_v8_0).slice (win0_7.rect t)).set
    rw [View.set_slice_whole]
    refine (win0_7.mem_rect_iff t i).mpr fun a => ?_
    match a with
    | ⟨0, _⟩ => show win0_7.index t 0 * 512 ≤ (i 0 : Nat) ∧ (i 0 : Nat) < win0_7.index t 0 * 512 + 512
                rw [(idx t).2.2.2.2.2.2.2.1.1]; omega
    | ⟨1, _⟩ => show win0_7.index t 1 * 2048 ≤ (i 1 : Nat) ∧ (i 1 : Nat) < win0_7.index t 1 * 2048 + 2048
                rw [(idx t).2.2.2.2.2.2.2.1.2]; omega

theorem flushedA (c : Dev nD) (t : Fin cfg0.N) (hf : (cfg0.win 8).flush t = true) :
    (dats m 0 c).flushed 8 t = ((cfg0.win 8).blk t).view.read (Elt Ideal) (resA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : Buf (Elt Ideal) ((c : Thread nD τ).loc main_v8_1)) := by
  rw [Value.flushed8, outA_eq]
  funext j
  change S512x2048.Idx at j
  idx_vars j
  rw [View.read_apply]
  refine (tileA_eq m c t j0 j1).trans (congrArg _ ?_)
  refine funext fun a => Fin.ext ?_
  match a with
  | ⟨0, _⟩ => show 512 * t.val + j0.val = win0_8.index t 0 * 512 + 1 * j0.val; rw [(idx t).2.2.2.2.2.2.2.2.1]; omega
  | ⟨1, _⟩ => show j1.val = win0_8.index t 1 * 2048 + 1 * j1.val; rw [(idx t).2.2.2.2.2.2.2.2.2]; omega

/-- The call's array is the reference's. -/
theorem finalA (c : Dev nD) : (dats m 0 c).arrAt 8 cfg0.N = (resA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : Buf (Elt Ideal) ((c : Thread nD τ).loc main_v8_1)) :=
  (dats m 0 c).arrAt_eq_of_cover 8 _ (fun t hf => flushedA m c t hf) fun i => by
    have h0 : (i 0 : Nat) < 32768 := (i 0).isLt
    have h1 : (i 1 : Nat) < 2048 := (i 1).isLt
    have hN : cfg0.N = 64 := N_0
    let t : Fin cfg0.N := ⟨(i 0 : Nat) / 512, by rw [hN]; omega⟩
    have ht : t.val = (i 0 : Nat) / 512 := rfl
    refine ⟨t, flush0_8 t, ?_⟩
    show i ∈ ((View.whole main_v8_1).slice (win0_8.rect t)).set
    rw [View.set_slice_whole]
    refine (win0_8.mem_rect_iff t i).mpr fun a => ?_
    match a with
    | ⟨0, _⟩ => show win0_8.index t 0 * 512 ≤ (i 0 : Nat) ∧ (i 0 : Nat) < win0_8.index t 0 * 512 + 512
                rw [(idx t).2.2.2.2.2.2.2.2.1]; omega
    | ⟨1, _⟩ => show win0_8.index t 1 * 2048 ≤ (i 1 : Nat) ∧ (i 1 : Nat) < win0_8.index t 1 * 2048 + 2048
                rw [(idx t).2.2.2.2.2.2.2.2.2]; omega

end Cert.OutProjIdeal.RowValue

/-! ## The claim -/

namespace Cert.Proof

open Cert.OutRefIdeal.RowValue (resH resA)

/-- On equal arguments the call and its reference end at the same two arrays. -/
theorem algebraic_out : Cert.algebraic_OutProjIdeal_OutRefIdeal (hOutProjIdeal := Cert.OutProjIdeal.Gen.facts) (hOutRefIdeal := Cert.OutRefIdeal.Gen.facts) := by
  intro m g m' g' _ hag
  refine ⟨fun c => resH (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)),
    fun c => resA (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)), ?_, ?_⟩
  · exact (θ_run _ _ _).mono (fun r h c => ⟨(h c).1.trans (Cert.OutProjIdeal.RowValue.finalH m c), (h c).2.1.trans (Cert.OutProjIdeal.RowValue.finalA m c), (h c).2.2⟩) (Cert.OutProjIdeal.Value.run_blocks m g)
  · refine (θ_run _ _ _).mono (fun r h c => ⟨(h c).1.trans ?_, (h c).2.1.trans ?_, (h c).2.2⟩) (Cert.OutRefIdeal.Value.run m' g')
    · obtain ⟨e0, e1, e2, e3, e4, e5, e6⟩ := hag c
      rw [e0, e1, e2, e3, e4, e5]
      rfl
    · obtain ⟨e0, e1, e2, e3, e4, e5, e6⟩ := hag c
      unfold Cert.OutRefIdeal.Value.res_main_v47
      rw [e0, e1, e2, e3, e4, e5, e6]
      rfl

end Cert.Proof
-- ==== Proof.MlpVal.lean ====
/- The MLP call: the kernel's array and the reference's array, element by element. -/
module

public import proofs.«01_k».proof.Defs
public import proofs.«01_k».proof.Proof.Gen.MlpIdeal.Value
public import proofs.«01_k».proof.Proof.Gen.MlpRefIdeal.Run
public import Idealize.ShloMosaic.Lib.Pointwise
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem
open scoped BigOperators

/-! ## The row the call computes -/

namespace Cert.MlpRow

/-- The squared-ReLU hidden unit `x` of a row. -/
def hid (a : Fin 2048 → EReal) (w1 : Fin 2048 → Fin 8192 → EReal) (x : Fin 8192) : EReal :=
  max (∑ y : Fin 2048, a y * w1 y x) 0 * max (∑ y : Fin 2048, a y * w1 y x) 0

/-- The two-layer row. -/
def fRow (a : Fin 2048 → EReal) (w1 : Fin 2048 → Fin 8192 → EReal) (w2 : Fin 8192 → Fin 2048 → EReal) (k : Fin 2048) : EReal :=
  ∑ x : Fin 8192, hid a w1 x * w2 x k

/-- A row scaled to root mean square one, times the gain. -/
def rms (f g : Fin 2048 → EReal) (k : Fin 2048) : EReal :=
  f k * Ideal.rsqrt (Ideal.div (∑ x, f x * f x) (Ideal.ofBits .f32 0x45000000#32) + Ideal.ofBits .f32 0x358637BD#32) * g k

end Cert.MlpRow

namespace Cert.MlpRefIdeal.RowValue

open Cert.MlpRefIdeal Cert.MlpRefIdeal.Gen
open Cert.MlpRow

/-- The two layers, as the reference composes them of its arrays. -/
def resF (a : FVec Ideal S32768x2048 .bf16) (w1 : FVec Ideal S1x2048x8192 .f32) (w2 : FVec Ideal S1x8192x2048 .f32) : FVec Ideal S32768x2048 .f32 :=
  Host.dotGeneral dot_S32768x8192_S8192x2048_S32768x2048_1_0_0_1_n_n none (mulf (maximumf (Host.dotGeneral dot_S32768x2048_S2048x8192_S32768x8192_1_0_0_1_n_n none (extf .f32 a bitsLt_bf16_f32) (shapeCast _ w1 shapeCasts_S1x2048x8192_S2048x8192)) (broadcastInDim S32768x8192 ![] bcast_S_S32768x8192 (constant S_ .f32 0x00000000#32))) (maximumf (Host.dotGeneral dot_S32768x2048_S2048x8192_S32768x8192_1_0_0_1_n_n none (extf .f32 a bitsLt_bf16_f32) (shapeCast _ w1 shapeCasts_S1x2048x8192_S2048x8192)) (broadcastInDim S32768x8192 ![] bcast_S_S32768x8192 (constant S_ .f32 0x00000000#32)))) (shapeCast _ w2 shapeCasts_S1x8192x2048_S8192x2048)

/-- The call's result, as the reference composes it of its arrays. -/
def res (a : FVec Ideal S32768x2048 .bf16) (w1 : FVec Ideal S1x2048x8192 .f32) (w2 : FVec Ideal S1x8192x2048 .f32) (g : FVec Ideal S1x2048 .f32) : FVec Ideal S32768x2048 .f32 :=
  mulf (mulf (resF a w1 w2) (broadcastInDim S32768x2048 ![0, 1] bcast_S32768x1_S32768x2048_0_1 (Host.rsqrt (addf (Host.divf (broadcastInDim S32768x1 ![0] bcast_S32768_S32768x1_0 (Host.reduceAdd (mulf (resF a w1 w2) (resF a w1 w2)) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (shapeCast _ g shapeCasts_S1x2048_S2048)))

theorem resF_apply (a : FVec Ideal S32768x2048 .bf16) (w1 : FVec Ideal S1x2048x8192 .f32) (w2 : FVec Ideal S1x8192x2048 .f32) (r : Fin 32768) (k : Fin 2048) :
    resF a w1 w2 (ix2 r k) = fRow (fun x => a (ix2 r x)) (fun y x => w1 (ix3 0 y x)) (fun x k => w2 (ix3 0 x k)) k := by
  pointwise [resF, fRow, hid, dot_S32768x2048_S2048x8192_S32768x8192_1_0_0_1_n_n, dot_S32768x8192_S8192x2048_S32768x2048_1_0_0_1_n_n]

theorem res_apply (a : FVec Ideal S32768x2048 .bf16) (w1 : FVec Ideal S1x2048x8192 .f32) (w2 : FVec Ideal S1x8192x2048 .f32) (g : FVec Ideal S1x2048 .f32) (r : Fin 32768) (k : Fin 2048) :
    res a w1 w2 g (ix2 r k) = rms (fRow (fun x => a (ix2 r x)) (fun y x => w1 (ix3 0 y x)) (fun x k => w2 (ix3 0 x k))) (fun x => g (ix2 0 x)) k := by
  have e := fun k => resF_apply a w1 w2 r k
  unfold res
  generalize resF a w1 w2 = f at e ⊢
  pointwise [rms, e]

end Cert.MlpRefIdeal.RowValue

namespace Cert.MlpIdeal.RowValue

open Cert.MlpIdeal Cert.MlpIdeal.Gen
open Cert.MlpRow
open Idealize.ShloMosaic.Pipeline (Dat)
open Cert.MlpRefIdeal.RowValue (res res_apply)

variable (m : (ℓ : Loc nD τ sig) → Buf (Elt Ideal) ℓ)

/-! ## The arrays the call reads -/

/-- The first layer's weights, as the call reads them. -/
theorem V_v1 (c : Dev nD) : V m c main_v1 = (truncf .bf16 (shapeCast S2048x8192 (m ((c : Thread nD τ).loc main_arg1) : FVec Ideal S1x2048x8192 .f32) shapeCasts_S1x2048x8192_S2048x8192) bitsLt_bf16_f32 : FVec Ideal S2048x8192 .bf16) := by
  show StableHlo.after hostOps0 _ (Proc.devRef .tc main_v1) = _
  after_results <;> rfl

/-- The second layer's weights, as the call reads them. -/
theorem V_v3 (c : Dev nD) : V m c main_v3 = (truncf .bf16 (shapeCast S8192x2048 (m ((c : Thread nD τ).loc main_arg2) : FVec Ideal S1x8192x2048 .f32) shapeCasts_S1x8192x2048_S8192x2048) bitsLt_bf16_f32 : FVec Ideal S8192x2048 .bf16) := by
  show StableHlo.after hostOps0 _ (Proc.devRef .tc main_v3) = _
  after_results <;> rfl

/-- The norm's gain, as the call reads it. -/
theorem V_v5 (c : Dev nD) : V m c main_v5 = (shapeCast S1x2048 (shapeCast S2048 (m ((c : Thread nD τ).loc main_arg3) : FVec Ideal S1x2048 .f32) shapeCasts_S1x2048_S2048) shapeCasts_S2048_S1x2048 : FVec Ideal S1x2048 .f32) := by
  show StableHlo.after hostOps0 _ (Proc.devRef .tc main_v5) = _
  after_results <;> rfl

theorem w1_apply (p : FVec Ideal S1x2048x8192 .f32) (r : Fin 2048) (k : Fin 8192) :
    (truncf .bf16 (shapeCast S2048x8192 p shapeCasts_S1x2048x8192_S2048x8192) bitsLt_bf16_f32 : FVec Ideal S2048x8192 .bf16) (ix2 r k) = p (ix3 0 r k) := by
  pointwise

theorem w2_apply (p : FVec Ideal S1x8192x2048 .f32) (r : Fin 8192) (k : Fin 2048) :
    (truncf .bf16 (shapeCast S8192x2048 p shapeCasts_S1x8192x2048_S8192x2048) bitsLt_bf16_f32 : FVec Ideal S8192x2048 .bf16) (ix2 r k) = p (ix3 0 r k) := by
  pointwise

theorem gain_apply (g : FVec Ideal S1x2048 .f32) (k : Fin 2048) :
    (shapeCast S1x2048 (shapeCast S2048 g shapeCasts_S1x2048_S2048) shapeCasts_S2048_S1x2048 : FVec Ideal S1x2048 .f32) (ix2 0 k) = g (ix2 0 k) := by
  pointwise

/-- The windows' block indices: a row tile's eight points walk the hidden tiles. -/
theorem idx (t : Fin cfg0.N) : (win0_0.index t 0 = t.val / 8 ∧ win0_0.index t 1 = 0) ∧ (win0_1.index t 0 = 0 ∧ win0_1.index t 1 = t.val % 8) ∧ (win0_2.index t 0 = t.val % 8 ∧ win0_2.index t 1 = 0) ∧ (win0_3.index t 0 = 0 ∧ win0_3.index t 1 = 0) ∧ (win0_4.index t 0 = t.val / 8 ∧ win0_4.index t 1 = 0) :=
  (by decide +kernel : ∀ t : Fin grid0.N, (win0_0.index t 0 = t.val / 8 ∧ win0_0.index t 1 = 0) ∧ (win0_1.index t 0 = 0 ∧ win0_1.index t 1 = t.val % 8) ∧ (win0_2.index t 0 = t.val % 8 ∧ win0_2.index t 1 = 0) ∧ (win0_3.index t 0 = 0 ∧ win0_3.index t 1 = 0) ∧ (win0_4.index t 0 = t.val / 8 ∧ win0_4.index t 1 = 0)) t

theorem lt256 (t : Fin cfg0.N) : t.val < 256 := lt_of_lt_of_eq t.isLt N_0

/-- Row `r` of the point's row tile. -/
def row (t : Fin cfg0.N) (r : Fin 1024) : Fin 32768 := ⟨1024 * (t.val / 8) + r.val, by have := lt256 t; omega⟩

/-- Hidden unit `x` of the point's hidden tile. -/
def unit (t : Fin cfg0.N) (x : Fin 1024) : Fin 8192 := ⟨(t.val % 8) * 1024 + x.val, by omega⟩

theorem blk0 (c : Dev nD) (t : Fin cfg0.N) (r : Fin 1024) (k : Fin 2048) : (iblk m c 0 t : Vec Ideal S1024x2048 .bf16) (ix2 r k)
    = (m ((c : Thread nD τ).loc main_arg0) : FVec Ideal S32768x2048 .bf16) (ix2 (row t r) k) := by
  unfold iblk
  rw [View.read_apply]
  show V m c main_arg0 _ = _
  rw [V_main_arg0]
  refine congrArg (m _) (funext fun a => Fin.ext ?_)
  match a with
  | ⟨0, _⟩ => show win0_0.index t 0 * 1024 + 1 * r.val = 1024 * (t.val / 8) + r.val; rw [(idx t).1.1]; omega
  | ⟨1, _⟩ => show win0_0.index t 1 * 2048 + 1 * k.val = k.val; rw [(idx t).1.2]; omega

theorem blk1 (c : Dev nD) (t : Fin cfg0.N) (r : Fin 2048) (k : Fin 1024) : (iblk m c 1 t : Vec Ideal S2048x1024 .bf16) (ix2 r k)
    = (m ((c : Thread nD τ).loc main_arg1) : FVec Ideal S1x2048x8192 .f32) (ix3 0 r (unit t k)) := by
  unfold iblk
  rw [View.read_apply]
  show V m c main_v1 _ = _
  rw [V_v1]
  have e : ((cfg0.win 1).blk t).view.emb (ix2 r k) = (ix2 r (unit t k) : S2048x8192.Idx) := funext fun a => Fin.ext (by
    match a with
    | ⟨0, _⟩ => show win0_1.index t 0 * 2048 + 1 * r.val = r.val; rw [(idx t).2.1.1]; omega
    | ⟨1, _⟩ => show win0_1.index t 1 * 1024 + 1 * k.val = (t.val % 8) * 1024 + k.val; rw [(idx t).2.1.2]; omega)
  rw [e]
  exact w1_apply _ _ _

theorem blk2 (c : Dev nD) (t : Fin cfg0.N) (r : Fin 1024) (k : Fin 2048) : (iblk m c 2 t : Vec Ideal S1024x2048 .bf16) (ix2 r k)
    = (m ((c : Thread nD τ).loc main_arg2) : FVec Ideal S1x8192x2048 .f32) (ix3 0 (unit t r) k) := by
  unfold iblk
  rw [View.read_apply]
  show V m c main_v3 _ = _
  rw [V_v3]
  have e : ((cfg0.win 2).blk t).view.emb (ix2 r k) = (ix2 (unit t r) k : S8192x2048.Idx) := funext fun a => Fin.ext (by
    match a with
    | ⟨0, _⟩ => show win0_2.index t 0 * 1024 + 1 * r.val = (t.val % 8) * 1024 + r.val; rw [(idx t).2.2.1.1]; omega
    | ⟨1, _⟩ => show win0_2.index t 1 * 2048 + 1 * k.val = k.val; rw [(idx t).2.2.1.2]; omega)
  rw [e]
  exact w2_apply _ _ _

theorem blk3 (c : Dev nD) (t : Fin cfg0.N) (k : Fin 2048) : (iblk m c 3 t : Vec Ideal S1x2048 .f32) (ix2 0 k)
    = (m ((c : Thread nD τ).loc main_arg3) : FVec Ideal S1x2048 .f32) (ix2 0 k) := by
  unfold iblk
  rw [View.read_apply]
  show V m c main_v5 _ = _
  rw [V_v5]
  have e : ((cfg0.win 3).blk t).view.emb (ix2 0 k) = (ix2 0 k : S1x2048.Idx) := funext fun a => Fin.ext (by
    match a with
    | ⟨0, _⟩ => show win0_3.index t 0 * 1 + 1 * 0 = 0; rw [(idx t).2.2.2.1.1]
    | ⟨1, _⟩ => show win0_3.index t 1 * 2048 + 1 * k.val = k.val; rw [(idx t).2.2.2.1.2]; omega)
  rw [e]
  exact gain_apply _ _

/-! ## One point, and a row tile's eight points -/

/-- What a point adds to the accumulator, of the arrays: its hidden tile's share of the second layer. -/
def term (c : Dev nD) (t : Fin cfg0.N) : S1024x2048.Idx → EReal := fun i =>
  ∑ x : Fin 1024, hid (fun y => (m ((c : Thread nD τ).loc main_arg0) : FVec Ideal S32768x2048 .bf16) (ix2 (row t (i 0)) y))
      (fun y x => (m ((c : Thread nD τ).loc main_arg1) : FVec Ideal S1x2048x8192 .f32) (ix3 0 y x)) (unit t x)
    * (m ((c : Thread nD τ).loc main_arg2) : FVec Ideal S1x8192x2048 .f32) (ix3 0 (unit t x) (i 1))

/-- A point's step adds the product of its blocks. -/
theorem step_apply (v3 : Vec Ideal S1024x2048 .bf16) (v4 : Vec Ideal S2048x1024 .bf16) (v9 : Vec Ideal S1024x2048 .f32) (v12 : Vec Ideal S1024x2048 .bf16) (r : Fin 1024) (k : Fin 2048) :
    k0_pay2 v3 v4 v9 v12 (ix2 r k) = v9 (ix2 r k) + ∑ x : Fin 1024, (max (∑ y : Fin 2048, v3 (ix2 r y) * v4 (ix2 y x)) 0 * max (∑ y : Fin 2048, v3 (ix2 r y) * v4 (ix2 y x)) 0) * v12 (ix2 x k) := by
  unfold_payloads
  pointwise [dot_S1024x2048_S2048x1024_S1024x1024_1_0_0_1_n_n, dot_S1024x1024_S1024x2048_S1024x2048_1_0_0_1_n_n]

/-- The accumulator starts at zero. -/
theorem zero_apply (r : Fin 1024) (k : Fin 2048) : k0_pay1 (F := Ideal) (ix2 r k) = 0 := by
  unfold_payloads
  pointwise

/-- The last point norms the accumulator's row. -/
theorem norm_apply (v22 : Vec Ideal S1024x2048 .f32) (v23 : Vec Ideal S1x2048 .f32) (r : Fin 1024) (k : Fin 2048) :
    k0_pay3 v22 v23 (ix2 r k) = rms (fun x => v22 (ix2 r x)) (fun x => v23 (ix2 0 x)) k := by
  unfold_payloads
  pointwise [rms]

theorem step_eq (c : Dev nD) (t : Fin cfg0.N) (v9 : Vec Ideal S1024x2048 .f32) (i : S1024x2048.Idx) :
    k0_pay2 (iblk m c 0 t) (iblk m c 1 t) v9 (iblk m c 2 t) i = v9 i + term m c t i := by
  idx_vars i
  refine (step_apply _ _ _ _ _ _).trans ?_
  unfold term hid
  simp only [ix2_0, ix2_1, blk0, blk1, blk2]

/-- The first point of a row tile leaves its own share. -/
theorem acc_first (c : Dev nD) (t : Fin cfg0.N) (h0 : t.val % 8 = 0) (i : S1024x2048.Idx) :
    (outsAt0 m c t.val t.isLt).2 i = (fun _ => (0 : EReal)) i + term m c t i := by
  rw [outsAt0_A m c t h0 (by omega)]
  frame_out
  rw [step_eq]
  idx_vars i
  rw [zero_apply]

/-- A later point's accumulator is the step on what the point before left. -/
theorem acc_step (c : Dev nD) (t : Fin cfg0.N) (h0 : ¬t.val % 8 = 0) : (outsAt0 m c t.val t.isLt).2
    = k0_pay2 (iblk m c 0 t) (iblk m c 1 t) (outsAt0 m c (t.val - 1) (Nat.lt_of_le_of_lt (Nat.sub_le _ _) t.isLt)).2 (iblk m c 2 t) := by
  by_cases h1 : t.val % 8 = 7
  · rw [outsAt0_C m c t h0 h1]
    frame_out
    exact congrArg (fun v => k0_pay2 (iblk m c 0 t) (iblk m c 1 t) v (iblk m c 2 t)) ((Memref.isWhole_whole cc0_scratch0).read_unread _)
  · rw [outsAt0_B m c t h0 h1]
    frame_out
    exact congrArg (fun v => k0_pay2 (iblk m c 0 t) (iblk m c 1 t) v (iblk m c 2 t)) ((Memref.isWhole_whole cc0_scratch0).read_unread _)

/-- The last point of a row tile writes the norm of its accumulator. -/
theorem out_last (c : Dev nD) (t : Fin cfg0.N) (h1 : t.val % 8 = 7) : (outsAt0 m c t.val t.isLt).1
    = k0_pay3 (outsAt0 m c t.val t.isLt).2 (iblk m c 3 t) := by
  rw [acc_step m c t (by omega), outsAt0_C m c t (by omega) h1]
  frame_out
  exact congrArg (fun v => k0_pay3 (k0_pay2 (iblk m c 0 t) (iblk m c 1 t) v (iblk m c 2 t)) (iblk m c 3 t)) ((Memref.isWhole_whole cc0_scratch0).read_unread _)

/-- After a row tile's last point the accumulator is the sum over the hidden units. -/
theorem acc_last (c : Dev nD) (t : Fin cfg0.N) (h1 : t.val % 8 = 7) (r : Fin 1024) (k : Fin 2048) :
    (outsAt0 m c t.val t.isLt).2 (ix2 r k) = fRow (fun y => (m ((c : Thread nD τ).loc main_arg0) : FVec Ideal S32768x2048 .bf16) (ix2 (row t r) y))
      (fun y x => (m ((c : Thread nD τ).loc main_arg1) : FVec Ideal S1x2048x8192 .f32) (ix3 0 y x))
      (fun x k => (m ((c : Thread nD τ).loc main_arg2) : FVec Ideal S1x8192x2048 .f32) (ix3 0 x k)) k := by
  have e := Pipeline.eq_sum_fin_of_reset_step_apply_of_flush (fun n h => (outsAt0 m c n h).2) 8 (fun _ => (0 : EReal)) (term m c)
    (fun t h i => acc_first m c t h i) (fun t h i => by rw [acc_step m c t h, step_eq]) t h1 (ix2 r k)
  refine e.trans ((zero_add _).trans ?_)
  unfold fRow term
  refine Fin.sum_mul_add_congr fun s x hl => ?_
  have hs : s.val < 8 := s.isLt
  have hx : x.val < 1024 := x.isLt
  have hr : ∀ h, row ⟨8 * (t.val / 8) + s.val, h⟩ r = row t r := fun h => Fin.ext (by
    show 1024 * ((8 * (t.val / 8) + s.val) / 8) + r.val = 1024 * (t.val / 8) + r.val; omega)
  have hu : ∀ h, unit ⟨8 * (t.val / 8) + s.val, h⟩ x = ⟨s.val * 1024 + x.val, hl⟩ := fun h => Fin.ext (by
    show ((8 * (t.val / 8) + s.val) % 8) * 1024 + x.val = s.val * 1024 + x.val; omega)
  simp only [ix2_0, ix2_1, hr, hu]

/-! ## The array -/

/-- What a row tile's last point leaves is the rows of the result. -/
theorem tile_eq (c : Dev nD) (t : Fin cfg0.N) (h1 : t.val % 8 = 7) (r : Fin 1024) (k : Fin 2048) :
    (outsAt0 m c t.val t.isLt).1 (ix2 r k) = res (m ((c : Thread nD τ).loc main_arg0)) (m ((c : Thread nD τ).loc main_arg1)) (m ((c : Thread nD τ).loc main_arg2)) (m ((c : Thread nD τ).loc main_arg3)) (ix2 (row t r) k) := by
  rw [out_last m c t h1, norm_apply, res_apply]
  simp only [acc_last m c t h1, blk3]

theorem flushed_eq (c : Dev nD) (t : Fin cfg0.N) (hf : (cfg0.win 4).flush t = true) :
    (dats m 0 c).flushed 4 t = ((cfg0.win 4).blk t).view.read (Elt Ideal) (res (m ((c : Thread nD τ).loc main_arg0)) (m ((c : Thread nD τ).loc main_arg1)) (m ((c : Thread nD τ).loc main_arg2)) (m ((c : Thread nD τ).loc main_arg3)) : Buf (Elt Ideal) ((c : Thread nD τ).loc main_v6)) := by
  rw [Value.flushed4]
  have h1 : t.val % 8 = 7 := (flush0_4 t).mp hf
  funext j
  change S1024x2048.Idx at j
  idx_vars j
  rw [View.read_apply]
  refine (tile_eq m c t h1 j0 j1).trans (congrArg _ ?_)
  refine funext fun a => Fin.ext ?_
  match a with
  | ⟨0, _⟩ => show 1024 * (t.val / 8) + j0.val = win0_4.index t 0 * 1024 + 1 * j0.val; rw [(idx t).2.2.2.2.1]; omega
  | ⟨1, _⟩ => show j1.val = win0_4.index t 1 * 2048 + 1 * j1.val; rw [(idx t).2.2.2.2.2]; omega

/-- The call's result array is the reference's. -/
theorem final (c : Dev nD) : (dats m 0 c).arrAt 4 cfg0.N = (res (m ((c : Thread nD τ).loc main_arg0)) (m ((c : Thread nD τ).loc main_arg1)) (m ((c : Thread nD τ).loc main_arg2)) (m ((c : Thread nD τ).loc main_arg3)) : Buf (Elt Ideal) ((c : Thread nD τ).loc main_v6)) :=
  (dats m 0 c).arrAt_eq_of_cover 4 _ (fun t hf => flushed_eq m c t hf) fun i => by
    have h0 : (i 0 : Nat) < 32768 := (i 0).isLt
    have h1 : (i 1 : Nat) < 2048 := (i 1).isLt
    have hN : cfg0.N = 256 := N_0
    let t : Fin cfg0.N := ⟨8 * ((i 0 : Nat) / 1024) + 7, by rw [hN]; omega⟩
    have ht : t.val = 8 * ((i 0 : Nat) / 1024) + 7 := rfl
    refine ⟨t, (flush0_4 t).mpr (by omega), ?_⟩
    show i ∈ ((View.whole main_v6).slice (win0_4.rect t)).set
    rw [View.set_slice_whole]
    refine (win0_4.mem_rect_iff t i).mpr fun a => ?_
    match a with
    | ⟨0, _⟩ => show win0_4.index t 0 * 1024 ≤ (i 0 : Nat) ∧ (i 0 : Nat) < win0_4.index t 0 * 1024 + 1024
                rw [(idx t).2.2.2.2.1]; omega
    | ⟨1, _⟩ => show win0_4.index t 1 * 2048 ≤ (i 1 : Nat) ∧ (i 1 : Nat) < win0_4.index t 1 * 2048 + 2048
                rw [(idx t).2.2.2.2.2]; omega

end Cert.MlpIdeal.RowValue

/-! ## The claim -/

namespace Cert.Proof

open Cert.MlpRefIdeal.RowValue (res)

/-- On equal arguments the call and its reference end at one array. -/
theorem algebraic_mlp : Cert.algebraic_MlpIdeal_MlpRefIdeal (hMlpIdeal := Cert.MlpIdeal.Gen.facts) (hMlpRefIdeal := Cert.MlpRefIdeal.Gen.facts) := by
  intro m g m' g' _ hag
  refine ⟨fun c => (res (m ((c.tc : Thread Cert.MlpIdeal.nD Cert.MlpIdeal.τ).loc Cert.MlpIdeal.main_arg0)) (m (c.tc.loc Cert.MlpIdeal.main_arg1))
    (m (c.tc.loc Cert.MlpIdeal.main_arg2)) (m (c.tc.loc Cert.MlpIdeal.main_arg3))), ?_, ?_⟩
  · exact (θ_run _ _ _).mono (fun r h c => ⟨(h c).1.trans (Cert.MlpIdeal.RowValue.final m c), (h c).2⟩) (Cert.MlpIdeal.Value.run_blocks m g)
  · refine (θ_run _ _ _).mono (fun r h c => ⟨(h c).1.trans ?_, (h c).2⟩) (Cert.MlpRefIdeal.Value.run m' g')
    obtain ⟨e0, e1, e2, e3⟩ := hag c
    rw [e0, e1, e2, e3]
    rfl

end Cert.Proof
-- ==== Proof.PleVal.lean ====
/- The per-layer embedding call: the kernel's array and the reference's array, element by element. -/
module

public import proofs.«01_k».proof.Defs
public import proofs.«01_k».proof.Proof.Gen.PleIdeal.Value
public import proofs.«01_k».proof.Proof.Gen.PleRefIdeal.Run
public import Idealize.ShloMosaic.Lib.Pointwise
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem
open scoped BigOperators

namespace Cert.PleRefIdeal.RowValue

open Cert.PleRefIdeal Cert.PleRefIdeal.Gen

/-- The call's result as the reference composes it of its five arrays. -/
def res (h f : FVec Ideal S32768x2048 .f32) (p : FVec Ideal S1x16x2048x256 .f32) (wg : FVec Ideal S1x2048x2048 .f32)
    (wp : FVec Ideal S1x256x2048 .f32) : FVec Ideal S32768x2048 .f32 :=
  addf (addf h f) (mulf (Host.divf (broadcastInDim S32768x2048 ![] bcast_S_S32768x2048 (constant S_ .f32 0x3F800000#32)) (addf (broadcastInDim S32768x2048 ![] bcast_S_S32768x2048 (constant S_ .f32 0x3F800000#32)) (Host.exp (Host.negf (Host.dotGeneral dot_S32768x2048_S2048x2048_S32768x2048_1_0_0_1_n_n none (addf h f) (shapeCast _ wg shapeCasts_S1x2048x2048_S2048x2048)))))) (Host.dotGeneral dot_S32768x256_S256x2048_S32768x2048_1_0_0_1_n_n none (shapeCast _ (shapeCast _ p shapeCasts_S1x16x2048x256_S16x2048x256) shapeCasts_S16x2048x256_S32768x256) (shapeCast _ wp shapeCasts_S1x256x2048_S256x2048)))

/-- The call's value at row `r`, column `c`. -/
theorem res_apply (h f : FVec Ideal S32768x2048 .f32) (p : FVec Ideal S1x16x2048x256 .f32) (wg : FVec Ideal S1x2048x2048 .f32)
    (wp : FVec Ideal S1x256x2048 .f32) (r : Fin 32768) (c : Fin 2048) : res h f p wg wp (ix2 r c)
      = h (ix2 r c) + f (ix2 r c) + Ideal.logistic (∑ x : Fin 2048, (h (ix2 r x) + f (ix2 r x)) * wg (ix3 0 x c))
          * ∑ x : Fin 256, p (ix4 0 ⟨r.val / 2048, by omega⟩ ⟨r.val % 2048, by omega⟩ x) * wp (ix3 0 x c) := by
  pointwise [res, dot_S32768x2048_S2048x2048_S32768x2048_1_0_0_1_n_n, dot_S32768x256_S256x2048_S32768x2048_1_0_0_1_n_n]
  rfl

end Cert.PleRefIdeal.RowValue

namespace Cert.PleIdeal.RowValue

open Cert.PleIdeal Cert.PleIdeal.Gen
open Idealize.ShloMosaic.Pipeline (Dat)
open Cert.PleRefIdeal.RowValue (res res_apply)

variable (m : (ℓ : Loc nD τ sig) → Buf (Elt Ideal) ℓ)

/-! ## The arrays the call reads -/

/-- The rows of the per-layer input, as the call reads them. -/
theorem V_v1 (c : Dev nD) : V m c main_v1 = shapeCast S32768x256 (shapeCast S16x2048x256 (m ((c : Thread nD τ).loc main_arg2)) shapeCasts_S1x16x2048x256_S16x2048x256) shapeCasts_S16x2048x256_S32768x256 := by
  show StableHlo.after hostOps0 _ (Proc.devRef .tc main_v1) = _
  after_results <;> rfl

/-- The gate's weights, as the call reads them. -/
theorem V_v3 (c : Dev nD) : V m c main_v3 = (truncf .bf16 (shapeCast S2048x2048 (m ((c : Thread nD τ).loc main_arg3) : FVec Ideal S1x2048x2048 .f32) shapeCasts_S1x2048x2048_S2048x2048) bitsLt_bf16_f32 : FVec Ideal S2048x2048 .bf16) := by
  show StableHlo.after hostOps0 _ (Proc.devRef .tc main_v3) = _
  after_results <;> rfl

/-- The projection's weights, as the call reads them. -/
theorem V_v5 (c : Dev nD) : V m c main_v5 = (truncf .bf16 (shapeCast S256x2048 (m ((c : Thread nD τ).loc main_arg4) : FVec Ideal S1x256x2048 .f32) shapeCasts_S1x256x2048_S256x2048) bitsLt_bf16_f32 : FVec Ideal S256x2048 .bf16) := by
  show StableHlo.after hostOps0 _ (Proc.devRef .tc main_v5) = _
  after_results <;> rfl

/-- The windows' block indices: row tiles move with the point, the weights stay. -/
theorem idx (t : Fin cfg0.N) : (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0)) t

theorem lt64 (t : Fin cfg0.N) : t.val < 64 := lt_of_lt_of_eq t.isLt N_0

/-- Row `r` of tile `t`. -/
def row (t : Fin cfg0.N) (r : Fin 512) : Fin 32768 := ⟨512 * t.val + r.val, by have := lt64 t; omega⟩

theorem blk0 (c : Dev nD) (t : Fin cfg0.N) (r : Fin 512) (k : Fin 2048) : (iblk m c 0 t : Vec Ideal S512x2048 .f32) (ix2 r k)
    = (m ((c : Thread nD τ).loc main_arg0) : FVec Ideal S32768x2048 .f32) (ix2 (row t r) k) := by
  unfold iblk
  rw [View.read_apply]
  show V m c main_arg0 _ = _
  rw [V_main_arg0]
  refine congrArg (m _) (funext fun a => Fin.ext ?_)
  match a with
  | ⟨0, _⟩ => show win0_0.index t 0 * 512 + 1 * r.val = 512 * t.val + r.val; rw [(idx t).1.1]; omega
  | ⟨1, _⟩ => show win0_0.index t 1 * 2048 + 1 * k.val = k.val; rw [(idx t).1.2]; omega

theorem blk1 (c : Dev nD) (t : Fin cfg0.N) (r : Fin 512) (k : Fin 2048) : (iblk m c 1 t : Vec Ideal S512x2048 .f32) (ix2 r k)
    = (m ((c : Thread nD τ).loc main_arg1) : FVec Ideal S32768x2048 .f32) (ix2 (row t r) k) := by
  unfold iblk
  rw [View.read_apply]
  show V m c main_arg1 _ = _
  rw [V_main_arg1]
  refine congrArg (m _) (funext fun a => Fin.ext ?_)
  match a with
  | ⟨0, _⟩ => show win0_1.index t 0 * 512 + 1 * r.val = 512 * t.val + r.val; rw [(idx t).2.1.1]; omega
  | ⟨1, _⟩ => show win0_1.index t 1 * 2048 + 1 * k.val = k.val; rw [(idx t).2.1.2]; omega

theorem rows_apply (p : FVec Ideal S1x16x2048x256 .f32) (r : Fin 32768) (k : Fin 256) :
    shapeCast S32768x256 (shapeCast S16x2048x256 p shapeCasts_S1x16x2048x256_S16x2048x256) shapeCasts_S16x2048x256_S32768x256 (ix2 r k)
      = p (ix4 0 ⟨r.val / 2048, by omega⟩ ⟨r.val % 2048, by omega⟩ k) := by
  pointwise

theorem gate_apply (p : FVec Ideal S1x2048x2048 .f32) (r k : Fin 2048) :
    (truncf .bf16 (shapeCast S2048x2048 p shapeCasts_S1x2048x2048_S2048x2048) bitsLt_bf16_f32 : FVec Ideal S2048x2048 .bf16) (ix2 r k)
      = p (ix3 0 r k) := by
  pointwise

theorem proj_apply (p : FVec Ideal S1x256x2048 .f32) (r : Fin 256) (k : Fin 2048) :
    (truncf .bf16 (shapeCast S256x2048 p shapeCasts_S1x256x2048_S256x2048) bitsLt_bf16_f32 : FVec Ideal S256x2048 .bf16) (ix2 r k)
      = p (ix3 0 r k) := by
  pointwise

theorem blk2 (c : Dev nD) (t : Fin cfg0.N) (r : Fin 512) (k : Fin 256) : (iblk m c 2 t : Vec Ideal S512x256 .f32) (ix2 r k)
    = (m ((c : Thread nD τ).loc main_arg2) : FVec Ideal S1x16x2048x256 .f32)
        (ix4 0 ⟨(row t r).val / 2048, by have := (row t r).isLt; omega⟩ ⟨(row t r).val % 2048, by omega⟩ k) := by
  unfold iblk
  rw [View.read_apply]
  show V m c main_v1 _ = _
  rw [V_v1]
  have e : ((cfg0.win 2).blk t).view.emb (ix2 r k) = (ix2 (row t r) k : S32768x256.Idx) := funext fun a => Fin.ext (by
    match a with
    | ⟨0, _⟩ => show win0_2.index t 0 * 512 + 1 * r.val = 512 * t.val + r.val; rw [(idx t).2.2.1.1]; omega
    | ⟨1, _⟩ => show win0_2.index t 1 * 256 + 1 * k.val = k.val; rw [(idx t).2.2.1.2]; omega)
  rw [e]
  exact rows_apply _ _ _

theorem blk3 (c : Dev nD) (t : Fin cfg0.N) (r : Fin 2048) (k : Fin 2048) : (iblk m c 3 t : Vec Ideal S2048x2048 .bf16) (ix2 r k)
    = (m ((c : Thread nD τ).loc main_arg3) : FVec Ideal S1x2048x2048 .f32) (ix3 0 r k) := by
  unfold iblk
  rw [View.read_apply]
  show V m c main_v3 _ = _
  rw [V_v3]
  have e : ((cfg0.win 3).blk t).view.emb (ix2 r k) = (ix2 r k : S2048x2048.Idx) := funext fun a => Fin.ext (by
    match a with
    | ⟨0, _⟩ => show win0_3.index t 0 * 2048 + 1 * r.val = r.val; rw [(idx t).2.2.2.1.1]; omega
    | ⟨1, _⟩ => show win0_3.index t 1 * 2048 + 1 * k.val = k.val; rw [(idx t).2.2.2.1.2]; omega)
  rw [e]
  exact gate_apply _ _ _

theorem blk4 (c : Dev nD) (t : Fin cfg0.N) (r : Fin 256) (k : Fin 2048) : (iblk m c 4 t : Vec Ideal S256x2048 .bf16) (ix2 r k)
    = (m ((c : Thread nD τ).loc main_arg4) : FVec Ideal S1x256x2048 .f32) (ix3 0 r k) := by
  unfold iblk
  rw [View.read_apply]
  show V m c main_v5 _ = _
  rw [V_v5]
  have e : ((cfg0.win 4).blk t).view.emb (ix2 r k) = (ix2 r k : S256x2048.Idx) := funext fun a => Fin.ext (by
    match a with
    | ⟨0, _⟩ => show win0_4.index t 0 * 256 + 1 * r.val = r.val; rw [(idx t).2.2.2.2.1.1]; omega
    | ⟨1, _⟩ => show win0_4.index t 1 * 2048 + 1 * k.val = k.val; rw [(idx t).2.2.2.2.1.2]; omega)
  rw [e]
  exact proj_apply _ _ _

/-! ## One tile -/

/-- What the body leaves at row `r` of its tile, of the tile's blocks. -/
def tile (x0 x1 : Vec Ideal S512x2048 .f32) (x2 : Vec Ideal S512x256 .f32) (x3 : Vec Ideal S2048x2048 .bf16) (x4 : Vec Ideal S256x2048 .bf16) :
    Vec Ideal S512x2048 .f32 := fun i =>
  x0 i + x1 i + Ideal.logistic (∑ x : Fin 2048, (x0 (ix2 (i 0) x) + x1 (ix2 (i 0) x)) * x3 (ix2 x (i 1)))
    * ∑ x : Fin 256, x2 (ix2 (i 0) x) * x4 (ix2 x (i 1))

/-- The second slab's rows are the tile's rows from 256. -/
theorem emb_hi (r : Fin 256) (k : Fin 2048) : r0_4.emb (ix2 r k : S256x2048.Idx) = (ix2 ⟨256 + r.val, by omega⟩ k : S512x2048.Idx) :=
  funext fun a => Fin.ext (by
    match a with
    | ⟨0, _⟩ => show 256 + 1 * r.val = 256 + r.val; omega
    | ⟨1, _⟩ => show 0 + 1 * k.val = k.val; omega)

/-- The first slab's rows are the tile's first. -/
theorem emb_lo (r : Fin 256) (k : Fin 2048) : r0_0.emb (ix2 r k : S256x2048.Idx) = (ix2 ⟨r.val, by omega⟩ k : S512x2048.Idx) :=
  funext fun a => Fin.ext (by
    match a with
    | ⟨0, _⟩ => show 0 + 1 * r.val = r.val; omega
    | ⟨1, _⟩ => show 0 + 1 * k.val = k.val; omega)

/-- The body's two slabs of 256 rows are the tile's rows. -/
theorem out_eq (x0 x1 : Vec Ideal S512x2048 .f32) (x2 : Vec Ideal S512x256 .f32) (x3 : Vec Ideal S2048x2048 .bf16) (x4 : Vec Ideal S256x2048 .bf16) :
    out0_5 x0 x1 x2 x3 x4 = tile x0 x1 x2 x3 x4 := by
  funext y
  unfold out0_5
  refine View.canon_apply_of_pieces (tile x0 x1 x2 x3 x4) _ ?_ y (cover0_5 _ _ y)
  intro p hp x
  simp only [List.mem_cons, List.not_mem_nil, or_false] at hp
  obtain rfl | rfl := hp
  · change S256x2048.Idx at x
    idx_vars x
    rw [emb_hi]
    unfold_payloads
    pointwise [tile, dot_S256x2048_S2048x2048_S256x2048_1_0_0_1_n_n, dot_S256x256_S256x2048_S256x2048_1_0_0_1_n_n]
  · change S256x2048.Idx at x
    idx_vars x
    rw [emb_lo]
    unfold_payloads
    pointwise [tile, dot_S256x2048_S2048x2048_S256x2048_1_0_0_1_n_n, dot_S256x256_S256x2048_S256x2048_1_0_0_1_n_n]

/-- A tile of the arrays is the rows of the result. -/
theorem tile_eq (c : Dev nD) (t : Fin cfg0.N) (r : Fin 512) (k : Fin 2048) :
    tile (iblk m c 0 t) (iblk m c 1 t) (iblk m c 2 t) (iblk m c 3 t) (iblk m c 4 t) (ix2 r k)
      = res (m ((c : Thread nD τ).loc main_arg0)) (m ((c : Thread nD τ).loc main_arg1)) (m ((c : Thread nD τ).loc main_arg2))
          (m ((c : Thread nD τ).loc main_arg3)) (m ((c : Thread nD τ).loc main_arg4)) (ix2 (row t r) k) := by
  rw [res_apply]
  unfold tile
  simp only [ix2_0, ix2_1, blk0, blk1, blk2, blk3, blk4]

/-! ## The array -/

theorem flushed_eq (c : Dev nD) (t : Fin cfg0.N) (hf : (cfg0.win 5).flush t = true) :
    (dats m 0 c).flushed 5 t = ((cfg0.win 5).blk t).view.read (Elt Ideal) (res (m ((c : Thread nD τ).loc main_arg0)) (m ((c : Thread nD τ).loc main_arg1)) (m ((c : Thread nD τ).loc main_arg2))
          (m ((c : Thread nD τ).loc main_arg3)) (m ((c : Thread nD τ).loc main_arg4)) : Buf (Elt Ideal) ((c : Thread nD τ).loc main_v6)) := by
  rw [Value.flushed5, out_eq]
  funext j
  change S512x2048.Idx at j
  idx_vars j
  rw [View.read_apply]
  refine (tile_eq m c t j0 j1).trans (congrArg _ ?_)
  refine funext fun a => Fin.ext ?_
  match a with
  | ⟨0, _⟩ => show 512 * t.val + j0.val = win0_5.index t 0 * 512 + 1 * j0.val; rw [(idx t).2.2.2.2.2.1]; omega
  | ⟨1, _⟩ => show j1.val = win0_5.index t 1 * 2048 + 1 * j1.val; rw [(idx t).2.2.2.2.2.2]; omega

/-- The call's result array is the reference's. -/
theorem final (c : Dev nD) : (dats m 0 c).arrAt 5 cfg0.N = (res (m ((c : Thread nD τ).loc main_arg0)) (m ((c : Thread nD τ).loc main_arg1)) (m ((c : Thread nD τ).loc main_arg2))
          (m ((c : Thread nD τ).loc main_arg3)) (m ((c : Thread nD τ).loc main_arg4)) : Buf (Elt Ideal) ((c : Thread nD τ).loc main_v6)) :=
  (dats m 0 c).arrAt_eq_of_cover 5 _ (fun t hf => flushed_eq m c t hf) fun i => by
    have h0 : (i 0 : Nat) < 32768 := (i 0).isLt
    have h1 : (i 1 : Nat) < 2048 := (i 1).isLt
    have hN : cfg0.N = 64 := N_0
    let t : Fin cfg0.N := ⟨(i 0 : Nat) / 512, by rw [hN]; omega⟩
    have ht : t.val = (i 0 : Nat) / 512 := rfl
    refine ⟨t, flush0_5 t, ?_⟩
    show i ∈ ((View.whole main_v6).slice (win0_5.rect t)).set
    rw [View.set_slice_whole]
    refine (win0_5.mem_rect_iff t i).mpr fun a => ?_
    match a with
    | ⟨0, _⟩ => show win0_5.index t 0 * 512 ≤ (i 0 : Nat) ∧ (i 0 : Nat) < win0_5.index t 0 * 512 + 512
                rw [(idx t).2.2.2.2.2.1]; omega
    | ⟨1, _⟩ => show win0_5.index t 1 * 2048 ≤ (i 1 : Nat) ∧ (i 1 : Nat) < win0_5.index t 1 * 2048 + 2048
                rw [(idx t).2.2.2.2.2.2]; omega

end Cert.PleIdeal.RowValue

/-! ## The claim -/

namespace Cert.Proof

open Cert.PleRefIdeal.RowValue (res)

/-- On equal arguments the call and its reference end at one array. -/
theorem algebraic_ple : Cert.algebraic_PleIdeal_PleRefIdeal (hPleIdeal := Cert.PleIdeal.Gen.facts) (hPleRefIdeal := Cert.PleRefIdeal.Gen.facts) := by
  intro m g m' g' _ hag
  refine ⟨fun c => (res (m ((c.tc : Thread Cert.PleIdeal.nD Cert.PleIdeal.τ).loc Cert.PleIdeal.main_arg0)) (m (c.tc.loc Cert.PleIdeal.main_arg1))
    (m (c.tc.loc Cert.PleIdeal.main_arg2)) (m (c.tc.loc Cert.PleIdeal.main_arg3)) (m (c.tc.loc Cert.PleIdeal.main_arg4))), ?_, ?_⟩
  · exact (θ_run _ _ _).mono (fun r h c => ⟨(h c).1.trans (Cert.PleIdeal.RowValue.final m c), (h c).2⟩) (Cert.PleIdeal.Value.run_blocks m g)
  · refine (θ_run _ _ _).mono (fun r h c => ⟨(h c).1.trans ?_, (h c).2⟩) (Cert.PleRefIdeal.Value.run m' g')
    obtain ⟨e0, e1, e2, e3, e4⟩ := hag c
    rw [e0, e1, e2, e3, e4]
    rfl

end Cert.Proof
-- ==== Proof.InGroups.lean ====
/-
  THE RECURRENCE INSIDE ONE TILE. The input projection's body keeps a tile's decays and gated inputs in two scratch arrays of 512
  rows and walks their 64 groups of 8 rows, each group being `b + a * h` over the last row of the one before; a group is stored
  over the gated inputs it came from. Here: what the array holds after every group, over any contents before the walk.
-/
module

public import proofs.«01_k».proof.Proof.Gen.KernelIdeal.Skeleton
public import Idealize.ShloMosaic.Lib.Pipeline.ValueKit

@[expose] public section

set_option maxRecDepth 16384

noncomputable section

namespace Cert.KernelIdeal.RowValue

open Cert.KernelIdeal Cert.KernelIdeal.Gen Idealize.ShloMosaic Idealize.ShloMosaic.TcCoe Idealize.SL.Sem

/-- A cast to the same shape changes nothing. -/
theorem shapeCast_same {S : Shape} (x : FVec Ideal S .f32) (h : S.ShapeCasts S) : shapeCast S x h = x := by
  exact shapeCast_self x h

/-- Row `s` of group `k`. -/
def rowOf (k : ℕ) (s : Fin 8) : Fin 512 := ⟨(8 * k + s.val) % 512, Nat.mod_lt _ (by decide)⟩

/-- Group `k` of an array of 512 rows. -/
def grp (X : FVec Ideal S512x1024 .f32) (k : ℕ) : FVec Ideal S8x1024 .f32 := fun x => X (ix2 (rowOf k (x 0)) (x 1))

/-- What a walk starts from: the two arrays as views with the stores that made them, and the row carried in. -/
structure Sweep where
  /-- the decays' array -/
  va : View sig .tc .vmem S512x1024 .f32
  /-- the gated inputs' array -/
  vb : View sig .tc .vmem S512x1024 .f32
  /-- the stores that made the decays -/
  LA : List (View.Piece (Elt Ideal) S512x1024 .f32)
  /-- the stores that made the gated inputs -/
  LB : List (View.Piece (Elt Ideal) S512x1024 .f32)
  /-- the row carried in -/
  h0 : FVec Ideal S1x1024 .f32

namespace Sweep

/-- The decays. -/
def A (G : Sweep) : FVec Ideal S512x1024 .f32 := View.canon G.LA
/-- The gated inputs. -/
def B (G : Sweep) : FVec Ideal S512x1024 .f32 := View.canon G.LB

/-- The row carried into group `k`. -/
def crow (G : Sweep) : ℕ → FVec Ideal S1x1024 .f32
  | 0 => G.h0
  | k + 1 => extractStridedSlice S1x1024 ![7, 0]
      (addf (grp G.B k) (mulf (grp G.A k) (broadcastTo S8x1024 (crow G k) broadcasts_S1x1024_S8x1024))) slices_S8x1024_o7_0_S1x1024

/-- Group `k` after the walk. -/
def hgrp (G : Sweep) (k : ℕ) : FVec Ideal S8x1024 .f32 :=
  addf (grp G.B k) (mulf (grp G.A k) (broadcastTo S8x1024 (crow G k) broadcasts_S1x1024_S8x1024))

/-- The array with the first `k` groups walked: their rows hold the walk's values, the others what they held. -/
def Stored (G : Sweep) (k : ℕ) (L : List (View.Piece (Elt Ideal) S512x1024 .f32)) : Prop :=
  ∀ (r : Fin 512) (j : Fin 1024), View.canon L (ix2 r j)
    = if r.val < 8 * k then G.hgrp (r.val / 8) (ix2 ⟨r.val % 8, Nat.mod_lt _ (by decide)⟩ j) else G.B (ix2 r j)

/-- A load of group `k` reads group `k`. -/
theorem readCov_base (v : View sig .tc .vmem S512x1024 .f32) (L : List (View.Piece (Elt Ideal) S512x1024 .f32)) (k : ℕ) (hk : k < 64) (inb) :
    v.readCov L (Rect.unit (s := S512x1024) ![8 * k, 0] S8x1024.size inb).toLoadRect = grp (View.canon L) k := by
  rw [View.readCov_eq_canon']
  funext x
  refine congrArg (View.canon L) ?_
  funext a
  refine Fin.ext ?_
  match a with
  | ⟨0, _⟩ =>
    show 8 * k + 1 * (x 0).val = (8 * k + (x 0).val) % 512
    have hx : (x 0).val < 8 := (x 0).isLt
    omega
  | ⟨1, _⟩ => show 0 + 1 * (x 1).val = (x 1).val; omega

/-- A load of a group not yet walked reads what the array held. -/
theorem readCov_of_stored {G : Sweep} {L : List (View.Piece (Elt Ideal) S512x1024 .f32)} (v : View sig .tc .vmem S512x1024 .f32) (k : ℕ) (hk : k < 64) (inb)
    (h : Stored G k L) :
    v.readCov L (Rect.unit (s := S512x1024) ![8 * k, 0] S8x1024.size inb).toLoadRect = grp G.B k := by
  rw [readCov_base v L k hk]
  funext x
  have hx : (x 0).val < 8 := (x 0).isLt
  refine (h (rowOf k (x 0)) (x 1)).trans (if_neg ?_)
  show ¬ (8 * k + (x 0).val) % 512 < 8 * k
  omega

/-- One more group stored. -/
theorem Stored.step {G : Sweep} {k : ℕ} {L : List (View.Piece (Elt Ideal) S512x1024 .f32)} (h : Stored G k L) (hk : k < 64) (inb)
    {P : FVec Ideal S8x1024 .f32} (hP : P = G.hgrp k) :
    Stored G (k + 1) (⟨Rect.unit (s := S512x1024) ![8 * k, 0] S8x1024.size inb, P⟩ :: L) := by
  intro r j
  by_cases hr : 8 * k ≤ r.val ∧ r.val < 8 * k + 8
  · have e : (ix2 r j : S512x1024.Idx) = (Rect.unit (s := S512x1024) ![8 * k, 0] S8x1024.size inb).emb (ix2 (⟨r.val - 8 * k, by omega⟩ : Fin 8) j) := by
      funext a
      refine Fin.ext ?_
      match a with
      | ⟨0, _⟩ => show r.val = 8 * k + 1 * (r.val - 8 * k); omega
      | ⟨1, _⟩ => show j.val = 0 + 1 * j.val; omega
    rw [e, View.canon_cons_emb, hP, if_pos (by omega)]
    have h1 : r.val / 8 = k := by omega
    rw [h1]
    refine congrArg (G.hgrp k) ?_
    refine congrArg (fun s : Fin 8 => (ix2 s j : S8x1024.Idx)) (Fin.ext ?_)
    show r.val - 8 * k = r.val % 8
    omega
  · rw [View.canon_cons_of_not_mem _ _ (fun hm => hr ?_), h r j]
    · by_cases h2 : r.val < 8 * k
      · rw [if_pos h2, if_pos (by omega)]
      · rw [if_neg h2, if_neg (by omega)]
    · exact (Rect.mem_set_unit (s := S512x1024) (off := ![8 * k, 0]) (size := S8x1024.size) (inb := inb)).mp hm 0

/-- Before the walk. -/
def stored0 (G : Sweep) : List (View.Piece (Elt Ideal) S512x1024 .f32) := G.LB
theorem stored0_inv (G : Sweep) : Stored G 0 (stored0 G) := fun r j => by
  rw [if_neg (by omega)]; rfl

/-- Group 0's rows of the gated inputs, as loaded. -/
def v535 (G : Sweep) : FVec Ideal S8x1024 .f32 := G.vb.readCov (stored0 G) (Rect.unit (s := S512x1024) ![0, 0] S8x1024.size inb_S512x1024_S8x1024_0_0).toLoadRect
theorem v535_eq (G : Sweep) : v535 G = grp G.B 0 := readCov_of_stored G.vb 0 (by decide) _ (stored0_inv G)
/-- Group 0's rows of the decays, as loaded. -/
def v536 (G : Sweep) : FVec Ideal S8x1024 .f32 := G.va.readCov G.LA (Rect.unit (s := S512x1024) ![0, 0] S8x1024.size inb_S512x1024_S8x1024_0_0).toLoadRect
theorem v536_eq (G : Sweep) : v536 G = grp G.A 0 := readCov_base G.va G.LA 0 (by decide) _
theorem stored0_pay (G : Sweep) : k0_pay83 G.h0 (v535 G) (v536 G) = G.hgrp 0 := by
  rw [v535_eq, v536_eq]
  exact shapeCast_same (G.hgrp 0) shapeCasts_S8x1024_S8x1024
/-- The gated inputs' array after group 0's store. -/
def stored1 (G : Sweep) : List (View.Piece (Elt Ideal) S512x1024 .f32) :=
  ⟨Rect.unit (s := S512x1024) ![0, 0] S8x1024.size inb_S512x1024_S8x1024_0_0, k0_pay83 (F := Ideal) G.h0 (v535 G) (v536 G)⟩ :: stored0 G
theorem stored1_inv (G : Sweep) : Stored G 1 (stored1 G) := (stored0_inv G).step (by decide) _ (stored0_pay G)
/-- Group 1's rows of the gated inputs, as loaded. -/
def v544 (G : Sweep) : FVec Ideal S8x1024 .f32 := G.vb.readCov (stored1 G) (Rect.unit (s := S512x1024) ![8, 0] S8x1024.size inb_S512x1024_S8x1024_8_0).toLoadRect
theorem v544_eq (G : Sweep) : v544 G = grp G.B 1 := readCov_of_stored G.vb 1 (by decide) _ (stored1_inv G)
/-- Group 1's rows of the decays, as loaded. -/
def v545 (G : Sweep) : FVec Ideal S8x1024 .f32 := G.va.readCov G.LA (Rect.unit (s := S512x1024) ![8, 0] S8x1024.size inb_S512x1024_S8x1024_8_0).toLoadRect
theorem v545_eq (G : Sweep) : v545 G = grp G.A 1 := readCov_base G.va G.LA 1 (by decide) _
theorem stored1_pay (G : Sweep) : k0_pay85 G.h0 (v535 G) (v536 G) (v544 G) (v545 G) = G.hgrp 1 := by
  rw [v535_eq, v536_eq, v544_eq, v545_eq]
  exact shapeCast_same (G.hgrp 1) shapeCasts_S8x1024_S8x1024
/-- The gated inputs' array after group 1's store. -/
def stored2 (G : Sweep) : List (View.Piece (Elt Ideal) S512x1024 .f32) :=
  ⟨Rect.unit (s := S512x1024) ![8, 0] S8x1024.size inb_S512x1024_S8x1024_8_0, k0_pay85 (F := Ideal) G.h0 (v535 G) (v536 G) (v544 G) (v545 G)⟩ :: stored1 G
theorem stored2_inv (G : Sweep) : Stored G 2 (stored2 G) := (stored1_inv G).step (by decide) _ (stored1_pay G)
/-- Group 2's rows of the gated inputs, as loaded. -/
def v553 (G : Sweep) : FVec Ideal S8x1024 .f32 := G.vb.readCov (stored2 G) (Rect.unit (s := S512x1024) ![16, 0] S8x1024.size inb_S512x1024_S8x1024_16_0).toLoadRect
theorem v553_eq (G : Sweep) : v553 G = grp G.B 2 := readCov_of_stored G.vb 2 (by decide) _ (stored2_inv G)
/-- Group 2's rows of the decays, as loaded. -/
def v554 (G : Sweep) : FVec Ideal S8x1024 .f32 := G.va.readCov G.LA (Rect.unit (s := S512x1024) ![16, 0] S8x1024.size inb_S512x1024_S8x1024_16_0).toLoadRect
theorem v554_eq (G : Sweep) : v554 G = grp G.A 2 := readCov_base G.va G.LA 2 (by decide) _
theorem stored2_pay (G : Sweep) : k0_pay87 G.h0 (v535 G) (v536 G) (v544 G) (v545 G) (v553 G) (v554 G) = G.hgrp 2 := by
  rw [v535_eq, v536_eq, v544_eq, v545_eq, v553_eq, v554_eq]
  exact shapeCast_same (G.hgrp 2) shapeCasts_S8x1024_S8x1024
/-- The gated inputs' array after group 2's store. -/
def stored3 (G : Sweep) : List (View.Piece (Elt Ideal) S512x1024 .f32) :=
  ⟨Rect.unit (s := S512x1024) ![16, 0] S8x1024.size inb_S512x1024_S8x1024_16_0, k0_pay87 (F := Ideal) G.h0 (v535 G) (v536 G) (v544 G) (v545 G) (v553 G) (v554 G)⟩ :: stored2 G
theorem stored3_inv (G : Sweep) : Stored G 3 (stored3 G) := (stored2_inv G).step (by decide) _ (stored2_pay G)
/-- Group 3's rows of the gated inputs, as loaded. -/
def v562 (G : Sweep) : FVec Ideal S8x1024 .f32 := G.vb.readCov (stored3 G) (Rect.unit (s := S512x1024) ![24, 0] S8x1024.size inb_S512x1024_S8x1024_24_0).toLoadRect
theorem v562_eq (G : Sweep) : v562 G = grp G.B 3 := readCov_of_stored G.vb 3 (by decide) _ (stored3_inv G)
/-- Group 3's rows of the decays, as loaded. -/
def v563 (G : Sweep) : FVec Ideal S8x1024 .f32 := G.va.readCov G.LA (Rect.unit (s := S512x1024) ![24, 0] S8x1024.size inb_S512x1024_S8x1024_24_0).toLoadRect
theorem v563_eq (G : Sweep) : v563 G = grp G.A 3 := readCov_base G.va G.LA 3 (by decide) _
/-- Group 3, handed on. -/
def v566 (G : Sweep) : FVec Ideal S8x1024 .f32 := k0_pay88 G.h0 (v535 G) (v536 G) (v544 G) (v545 G) (v553 G) (v554 G) (v562 G) (v563 G)
theorem v566_eq (G : Sweep) : v566 G = G.hgrp 3 := by
  unfold v566; rw [v535_eq, v536_eq, v544_eq, v545_eq, v553_eq, v554_eq, v562_eq, v563_eq]; rfl
theorem stored3_pay (G : Sweep) : k0_pay89 (v566 G) = G.hgrp 3 := by
  rw [v566_eq]
  exact shapeCast_same (G.hgrp 3) shapeCasts_S8x1024_S8x1024
/-- The gated inputs' array after group 3's store. -/
def stored4 (G : Sweep) : List (View.Piece (Elt Ideal) S512x1024 .f32) :=
  ⟨Rect.unit (s := S512x1024) ![24, 0] S8x1024.size inb_S512x1024_S8x1024_24_0, k0_pay89 (F := Ideal) (v566 G)⟩ :: stored3 G
theorem stored4_inv (G : Sweep) : Stored G 4 (stored4 G) := (stored3_inv G).step (by decide) _ (stored3_pay G)
/-- Group 4's rows of the gated inputs, as loaded. -/
def v571 (G : Sweep) : FVec Ideal S8x1024 .f32 := G.vb.readCov (stored4 G) (Rect.unit (s := S512x1024) ![32, 0] S8x1024.size inb_S512x1024_S8x1024_32_0).toLoadRect
theorem v571_eq (G : Sweep) : v571 G = grp G.B 4 := readCov_of_stored G.vb 4 (by decide) _ (stored4_inv G)
/-- Group 4's rows of the decays, as loaded. -/
def v572 (G : Sweep) : FVec Ideal S8x1024 .f32 := G.va.readCov G.LA (Rect.unit (s := S512x1024) ![32, 0] S8x1024.size inb_S512x1024_S8x1024_32_0).toLoadRect
theorem v572_eq (G : Sweep) : v572 G = grp G.A 4 := readCov_base G.va G.LA 4 (by decide) _
theorem stored4_pay (G : Sweep) : k0_pay91 (v566 G) (v571 G) (v572 G) = G.hgrp 4 := by
  rw [v566_eq, v571_eq, v572_eq]
  exact shapeCast_same (G.hgrp 4) shapeCasts_S8x1024_S8x1024
/-- The gated inputs' array after group 4's store. -/
def stored5 (G : Sweep) : List (View.Piece (Elt Ideal) S512x1024 .f32) :=
  ⟨Rect.unit (s := S512x1024) ![32, 0] S8x1024.size inb_S512x1024_S8x1024_32_0, k0_pay91 (F := Ideal) (v566 G) (v571 G) (v572 G)⟩ :: stored4 G
theorem stored5_inv (G : Sweep) : Stored G 5 (stored5 G) := (stored4_inv G).step (by decide) _ (stored4_pay G)
/-- Group 5's rows of the gated inputs, as loaded. -/
def v580 (G : Sweep) : FVec Ideal S8x1024 .f32 := G.vb.readCov (stored5 G) (Rect.unit (s := S512x1024) ![40, 0] S8x1024.size inb_S512x1024_S8x1024_40_0).toLoadRect
theorem v580_eq (G : Sweep) : v580 G = grp G.B 5 := readCov_of_stored G.vb 5 (by decide) _ (stored5_inv G)
/-- Group 5's rows of the decays, as loaded. -/
def v581 (G : Sweep) : FVec Ideal S8x1024 .f32 := G.va.readCov G.LA (Rect.unit (s := S512x1024) ![40, 0] S8x1024.size inb_S512x1024_S8x1024_40_0).toLoadRect
theorem v581_eq (G : Sweep) : v581 G = grp G.A 5 := readCov_base G.va G.LA 5 (by decide) _
theorem stored5_pay (G : Sweep) : k0_pay93 (v566 G) (v571 G) (v572 G) (v580 G) (v581 G) = G.hgrp 5 := by
  rw [v566_eq, v571_eq, v572_eq, v580_eq, v581_eq]
  exact shapeCast_same (G.hgrp 5) shapeCasts_S8x1024_S8x1024
/-- The gated inputs' array after group 5's store. -/
def stored6 (G : Sweep) : List (View.Piece (Elt Ideal) S512x1024 .f32) :=
  ⟨Rect.unit (s := S512x1024) ![40, 0] S8x1024.size inb_S512x1024_S8x1024_40_0, k0_pay93 (F := Ideal) (v566 G) (v571 G) (v572 G) (v580 G) (v581 G)⟩ :: stored5 G
theorem stored6_inv (G : Sweep) : Stored G 6 (stored6 G) := (stored5_inv G).step (by decide) _ (stored5_pay G)
/-- Group 6's rows of the gated inputs, as loaded. -/
def v589 (G : Sweep) : FVec Ideal S8x1024 .f32 := G.vb.readCov (stored6 G) (Rect.unit (s := S512x1024) ![48, 0] S8x1024.size inb_S512x1024_S8x1024_48_0).toLoadRect
theorem v589_eq (G : Sweep) : v589 G = grp G.B 6 := readCov_of_stored G.vb 6 (by decide) _ (stored6_inv G)
/-- Group 6's rows of the decays, as loaded. -/
def v590 (G : Sweep) : FVec Ideal S8x1024 .f32 := G.va.readCov G.LA (Rect.unit (s := S512x1024) ![48, 0] S8x1024.size inb_S512x1024_S8x1024_48_0).toLoadRect
theorem v590_eq (G : Sweep) : v590 G = grp G.A 6 := readCov_base G.va G.LA 6 (by decide) _
theorem stored6_pay (G : Sweep) : k0_pay95 (v566 G) (v571 G) (v572 G) (v580 G) (v581 G) (v589 G) (v590 G) = G.hgrp 6 := by
  rw [v566_eq, v571_eq, v572_eq, v580_eq, v581_eq, v589_eq, v590_eq]
  exact shapeCast_same (G.hgrp 6) shapeCasts_S8x1024_S8x1024
/-- The gated inputs' array after group 6's store. -/
def stored7 (G : Sweep) : List (View.Piece (Elt Ideal) S512x1024 .f32) :=
  ⟨Rect.unit (s := S512x1024) ![48, 0] S8x1024.size inb_S512x1024_S8x1024_48_0, k0_pay95 (F := Ideal) (v566 G) (v571 G) (v572 G) (v580 G) (v581 G) (v589 G) (v590 G)⟩ :: stored6 G
theorem stored7_inv (G : Sweep) : Stored G 7 (stored7 G) := (stored6_inv G).step (by decide) _ (stored6_pay G)
/-- Group 7's rows of the gated inputs, as loaded. -/
def v598 (G : Sweep) : FVec Ideal S8x1024 .f32 := G.vb.readCov (stored7 G) (Rect.unit (s := S512x1024) ![56, 0] S8x1024.size inb_S512x1024_S8x1024_56_0).toLoadRect
theorem v598_eq (G : Sweep) : v598 G = grp G.B 7 := readCov_of_stored G.vb 7 (by decide) _ (stored7_inv G)
/-- Group 7's rows of the decays, as loaded. -/
def v599 (G : Sweep) : FVec Ideal S8x1024 .f32 := G.va.readCov G.LA (Rect.unit (s := S512x1024) ![56, 0] S8x1024.size inb_S512x1024_S8x1024_56_0).toLoadRect
theorem v599_eq (G : Sweep) : v599 G = grp G.A 7 := readCov_base G.va G.LA 7 (by decide) _
/-- Group 7, handed on. -/
def v602 (G : Sweep) : FVec Ideal S8x1024 .f32 := k0_pay96 (v566 G) (v571 G) (v572 G) (v580 G) (v581 G) (v589 G) (v590 G) (v598 G) (v599 G)
theorem v602_eq (G : Sweep) : v602 G = G.hgrp 7 := by
  unfold v602; rw [v566_eq, v571_eq, v572_eq, v580_eq, v581_eq, v589_eq, v590_eq, v598_eq, v599_eq]; rfl
theorem stored7_pay (G : Sweep) : k0_pay97 (v602 G) = G.hgrp 7 := by
  rw [v602_eq]
  exact shapeCast_same (G.hgrp 7) shapeCasts_S8x1024_S8x1024
/-- The gated inputs' array after group 7's store. -/
def stored8 (G : Sweep) : List (View.Piece (Elt Ideal) S512x1024 .f32) :=
  ⟨Rect.unit (s := S512x1024) ![56, 0] S8x1024.size inb_S512x1024_S8x1024_56_0, k0_pay97 (F := Ideal) (v602 G)⟩ :: stored7 G
theorem stored8_inv (G : Sweep) : Stored G 8 (stored8 G) := (stored7_inv G).step (by decide) _ (stored7_pay G)
/-- Group 8's rows of the gated inputs, as loaded. -/
def v607 (G : Sweep) : FVec Ideal S8x1024 .f32 := G.vb.readCov (stored8 G) (Rect.unit (s := S512x1024) ![64, 0] S8x1024.size inb_S512x1024_S8x1024_64_0).toLoadRect
theorem v607_eq (G : Sweep) : v607 G = grp G.B 8 := readCov_of_stored G.vb 8 (by decide) _ (stored8_inv G)
/-- Group 8's rows of the decays, as loaded. -/
def v608 (G : Sweep) : FVec Ideal S8x1024 .f32 := G.va.readCov G.LA (Rect.unit (s := S512x1024) ![64, 0] S8x1024.size inb_S512x1024_S8x1024_64_0).toLoadRect
theorem v608_eq (G : Sweep) : v608 G = grp G.A 8 := readCov_base G.va G.LA 8 (by decide) _
theorem stored8_pay (G : Sweep) : k0_pay99 (v602 G) (v607 G) (v608 G) = G.hgrp 8 := by
  rw [v602_eq, v607_eq, v608_eq]
  exact shapeCast_same (G.hgrp 8) shapeCasts_S8x1024_S8x1024
/-- The gated inputs' array after group 8's store. -/
def stored9 (G : Sweep) : List (View.Piece (Elt Ideal) S512x1024 .f32) :=
  ⟨Rect.unit (s := S512x1024) ![64, 0] S8x1024.size inb_S512x1024_S8x1024_64_0, k0_pay99 (F := Ideal) (v602 G) (v607 G) (v608 G)⟩ :: stored8 G
theorem stored9_inv (G : Sweep) : Stored G 9 (stored9 G) := (stored8_inv G).step (by decide) _ (stored8_pay G)
/-- Group 9's rows of the gated inputs, as loaded. -/
def v616 (G : Sweep) : FVec Ideal S8x1024 .f32 := G.vb.readCov (stored9 G) (Rect.unit (s := S512x1024) ![72, 0] S8x1024.size inb_S512x1024_S8x1024_72_0).toLoadRect
theorem v616_eq (G : Sweep) : v616 G = grp G.B 9 := readCov_of_stored G.vb 9 (by decide) _ (stored9_inv G)
/-- Group 9's rows of the decays, as loaded. -/
def v617 (G : Sweep) : FVec Ideal S8x1024 .f32 := G.va.readCov G.LA (Rect.unit (s := S512x1024) ![72, 0] S8x1024.size inb_S512x1024_S8x1024_72_0).toLoadRect
theorem v617_eq (G : Sweep) : v617 G = grp G.A 9 := readCov_base G.va G.LA 9 (by decide) _
theorem stored9_pay (G : Sweep) : k0_pay101 (v602 G) (v607 G) (v608 G) (v616 G) (v617 G) = G.hgrp 9 := by
  rw [v602_eq, v607_eq, v608_eq, v616_eq, v617_eq]
  exact shapeCast_same (G.hgrp 9) shapeCasts_S8x1024_S8x1024
/-- The gated inputs' array after group 9's store. -/
def stored10 (G : Sweep) : List (View.Piece (Elt Ideal) S512x1024 .f32) :=
  ⟨Rect.unit (s := S512x1024) ![72, 0] S8x1024.size inb_S512x1024_S8x1024_72_0, k0_pay101 (F := Ideal) (v602 G) (v607 G) (v608 G) (v616 G) (v617 G)⟩ :: stored9 G
theorem stored10_inv (G : Sweep) : Stored G 10 (stored10 G) := (stored9_inv G).step (by decide) _ (stored9_pay G)
/-- Group 10's rows of the gated inputs, as loaded. -/
def v625 (G : Sweep) : FVec Ideal S8x1024 .f32 := G.vb.readCov (stored10 G) (Rect.unit (s := S512x1024) ![80, 0] S8x1024.size inb_S512x1024_S8x1024_80_0).toLoadRect
theorem v625_eq (G : Sweep) : v625 G = grp G.B 10 := readCov_of_stored G.vb 10 (by decide) _ (stored10_inv G)
/-- Group 10's rows of the decays, as loaded. -/
def v626 (G : Sweep) : FVec Ideal S8x1024 .f32 := G.va.readCov G.LA (Rect.unit (s := S512x1024) ![80, 0] S8x1024.size inb_S512x1024_S8x1024_80_0).toLoadRect
theorem v626_eq (G : Sweep) : v626 G = grp G.A 10 := readCov_base G.va G.LA 10 (by decide) _
theorem stored10_pay (G : Sweep) : k0_pay103 (v602 G) (v607 G) (v608 G) (v616 G) (v617 G) (v625 G) (v626 G) = G.hgrp 10 := by
  rw [v602_eq, v607_eq, v608_eq, v616_eq, v617_eq, v625_eq, v626_eq]
  exact shapeCast_same (G.hgrp 10) shapeCasts_S8x1024_S8x1024
/-- The gated inputs' array after group 10's store. -/
def stored11 (G : Sweep) : List (View.Piece (Elt Ideal) S512x1024 .f32) :=
  ⟨Rect.unit (s := S512x1024) ![80, 0] S8x1024.size inb_S512x1024_S8x1024_80_0, k0_pay103 (F := Ideal) (v602 G) (v607 G) (v608 G) (v616 G) (v617 G) (v625 G) (v626 G)⟩ :: stored10 G
theorem stored11_inv (G : Sweep) : Stored G 11 (stored11 G) := (stored10_inv G).step (by decide) _ (stored10_pay G)
/-- Group 11's rows of the gated inputs, as loaded. -/
def v634 (G : Sweep) : FVec Ideal S8x1024 .f32 := G.vb.readCov (stored11 G) (Rect.unit (s := S512x1024) ![88, 0] S8x1024.size inb_S512x1024_S8x1024_88_0).toLoadRect
theorem v634_eq (G : Sweep) : v634 G = grp G.B 11 := readCov_of_stored G.vb 11 (by decide) _ (stored11_inv G)
/-- The last row of group 10, handed on. -/
def v633 (G : Sweep) : FVec Ideal S1x1024 .f32 := k0_pay104 (v602 G) (v607 G) (v608 G) (v616 G) (v617 G) (v625 G) (v626 G)
theorem v633_eq (G : Sweep) : v633 G = G.crow 11 := by
  unfold v633; rw [v602_eq, v607_eq, v608_eq, v616_eq, v617_eq, v625_eq, v626_eq]; rfl
/-- Group 11's rows of the decays, as loaded. -/
def v635 (G : Sweep) : FVec Ideal S8x1024 .f32 := G.va.readCov G.LA (Rect.unit (s := S512x1024) ![88, 0] S8x1024.size inb_S512x1024_S8x1024_88_0).toLoadRect
theorem v635_eq (G : Sweep) : v635 G = grp G.A 11 := readCov_base G.va G.LA 11 (by decide) _
theorem stored11_pay (G : Sweep) : k0_pay106 (v633 G) (v634 G) (v635 G) = G.hgrp 11 := by
  rw [v633_eq, v634_eq, v635_eq]
  exact shapeCast_same (G.hgrp 11) shapeCasts_S8x1024_S8x1024
/-- The gated inputs' array after group 11's store. -/
def stored12 (G : Sweep) : List (View.Piece (Elt Ideal) S512x1024 .f32) :=
  ⟨Rect.unit (s := S512x1024) ![88, 0] S8x1024.size inb_S512x1024_S8x1024_88_0, k0_pay106 (F := Ideal) (v633 G) (v634 G) (v635 G)⟩ :: stored11 G
theorem stored12_inv (G : Sweep) : Stored G 12 (stored12 G) := (stored11_inv G).step (by decide) _ (stored11_pay G)
/-- Group 12's rows of the gated inputs, as loaded. -/
def v643 (G : Sweep) : FVec Ideal S8x1024 .f32 := G.vb.readCov (stored12 G) (Rect.unit (s := S512x1024) ![96, 0] S8x1024.size inb_S512x1024_S8x1024_96_0).toLoadRect
theorem v643_eq (G : Sweep) : v643 G = grp G.B 12 := readCov_of_stored G.vb 12 (by decide) _ (stored12_inv G)
/-- Group 12's rows of the decays, as loaded. -/
def v644 (G : Sweep) : FVec Ideal S8x1024 .f32 := G.va.readCov G.LA (Rect.unit (s := S512x1024) ![96, 0] S8x1024.size inb_S512x1024_S8x1024_96_0).toLoadRect
theorem v644_eq (G : Sweep) : v644 G = grp G.A 12 := readCov_base G.va G.LA 12 (by decide) _
theorem stored12_pay (G : Sweep) : k0_pay108 (v633 G) (v634 G) (v635 G) (v643 G) (v644 G) = G.hgrp 12 := by
  rw [v633_eq, v634_eq, v635_eq, v643_eq, v644_eq]
  exact shapeCast_same (G.hgrp 12) shapeCasts_S8x1024_S8x1024
/-- The gated inputs' array after group 12's store. -/
def stored13 (G : Sweep) : List (View.Piece (Elt Ideal) S512x1024 .f32) :=
  ⟨Rect.unit (s := S512x1024) ![96, 0] S8x1024.size inb_S512x1024_S8x1024_96_0, k0_pay108 (F := Ideal) (v633 G) (v634 G) (v635 G) (v643 G) (v644 G)⟩ :: stored12 G
theorem stored13_inv (G : Sweep) : Stored G 13 (stored13 G) := (stored12_inv G).step (by decide) _ (stored12_pay G)
/-- Group 13's rows of the gated inputs, as loaded. -/
def v652 (G : Sweep) : FVec Ideal S8x1024 .f32 := G.vb.readCov (stored13 G) (Rect.unit (s := S512x1024) ![104, 0] S8x1024.size inb_S512x1024_S8x1024_104_0).toLoadRect
theorem v652_eq (G : Sweep) : v652 G = grp G.B 13 := readCov_of_stored G.vb 13 (by decide) _ (stored13_inv G)
/-- Group 13's rows of the decays, as loaded. -/
def v653 (G : Sweep) : FVec Ideal S8x1024 .f32 := G.va.readCov G.LA (Rect.unit (s := S512x1024) ![104, 0] S8x1024.size inb_S512x1024_S8x1024_104_0).toLoadRect
theorem v653_eq (G : Sweep) : v653 G = grp G.A 13 := readCov_base G.va G.LA 13 (by decide) _
theorem stored13_pay (G : Sweep) : k0_pay110 (v633 G) (v634 G) (v635 G) (v643 G) (v644 G) (v652 G) (v653 G) = G.hgrp 13 := by
  rw [v633_eq, v634_eq, v635_eq, v643_eq, v644_eq, v652_eq, v653_eq]
  exact shapeCast_same (G.hgrp 13) shapeCasts_S8x1024_S8x1024
/-- The gated inputs' array after group 13's store. -/
def stored14 (G : Sweep) : List (View.Piece (Elt Ideal) S512x1024 .f32) :=
  ⟨Rect.unit (s := S512x1024) ![104, 0] S8x1024.size inb_S512x1024_S8x1024_104_0, k0_pay110 (F := Ideal) (v633 G) (v634 G) (v635 G) (v643 G) (v644 G) (v652 G) (v653 G)⟩ :: stored13 G
theorem stored14_inv (G : Sweep) : Stored G 14 (stored14 G) := (stored13_inv G).step (by decide) _ (stored13_pay G)
/-- Group 14's rows of the gated inputs, as loaded. -/
def v661 (G : Sweep) : FVec Ideal S8x1024 .f32 := G.vb.readCov (stored14 G) (Rect.unit (s := S512x1024) ![112, 0] S8x1024.size inb_S512x1024_S8x1024_112_0).toLoadRect
theorem v661_eq (G : Sweep) : v661 G = grp G.B 14 := readCov_of_stored G.vb 14 (by decide) _ (stored14_inv G)
/-- Group 14's rows of the decays, as loaded. -/
def v662 (G : Sweep) : FVec Ideal S8x1024 .f32 := G.va.readCov G.LA (Rect.unit (s := S512x1024) ![112, 0] S8x1024.size inb_S512x1024_S8x1024_112_0).toLoadRect
theorem v662_eq (G : Sweep) : v662 G = grp G.A 14 := readCov_base G.va G.LA 14 (by decide) _
theorem stored14_pay (G : Sweep) : k0_pay112 (v633 G) (v634 G) (v635 G) (v643 G) (v644 G) (v652 G) (v653 G) (v661 G) (v662 G) = G.hgrp 14 := by
  rw [v633_eq, v634_eq, v635_eq, v643_eq, v644_eq, v652_eq, v653_eq, v661_eq, v662_eq]
  exact shapeCast_same (G.hgrp 14) shapeCasts_S8x1024_S8x1024
/-- The gated inputs' array after group 14's store. -/
def stored15 (G : Sweep) : List (View.Piece (Elt Ideal) S512x1024 .f32) :=
  ⟨Rect.unit (s := S512x1024) ![112, 0] S8x1024.size inb_S512x1024_S8x1024_112_0, k0_pay112 (F := Ideal) (v633 G) (v634 G) (v635 G) (v643 G) (v644 G) (v652 G) (v653 G) (v661 G) (v662 G)⟩ :: stored14 G
theorem stored15_inv (G : Sweep) : Stored G 15 (stored15 G) := (stored14_inv G).step (by decide) _ (stored14_pay G)
/-- The last row of group 14, handed on. -/
def v669 (G : Sweep) : FVec Ideal S1x1024 .f32 := k0_pay113 (v633 G) (v634 G) (v635 G) (v643 G) (v644 G) (v652 G) (v653 G) (v661 G) (v662 G)
theorem v669_eq (G : Sweep) : v669 G = G.crow 15 := by
  unfold v669; rw [v633_eq, v634_eq, v635_eq, v643_eq, v644_eq, v652_eq, v653_eq, v661_eq, v662_eq]; rfl
/-- Group 15's rows of the gated inputs, as loaded. -/
def v670 (G : Sweep) : FVec Ideal S8x1024 .f32 := G.vb.readCov (stored15 G) (Rect.unit (s := S512x1024) ![120, 0] S8x1024.size inb_S512x1024_S8x1024_120_0).toLoadRect
theorem v670_eq (G : Sweep) : v670 G = grp G.B 15 := readCov_of_stored G.vb 15 (by decide) _ (stored15_inv G)
/-- Group 15's rows of the decays, as loaded. -/
def v671 (G : Sweep) : FVec Ideal S8x1024 .f32 := G.va.readCov G.LA (Rect.unit (s := S512x1024) ![120, 0] S8x1024.size inb_S512x1024_S8x1024_120_0).toLoadRect
theorem v671_eq (G : Sweep) : v671 G = grp G.A 15 := readCov_base G.va G.LA 15 (by decide) _
theorem stored15_pay (G : Sweep) : k0_pay115 (v669 G) (v670 G) (v671 G) = G.hgrp 15 := by
  rw [v669_eq, v670_eq, v671_eq]
  exact shapeCast_same (G.hgrp 15) shapeCasts_S8x1024_S8x1024
/-- The gated inputs' array after group 15's store. -/
def stored16 (G : Sweep) : List (View.Piece (Elt Ideal) S512x1024 .f32) :=
  ⟨Rect.unit (s := S512x1024) ![120, 0] S8x1024.size inb_S512x1024_S8x1024_120_0, k0_pay115 (F := Ideal) (v669 G) (v670 G) (v671 G)⟩ :: stored15 G
theorem stored16_inv (G : Sweep) : Stored G 16 (stored16 G) := (stored15_inv G).step (by decide) _ (stored15_pay G)
/-- Group 16's rows of the gated inputs, as loaded. -/
def v679 (G : Sweep) : FVec Ideal S8x1024 .f32 := G.vb.readCov (stored16 G) (Rect.unit (s := S512x1024) ![128, 0] S8x1024.size inb_S512x1024_S8x1024_128_0).toLoadRect
theorem v679_eq (G : Sweep) : v679 G = grp G.B 16 := readCov_of_stored G.vb 16 (by decide) _ (stored16_inv G)
/-- Group 16's rows of the decays, as loaded. -/
def v680 (G : Sweep) : FVec Ideal S8x1024 .f32 := G.va.readCov G.LA (Rect.unit (s := S512x1024) ![128, 0] S8x1024.size inb_S512x1024_S8x1024_128_0).toLoadRect
theorem v680_eq (G : Sweep) : v680 G = grp G.A 16 := readCov_base G.va G.LA 16 (by decide) _
theorem stored16_pay (G : Sweep) : k0_pay117 (v669 G) (v670 G) (v671 G) (v679 G) (v680 G) = G.hgrp 16 := by
  rw [v669_eq, v670_eq, v671_eq, v679_eq, v680_eq]
  exact shapeCast_same (G.hgrp 16) shapeCasts_S8x1024_S8x1024
/-- The gated inputs' array after group 16's store. -/
def stored17 (G : Sweep) : List (View.Piece (Elt Ideal) S512x1024 .f32) :=
  ⟨Rect.unit (s := S512x1024) ![128, 0] S8x1024.size inb_S512x1024_S8x1024_128_0, k0_pay117 (F := Ideal) (v669 G) (v670 G) (v671 G) (v679 G) (v680 G)⟩ :: stored16 G
theorem stored17_inv (G : Sweep) : Stored G 17 (stored17 G) := (stored16_inv G).step (by decide) _ (stored16_pay G)
/-- Group 17's rows of the gated inputs, as loaded. -/
def v688 (G : Sweep) : FVec Ideal S8x1024 .f32 := G.vb.readCov (stored17 G) (Rect.unit (s := S512x1024) ![136, 0] S8x1024.size inb_S512x1024_S8x1024_136_0).toLoadRect
theorem v688_eq (G : Sweep) : v688 G = grp G.B 17 := readCov_of_stored G.vb 17 (by decide) _ (stored17_inv G)
/-- Group 17's rows of the decays, as loaded. -/
def v689 (G : Sweep) : FVec Ideal S8x1024 .f32 := G.va.readCov G.LA (Rect.unit (s := S512x1024) ![136, 0] S8x1024.size inb_S512x1024_S8x1024_136_0).toLoadRect
theorem v689_eq (G : Sweep) : v689 G = grp G.A 17 := readCov_base G.va G.LA 17 (by decide) _
theorem stored17_pay (G : Sweep) : k0_pay119 (v669 G) (v670 G) (v671 G) (v679 G) (v680 G) (v688 G) (v689 G) = G.hgrp 17 := by
  rw [v669_eq, v670_eq, v671_eq, v679_eq, v680_eq, v688_eq, v689_eq]
  exact shapeCast_same (G.hgrp 17) shapeCasts_S8x1024_S8x1024
/-- The gated inputs' array after group 17's store. -/
def stored18 (G : Sweep) : List (View.Piece (Elt Ideal) S512x1024 .f32) :=
  ⟨Rect.unit (s := S512x1024) ![136, 0] S8x1024.size inb_S512x1024_S8x1024_136_0, k0_pay119 (F := Ideal) (v669 G) (v670 G) (v671 G) (v679 G) (v680 G) (v688 G) (v689 G)⟩ :: stored17 G
theorem stored18_inv (G : Sweep) : Stored G 18 (stored18 G) := (stored17_inv G).step (by decide) _ (stored17_pay G)
/-- Group 18's rows of the gated inputs, as loaded. -/
def v697 (G : Sweep) : FVec Ideal S8x1024 .f32 := G.vb.readCov (stored18 G) (Rect.unit (s := S512x1024) ![144, 0] S8x1024.size inb_S512x1024_S8x1024_144_0).toLoadRect
theorem v697_eq (G : Sweep) : v697 G = grp G.B 18 := readCov_of_stored G.vb 18 (by decide) _ (stored18_inv G)
/-- Group 18's rows of the decays, as loaded. -/
def v698 (G : Sweep) : FVec Ideal S8x1024 .f32 := G.va.readCov G.LA (Rect.unit (s := S512x1024) ![144, 0] S8x1024.size inb_S512x1024_S8x1024_144_0).toLoadRect
theorem v698_eq (G : Sweep) : v698 G = grp G.A 18 := readCov_base G.va G.LA 18 (by decide) _
/-- Group 18, handed on. -/
def v701 (G : Sweep) : FVec Ideal S8x1024 .f32 := k0_pay120 (v669 G) (v670 G) (v671 G) (v679 G) (v680 G) (v688 G) (v689 G) (v697 G) (v698 G)
theorem v701_eq (G : Sweep) : v701 G = G.hgrp 18 := by
  unfold v701; rw [v669_eq, v670_eq, v671_eq, v679_eq, v680_eq, v688_eq, v689_eq, v697_eq, v698_eq]; rfl
theorem stored18_pay (G : Sweep) : k0_pay121 (v701 G) = G.hgrp 18 := by
  rw [v701_eq]
  exact shapeCast_same (G.hgrp 18) shapeCasts_S8x1024_S8x1024
/-- The gated inputs' array after group 18's store. -/
def stored19 (G : Sweep) : List (View.Piece (Elt Ideal) S512x1024 .f32) :=
  ⟨Rect.unit (s := S512x1024) ![144, 0] S8x1024.size inb_S512x1024_S8x1024_144_0, k0_pay121 (F := Ideal) (v701 G)⟩ :: stored18 G
theorem stored19_inv (G : Sweep) : Stored G 19 (stored19 G) := (stored18_inv G).step (by decide) _ (stored18_pay G)
/-- Group 19's rows of the gated inputs, as loaded. -/
def v706 (G : Sweep) : FVec Ideal S8x1024 .f32 := G.vb.readCov (stored19 G) (Rect.unit (s := S512x1024) ![152, 0] S8x1024.size inb_S512x1024_S8x1024_152_0).toLoadRect
theorem v706_eq (G : Sweep) : v706 G = grp G.B 19 := readCov_of_stored G.vb 19 (by decide) _ (stored19_inv G)
/-- Group 19's rows of the decays, as loaded. -/
def v707 (G : Sweep) : FVec Ideal S8x1024 .f32 := G.va.readCov G.LA (Rect.unit (s := S512x1024) ![152, 0] S8x1024.size inb_S512x1024_S8x1024_152_0).toLoadRect
theorem v707_eq (G : Sweep) : v707 G = grp G.A 19 := readCov_base G.va G.LA 19 (by decide) _
theorem stored19_pay (G : Sweep) : k0_pay123 (v701 G) (v706 G) (v707 G) = G.hgrp 19 := by
  rw [v701_eq, v706_eq, v707_eq]
  exact shapeCast_same (G.hgrp 19) shapeCasts_S8x1024_S8x1024
/-- The gated inputs' array after group 19's store. -/
def stored20 (G : Sweep) : List (View.Piece (Elt Ideal) S512x1024 .f32) :=
  ⟨Rect.unit (s := S512x1024) ![152, 0] S8x1024.size inb_S512x1024_S8x1024_152_0, k0_pay123 (F := Ideal) (v701 G) (v706 G) (v707 G)⟩ :: stored19 G
theorem stored20_inv (G : Sweep) : Stored G 20 (stored20 G) := (stored19_inv G).step (by decide) _ (stored19_pay G)
/-- Group 20's rows of the gated inputs, as loaded. -/
def v715 (G : Sweep) : FVec Ideal S8x1024 .f32 := G.vb.readCov (stored20 G) (Rect.unit (s := S512x1024) ![160, 0] S8x1024.size inb_S512x1024_S8x1024_160_0).toLoadRect
theorem v715_eq (G : Sweep) : v715 G = grp G.B 20 := readCov_of_stored G.vb 20 (by decide) _ (stored20_inv G)
/-- Group 20's rows of the decays, as loaded. -/
def v716 (G : Sweep) : FVec Ideal S8x1024 .f32 := G.va.readCov G.LA (Rect.unit (s := S512x1024) ![160, 0] S8x1024.size inb_S512x1024_S8x1024_160_0).toLoadRect
theorem v716_eq (G : Sweep) : v716 G = grp G.A 20 := readCov_base G.va G.LA 20 (by decide) _
theorem stored20_pay (G : Sweep) : k0_pay125 (v701 G) (v706 G) (v707 G) (v715 G) (v716 G) = G.hgrp 20 := by
  rw [v701_eq, v706_eq, v707_eq, v715_eq, v716_eq]
  exact shapeCast_same (G.hgrp 20) shapeCasts_S8x1024_S8x1024
/-- The gated inputs' array after group 20's store. -/
def stored21 (G : Sweep) : List (View.Piece (Elt Ideal) S512x1024 .f32) :=
  ⟨Rect.unit (s := S512x1024) ![160, 0] S8x1024.size inb_S512x1024_S8x1024_160_0, k0_pay125 (F := Ideal) (v701 G) (v706 G) (v707 G) (v715 G) (v716 G)⟩ :: stored20 G
theorem stored21_inv (G : Sweep) : Stored G 21 (stored21 G) := (stored20_inv G).step (by decide) _ (stored20_pay G)
/-- Group 21's rows of the gated inputs, as loaded. -/
def v724 (G : Sweep) : FVec Ideal S8x1024 .f32 := G.vb.readCov (stored21 G) (Rect.unit (s := S512x1024) ![168, 0] S8x1024.size inb_S512x1024_S8x1024_168_0).toLoadRect
theorem v724_eq (G : Sweep) : v724 G = grp G.B 21 := readCov_of_stored G.vb 21 (by decide) _ (stored21_inv G)
/-- Group 21's rows of the decays, as loaded. -/
def v725 (G : Sweep) : FVec Ideal S8x1024 .f32 := G.va.readCov G.LA (Rect.unit (s := S512x1024) ![168, 0] S8x1024.size inb_S512x1024_S8x1024_168_0).toLoadRect
theorem v725_eq (G : Sweep) : v725 G = grp G.A 21 := readCov_base G.va G.LA 21 (by decide) _
theorem stored21_pay (G : Sweep) : k0_pay127 (v701 G) (v706 G) (v707 G) (v715 G) (v716 G) (v724 G) (v725 G) = G.hgrp 21 := by
  rw [v701_eq, v706_eq, v707_eq, v715_eq, v716_eq, v724_eq, v725_eq]
  exact shapeCast_same (G.hgrp 21) shapeCasts_S8x1024_S8x1024
/-- The gated inputs' array after group 21's store. -/
def stored22 (G : Sweep) : List (View.Piece (Elt Ideal) S512x1024 .f32) :=
  ⟨Rect.unit (s := S512x1024) ![168, 0] S8x1024.size inb_S512x1024_S8x1024_168_0, k0_pay127 (F := Ideal) (v701 G) (v706 G) (v707 G) (v715 G) (v716 G) (v724 G) (v725 G)⟩ :: stored21 G
theorem stored22_inv (G : Sweep) : Stored G 22 (stored22 G) := (stored21_inv G).step (by decide) _ (stored21_pay G)
/-- Group 22's rows of the gated inputs, as loaded. -/
def v733 (G : Sweep) : FVec Ideal S8x1024 .f32 := G.vb.readCov (stored22 G) (Rect.unit (s := S512x1024) ![176, 0] S8x1024.size inb_S512x1024_S8x1024_176_0).toLoadRect
theorem v733_eq (G : Sweep) : v733 G = grp G.B 22 := readCov_of_stored G.vb 22 (by decide) _ (stored22_inv G)
/-- Group 22's rows of the decays, as loaded. -/
def v734 (G : Sweep) : FVec Ideal S8x1024 .f32 := G.va.readCov G.LA (Rect.unit (s := S512x1024) ![176, 0] S8x1024.size inb_S512x1024_S8x1024_176_0).toLoadRect
theorem v734_eq (G : Sweep) : v734 G = grp G.A 22 := readCov_base G.va G.LA 22 (by decide) _
/-- Group 22, handed on. -/
def v737 (G : Sweep) : FVec Ideal S8x1024 .f32 := k0_pay128 (v701 G) (v706 G) (v707 G) (v715 G) (v716 G) (v724 G) (v725 G) (v733 G) (v734 G)
theorem v737_eq (G : Sweep) : v737 G = G.hgrp 22 := by
  unfold v737; rw [v701_eq, v706_eq, v707_eq, v715_eq, v716_eq, v724_eq, v725_eq, v733_eq, v734_eq]; rfl
theorem stored22_pay (G : Sweep) : k0_pay129 (v737 G) = G.hgrp 22 := by
  rw [v737_eq]
  exact shapeCast_same (G.hgrp 22) shapeCasts_S8x1024_S8x1024
/-- The gated inputs' array after group 22's store. -/
def stored23 (G : Sweep) : List (View.Piece (Elt Ideal) S512x1024 .f32) :=
  ⟨Rect.unit (s := S512x1024) ![176, 0] S8x1024.size inb_S512x1024_S8x1024_176_0, k0_pay129 (F := Ideal) (v737 G)⟩ :: stored22 G
theorem stored23_inv (G : Sweep) : Stored G 23 (stored23 G) := (stored22_inv G).step (by decide) _ (stored22_pay G)
/-- Group 23's rows of the gated inputs, as loaded. -/
def v742 (G : Sweep) : FVec Ideal S8x1024 .f32 := G.vb.readCov (stored23 G) (Rect.unit (s := S512x1024) ![184, 0] S8x1024.size inb_S512x1024_S8x1024_184_0).toLoadRect
theorem v742_eq (G : Sweep) : v742 G = grp G.B 23 := readCov_of_stored G.vb 23 (by decide) _ (stored23_inv G)
/-- Group 23's rows of the decays, as loaded. -/
def v743 (G : Sweep) : FVec Ideal S8x1024 .f32 := G.va.readCov G.LA (Rect.unit (s := S512x1024) ![184, 0] S8x1024.size inb_S512x1024_S8x1024_184_0).toLoadRect
theorem v743_eq (G : Sweep) : v743 G = grp G.A 23 := readCov_base G.va G.LA 23 (by decide) _
theorem stored23_pay (G : Sweep) : k0_pay131 (v737 G) (v742 G) (v743 G) = G.hgrp 23 := by
  rw [v737_eq, v742_eq, v743_eq]
  exact shapeCast_same (G.hgrp 23) shapeCasts_S8x1024_S8x1024
/-- The gated inputs' array after group 23's store. -/
def stored24 (G : Sweep) : List (View.Piece (Elt Ideal) S512x1024 .f32) :=
  ⟨Rect.unit (s := S512x1024) ![184, 0] S8x1024.size inb_S512x1024_S8x1024_184_0, k0_pay131 (F := Ideal) (v737 G) (v742 G) (v743 G)⟩ :: stored23 G
theorem stored24_inv (G : Sweep) : Stored G 24 (stored24 G) := (stored23_inv G).step (by decide) _ (stored23_pay G)
/-- Group 24's rows of the gated inputs, as loaded. -/
def v751 (G : Sweep) : FVec Ideal S8x1024 .f32 := G.vb.readCov (stored24 G) (Rect.unit (s := S512x1024) ![192, 0] S8x1024.size inb_S512x1024_S8x1024_192_0).toLoadRect
theorem v751_eq (G : Sweep) : v751 G = grp G.B 24 := readCov_of_stored G.vb 24 (by decide) _ (stored24_inv G)
/-- Group 24's rows of the decays, as loaded. -/
def v752 (G : Sweep) : FVec Ideal S8x1024 .f32 := G.va.readCov G.LA (Rect.unit (s := S512x1024) ![192, 0] S8x1024.size inb_S512x1024_S8x1024_192_0).toLoadRect
theorem v752_eq (G : Sweep) : v752 G = grp G.A 24 := readCov_base G.va G.LA 24 (by decide) _
theorem stored24_pay (G : Sweep) : k0_pay133 (v737 G) (v742 G) (v743 G) (v751 G) (v752 G) = G.hgrp 24 := by
  rw [v737_eq, v742_eq, v743_eq, v751_eq, v752_eq]
  exact shapeCast_same (G.hgrp 24) shapeCasts_S8x1024_S8x1024
/-- The gated inputs' array after group 24's store. -/
def stored25 (G : Sweep) : List (View.Piece (Elt Ideal) S512x1024 .f32) :=
  ⟨Rect.unit (s := S512x1024) ![192, 0] S8x1024.size inb_S512x1024_S8x1024_192_0, k0_pay133 (F := Ideal) (v737 G) (v742 G) (v743 G) (v751 G) (v752 G)⟩ :: stored24 G
theorem stored25_inv (G : Sweep) : Stored G 25 (stored25 G) := (stored24_inv G).step (by decide) _ (stored24_pay G)
/-- Group 25's rows of the gated inputs, as loaded. -/
def v760 (G : Sweep) : FVec Ideal S8x1024 .f32 := G.vb.readCov (stored25 G) (Rect.unit (s := S512x1024) ![200, 0] S8x1024.size inb_S512x1024_S8x1024_200_0).toLoadRect
theorem v760_eq (G : Sweep) : v760 G = grp G.B 25 := readCov_of_stored G.vb 25 (by decide) _ (stored25_inv G)
/-- Group 25's rows of the decays, as loaded. -/
def v761 (G : Sweep) : FVec Ideal S8x1024 .f32 := G.va.readCov G.LA (Rect.unit (s := S512x1024) ![200, 0] S8x1024.size inb_S512x1024_S8x1024_200_0).toLoadRect
theorem v761_eq (G : Sweep) : v761 G = grp G.A 25 := readCov_base G.va G.LA 25 (by decide) _
theorem stored25_pay (G : Sweep) : k0_pay135 (v737 G) (v742 G) (v743 G) (v751 G) (v752 G) (v760 G) (v761 G) = G.hgrp 25 := by
  rw [v737_eq, v742_eq, v743_eq, v751_eq, v752_eq, v760_eq, v761_eq]
  exact shapeCast_same (G.hgrp 25) shapeCasts_S8x1024_S8x1024
/-- The gated inputs' array after group 25's store. -/
def stored26 (G : Sweep) : List (View.Piece (Elt Ideal) S512x1024 .f32) :=
  ⟨Rect.unit (s := S512x1024) ![200, 0] S8x1024.size inb_S512x1024_S8x1024_200_0, k0_pay135 (F := Ideal) (v737 G) (v742 G) (v743 G) (v751 G) (v752 G) (v760 G) (v761 G)⟩ :: stored25 G
theorem stored26_inv (G : Sweep) : Stored G 26 (stored26 G) := (stored25_inv G).step (by decide) _ (stored25_pay G)
/-- Group 26's rows of the gated inputs, as loaded. -/
def v769 (G : Sweep) : FVec Ideal S8x1024 .f32 := G.vb.readCov (stored26 G) (Rect.unit (s := S512x1024) ![208, 0] S8x1024.size inb_S512x1024_S8x1024_208_0).toLoadRect
theorem v769_eq (G : Sweep) : v769 G = grp G.B 26 := readCov_of_stored G.vb 26 (by decide) _ (stored26_inv G)
/-- The last row of group 25, handed on. -/
def v768 (G : Sweep) : FVec Ideal S1x1024 .f32 := k0_pay136 (v737 G) (v742 G) (v743 G) (v751 G) (v752 G) (v760 G) (v761 G)
theorem v768_eq (G : Sweep) : v768 G = G.crow 26 := by
  unfold v768; rw [v737_eq, v742_eq, v743_eq, v751_eq, v752_eq, v760_eq, v761_eq]; rfl
/-- Group 26's rows of the decays, as loaded. -/
def v770 (G : Sweep) : FVec Ideal S8x1024 .f32 := G.va.readCov G.LA (Rect.unit (s := S512x1024) ![208, 0] S8x1024.size inb_S512x1024_S8x1024_208_0).toLoadRect
theorem v770_eq (G : Sweep) : v770 G = grp G.A 26 := readCov_base G.va G.LA 26 (by decide) _
theorem stored26_pay (G : Sweep) : k0_pay138 (v768 G) (v769 G) (v770 G) = G.hgrp 26 := by
  rw [v768_eq, v769_eq, v770_eq]
  exact shapeCast_same (G.hgrp 26) shapeCasts_S8x1024_S8x1024
/-- The gated inputs' array after group 26's store. -/
def stored27 (G : Sweep) : List (View.Piece (Elt Ideal) S512x1024 .f32) :=
  ⟨Rect.unit (s := S512x1024) ![208, 0] S8x1024.size inb_S512x1024_S8x1024_208_0, k0_pay138 (F := Ideal) (v768 G) (v769 G) (v770 G)⟩ :: stored26 G
theorem stored27_inv (G : Sweep) : Stored G 27 (stored27 G) := (stored26_inv G).step (by decide) _ (stored26_pay G)
/-- Group 27's rows of the gated inputs, as loaded. -/
def v778 (G : Sweep) : FVec Ideal S8x1024 .f32 := G.vb.readCov (stored27 G) (Rect.unit (s := S512x1024) ![216, 0] S8x1024.size inb_S512x1024_S8x1024_216_0).toLoadRect
theorem v778_eq (G : Sweep) : v778 G = grp G.B 27 := readCov_of_stored G.vb 27 (by decide) _ (stored27_inv G)
/-- Group 27's rows of the decays, as loaded. -/
def v779 (G : Sweep) : FVec Ideal S8x1024 .f32 := G.va.readCov G.LA (Rect.unit (s := S512x1024) ![216, 0] S8x1024.size inb_S512x1024_S8x1024_216_0).toLoadRect
theorem v779_eq (G : Sweep) : v779 G = grp G.A 27 := readCov_base G.va G.LA 27 (by decide) _
theorem stored27_pay (G : Sweep) : k0_pay140 (v768 G) (v769 G) (v770 G) (v778 G) (v779 G) = G.hgrp 27 := by
  rw [v768_eq, v769_eq, v770_eq, v778_eq, v779_eq]
  exact shapeCast_same (G.hgrp 27) shapeCasts_S8x1024_S8x1024
/-- The gated inputs' array after group 27's store. -/
def stored28 (G : Sweep) : List (View.Piece (Elt Ideal) S512x1024 .f32) :=
  ⟨Rect.unit (s := S512x1024) ![216, 0] S8x1024.size inb_S512x1024_S8x1024_216_0, k0_pay140 (F := Ideal) (v768 G) (v769 G) (v770 G) (v778 G) (v779 G)⟩ :: stored27 G
theorem stored28_inv (G : Sweep) : Stored G 28 (stored28 G) := (stored27_inv G).step (by decide) _ (stored27_pay G)
/-- Group 28's rows of the gated inputs, as loaded. -/
def v787 (G : Sweep) : FVec Ideal S8x1024 .f32 := G.vb.readCov (stored28 G) (Rect.unit (s := S512x1024) ![224, 0] S8x1024.size inb_S512x1024_S8x1024_224_0).toLoadRect
theorem v787_eq (G : Sweep) : v787 G = grp G.B 28 := readCov_of_stored G.vb 28 (by decide) _ (stored28_inv G)
/-- Group 28's rows of the decays, as loaded. -/
def v788 (G : Sweep) : FVec Ideal S8x1024 .f32 := G.va.readCov G.LA (Rect.unit (s := S512x1024) ![224, 0] S8x1024.size inb_S512x1024_S8x1024_224_0).toLoadRect
theorem v788_eq (G : Sweep) : v788 G = grp G.A 28 := readCov_base G.va G.LA 28 (by decide) _
theorem stored28_pay (G : Sweep) : k0_pay142 (v768 G) (v769 G) (v770 G) (v778 G) (v779 G) (v787 G) (v788 G) = G.hgrp 28 := by
  rw [v768_eq, v769_eq, v770_eq, v778_eq, v779_eq, v787_eq, v788_eq]
  exact shapeCast_same (G.hgrp 28) shapeCasts_S8x1024_S8x1024
/-- The gated inputs' array after group 28's store. -/
def stored29 (G : Sweep) : List (View.Piece (Elt Ideal) S512x1024 .f32) :=
  ⟨Rect.unit (s := S512x1024) ![224, 0] S8x1024.size inb_S512x1024_S8x1024_224_0, k0_pay142 (F := Ideal) (v768 G) (v769 G) (v770 G) (v778 G) (v779 G) (v787 G) (v788 G)⟩ :: stored28 G
theorem stored29_inv (G : Sweep) : Stored G 29 (stored29 G) := (stored28_inv G).step (by decide) _ (stored28_pay G)
/-- Group 29's rows of the gated inputs, as loaded. -/
def v796 (G : Sweep) : FVec Ideal S8x1024 .f32 := G.vb.readCov (stored29 G) (Rect.unit (s := S512x1024) ![232, 0] S8x1024.size inb_S512x1024_S8x1024_232_0).toLoadRect
theorem v796_eq (G : Sweep) : v796 G = grp G.B 29 := readCov_of_stored G.vb 29 (by decide) _ (stored29_inv G)
/-- Group 29's rows of the decays, as loaded. -/
def v797 (G : Sweep) : FVec Ideal S8x1024 .f32 := G.va.readCov G.LA (Rect.unit (s := S512x1024) ![232, 0] S8x1024.size inb_S512x1024_S8x1024_232_0).toLoadRect
theorem v797_eq (G : Sweep) : v797 G = grp G.A 29 := readCov_base G.va G.LA 29 (by decide) _
theorem stored29_pay (G : Sweep) : k0_pay144 (v768 G) (v769 G) (v770 G) (v778 G) (v779 G) (v787 G) (v788 G) (v796 G) (v797 G) = G.hgrp 29 := by
  rw [v768_eq, v769_eq, v770_eq, v778_eq, v779_eq, v787_eq, v788_eq, v796_eq, v797_eq]
  exact shapeCast_same (G.hgrp 29) shapeCasts_S8x1024_S8x1024
/-- The gated inputs' array after group 29's store. -/
def stored30 (G : Sweep) : List (View.Piece (Elt Ideal) S512x1024 .f32) :=
  ⟨Rect.unit (s := S512x1024) ![232, 0] S8x1024.size inb_S512x1024_S8x1024_232_0, k0_pay144 (F := Ideal) (v768 G) (v769 G) (v770 G) (v778 G) (v779 G) (v787 G) (v788 G) (v796 G) (v797 G)⟩ :: stored29 G
theorem stored30_inv (G : Sweep) : Stored G 30 (stored30 G) := (stored29_inv G).step (by decide) _ (stored29_pay G)
/-- The last row of group 29, handed on. -/
def v804 (G : Sweep) : FVec Ideal S1x1024 .f32 := k0_pay145 (v768 G) (v769 G) (v770 G) (v778 G) (v779 G) (v787 G) (v788 G) (v796 G) (v797 G)
theorem v804_eq (G : Sweep) : v804 G = G.crow 30 := by
  unfold v804; rw [v768_eq, v769_eq, v770_eq, v778_eq, v779_eq, v787_eq, v788_eq, v796_eq, v797_eq]; rfl
/-- Group 30's rows of the gated inputs, as loaded. -/
def v805 (G : Sweep) : FVec Ideal S8x1024 .f32 := G.vb.readCov (stored30 G) (Rect.unit (s := S512x1024) ![240, 0] S8x1024.size inb_S512x1024_S8x1024_240_0).toLoadRect
theorem v805_eq (G : Sweep) : v805 G = grp G.B 30 := readCov_of_stored G.vb 30 (by decide) _ (stored30_inv G)
/-- Group 30's rows of the decays, as loaded. -/
def v806 (G : Sweep) : FVec Ideal S8x1024 .f32 := G.va.readCov G.LA (Rect.unit (s := S512x1024) ![240, 0] S8x1024.size inb_S512x1024_S8x1024_240_0).toLoadRect
theorem v806_eq (G : Sweep) : v806 G = grp G.A 30 := readCov_base G.va G.LA 30 (by decide) _
theorem stored30_pay (G : Sweep) : k0_pay147 (v804 G) (v805 G) (v806 G) = G.hgrp 30 := by
  rw [v804_eq, v805_eq, v806_eq]
  exact shapeCast_same (G.hgrp 30) shapeCasts_S8x1024_S8x1024
/-- The gated inputs' array after group 30's store. -/
def stored31 (G : Sweep) : List (View.Piece (Elt Ideal) S512x1024 .f32) :=
  ⟨Rect.unit (s := S512x1024) ![240, 0] S8x1024.size inb_S512x1024_S8x1024_240_0, k0_pay147 (F := Ideal) (v804 G) (v805 G) (v806 G)⟩ :: stored30 G
theorem stored31_inv (G : Sweep) : Stored G 31 (stored31 G) := (stored30_inv G).step (by decide) _ (stored30_pay G)
/-- Group 31's rows of the gated inputs, as loaded. -/
def v814 (G : Sweep) : FVec Ideal S8x1024 .f32 := G.vb.readCov (stored31 G) (Rect.unit (s := S512x1024) ![248, 0] S8x1024.size inb_S512x1024_S8x1024_248_0).toLoadRect
theorem v814_eq (G : Sweep) : v814 G = grp G.B 31 := readCov_of_stored G.vb 31 (by decide) _ (stored31_inv G)
/-- Group 31's rows of the decays, as loaded. -/
def v815 (G : Sweep) : FVec Ideal S8x1024 .f32 := G.va.readCov G.LA (Rect.unit (s := S512x1024) ![248, 0] S8x1024.size inb_S512x1024_S8x1024_248_0).toLoadRect
theorem v815_eq (G : Sweep) : v815 G = grp G.A 31 := readCov_base G.va G.LA 31 (by decide) _
theorem stored31_pay (G : Sweep) : k0_pay149 (v804 G) (v805 G) (v806 G) (v814 G) (v815 G) = G.hgrp 31 := by
  rw [v804_eq, v805_eq, v806_eq, v814_eq, v815_eq]
  exact shapeCast_same (G.hgrp 31) shapeCasts_S8x1024_S8x1024
/-- The gated inputs' array after group 31's store. -/
def stored32 (G : Sweep) : List (View.Piece (Elt Ideal) S512x1024 .f32) :=
  ⟨Rect.unit (s := S512x1024) ![248, 0] S8x1024.size inb_S512x1024_S8x1024_248_0, k0_pay149 (F := Ideal) (v804 G) (v805 G) (v806 G) (v814 G) (v815 G)⟩ :: stored31 G
theorem stored32_inv (G : Sweep) : Stored G 32 (stored32 G) := (stored31_inv G).step (by decide) _ (stored31_pay G)
/-- Group 32's rows of the gated inputs, as loaded. -/
def v823 (G : Sweep) : FVec Ideal S8x1024 .f32 := G.vb.readCov (stored32 G) (Rect.unit (s := S512x1024) ![256, 0] S8x1024.size inb_S512x1024_S8x1024_256_0).toLoadRect
theorem v823_eq (G : Sweep) : v823 G = grp G.B 32 := readCov_of_stored G.vb 32 (by decide) _ (stored32_inv G)
/-- Group 32's rows of the decays, as loaded. -/
def v824 (G : Sweep) : FVec Ideal S8x1024 .f32 := G.va.readCov G.LA (Rect.unit (s := S512x1024) ![256, 0] S8x1024.size inb_S512x1024_S8x1024_256_0).toLoadRect
theorem v824_eq (G : Sweep) : v824 G = grp G.A 32 := readCov_base G.va G.LA 32 (by decide) _
theorem stored32_pay (G : Sweep) : k0_pay151 (v804 G) (v805 G) (v806 G) (v814 G) (v815 G) (v823 G) (v824 G) = G.hgrp 32 := by
  rw [v804_eq, v805_eq, v806_eq, v814_eq, v815_eq, v823_eq, v824_eq]
  exact shapeCast_same (G.hgrp 32) shapeCasts_S8x1024_S8x1024
/-- The gated inputs' array after group 32's store. -/
def stored33 (G : Sweep) : List (View.Piece (Elt Ideal) S512x1024 .f32) :=
  ⟨Rect.unit (s := S512x1024) ![256, 0] S8x1024.size inb_S512x1024_S8x1024_256_0, k0_pay151 (F := Ideal) (v804 G) (v805 G) (v806 G) (v814 G) (v815 G) (v823 G) (v824 G)⟩ :: stored32 G
theorem stored33_inv (G : Sweep) : Stored G 33 (stored33 G) := (stored32_inv G).step (by decide) _ (stored32_pay G)
/-- Group 33's rows of the gated inputs, as loaded. -/
def v832 (G : Sweep) : FVec Ideal S8x1024 .f32 := G.vb.readCov (stored33 G) (Rect.unit (s := S512x1024) ![264, 0] S8x1024.size inb_S512x1024_S8x1024_264_0).toLoadRect
theorem v832_eq (G : Sweep) : v832 G = grp G.B 33 := readCov_of_stored G.vb 33 (by decide) _ (stored33_inv G)
/-- Group 33's rows of the decays, as loaded. -/
def v833 (G : Sweep) : FVec Ideal S8x1024 .f32 := G.va.readCov G.LA (Rect.unit (s := S512x1024) ![264, 0] S8x1024.size inb_S512x1024_S8x1024_264_0).toLoadRect
theorem v833_eq (G : Sweep) : v833 G = grp G.A 33 := readCov_base G.va G.LA 33 (by decide) _
/-- Group 33, handed on. -/
def v836 (G : Sweep) : FVec Ideal S8x1024 .f32 := k0_pay152 (v804 G) (v805 G) (v806 G) (v814 G) (v815 G) (v823 G) (v824 G) (v832 G) (v833 G)
theorem v836_eq (G : Sweep) : v836 G = G.hgrp 33 := by
  unfold v836; rw [v804_eq, v805_eq, v806_eq, v814_eq, v815_eq, v823_eq, v824_eq, v832_eq, v833_eq]; rfl
theorem stored33_pay (G : Sweep) : k0_pay153 (v836 G) = G.hgrp 33 := by
  rw [v836_eq]
  exact shapeCast_same (G.hgrp 33) shapeCasts_S8x1024_S8x1024
/-- The gated inputs' array after group 33's store. -/
def stored34 (G : Sweep) : List (View.Piece (Elt Ideal) S512x1024 .f32) :=
  ⟨Rect.unit (s := S512x1024) ![264, 0] S8x1024.size inb_S512x1024_S8x1024_264_0, k0_pay153 (F := Ideal) (v836 G)⟩ :: stored33 G
theorem stored34_inv (G : Sweep) : Stored G 34 (stored34 G) := (stored33_inv G).step (by decide) _ (stored33_pay G)
/-- Group 34's rows of the gated inputs, as loaded. -/
def v841 (G : Sweep) : FVec Ideal S8x1024 .f32 := G.vb.readCov (stored34 G) (Rect.unit (s := S512x1024) ![272, 0] S8x1024.size inb_S512x1024_S8x1024_272_0).toLoadRect
theorem v841_eq (G : Sweep) : v841 G = grp G.B 34 := readCov_of_stored G.vb 34 (by decide) _ (stored34_inv G)
/-- Group 34's rows of the decays, as loaded. -/
def v842 (G : Sweep) : FVec Ideal S8x1024 .f32 := G.va.readCov G.LA (Rect.unit (s := S512x1024) ![272, 0] S8x1024.size inb_S512x1024_S8x1024_272_0).toLoadRect
theorem v842_eq (G : Sweep) : v842 G = grp G.A 34 := readCov_base G.va G.LA 34 (by decide) _
theorem stored34_pay (G : Sweep) : k0_pay155 (v836 G) (v841 G) (v842 G) = G.hgrp 34 := by
  rw [v836_eq, v841_eq, v842_eq]
  exact shapeCast_same (G.hgrp 34) shapeCasts_S8x1024_S8x1024
/-- The gated inputs' array after group 34's store. -/
def stored35 (G : Sweep) : List (View.Piece (Elt Ideal) S512x1024 .f32) :=
  ⟨Rect.unit (s := S512x1024) ![272, 0] S8x1024.size inb_S512x1024_S8x1024_272_0, k0_pay155 (F := Ideal) (v836 G) (v841 G) (v842 G)⟩ :: stored34 G
theorem stored35_inv (G : Sweep) : Stored G 35 (stored35 G) := (stored34_inv G).step (by decide) _ (stored34_pay G)
/-- Group 35's rows of the gated inputs, as loaded. -/
def v850 (G : Sweep) : FVec Ideal S8x1024 .f32 := G.vb.readCov (stored35 G) (Rect.unit (s := S512x1024) ![280, 0] S8x1024.size inb_S512x1024_S8x1024_280_0).toLoadRect
theorem v850_eq (G : Sweep) : v850 G = grp G.B 35 := readCov_of_stored G.vb 35 (by decide) _ (stored35_inv G)
/-- Group 35's rows of the decays, as loaded. -/
def v851 (G : Sweep) : FVec Ideal S8x1024 .f32 := G.va.readCov G.LA (Rect.unit (s := S512x1024) ![280, 0] S8x1024.size inb_S512x1024_S8x1024_280_0).toLoadRect
theorem v851_eq (G : Sweep) : v851 G = grp G.A 35 := readCov_base G.va G.LA 35 (by decide) _
theorem stored35_pay (G : Sweep) : k0_pay157 (v836 G) (v841 G) (v842 G) (v850 G) (v851 G) = G.hgrp 35 := by
  rw [v836_eq, v841_eq, v842_eq, v850_eq, v851_eq]
  exact shapeCast_same (G.hgrp 35) shapeCasts_S8x1024_S8x1024
/-- The gated inputs' array after group 35's store. -/
def stored36 (G : Sweep) : List (View.Piece (Elt Ideal) S512x1024 .f32) :=
  ⟨Rect.unit (s := S512x1024) ![280, 0] S8x1024.size inb_S512x1024_S8x1024_280_0, k0_pay157 (F := Ideal) (v836 G) (v841 G) (v842 G) (v850 G) (v851 G)⟩ :: stored35 G
theorem stored36_inv (G : Sweep) : Stored G 36 (stored36 G) := (stored35_inv G).step (by decide) _ (stored35_pay G)
/-- Group 36's rows of the gated inputs, as loaded. -/
def v859 (G : Sweep) : FVec Ideal S8x1024 .f32 := G.vb.readCov (stored36 G) (Rect.unit (s := S512x1024) ![288, 0] S8x1024.size inb_S512x1024_S8x1024_288_0).toLoadRect
theorem v859_eq (G : Sweep) : v859 G = grp G.B 36 := readCov_of_stored G.vb 36 (by decide) _ (stored36_inv G)
/-- Group 36's rows of the decays, as loaded. -/
def v860 (G : Sweep) : FVec Ideal S8x1024 .f32 := G.va.readCov G.LA (Rect.unit (s := S512x1024) ![288, 0] S8x1024.size inb_S512x1024_S8x1024_288_0).toLoadRect
theorem v860_eq (G : Sweep) : v860 G = grp G.A 36 := readCov_base G.va G.LA 36 (by decide) _
theorem stored36_pay (G : Sweep) : k0_pay159 (v836 G) (v841 G) (v842 G) (v850 G) (v851 G) (v859 G) (v860 G) = G.hgrp 36 := by
  rw [v836_eq, v841_eq, v842_eq, v850_eq, v851_eq, v859_eq, v860_eq]
  exact shapeCast_same (G.hgrp 36) shapeCasts_S8x1024_S8x1024
/-- The gated inputs' array after group 36's store. -/
def stored37 (G : Sweep) : List (View.Piece (Elt Ideal) S512x1024 .f32) :=
  ⟨Rect.unit (s := S512x1024) ![288, 0] S8x1024.size inb_S512x1024_S8x1024_288_0, k0_pay159 (F := Ideal) (v836 G) (v841 G) (v842 G) (v850 G) (v851 G) (v859 G) (v860 G)⟩ :: stored36 G
theorem stored37_inv (G : Sweep) : Stored G 37 (stored37 G) := (stored36_inv G).step (by decide) _ (stored36_pay G)
/-- Group 37's rows of the gated inputs, as loaded. -/
def v868 (G : Sweep) : FVec Ideal S8x1024 .f32 := G.vb.readCov (stored37 G) (Rect.unit (s := S512x1024) ![296, 0] S8x1024.size inb_S512x1024_S8x1024_296_0).toLoadRect
theorem v868_eq (G : Sweep) : v868 G = grp G.B 37 := readCov_of_stored G.vb 37 (by decide) _ (stored37_inv G)
/-- Group 37's rows of the decays, as loaded. -/
def v869 (G : Sweep) : FVec Ideal S8x1024 .f32 := G.va.readCov G.LA (Rect.unit (s := S512x1024) ![296, 0] S8x1024.size inb_S512x1024_S8x1024_296_0).toLoadRect
theorem v869_eq (G : Sweep) : v869 G = grp G.A 37 := readCov_base G.va G.LA 37 (by decide) _
/-- Group 37, handed on. -/
def v872 (G : Sweep) : FVec Ideal S8x1024 .f32 := k0_pay160 (v836 G) (v841 G) (v842 G) (v850 G) (v851 G) (v859 G) (v860 G) (v868 G) (v869 G)
theorem v872_eq (G : Sweep) : v872 G = G.hgrp 37 := by
  unfold v872; rw [v836_eq, v841_eq, v842_eq, v850_eq, v851_eq, v859_eq, v860_eq, v868_eq, v869_eq]; rfl
theorem stored37_pay (G : Sweep) : k0_pay161 (v872 G) = G.hgrp 37 := by
  rw [v872_eq]
  exact shapeCast_same (G.hgrp 37) shapeCasts_S8x1024_S8x1024
/-- The gated inputs' array after group 37's store. -/
def stored38 (G : Sweep) : List (View.Piece (Elt Ideal) S512x1024 .f32) :=
  ⟨Rect.unit (s := S512x1024) ![296, 0] S8x1024.size inb_S512x1024_S8x1024_296_0, k0_pay161 (F := Ideal) (v872 G)⟩ :: stored37 G
theorem stored38_inv (G : Sweep) : Stored G 38 (stored38 G) := (stored37_inv G).step (by decide) _ (stored37_pay G)
/-- Group 38's rows of the gated inputs, as loaded. -/
def v877 (G : Sweep) : FVec Ideal S8x1024 .f32 := G.vb.readCov (stored38 G) (Rect.unit (s := S512x1024) ![304, 0] S8x1024.size inb_S512x1024_S8x1024_304_0).toLoadRect
theorem v877_eq (G : Sweep) : v877 G = grp G.B 38 := readCov_of_stored G.vb 38 (by decide) _ (stored38_inv G)
/-- Group 38's rows of the decays, as loaded. -/
def v878 (G : Sweep) : FVec Ideal S8x1024 .f32 := G.va.readCov G.LA (Rect.unit (s := S512x1024) ![304, 0] S8x1024.size inb_S512x1024_S8x1024_304_0).toLoadRect
theorem v878_eq (G : Sweep) : v878 G = grp G.A 38 := readCov_base G.va G.LA 38 (by decide) _
theorem stored38_pay (G : Sweep) : k0_pay163 (v872 G) (v877 G) (v878 G) = G.hgrp 38 := by
  rw [v872_eq, v877_eq, v878_eq]
  exact shapeCast_same (G.hgrp 38) shapeCasts_S8x1024_S8x1024
/-- The gated inputs' array after group 38's store. -/
def stored39 (G : Sweep) : List (View.Piece (Elt Ideal) S512x1024 .f32) :=
  ⟨Rect.unit (s := S512x1024) ![304, 0] S8x1024.size inb_S512x1024_S8x1024_304_0, k0_pay163 (F := Ideal) (v872 G) (v877 G) (v878 G)⟩ :: stored38 G
theorem stored39_inv (G : Sweep) : Stored G 39 (stored39 G) := (stored38_inv G).step (by decide) _ (stored38_pay G)
/-- Group 39's rows of the gated inputs, as loaded. -/
def v886 (G : Sweep) : FVec Ideal S8x1024 .f32 := G.vb.readCov (stored39 G) (Rect.unit (s := S512x1024) ![312, 0] S8x1024.size inb_S512x1024_S8x1024_312_0).toLoadRect
theorem v886_eq (G : Sweep) : v886 G = grp G.B 39 := readCov_of_stored G.vb 39 (by decide) _ (stored39_inv G)
/-- Group 39's rows of the decays, as loaded. -/
def v887 (G : Sweep) : FVec Ideal S8x1024 .f32 := G.va.readCov G.LA (Rect.unit (s := S512x1024) ![312, 0] S8x1024.size inb_S512x1024_S8x1024_312_0).toLoadRect
theorem v887_eq (G : Sweep) : v887 G = grp G.A 39 := readCov_base G.va G.LA 39 (by decide) _
theorem stored39_pay (G : Sweep) : k0_pay165 (v872 G) (v877 G) (v878 G) (v886 G) (v887 G) = G.hgrp 39 := by
  rw [v872_eq, v877_eq, v878_eq, v886_eq, v887_eq]
  exact shapeCast_same (G.hgrp 39) shapeCasts_S8x1024_S8x1024
/-- The gated inputs' array after group 39's store. -/
def stored40 (G : Sweep) : List (View.Piece (Elt Ideal) S512x1024 .f32) :=
  ⟨Rect.unit (s := S512x1024) ![312, 0] S8x1024.size inb_S512x1024_S8x1024_312_0, k0_pay165 (F := Ideal) (v872 G) (v877 G) (v878 G) (v886 G) (v887 G)⟩ :: stored39 G
theorem stored40_inv (G : Sweep) : Stored G 40 (stored40 G) := (stored39_inv G).step (by decide) _ (stored39_pay G)
/-- Group 40's rows of the gated inputs, as loaded. -/
def v895 (G : Sweep) : FVec Ideal S8x1024 .f32 := G.vb.readCov (stored40 G) (Rect.unit (s := S512x1024) ![320, 0] S8x1024.size inb_S512x1024_S8x1024_320_0).toLoadRect
theorem v895_eq (G : Sweep) : v895 G = grp G.B 40 := readCov_of_stored G.vb 40 (by decide) _ (stored40_inv G)
/-- Group 40's rows of the decays, as loaded. -/
def v896 (G : Sweep) : FVec Ideal S8x1024 .f32 := G.va.readCov G.LA (Rect.unit (s := S512x1024) ![320, 0] S8x1024.size inb_S512x1024_S8x1024_320_0).toLoadRect
theorem v896_eq (G : Sweep) : v896 G = grp G.A 40 := readCov_base G.va G.LA 40 (by decide) _
theorem stored40_pay (G : Sweep) : k0_pay167 (v872 G) (v877 G) (v878 G) (v886 G) (v887 G) (v895 G) (v896 G) = G.hgrp 40 := by
  rw [v872_eq, v877_eq, v878_eq, v886_eq, v887_eq, v895_eq, v896_eq]
  exact shapeCast_same (G.hgrp 40) shapeCasts_S8x1024_S8x1024
/-- The gated inputs' array after group 40's store. -/
def stored41 (G : Sweep) : List (View.Piece (Elt Ideal) S512x1024 .f32) :=
  ⟨Rect.unit (s := S512x1024) ![320, 0] S8x1024.size inb_S512x1024_S8x1024_320_0, k0_pay167 (F := Ideal) (v872 G) (v877 G) (v878 G) (v886 G) (v887 G) (v895 G) (v896 G)⟩ :: stored40 G
theorem stored41_inv (G : Sweep) : Stored G 41 (stored41 G) := (stored40_inv G).step (by decide) _ (stored40_pay G)
/-- Group 41's rows of the gated inputs, as loaded. -/
def v904 (G : Sweep) : FVec Ideal S8x1024 .f32 := G.vb.readCov (stored41 G) (Rect.unit (s := S512x1024) ![328, 0] S8x1024.size inb_S512x1024_S8x1024_328_0).toLoadRect
theorem v904_eq (G : Sweep) : v904 G = grp G.B 41 := readCov_of_stored G.vb 41 (by decide) _ (stored41_inv G)
/-- The last row of group 40, handed on. -/
def v903 (G : Sweep) : FVec Ideal S1x1024 .f32 := k0_pay168 (v872 G) (v877 G) (v878 G) (v886 G) (v887 G) (v895 G) (v896 G)
theorem v903_eq (G : Sweep) : v903 G = G.crow 41 := by
  unfold v903; rw [v872_eq, v877_eq, v878_eq, v886_eq, v887_eq, v895_eq, v896_eq]; rfl
/-- Group 41's rows of the decays, as loaded. -/
def v905 (G : Sweep) : FVec Ideal S8x1024 .f32 := G.va.readCov G.LA (Rect.unit (s := S512x1024) ![328, 0] S8x1024.size inb_S512x1024_S8x1024_328_0).toLoadRect
theorem v905_eq (G : Sweep) : v905 G = grp G.A 41 := readCov_base G.va G.LA 41 (by decide) _
theorem stored41_pay (G : Sweep) : k0_pay170 (v903 G) (v904 G) (v905 G) = G.hgrp 41 := by
  rw [v903_eq, v904_eq, v905_eq]
  exact shapeCast_same (G.hgrp 41) shapeCasts_S8x1024_S8x1024
/-- The gated inputs' array after group 41's store. -/
def stored42 (G : Sweep) : List (View.Piece (Elt Ideal) S512x1024 .f32) :=
  ⟨Rect.unit (s := S512x1024) ![328, 0] S8x1024.size inb_S512x1024_S8x1024_328_0, k0_pay170 (F := Ideal) (v903 G) (v904 G) (v905 G)⟩ :: stored41 G
theorem stored42_inv (G : Sweep) : Stored G 42 (stored42 G) := (stored41_inv G).step (by decide) _ (stored41_pay G)
/-- Group 42's rows of the gated inputs, as loaded. -/
def v913 (G : Sweep) : FVec Ideal S8x1024 .f32 := G.vb.readCov (stored42 G) (Rect.unit (s := S512x1024) ![336, 0] S8x1024.size inb_S512x1024_S8x1024_336_0).toLoadRect
theorem v913_eq (G : Sweep) : v913 G = grp G.B 42 := readCov_of_stored G.vb 42 (by decide) _ (stored42_inv G)
/-- Group 42's rows of the decays, as loaded. -/
def v914 (G : Sweep) : FVec Ideal S8x1024 .f32 := G.va.readCov G.LA (Rect.unit (s := S512x1024) ![336, 0] S8x1024.size inb_S512x1024_S8x1024_336_0).toLoadRect
theorem v914_eq (G : Sweep) : v914 G = grp G.A 42 := readCov_base G.va G.LA 42 (by decide) _
theorem stored42_pay (G : Sweep) : k0_pay172 (v903 G) (v904 G) (v905 G) (v913 G) (v914 G) = G.hgrp 42 := by
  rw [v903_eq, v904_eq, v905_eq, v913_eq, v914_eq]
  exact shapeCast_same (G.hgrp 42) shapeCasts_S8x1024_S8x1024
/-- The gated inputs' array after group 42's store. -/
def stored43 (G : Sweep) : List (View.Piece (Elt Ideal) S512x1024 .f32) :=
  ⟨Rect.unit (s := S512x1024) ![336, 0] S8x1024.size inb_S512x1024_S8x1024_336_0, k0_pay172 (F := Ideal) (v903 G) (v904 G) (v905 G) (v913 G) (v914 G)⟩ :: stored42 G
theorem stored43_inv (G : Sweep) : Stored G 43 (stored43 G) := (stored42_inv G).step (by decide) _ (stored42_pay G)
/-- Group 43's rows of the gated inputs, as loaded. -/
def v922 (G : Sweep) : FVec Ideal S8x1024 .f32 := G.vb.readCov (stored43 G) (Rect.unit (s := S512x1024) ![344, 0] S8x1024.size inb_S512x1024_S8x1024_344_0).toLoadRect
theorem v922_eq (G : Sweep) : v922 G = grp G.B 43 := readCov_of_stored G.vb 43 (by decide) _ (stored43_inv G)
/-- Group 43's rows of the decays, as loaded. -/
def v923 (G : Sweep) : FVec Ideal S8x1024 .f32 := G.va.readCov G.LA (Rect.unit (s := S512x1024) ![344, 0] S8x1024.size inb_S512x1024_S8x1024_344_0).toLoadRect
theorem v923_eq (G : Sweep) : v923 G = grp G.A 43 := readCov_base G.va G.LA 43 (by decide) _
theorem stored43_pay (G : Sweep) : k0_pay174 (v903 G) (v904 G) (v905 G) (v913 G) (v914 G) (v922 G) (v923 G) = G.hgrp 43 := by
  rw [v903_eq, v904_eq, v905_eq, v913_eq, v914_eq, v922_eq, v923_eq]
  exact shapeCast_same (G.hgrp 43) shapeCasts_S8x1024_S8x1024
/-- The gated inputs' array after group 43's store. -/
def stored44 (G : Sweep) : List (View.Piece (Elt Ideal) S512x1024 .f32) :=
  ⟨Rect.unit (s := S512x1024) ![344, 0] S8x1024.size inb_S512x1024_S8x1024_344_0, k0_pay174 (F := Ideal) (v903 G) (v904 G) (v905 G) (v913 G) (v914 G) (v922 G) (v923 G)⟩ :: stored43 G
theorem stored44_inv (G : Sweep) : Stored G 44 (stored44 G) := (stored43_inv G).step (by decide) _ (stored43_pay G)
/-- Group 44's rows of the gated inputs, as loaded. -/
def v931 (G : Sweep) : FVec Ideal S8x1024 .f32 := G.vb.readCov (stored44 G) (Rect.unit (s := S512x1024) ![352, 0] S8x1024.size inb_S512x1024_S8x1024_352_0).toLoadRect
theorem v931_eq (G : Sweep) : v931 G = grp G.B 44 := readCov_of_stored G.vb 44 (by decide) _ (stored44_inv G)
/-- Group 44's rows of the decays, as loaded. -/
def v932 (G : Sweep) : FVec Ideal S8x1024 .f32 := G.va.readCov G.LA (Rect.unit (s := S512x1024) ![352, 0] S8x1024.size inb_S512x1024_S8x1024_352_0).toLoadRect
theorem v932_eq (G : Sweep) : v932 G = grp G.A 44 := readCov_base G.va G.LA 44 (by decide) _
theorem stored44_pay (G : Sweep) : k0_pay176 (v903 G) (v904 G) (v905 G) (v913 G) (v914 G) (v922 G) (v923 G) (v931 G) (v932 G) = G.hgrp 44 := by
  rw [v903_eq, v904_eq, v905_eq, v913_eq, v914_eq, v922_eq, v923_eq, v931_eq, v932_eq]
  exact shapeCast_same (G.hgrp 44) shapeCasts_S8x1024_S8x1024
/-- The gated inputs' array after group 44's store. -/
def stored45 (G : Sweep) : List (View.Piece (Elt Ideal) S512x1024 .f32) :=
  ⟨Rect.unit (s := S512x1024) ![352, 0] S8x1024.size inb_S512x1024_S8x1024_352_0, k0_pay176 (F := Ideal) (v903 G) (v904 G) (v905 G) (v913 G) (v914 G) (v922 G) (v923 G) (v931 G) (v932 G)⟩ :: stored44 G
theorem stored45_inv (G : Sweep) : Stored G 45 (stored45 G) := (stored44_inv G).step (by decide) _ (stored44_pay G)
/-- The last row of group 44, handed on. -/
def v939 (G : Sweep) : FVec Ideal S1x1024 .f32 := k0_pay177 (v903 G) (v904 G) (v905 G) (v913 G) (v914 G) (v922 G) (v923 G) (v931 G) (v932 G)
theorem v939_eq (G : Sweep) : v939 G = G.crow 45 := by
  unfold v939; rw [v903_eq, v904_eq, v905_eq, v913_eq, v914_eq, v922_eq, v923_eq, v931_eq, v932_eq]; rfl
/-- Group 45's rows of the gated inputs, as loaded. -/
def v940 (G : Sweep) : FVec Ideal S8x1024 .f32 := G.vb.readCov (stored45 G) (Rect.unit (s := S512x1024) ![360, 0] S8x1024.size inb_S512x1024_S8x1024_360_0).toLoadRect
theorem v940_eq (G : Sweep) : v940 G = grp G.B 45 := readCov_of_stored G.vb 45 (by decide) _ (stored45_inv G)
/-- Group 45's rows of the decays, as loaded. -/
def v941 (G : Sweep) : FVec Ideal S8x1024 .f32 := G.va.readCov G.LA (Rect.unit (s := S512x1024) ![360, 0] S8x1024.size inb_S512x1024_S8x1024_360_0).toLoadRect
theorem v941_eq (G : Sweep) : v941 G = grp G.A 45 := readCov_base G.va G.LA 45 (by decide) _
theorem stored45_pay (G : Sweep) : k0_pay179 (v939 G) (v940 G) (v941 G) = G.hgrp 45 := by
  rw [v939_eq, v940_eq, v941_eq]
  exact shapeCast_same (G.hgrp 45) shapeCasts_S8x1024_S8x1024
/-- The gated inputs' array after group 45's store. -/
def stored46 (G : Sweep) : List (View.Piece (Elt Ideal) S512x1024 .f32) :=
  ⟨Rect.unit (s := S512x1024) ![360, 0] S8x1024.size inb_S512x1024_S8x1024_360_0, k0_pay179 (F := Ideal) (v939 G) (v940 G) (v941 G)⟩ :: stored45 G
theorem stored46_inv (G : Sweep) : Stored G 46 (stored46 G) := (stored45_inv G).step (by decide) _ (stored45_pay G)
/-- Group 46's rows of the gated inputs, as loaded. -/
def v949 (G : Sweep) : FVec Ideal S8x1024 .f32 := G.vb.readCov (stored46 G) (Rect.unit (s := S512x1024) ![368, 0] S8x1024.size inb_S512x1024_S8x1024_368_0).toLoadRect
theorem v949_eq (G : Sweep) : v949 G = grp G.B 46 := readCov_of_stored G.vb 46 (by decide) _ (stored46_inv G)
/-- Group 46's rows of the decays, as loaded. -/
def v950 (G : Sweep) : FVec Ideal S8x1024 .f32 := G.va.readCov G.LA (Rect.unit (s := S512x1024) ![368, 0] S8x1024.size inb_S512x1024_S8x1024_368_0).toLoadRect
theorem v950_eq (G : Sweep) : v950 G = grp G.A 46 := readCov_base G.va G.LA 46 (by decide) _
theorem stored46_pay (G : Sweep) : k0_pay181 (v939 G) (v940 G) (v941 G) (v949 G) (v950 G) = G.hgrp 46 := by
  rw [v939_eq, v940_eq, v941_eq, v949_eq, v950_eq]
  exact shapeCast_same (G.hgrp 46) shapeCasts_S8x1024_S8x1024
/-- The gated inputs' array after group 46's store. -/
def stored47 (G : Sweep) : List (View.Piece (Elt Ideal) S512x1024 .f32) :=
  ⟨Rect.unit (s := S512x1024) ![368, 0] S8x1024.size inb_S512x1024_S8x1024_368_0, k0_pay181 (F := Ideal) (v939 G) (v940 G) (v941 G) (v949 G) (v950 G)⟩ :: stored46 G
theorem stored47_inv (G : Sweep) : Stored G 47 (stored47 G) := (stored46_inv G).step (by decide) _ (stored46_pay G)
/-- Group 47's rows of the gated inputs, as loaded. -/
def v958 (G : Sweep) : FVec Ideal S8x1024 .f32 := G.vb.readCov (stored47 G) (Rect.unit (s := S512x1024) ![376, 0] S8x1024.size inb_S512x1024_S8x1024_376_0).toLoadRect
theorem v958_eq (G : Sweep) : v958 G = grp G.B 47 := readCov_of_stored G.vb 47 (by decide) _ (stored47_inv G)
/-- Group 47's rows of the decays, as loaded. -/
def v959 (G : Sweep) : FVec Ideal S8x1024 .f32 := G.va.readCov G.LA (Rect.unit (s := S512x1024) ![376, 0] S8x1024.size inb_S512x1024_S8x1024_376_0).toLoadRect
theorem v959_eq (G : Sweep) : v959 G = grp G.A 47 := readCov_base G.va G.LA 47 (by decide) _
theorem stored47_pay (G : Sweep) : k0_pay183 (v939 G) (v940 G) (v941 G) (v949 G) (v950 G) (v958 G) (v959 G) = G.hgrp 47 := by
  rw [v939_eq, v940_eq, v941_eq, v949_eq, v950_eq, v958_eq, v959_eq]
  exact shapeCast_same (G.hgrp 47) shapeCasts_S8x1024_S8x1024
/-- The gated inputs' array after group 47's store. -/
def stored48 (G : Sweep) : List (View.Piece (Elt Ideal) S512x1024 .f32) :=
  ⟨Rect.unit (s := S512x1024) ![376, 0] S8x1024.size inb_S512x1024_S8x1024_376_0, k0_pay183 (F := Ideal) (v939 G) (v940 G) (v941 G) (v949 G) (v950 G) (v958 G) (v959 G)⟩ :: stored47 G
theorem stored48_inv (G : Sweep) : Stored G 48 (stored48 G) := (stored47_inv G).step (by decide) _ (stored47_pay G)
/-- Group 48's rows of the gated inputs, as loaded. -/
def v967 (G : Sweep) : FVec Ideal S8x1024 .f32 := G.vb.readCov (stored48 G) (Rect.unit (s := S512x1024) ![384, 0] S8x1024.size inb_S512x1024_S8x1024_384_0).toLoadRect
theorem v967_eq (G : Sweep) : v967 G = grp G.B 48 := readCov_of_stored G.vb 48 (by decide) _ (stored48_inv G)
/-- Group 48's rows of the decays, as loaded. -/
def v968 (G : Sweep) : FVec Ideal S8x1024 .f32 := G.va.readCov G.LA (Rect.unit (s := S512x1024) ![384, 0] S8x1024.size inb_S512x1024_S8x1024_384_0).toLoadRect
theorem v968_eq (G : Sweep) : v968 G = grp G.A 48 := readCov_base G.va G.LA 48 (by decide) _
/-- Group 48, handed on. -/
def v971 (G : Sweep) : FVec Ideal S8x1024 .f32 := k0_pay184 (v939 G) (v940 G) (v941 G) (v949 G) (v950 G) (v958 G) (v959 G) (v967 G) (v968 G)
theorem v971_eq (G : Sweep) : v971 G = G.hgrp 48 := by
  unfold v971; rw [v939_eq, v940_eq, v941_eq, v949_eq, v950_eq, v958_eq, v959_eq, v967_eq, v968_eq]; rfl
theorem stored48_pay (G : Sweep) : k0_pay185 (v971 G) = G.hgrp 48 := by
  rw [v971_eq]
  exact shapeCast_same (G.hgrp 48) shapeCasts_S8x1024_S8x1024
/-- The gated inputs' array after group 48's store. -/
def stored49 (G : Sweep) : List (View.Piece (Elt Ideal) S512x1024 .f32) :=
  ⟨Rect.unit (s := S512x1024) ![384, 0] S8x1024.size inb_S512x1024_S8x1024_384_0, k0_pay185 (F := Ideal) (v971 G)⟩ :: stored48 G
theorem stored49_inv (G : Sweep) : Stored G 49 (stored49 G) := (stored48_inv G).step (by decide) _ (stored48_pay G)
/-- Group 49's rows of the gated inputs, as loaded. -/
def v976 (G : Sweep) : FVec Ideal S8x1024 .f32 := G.vb.readCov (stored49 G) (Rect.unit (s := S512x1024) ![392, 0] S8x1024.size inb_S512x1024_S8x1024_392_0).toLoadRect
theorem v976_eq (G : Sweep) : v976 G = grp G.B 49 := readCov_of_stored G.vb 49 (by decide) _ (stored49_inv G)
/-- Group 49's rows of the decays, as loaded. -/
def v977 (G : Sweep) : FVec Ideal S8x1024 .f32 := G.va.readCov G.LA (Rect.unit (s := S512x1024) ![392, 0] S8x1024.size inb_S512x1024_S8x1024_392_0).toLoadRect
theorem v977_eq (G : Sweep) : v977 G = grp G.A 49 := readCov_base G.va G.LA 49 (by decide) _
theorem stored49_pay (G : Sweep) : k0_pay187 (v971 G) (v976 G) (v977 G) = G.hgrp 49 := by
  rw [v971_eq, v976_eq, v977_eq]
  exact shapeCast_same (G.hgrp 49) shapeCasts_S8x1024_S8x1024
/-- The gated inputs' array after group 49's store. -/
def stored50 (G : Sweep) : List (View.Piece (Elt Ideal) S512x1024 .f32) :=
  ⟨Rect.unit (s := S512x1024) ![392, 0] S8x1024.size inb_S512x1024_S8x1024_392_0, k0_pay187 (F := Ideal) (v971 G) (v976 G) (v977 G)⟩ :: stored49 G
theorem stored50_inv (G : Sweep) : Stored G 50 (stored50 G) := (stored49_inv G).step (by decide) _ (stored49_pay G)
/-- Group 50's rows of the gated inputs, as loaded. -/
def v985 (G : Sweep) : FVec Ideal S8x1024 .f32 := G.vb.readCov (stored50 G) (Rect.unit (s := S512x1024) ![400, 0] S8x1024.size inb_S512x1024_S8x1024_400_0).toLoadRect
theorem v985_eq (G : Sweep) : v985 G = grp G.B 50 := readCov_of_stored G.vb 50 (by decide) _ (stored50_inv G)
/-- Group 50's rows of the decays, as loaded. -/
def v986 (G : Sweep) : FVec Ideal S8x1024 .f32 := G.va.readCov G.LA (Rect.unit (s := S512x1024) ![400, 0] S8x1024.size inb_S512x1024_S8x1024_400_0).toLoadRect
theorem v986_eq (G : Sweep) : v986 G = grp G.A 50 := readCov_base G.va G.LA 50 (by decide) _
theorem stored50_pay (G : Sweep) : k0_pay189 (v971 G) (v976 G) (v977 G) (v985 G) (v986 G) = G.hgrp 50 := by
  rw [v971_eq, v976_eq, v977_eq, v985_eq, v986_eq]
  exact shapeCast_same (G.hgrp 50) shapeCasts_S8x1024_S8x1024
/-- The gated inputs' array after group 50's store. -/
def stored51 (G : Sweep) : List (View.Piece (Elt Ideal) S512x1024 .f32) :=
  ⟨Rect.unit (s := S512x1024) ![400, 0] S8x1024.size inb_S512x1024_S8x1024_400_0, k0_pay189 (F := Ideal) (v971 G) (v976 G) (v977 G) (v985 G) (v986 G)⟩ :: stored50 G
theorem stored51_inv (G : Sweep) : Stored G 51 (stored51 G) := (stored50_inv G).step (by decide) _ (stored50_pay G)
/-- Group 51's rows of the gated inputs, as loaded. -/
def v994 (G : Sweep) : FVec Ideal S8x1024 .f32 := G.vb.readCov (stored51 G) (Rect.unit (s := S512x1024) ![408, 0] S8x1024.size inb_S512x1024_S8x1024_408_0).toLoadRect
theorem v994_eq (G : Sweep) : v994 G = grp G.B 51 := readCov_of_stored G.vb 51 (by decide) _ (stored51_inv G)
/-- Group 51's rows of the decays, as loaded. -/
def v995 (G : Sweep) : FVec Ideal S8x1024 .f32 := G.va.readCov G.LA (Rect.unit (s := S512x1024) ![408, 0] S8x1024.size inb_S512x1024_S8x1024_408_0).toLoadRect
theorem v995_eq (G : Sweep) : v995 G = grp G.A 51 := readCov_base G.va G.LA 51 (by decide) _
theorem stored51_pay (G : Sweep) : k0_pay191 (v971 G) (v976 G) (v977 G) (v985 G) (v986 G) (v994 G) (v995 G) = G.hgrp 51 := by
  rw [v971_eq, v976_eq, v977_eq, v985_eq, v986_eq, v994_eq, v995_eq]
  exact shapeCast_same (G.hgrp 51) shapeCasts_S8x1024_S8x1024
/-- The gated inputs' array after group 51's store. -/
def stored52 (G : Sweep) : List (View.Piece (Elt Ideal) S512x1024 .f32) :=
  ⟨Rect.unit (s := S512x1024) ![408, 0] S8x1024.size inb_S512x1024_S8x1024_408_0, k0_pay191 (F := Ideal) (v971 G) (v976 G) (v977 G) (v985 G) (v986 G) (v994 G) (v995 G)⟩ :: stored51 G
theorem stored52_inv (G : Sweep) : Stored G 52 (stored52 G) := (stored51_inv G).step (by decide) _ (stored51_pay G)
/-- Group 52's rows of the gated inputs, as loaded. -/
def v1003 (G : Sweep) : FVec Ideal S8x1024 .f32 := G.vb.readCov (stored52 G) (Rect.unit (s := S512x1024) ![416, 0] S8x1024.size inb_S512x1024_S8x1024_416_0).toLoadRect
theorem v1003_eq (G : Sweep) : v1003 G = grp G.B 52 := readCov_of_stored G.vb 52 (by decide) _ (stored52_inv G)
/-- Group 52's rows of the decays, as loaded. -/
def v1004 (G : Sweep) : FVec Ideal S8x1024 .f32 := G.va.readCov G.LA (Rect.unit (s := S512x1024) ![416, 0] S8x1024.size inb_S512x1024_S8x1024_416_0).toLoadRect
theorem v1004_eq (G : Sweep) : v1004 G = grp G.A 52 := readCov_base G.va G.LA 52 (by decide) _
/-- Group 52, handed on. -/
def v1007 (G : Sweep) : FVec Ideal S8x1024 .f32 := k0_pay192 (v971 G) (v976 G) (v977 G) (v985 G) (v986 G) (v994 G) (v995 G) (v1003 G) (v1004 G)
theorem v1007_eq (G : Sweep) : v1007 G = G.hgrp 52 := by
  unfold v1007; rw [v971_eq, v976_eq, v977_eq, v985_eq, v986_eq, v994_eq, v995_eq, v1003_eq, v1004_eq]; rfl
theorem stored52_pay (G : Sweep) : k0_pay193 (v1007 G) = G.hgrp 52 := by
  rw [v1007_eq]
  exact shapeCast_same (G.hgrp 52) shapeCasts_S8x1024_S8x1024
/-- The gated inputs' array after group 52's store. -/
def stored53 (G : Sweep) : List (View.Piece (Elt Ideal) S512x1024 .f32) :=
  ⟨Rect.unit (s := S512x1024) ![416, 0] S8x1024.size inb_S512x1024_S8x1024_416_0, k0_pay193 (F := Ideal) (v1007 G)⟩ :: stored52 G
theorem stored53_inv (G : Sweep) : Stored G 53 (stored53 G) := (stored52_inv G).step (by decide) _ (stored52_pay G)
/-- Group 53's rows of the gated inputs, as loaded. -/
def v1012 (G : Sweep) : FVec Ideal S8x1024 .f32 := G.vb.readCov (stored53 G) (Rect.unit (s := S512x1024) ![424, 0] S8x1024.size inb_S512x1024_S8x1024_424_0).toLoadRect
theorem v1012_eq (G : Sweep) : v1012 G = grp G.B 53 := readCov_of_stored G.vb 53 (by decide) _ (stored53_inv G)
/-- Group 53's rows of the decays, as loaded. -/
def v1013 (G : Sweep) : FVec Ideal S8x1024 .f32 := G.va.readCov G.LA (Rect.unit (s := S512x1024) ![424, 0] S8x1024.size inb_S512x1024_S8x1024_424_0).toLoadRect
theorem v1013_eq (G : Sweep) : v1013 G = grp G.A 53 := readCov_base G.va G.LA 53 (by decide) _
theorem stored53_pay (G : Sweep) : k0_pay195 (v1007 G) (v1012 G) (v1013 G) = G.hgrp 53 := by
  rw [v1007_eq, v1012_eq, v1013_eq]
  exact shapeCast_same (G.hgrp 53) shapeCasts_S8x1024_S8x1024
/-- The gated inputs' array after group 53's store. -/
def stored54 (G : Sweep) : List (View.Piece (Elt Ideal) S512x1024 .f32) :=
  ⟨Rect.unit (s := S512x1024) ![424, 0] S8x1024.size inb_S512x1024_S8x1024_424_0, k0_pay195 (F := Ideal) (v1007 G) (v1012 G) (v1013 G)⟩ :: stored53 G
theorem stored54_inv (G : Sweep) : Stored G 54 (stored54 G) := (stored53_inv G).step (by decide) _ (stored53_pay G)
/-- Group 54's rows of the gated inputs, as loaded. -/
def v1021 (G : Sweep) : FVec Ideal S8x1024 .f32 := G.vb.readCov (stored54 G) (Rect.unit (s := S512x1024) ![432, 0] S8x1024.size inb_S512x1024_S8x1024_432_0).toLoadRect
theorem v1021_eq (G : Sweep) : v1021 G = grp G.B 54 := readCov_of_stored G.vb 54 (by decide) _ (stored54_inv G)
/-- Group 54's rows of the decays, as loaded. -/
def v1022 (G : Sweep) : FVec Ideal S8x1024 .f32 := G.va.readCov G.LA (Rect.unit (s := S512x1024) ![432, 0] S8x1024.size inb_S512x1024_S8x1024_432_0).toLoadRect
theorem v1022_eq (G : Sweep) : v1022 G = grp G.A 54 := readCov_base G.va G.LA 54 (by decide) _
theorem stored54_pay (G : Sweep) : k0_pay197 (v1007 G) (v1012 G) (v1013 G) (v1021 G) (v1022 G) = G.hgrp 54 := by
  rw [v1007_eq, v1012_eq, v1013_eq, v1021_eq, v1022_eq]
  exact shapeCast_same (G.hgrp 54) shapeCasts_S8x1024_S8x1024
/-- The gated inputs' array after group 54's store. -/
def stored55 (G : Sweep) : List (View.Piece (Elt Ideal) S512x1024 .f32) :=
  ⟨Rect.unit (s := S512x1024) ![432, 0] S8x1024.size inb_S512x1024_S8x1024_432_0, k0_pay197 (F := Ideal) (v1007 G) (v1012 G) (v1013 G) (v1021 G) (v1022 G)⟩ :: stored54 G
theorem stored55_inv (G : Sweep) : Stored G 55 (stored55 G) := (stored54_inv G).step (by decide) _ (stored54_pay G)
/-- Group 55's rows of the gated inputs, as loaded. -/
def v1030 (G : Sweep) : FVec Ideal S8x1024 .f32 := G.vb.readCov (stored55 G) (Rect.unit (s := S512x1024) ![440, 0] S8x1024.size inb_S512x1024_S8x1024_440_0).toLoadRect
theorem v1030_eq (G : Sweep) : v1030 G = grp G.B 55 := readCov_of_stored G.vb 55 (by decide) _ (stored55_inv G)
/-- Group 55's rows of the decays, as loaded. -/
def v1031 (G : Sweep) : FVec Ideal S8x1024 .f32 := G.va.readCov G.LA (Rect.unit (s := S512x1024) ![440, 0] S8x1024.size inb_S512x1024_S8x1024_440_0).toLoadRect
theorem v1031_eq (G : Sweep) : v1031 G = grp G.A 55 := readCov_base G.va G.LA 55 (by decide) _
theorem stored55_pay (G : Sweep) : k0_pay199 (v1007 G) (v1012 G) (v1013 G) (v1021 G) (v1022 G) (v1030 G) (v1031 G) = G.hgrp 55 := by
  rw [v1007_eq, v1012_eq, v1013_eq, v1021_eq, v1022_eq, v1030_eq, v1031_eq]
  exact shapeCast_same (G.hgrp 55) shapeCasts_S8x1024_S8x1024
/-- The gated inputs' array after group 55's store. -/
def stored56 (G : Sweep) : List (View.Piece (Elt Ideal) S512x1024 .f32) :=
  ⟨Rect.unit (s := S512x1024) ![440, 0] S8x1024.size inb_S512x1024_S8x1024_440_0, k0_pay199 (F := Ideal) (v1007 G) (v1012 G) (v1013 G) (v1021 G) (v1022 G) (v1030 G) (v1031 G)⟩ :: stored55 G
theorem stored56_inv (G : Sweep) : Stored G 56 (stored56 G) := (stored55_inv G).step (by decide) _ (stored55_pay G)
/-- Group 56's rows of the gated inputs, as loaded. -/
def v1039 (G : Sweep) : FVec Ideal S8x1024 .f32 := G.vb.readCov (stored56 G) (Rect.unit (s := S512x1024) ![448, 0] S8x1024.size inb_S512x1024_S8x1024_448_0).toLoadRect
theorem v1039_eq (G : Sweep) : v1039 G = grp G.B 56 := readCov_of_stored G.vb 56 (by decide) _ (stored56_inv G)
/-- The last row of group 55, handed on. -/
def v1038 (G : Sweep) : FVec Ideal S1x1024 .f32 := k0_pay200 (v1007 G) (v1012 G) (v1013 G) (v1021 G) (v1022 G) (v1030 G) (v1031 G)
theorem v1038_eq (G : Sweep) : v1038 G = G.crow 56 := by
  unfold v1038; rw [v1007_eq, v1012_eq, v1013_eq, v1021_eq, v1022_eq, v1030_eq, v1031_eq]; rfl
/-- Group 56's rows of the decays, as loaded. -/
def v1040 (G : Sweep) : FVec Ideal S8x1024 .f32 := G.va.readCov G.LA (Rect.unit (s := S512x1024) ![448, 0] S8x1024.size inb_S512x1024_S8x1024_448_0).toLoadRect
theorem v1040_eq (G : Sweep) : v1040 G = grp G.A 56 := readCov_base G.va G.LA 56 (by decide) _
theorem stored56_pay (G : Sweep) : k0_pay202 (v1038 G) (v1039 G) (v1040 G) = G.hgrp 56 := by
  rw [v1038_eq, v1039_eq, v1040_eq]
  exact shapeCast_same (G.hgrp 56) shapeCasts_S8x1024_S8x1024
/-- The gated inputs' array after group 56's store. -/
def stored57 (G : Sweep) : List (View.Piece (Elt Ideal) S512x1024 .f32) :=
  ⟨Rect.unit (s := S512x1024) ![448, 0] S8x1024.size inb_S512x1024_S8x1024_448_0, k0_pay202 (F := Ideal) (v1038 G) (v1039 G) (v1040 G)⟩ :: stored56 G
theorem stored57_inv (G : Sweep) : Stored G 57 (stored57 G) := (stored56_inv G).step (by decide) _ (stored56_pay G)
/-- Group 57's rows of the gated inputs, as loaded. -/
def v1048 (G : Sweep) : FVec Ideal S8x1024 .f32 := G.vb.readCov (stored57 G) (Rect.unit (s := S512x1024) ![456, 0] S8x1024.size inb_S512x1024_S8x1024_456_0).toLoadRect
theorem v1048_eq (G : Sweep) : v1048 G = grp G.B 57 := readCov_of_stored G.vb 57 (by decide) _ (stored57_inv G)
/-- Group 57's rows of the decays, as loaded. -/
def v1049 (G : Sweep) : FVec Ideal S8x1024 .f32 := G.va.readCov G.LA (Rect.unit (s := S512x1024) ![456, 0] S8x1024.size inb_S512x1024_S8x1024_456_0).toLoadRect
theorem v1049_eq (G : Sweep) : v1049 G = grp G.A 57 := readCov_base G.va G.LA 57 (by decide) _
theorem stored57_pay (G : Sweep) : k0_pay204 (v1038 G) (v1039 G) (v1040 G) (v1048 G) (v1049 G) = G.hgrp 57 := by
  rw [v1038_eq, v1039_eq, v1040_eq, v1048_eq, v1049_eq]
  exact shapeCast_same (G.hgrp 57) shapeCasts_S8x1024_S8x1024
/-- The gated inputs' array after group 57's store. -/
def stored58 (G : Sweep) : List (View.Piece (Elt Ideal) S512x1024 .f32) :=
  ⟨Rect.unit (s := S512x1024) ![456, 0] S8x1024.size inb_S512x1024_S8x1024_456_0, k0_pay204 (F := Ideal) (v1038 G) (v1039 G) (v1040 G) (v1048 G) (v1049 G)⟩ :: stored57 G
theorem stored58_inv (G : Sweep) : Stored G 58 (stored58 G) := (stored57_inv G).step (by decide) _ (stored57_pay G)
/-- Group 58's rows of the gated inputs, as loaded. -/
def v1057 (G : Sweep) : FVec Ideal S8x1024 .f32 := G.vb.readCov (stored58 G) (Rect.unit (s := S512x1024) ![464, 0] S8x1024.size inb_S512x1024_S8x1024_464_0).toLoadRect
theorem v1057_eq (G : Sweep) : v1057 G = grp G.B 58 := readCov_of_stored G.vb 58 (by decide) _ (stored58_inv G)
/-- Group 58's rows of the decays, as loaded. -/
def v1058 (G : Sweep) : FVec Ideal S8x1024 .f32 := G.va.readCov G.LA (Rect.unit (s := S512x1024) ![464, 0] S8x1024.size inb_S512x1024_S8x1024_464_0).toLoadRect
theorem v1058_eq (G : Sweep) : v1058 G = grp G.A 58 := readCov_base G.va G.LA 58 (by decide) _
theorem stored58_pay (G : Sweep) : k0_pay206 (v1038 G) (v1039 G) (v1040 G) (v1048 G) (v1049 G) (v1057 G) (v1058 G) = G.hgrp 58 := by
  rw [v1038_eq, v1039_eq, v1040_eq, v1048_eq, v1049_eq, v1057_eq, v1058_eq]
  exact shapeCast_same (G.hgrp 58) shapeCasts_S8x1024_S8x1024
/-- The gated inputs' array after group 58's store. -/
def stored59 (G : Sweep) : List (View.Piece (Elt Ideal) S512x1024 .f32) :=
  ⟨Rect.unit (s := S512x1024) ![464, 0] S8x1024.size inb_S512x1024_S8x1024_464_0, k0_pay206 (F := Ideal) (v1038 G) (v1039 G) (v1040 G) (v1048 G) (v1049 G) (v1057 G) (v1058 G)⟩ :: stored58 G
theorem stored59_inv (G : Sweep) : Stored G 59 (stored59 G) := (stored58_inv G).step (by decide) _ (stored58_pay G)
/-- Group 59's rows of the gated inputs, as loaded. -/
def v1066 (G : Sweep) : FVec Ideal S8x1024 .f32 := G.vb.readCov (stored59 G) (Rect.unit (s := S512x1024) ![472, 0] S8x1024.size inb_S512x1024_S8x1024_472_0).toLoadRect
theorem v1066_eq (G : Sweep) : v1066 G = grp G.B 59 := readCov_of_stored G.vb 59 (by decide) _ (stored59_inv G)
/-- Group 59's rows of the decays, as loaded. -/
def v1067 (G : Sweep) : FVec Ideal S8x1024 .f32 := G.va.readCov G.LA (Rect.unit (s := S512x1024) ![472, 0] S8x1024.size inb_S512x1024_S8x1024_472_0).toLoadRect
theorem v1067_eq (G : Sweep) : v1067 G = grp G.A 59 := readCov_base G.va G.LA 59 (by decide) _
theorem stored59_pay (G : Sweep) : k0_pay208 (v1038 G) (v1039 G) (v1040 G) (v1048 G) (v1049 G) (v1057 G) (v1058 G) (v1066 G) (v1067 G) = G.hgrp 59 := by
  rw [v1038_eq, v1039_eq, v1040_eq, v1048_eq, v1049_eq, v1057_eq, v1058_eq, v1066_eq, v1067_eq]
  exact shapeCast_same (G.hgrp 59) shapeCasts_S8x1024_S8x1024
/-- The gated inputs' array after group 59's store. -/
def stored60 (G : Sweep) : List (View.Piece (Elt Ideal) S512x1024 .f32) :=
  ⟨Rect.unit (s := S512x1024) ![472, 0] S8x1024.size inb_S512x1024_S8x1024_472_0, k0_pay208 (F := Ideal) (v1038 G) (v1039 G) (v1040 G) (v1048 G) (v1049 G) (v1057 G) (v1058 G) (v1066 G) (v1067 G)⟩ :: stored59 G
theorem stored60_inv (G : Sweep) : Stored G 60 (stored60 G) := (stored59_inv G).step (by decide) _ (stored59_pay G)
/-- The last row of group 59, handed on. -/
def v1074 (G : Sweep) : FVec Ideal S1x1024 .f32 := k0_pay209 (v1038 G) (v1039 G) (v1040 G) (v1048 G) (v1049 G) (v1057 G) (v1058 G) (v1066 G) (v1067 G)
theorem v1074_eq (G : Sweep) : v1074 G = G.crow 60 := by
  unfold v1074; rw [v1038_eq, v1039_eq, v1040_eq, v1048_eq, v1049_eq, v1057_eq, v1058_eq, v1066_eq, v1067_eq]; rfl
/-- Group 60's rows of the gated inputs, as loaded. -/
def v1075 (G : Sweep) : FVec Ideal S8x1024 .f32 := G.vb.readCov (stored60 G) (Rect.unit (s := S512x1024) ![480, 0] S8x1024.size inb_S512x1024_S8x1024_480_0).toLoadRect
theorem v1075_eq (G : Sweep) : v1075 G = grp G.B 60 := readCov_of_stored G.vb 60 (by decide) _ (stored60_inv G)
/-- Group 60's rows of the decays, as loaded. -/
def v1076 (G : Sweep) : FVec Ideal S8x1024 .f32 := G.va.readCov G.LA (Rect.unit (s := S512x1024) ![480, 0] S8x1024.size inb_S512x1024_S8x1024_480_0).toLoadRect
theorem v1076_eq (G : Sweep) : v1076 G = grp G.A 60 := readCov_base G.va G.LA 60 (by decide) _
theorem stored60_pay (G : Sweep) : k0_pay211 (v1074 G) (v1075 G) (v1076 G) = G.hgrp 60 := by
  rw [v1074_eq, v1075_eq, v1076_eq]
  exact shapeCast_same (G.hgrp 60) shapeCasts_S8x1024_S8x1024
/-- The gated inputs' array after group 60's store. -/
def stored61 (G : Sweep) : List (View.Piece (Elt Ideal) S512x1024 .f32) :=
  ⟨Rect.unit (s := S512x1024) ![480, 0] S8x1024.size inb_S512x1024_S8x1024_480_0, k0_pay211 (F := Ideal) (v1074 G) (v1075 G) (v1076 G)⟩ :: stored60 G
theorem stored61_inv (G : Sweep) : Stored G 61 (stored61 G) := (stored60_inv G).step (by decide) _ (stored60_pay G)
/-- Group 61's rows of the gated inputs, as loaded. -/
def v1084 (G : Sweep) : FVec Ideal S8x1024 .f32 := G.vb.readCov (stored61 G) (Rect.unit (s := S512x1024) ![488, 0] S8x1024.size inb_S512x1024_S8x1024_488_0).toLoadRect
theorem v1084_eq (G : Sweep) : v1084 G = grp G.B 61 := readCov_of_stored G.vb 61 (by decide) _ (stored61_inv G)
/-- Group 61's rows of the decays, as loaded. -/
def v1085 (G : Sweep) : FVec Ideal S8x1024 .f32 := G.va.readCov G.LA (Rect.unit (s := S512x1024) ![488, 0] S8x1024.size inb_S512x1024_S8x1024_488_0).toLoadRect
theorem v1085_eq (G : Sweep) : v1085 G = grp G.A 61 := readCov_base G.va G.LA 61 (by decide) _
theorem stored61_pay (G : Sweep) : k0_pay213 (v1074 G) (v1075 G) (v1076 G) (v1084 G) (v1085 G) = G.hgrp 61 := by
  rw [v1074_eq, v1075_eq, v1076_eq, v1084_eq, v1085_eq]
  exact shapeCast_same (G.hgrp 61) shapeCasts_S8x1024_S8x1024
/-- The gated inputs' array after group 61's store. -/
def stored62 (G : Sweep) : List (View.Piece (Elt Ideal) S512x1024 .f32) :=
  ⟨Rect.unit (s := S512x1024) ![488, 0] S8x1024.size inb_S512x1024_S8x1024_488_0, k0_pay213 (F := Ideal) (v1074 G) (v1075 G) (v1076 G) (v1084 G) (v1085 G)⟩ :: stored61 G
theorem stored62_inv (G : Sweep) : Stored G 62 (stored62 G) := (stored61_inv G).step (by decide) _ (stored61_pay G)
/-- Group 62's rows of the gated inputs, as loaded. -/
def v1093 (G : Sweep) : FVec Ideal S8x1024 .f32 := G.vb.readCov (stored62 G) (Rect.unit (s := S512x1024) ![496, 0] S8x1024.size inb_S512x1024_S8x1024_496_0).toLoadRect
theorem v1093_eq (G : Sweep) : v1093 G = grp G.B 62 := readCov_of_stored G.vb 62 (by decide) _ (stored62_inv G)
/-- Group 62's rows of the decays, as loaded. -/
def v1094 (G : Sweep) : FVec Ideal S8x1024 .f32 := G.va.readCov G.LA (Rect.unit (s := S512x1024) ![496, 0] S8x1024.size inb_S512x1024_S8x1024_496_0).toLoadRect
theorem v1094_eq (G : Sweep) : v1094 G = grp G.A 62 := readCov_base G.va G.LA 62 (by decide) _
theorem stored62_pay (G : Sweep) : k0_pay215 (v1074 G) (v1075 G) (v1076 G) (v1084 G) (v1085 G) (v1093 G) (v1094 G) = G.hgrp 62 := by
  rw [v1074_eq, v1075_eq, v1076_eq, v1084_eq, v1085_eq, v1093_eq, v1094_eq]
  exact shapeCast_same (G.hgrp 62) shapeCasts_S8x1024_S8x1024
/-- The gated inputs' array after group 62's store. -/
def stored63 (G : Sweep) : List (View.Piece (Elt Ideal) S512x1024 .f32) :=
  ⟨Rect.unit (s := S512x1024) ![496, 0] S8x1024.size inb_S512x1024_S8x1024_496_0, k0_pay215 (F := Ideal) (v1074 G) (v1075 G) (v1076 G) (v1084 G) (v1085 G) (v1093 G) (v1094 G)⟩ :: stored62 G
theorem stored63_inv (G : Sweep) : Stored G 63 (stored63 G) := (stored62_inv G).step (by decide) _ (stored62_pay G)
/-- Group 63's rows of the gated inputs, as loaded. -/
def v1102 (G : Sweep) : FVec Ideal S8x1024 .f32 := G.vb.readCov (stored63 G) (Rect.unit (s := S512x1024) ![504, 0] S8x1024.size inb_S512x1024_S8x1024_504_0).toLoadRect
theorem v1102_eq (G : Sweep) : v1102 G = grp G.B 63 := readCov_of_stored G.vb 63 (by decide) _ (stored63_inv G)
/-- Group 63's rows of the decays, as loaded. -/
def v1103 (G : Sweep) : FVec Ideal S8x1024 .f32 := G.va.readCov G.LA (Rect.unit (s := S512x1024) ![504, 0] S8x1024.size inb_S512x1024_S8x1024_504_0).toLoadRect
theorem v1103_eq (G : Sweep) : v1103 G = grp G.A 63 := readCov_base G.va G.LA 63 (by decide) _
/-- Group 63, handed on. -/
def v1106 (G : Sweep) : FVec Ideal S8x1024 .f32 := k0_pay216 (v1074 G) (v1075 G) (v1076 G) (v1084 G) (v1085 G) (v1093 G) (v1094 G) (v1102 G) (v1103 G)
theorem v1106_eq (G : Sweep) : v1106 G = G.hgrp 63 := by
  unfold v1106; rw [v1074_eq, v1075_eq, v1076_eq, v1084_eq, v1085_eq, v1093_eq, v1094_eq, v1102_eq, v1103_eq]; rfl
theorem stored63_pay (G : Sweep) : k0_pay217 (v1106 G) = G.hgrp 63 := by
  rw [v1106_eq]
  exact shapeCast_same (G.hgrp 63) shapeCasts_S8x1024_S8x1024
/-- The gated inputs' array after group 63's store. -/
def stored64 (G : Sweep) : List (View.Piece (Elt Ideal) S512x1024 .f32) :=
  ⟨Rect.unit (s := S512x1024) ![504, 0] S8x1024.size inb_S512x1024_S8x1024_504_0, k0_pay217 (F := Ideal) (v1106 G)⟩ :: stored63 G
theorem stored64_inv (G : Sweep) : Stored G 64 (stored64 G) := (stored63_inv G).step (by decide) _ (stored63_pay G)

/-- The row handed to the next tile is the last row of the last group. -/
theorem carryOut (G : Sweep) : k0_pay218 (v1106 G) = G.crow 64 := by
  rw [v1106_eq]
  exact shapeCast_same (S := S1x1024) (G.crow 64) shapeCasts_S1x1024_S1x1024

/-- The whole array after the walk, read at a row. -/
theorem walked (G : Sweep) (r : Fin 512) (j : Fin 1024) :
    View.canon (stored64 G) (ix2 r j) = G.hgrp (r.val / 8) (ix2 ⟨r.val % 8, Nat.mod_lt _ (by decide)⟩ j) :=
  (stored64_inv G r j).trans (if_pos (by have := r.isLt; omega))

/-- A group read at a row: `b + a * h`. -/
theorem hgrp_apply (G : Sweep) (k : ℕ) (s : Fin 8) (j : Fin 1024) :
    G.hgrp k (ix2 s j) = G.B (ix2 (rowOf k s) j) + G.A (ix2 (rowOf k s) j) * G.crow k (ix2 0 j) := by
  unfold hgrp grp
  generalize G.crow k = v
  generalize G.A = a
  generalize G.B = b
  pointwise

theorem crow_zero (G : Sweep) (j : Fin 1024) : G.crow 0 (ix2 0 j) = G.h0 (ix2 0 j) := rfl

/-- The next row carried is the group's last row. -/
theorem crow_succ (G : Sweep) (k : ℕ) (j : Fin 1024) :
    G.crow (k + 1) (ix2 0 j) = G.hgrp k (ix2 7 j) := by
  show extractStridedSlice S1x1024 ![7, 0] (G.hgrp k) slices_S8x1024_o7_0_S1x1024 (ix2 0 j) = _
  generalize G.hgrp k = v
  pointwise

end Cert.KernelIdeal.RowValue.Sweep

end
-- ==== Proof.InScan.lean ====
/-
  THE SCAN INSIDE A GROUP OF 8 ROWS. The input projection's body composes the maps `h ↦ a * h + b` of 8 rows by three doubling
  steps over a `[64, 8, 256]` block: at distance 1, 2 and 4. Here: the steps read at a row, and that the composed map of a row
  takes what enters the group to what the recurrence gives at that row.
-/
module

public import proofs.«01_k».proof.Proof.InGroups
public import Idealize.ShloMosaic.Lib.Pointwise
public import Idealize.ShloMosaic.Lib.KernelVsHost
public import Idealize.ShloMosaic.Lib.Tactic

@[expose] public section

set_option maxRecDepth 16384

noncomputable section

namespace Cert.KernelIdeal.RowValue

open Cert.KernelIdeal Cert.KernelIdeal.Gen Idealize.ShloMosaic Idealize.ShloMosaic.TcCoe Idealize.SL.Sem

/-! ## Over one group's rows -/

/-- One doubling step of the slopes. -/
def sA (d : ℕ) (a : ℕ → EReal) (s : ℕ) : EReal := if d ≤ s then a s * a (s - d) else a s
/-- One doubling step of the offsets. -/
def sB (d : ℕ) (a b : ℕ → EReal) (s : ℕ) : EReal := if d ≤ s then a s * b (s - d) + b s else b s

/-- The slopes after the three steps. -/
def scA (a : ℕ → EReal) : ℕ → EReal := sA 4 (sA 2 (sA 1 a))
/-- The offsets after the three steps. -/
def scB (a b : ℕ → EReal) : ℕ → EReal := sB 4 (sA 2 (sA 1 a)) (sB 2 (sA 1 a) (sB 1 a b))

/-- The composed map of row `s` gives the recurrence's value at row `s`. -/
theorem scan_eq (a b H : ℕ → EReal) (ha : ∀ s, 0 ≤ a s ∧ a s ≠ ⊤) (hH : ∀ s, s < 8 → H (s + 1) = a s * H s + b s)
    (s : ℕ) (hs : s < 8) : scB a b s + scA a s * H 0 = H (s + 1) := by
  have dist : ∀ (i : ℕ) (x y : EReal), a i * (x + y) = a i * x + a i * y := fun i x y =>
    EReal.left_distrib_of_nonneg_of_ne_top (ha i).1 (ha i).2 x y
  have h0 := hH 0 (by omega)
  have h1 := hH 1 (by omega)
  have h2 := hH 2 (by omega)
  have h3 := hH 3 (by omega)
  have h4 := hH 4 (by omega)
  have h5 := hH 5 (by omega)
  have h6 := hH 6 (by omega)
  have h7 := hH 7 (by omega)
  norm_num at h0 h1 h2 h3 h4 h5 h6 h7
  interval_cases s <;>
    simp [scA, scB, sA, sB, h7, h6, h5, h4, h3, h2, h1, h0, dist, mul_assoc] <;> simp only [add_comm, add_left_comm, add_assoc]

/-! ## Over the block -/

/-- One doubling step of the slopes, as the body writes it. -/
def stepA (d : BitVec 32) (A : FVec Ideal S64x8x256 .f32) : FVec Ideal S64x8x256 .f32 :=
  select (cmpi .sge (iota .tc S64x8x256 32 [1] iota_S64x8x256_d1_w32) (broadcast S64x8x256 d))
    (mulf A (dynamicRotate 1 d none A rotates_S64x8x256_d1)) A
/-- One doubling step of the offsets, as the body writes it. -/
def stepB (d : BitVec 32) (A B : FVec Ideal S64x8x256 .f32) : FVec Ideal S64x8x256 .f32 :=
  select (cmpi .sge (iota .tc S64x8x256 32 [1] iota_S64x8x256_d1_w32) (broadcast S64x8x256 d))
    (addf (mulf A (dynamicRotate 1 d none B rotates_S64x8x256_d1)) B) B

theorem rot_apply (d : ℕ) (hd : d < 8) (A : FVec Ideal S64x8x256 .f32) (q : Fin 64) (s : Fin 8) (c : Fin 256) :
    dynamicRotate 1 (BitVec.ofNat 32 d) none A rotates_S64x8x256_d1 (ix3 q s c) = A (ix3 q ⟨(s.val + 8 - d) % 8, Nat.mod_lt _ (by decide)⟩ c) := by
  refine dynamicRotate_apply 1 _ A _ _ _ fun b => ?_
  have e : (BitVec.ofNat 32 d).toNat = d := by rw [BitVec.toNat_ofNat]; exact Nat.mod_eq_of_lt (by omega)
  match b with
  | ⟨0, _⟩ => rfl
  | ⟨1, _⟩ => show (s.val + 8 - d) % 8 = (s.val + 8 - (BitVec.ofNat 32 d).toNat % 8) % 8; rw [e, Nat.mod_eq_of_lt hd]
  | ⟨2, _⟩ => rfl

theorem keep_iff (d : ℕ) (hd : d < 8) (q : Fin 64) (s : Fin 8) (c : Fin 256) :
    (cmpi .sge (iota .tc S64x8x256 32 [1] iota_S64x8x256_d1_w32) (broadcast S64x8x256 (BitVec.ofNat 32 d)) : IVec S64x8x256 1) (ix3 q s c)
      = if d ≤ s.val then 1#1 else 0#1 := by
  show IntOp.cmpi .sge (BitVec.ofNat 32 (0 * 8 + s.val)) (BitVec.ofNat 32 d) = _
  rw [Nat.zero_mul, Nat.zero_add]
  exact (by decide : ∀ (d s : Fin 8), IntOp.cmpi .sge (BitVec.ofNat 32 s.val) (BitVec.ofNat 32 d.val) = if d.val ≤ s.val then 1#1 else 0#1) ⟨d, hd⟩ s

/-- Row `s` of group `q` of a block, over all naturals. -/
def rowAt (A : FVec Ideal S64x8x256 .f32) (q : Fin 64) (c : Fin 256) (s : ℕ) : EReal := A (ix3 q ⟨s % 8, Nat.mod_lt _ (by decide)⟩ c)

theorem rowAt_fin (A : FVec Ideal S64x8x256 .f32) (q : Fin 64) (c : Fin 256) (s : Fin 8) : A (ix3 q s c) = rowAt A q c s.val := by
  refine congrArg (fun i : Fin 8 => A (ix3 q i c)) (Fin.ext ?_)
  exact (Nat.mod_eq_of_lt s.isLt).symm

theorem rowAt_rot (d : ℕ) (A : FVec Ideal S64x8x256 .f32) (q : Fin 64) (c : Fin 256) (s : Fin 8) (h : d ≤ s.val) :
    A (ix3 q ⟨(s.val + 8 - d) % 8, Nat.mod_lt _ (by decide)⟩ c) = rowAt A q c (s.val - d) := by
  refine congrArg (fun i : Fin 8 => A (ix3 q i c)) (Fin.ext ?_)
  show (s.val + 8 - d) % 8 = (s.val - d) % 8
  have := s.isLt
  omega

theorem stepA_apply (d : ℕ) (hd : d < 8) (A : FVec Ideal S64x8x256 .f32) (q : Fin 64) (s : Fin 8) (c : Fin 256) :
    stepA (BitVec.ofNat 32 d) A (ix3 q s c) = sA d (rowAt A q c) s.val := by
  show Scalar.select ((cmpi .sge (iota .tc S64x8x256 32 [1] iota_S64x8x256_d1_w32) (broadcast S64x8x256 (BitVec.ofNat 32 d)) : IVec S64x8x256 1) (ix3 q s c))
    (A (ix3 q s c) * dynamicRotate 1 (BitVec.ofNat 32 d) none A rotates_S64x8x256_d1 (ix3 q s c)) (A (ix3 q s c)) = _
  rw [keep_iff d hd, rot_apply d hd]
  unfold sA
  by_cases h : d ≤ s.val
  · rw [if_pos h, if_pos h, rowAt_rot d A q c s h, rowAt_fin A q c s]; rfl
  · rw [if_neg h, if_neg h, rowAt_fin A q c s]; rfl

theorem stepB_apply (d : ℕ) (hd : d < 8) (A B : FVec Ideal S64x8x256 .f32) (q : Fin 64) (s : Fin 8) (c : Fin 256) :
    stepB (BitVec.ofNat 32 d) A B (ix3 q s c) = sB d (rowAt A q c) (rowAt B q c) s.val := by
  show Scalar.select ((cmpi .sge (iota .tc S64x8x256 32 [1] iota_S64x8x256_d1_w32) (broadcast S64x8x256 (BitVec.ofNat 32 d)) : IVec S64x8x256 1) (ix3 q s c))
    (A (ix3 q s c) * dynamicRotate 1 (BitVec.ofNat 32 d) none B rotates_S64x8x256_d1 (ix3 q s c) + B (ix3 q s c)) (B (ix3 q s c)) = _
  rw [keep_iff d hd, rot_apply d hd]
  unfold sB
  by_cases h : d ≤ s.val
  · rw [if_pos h, if_pos h, rowAt_rot d B q c s h, rowAt_fin A q c s, rowAt_fin B q c s]; rfl
  · rw [if_neg h, if_neg h, rowAt_fin B q c s]; rfl

/-- The steps depend on the rows below 8 only. -/
theorem sA_congr (d : ℕ) {a a' : ℕ → EReal} (h : ∀ s, s < 8 → a s = a' s) (s : ℕ) (hs : s < 8) : sA d a s = sA d a' s := by
  unfold sA; rw [h s hs, h (s - d) (by omega)]
theorem sB_congr (d : ℕ) {a a' b b' : ℕ → EReal} (h : ∀ s, s < 8 → a s = a' s) (g : ∀ s, s < 8 → b s = b' s) (s : ℕ) (hs : s < 8) :
    sB d a b s = sB d a' b' s := by
  unfold sB; rw [h s hs, g s hs, g (s - d) (by omega)]

theorem rowAt_stepA (d : ℕ) (hd : d < 8) (A : FVec Ideal S64x8x256 .f32) (q : Fin 64) (c : Fin 256) (s : ℕ) (hs : s < 8) :
    rowAt (stepA (BitVec.ofNat 32 d) A) q c s = sA d (rowAt A q c) s := by
  unfold rowAt
  rw [stepA_apply d hd]
  show sA d (rowAt A q c) (s % 8) = _
  rw [Nat.mod_eq_of_lt hs]
  rfl
theorem rowAt_stepB (d : ℕ) (hd : d < 8) (A B : FVec Ideal S64x8x256 .f32) (q : Fin 64) (c : Fin 256) (s : ℕ) (hs : s < 8) :
    rowAt (stepB (BitVec.ofNat 32 d) A B) q c s = sB d (rowAt A q c) (rowAt B q c) s := by
  unfold rowAt
  rw [stepB_apply d hd]
  show sB d (rowAt A q c) (rowAt B q c) (s % 8) = _
  rw [Nat.mod_eq_of_lt hs]
  rfl

/-- A tile's decays after the scan inside the groups. -/
def scanA (A : FVec Ideal S512x256 .f32) : FVec Ideal S512x256 .f32 :=
  shapeCast S512x256 (stepA 4#32 (stepA 2#32 (stepA 1#32 (shapeCast S64x8x256 A shapeCasts_S512x256_S64x8x256)))) shapeCasts_S64x8x256_S512x256
/-- A tile's gated inputs after the scan inside the groups. -/
def scanB (A B : FVec Ideal S512x256 .f32) : FVec Ideal S512x256 .f32 :=
  shapeCast S512x256 (stepB 4#32 (stepA 2#32 (stepA 1#32 (shapeCast S64x8x256 A shapeCasts_S512x256_S64x8x256)))
    (stepB 2#32 (stepA 1#32 (shapeCast S64x8x256 A shapeCasts_S512x256_S64x8x256))
      (stepB 1#32 (shapeCast S64x8x256 A shapeCasts_S512x256_S64x8x256) (shapeCast S64x8x256 B shapeCasts_S512x256_S64x8x256)))) shapeCasts_S64x8x256_S512x256

theorem unfold_apply (X : FVec Ideal S64x8x256 .f32) (r : Fin 512) (c : Fin 256) :
    shapeCast S512x256 X shapeCasts_S64x8x256_S512x256 (ix2 r c) = X (ix3 ⟨r.val / 8, by omega⟩ ⟨r.val % 8, by omega⟩ c) := by
  pointwise
theorem fold_apply (X : FVec Ideal S512x256 .f32) (q : Fin 64) (s : Fin 8) (c : Fin 256) :
    shapeCast S64x8x256 X shapeCasts_S512x256_S64x8x256 (ix3 q s c) = X (ix2 (rowOf q.val s) c) := by
  unfold rowOf
  pointwise
  refine congrArg (fun i : Fin 512 => X (ix2 i c)) (Fin.ext ?_)
  show q.val * 8 + s.val = (8 * q.val + s.val) % 512
  have := q.isLt
  have := s.isLt
  omega

/-- Row `s` of group `q` of a tile's chunk, over all naturals. -/
def tileRow (A : FVec Ideal S512x256 .f32) (q : ℕ) (c : Fin 256) (s : ℕ) : EReal := A (ix2 (rowOf q ⟨s % 8, Nat.mod_lt _ (by decide)⟩) c)

theorem rowAt_fold (A : FVec Ideal S512x256 .f32) (q : Fin 64) (c : Fin 256) (s : ℕ) :
    rowAt (shapeCast S64x8x256 A shapeCasts_S512x256_S64x8x256) q c s = tileRow A q.val c s := fold_apply A q _ c

theorem scanA_apply (A : FVec Ideal S512x256 .f32) (q : Fin 64) (s : Fin 8) (c : Fin 256) :
    scanA A (ix2 (rowOf q.val s) c) = scA (tileRow A q.val c) s.val := by
  have hq := q.isLt
  have hs := s.isLt
  unfold scanA scA
  rw [unfold_apply]
  have e1 : (⟨(rowOf q.val s).val / 8, by have := (rowOf q.val s).isLt; omega⟩ : Fin 64) = q :=
    Fin.ext (by show (8 * q.val + s.val) % 512 / 8 = q.val; omega)
  have e2 : (⟨(rowOf q.val s).val % 8, by omega⟩ : Fin 8) = s := Fin.ext (by show (8 * q.val + s.val) % 512 % 8 = s.val; omega)
  rw [e1, e2]
  refine (rowAt_fin _ q c s).trans ?_
  rw [rowAt_stepA 4 (by decide) _ _ _ _ hs]
  refine sA_congr 4 (fun s hs => ?_) _ hs
  rw [rowAt_stepA 2 (by decide) _ _ _ _ hs]
  refine sA_congr 2 (fun s hs => ?_) _ hs
  rw [rowAt_stepA 1 (by decide) _ _ _ _ hs]
  exact sA_congr 1 (fun s hs => rowAt_fold A q c s) _ hs

theorem scanB_apply (A B : FVec Ideal S512x256 .f32) (q : Fin 64) (s : Fin 8) (c : Fin 256) :
    scanB A B (ix2 (rowOf q.val s) c) = scB (tileRow A q.val c) (tileRow B q.val c) s.val := by
  have hq := q.isLt
  have hs := s.isLt
  unfold scanB scB
  rw [unfold_apply]
  have e1 : (⟨(rowOf q.val s).val / 8, by have := (rowOf q.val s).isLt; omega⟩ : Fin 64) = q :=
    Fin.ext (by show (8 * q.val + s.val) % 512 / 8 = q.val; omega)
  have e2 : (⟨(rowOf q.val s).val % 8, by omega⟩ : Fin 8) = s := Fin.ext (by show (8 * q.val + s.val) % 512 % 8 = s.val; omega)
  have hA1 : ∀ s, s < 8 → rowAt (stepA 1#32 (shapeCast S64x8x256 A shapeCasts_S512x256_S64x8x256)) q c s = sA 1 (tileRow A q.val c) s := fun s hs => by
    rw [rowAt_stepA 1 (by decide) _ _ _ _ hs]
    exact sA_congr 1 (fun s hs => rowAt_fold A q c s) _ hs
  rw [e1, e2]
  refine (rowAt_fin _ q c s).trans ?_
  rw [rowAt_stepB 4 (by decide) _ _ _ _ _ hs]
  refine sB_congr 4 (fun s hs => ?_) (fun s hs => ?_) _ hs
  · rw [rowAt_stepA 2 (by decide) _ _ _ _ hs]
    exact sA_congr 2 hA1 _ hs
  · rw [rowAt_stepB 2 (by decide) _ _ _ _ _ hs]
    refine sB_congr 2 hA1 (fun s hs => ?_) _ hs
    rw [rowAt_stepB 1 (by decide) _ _ _ _ _ hs]
    exact sB_congr 1 (fun s hs => rowAt_fold A q c s) (fun s hs => rowAt_fold B q c s) _ hs

end Cert.KernelIdeal.RowValue

end
-- ==== Proof.InTile.lean ====
/-
  ONE TILE OF THE INPUT PROJECTION. What the body computes of a tile of 512 tokens, over the values it loads; and that the run's
  outputs and carried rows at a tile are these.
-/
module

public import proofs.«01_k».proof.Proof.InScan
public import proofs.«01_k».proof.Proof.Gen.KernelIdeal.Value
public import Idealize.ShloMosaic.Lib.Pipeline.ValueKit
public import Idealize.ShloMosaic.Lib.Pipeline.ReadBack
public import Idealize.ShloMosaic.Lib.VecWindow

@[expose] public section

set_option maxRecDepth 65536

noncomputable section

namespace Cert.KernelIdeal.RowValue

open Cert.KernelIdeal Cert.KernelIdeal.Gen Idealize.ShloMosaic Idealize.ShloMosaic.TcCoe Idealize.SL.Sem

/-- What the body of one tile loads: its tokens, the weights, and the rows the tile before left. -/
structure Tile where
  va : View sig .tc .vmem S512x1024 .f32
  vb : View sig .tc .vmem S512x1024 .f32
  x : FVec Ideal S512x2048 .f32
  g : FVec Ideal S1x2048 .f32
  wu : FVec Ideal S2048x1024 .bf16
  wg : FVec Ideal S2048x1024 .bf16
  wk : FVec Ideal S2048x256 .bf16
  wv : FVec Ideal S2048x256 .bf16
  cw : FVec Ideal S4x1024 .f32
  cb : FVec Ideal S1x1024 .f32
  wa0 : FVec Ideal S1x256x256 .bf16
  ba0 : FVec Ideal S1x256 .f32
  wx0 : FVec Ideal S1x256x256 .bf16
  bx0 : FVec Ideal S1x256 .f32
  wa1 : FVec Ideal S1x256x256 .bf16
  ba1 : FVec Ideal S1x256 .f32
  wx1 : FVec Ideal S1x256x256 .bf16
  bx1 : FVec Ideal S1x256 .f32
  wa2 : FVec Ideal S1x256x256 .bf16
  ba2 : FVec Ideal S1x256 .f32
  wx2 : FVec Ideal S1x256x256 .bf16
  bx2 : FVec Ideal S1x256 .f32
  wa3 : FVec Ideal S1x256x256 .bf16
  ba3 : FVec Ideal S1x256 .f32
  wx3 : FVec Ideal S1x256x256 .bf16
  bx3 : FVec Ideal S1x256 .f32
  lam : FVec Ideal S1x1024 .f32
  gn : FVec Ideal S1x1024 .f32
  ub : FVec Ideal S8x1024 .f32
  hc : FVec Ideal S1x1024 .f32

namespace Tile

variable (T : Tile)

/-- The normed tokens. -/
def an : FVec Ideal S512x2048 .bf16 := k0_pay1 T.x T.g
/-- The recurrence's input, before the convolution. -/
def u : FVec Ideal S512x1024 .f32 := k0_pay8 T.an T.wu
/-- The convolution. -/
def xc : FVec Ideal S512x1024 .f32 :=
  k0_pay15 (k0_pay11 T.an T.wu) T.ub (k0_pay12 T.cw) (iota .tc S64x8x1024 32 [1] iota_S64x8x1024_d1_w32) (k0_pay13 T.an T.wu T.cw T.cb)
/-- The output gate's argument. -/
def gl : FVec Ideal S512x1024 .f32 := k0_pay16 T.an T.wg
/-- The convolution, rounded. -/
def xb : FVec Ideal S512x1024 .bf16 := k0_pay17 T.xc
/-- The softplus of the decay parameter. -/
def sp : FVec Ideal S1x1024 .f32 := k0_pay18 T.lam
/-- The index of a row in its group. -/
def io : IVec S64x8x256 32 := iota .tc S64x8x256 32 [1] iota_S64x8x256_d1_w32
/-- The decays' exponent scale. -/
def m8 : Ideal .f32 := Scalar.ofBits .f32 0xC1000000#32

/-- Chunk 0 of the decays. -/
def pa0 : FVec Ideal S512x256 .f32 := k0_pay31 (F := Ideal) (k0_pay30 T.sp io (k0_pay20 T.xc T.wa0 T.ba0) m8)
/-- Chunk 0 of the gated inputs. -/
def pb0 : FVec Ideal S512x256 .f32 := k0_pay32 (F := Ideal) (k0_pay29 T.xc T.sp io (k0_pay20 T.xc T.wa0 T.ba0) (k0_pay21 T.xc T.wx0 T.bx0) m8)
/-- Chunk 1 of the decays. -/
def pa1 : FVec Ideal S512x256 .f32 := k0_pay43 (F := Ideal) io (k0_pay36 T.xb T.sp T.wa1 T.ba1)
/-- Chunk 1 of the gated inputs. -/
def pb1 : FVec Ideal S512x256 .f32 := k0_pay45 (F := Ideal) (k0_pay44 T.xc io (k0_pay35 T.xb T.wx1 T.bx1) (k0_pay36 T.xb T.sp T.wa1 T.ba1))
/-- Chunk 2 of the decays. -/
def pa2 : FVec Ideal S512x256 .f32 := k0_pay57 (F := Ideal) io (k0_pay50 T.xb T.sp T.wa2 T.ba2)
/-- Chunk 2 of the gated inputs. -/
def pb2 : FVec Ideal S512x256 .f32 := k0_pay59 (F := Ideal) (k0_pay58 T.xc io (k0_pay49 T.xb T.wx2 T.bx2) (k0_pay50 T.xb T.sp T.wa2 T.ba2))
/-- Chunk 3 of the decays. -/
def pa3 : FVec Ideal S512x256 .f32 := k0_pay77 (F := Ideal) io (k0_pay68 T.xb T.wa3 T.ba3) (k0_pay69 T.sp)
/-- Chunk 3 of the gated inputs. -/
def pb3 : FVec Ideal S512x256 .f32 := k0_pay79 (F := Ideal) (k0_pay78 T.xc io (k0_pay67 T.xb T.wx3 T.bx3) (k0_pay68 T.xb T.wa3 T.ba3) (k0_pay69 T.sp))
/-- The stores of the decays. -/
def LA : List (View.Piece (Elt Ideal) S512x1024 .f32) :=
  [⟨Rect.unit (s := S512x1024) ![0, 768] S512x256.size inb_S512x1024_S512x256_0_768, T.pa3⟩,
   ⟨Rect.unit (s := S512x1024) ![0, 512] S512x256.size inb_S512x1024_S512x256_0_512, T.pa2⟩,
   ⟨Rect.unit (s := S512x1024) ![0, 256] S512x256.size inb_S512x1024_S512x256_0_256, T.pa1⟩,
   ⟨Rect.unit (s := S512x1024) ![0, 0] S512x256.size inb_S512x1024_S512x256_0_0, T.pa0⟩]
/-- The stores of the gated inputs. -/
def LB : List (View.Piece (Elt Ideal) S512x1024 .f32) :=
  [⟨Rect.unit (s := S512x1024) ![0, 768] S512x256.size inb_S512x1024_S512x256_0_768, T.pb3⟩,
   ⟨Rect.unit (s := S512x1024) ![0, 512] S512x256.size inb_S512x1024_S512x256_0_512, T.pb2⟩,
   ⟨Rect.unit (s := S512x1024) ![0, 256] S512x256.size inb_S512x1024_S512x256_0_256, T.pb1⟩,
   ⟨Rect.unit (s := S512x1024) ![0, 0] S512x256.size inb_S512x1024_S512x256_0_0, T.pb0⟩]
/-- The walk over the tile's groups. -/
def sw : Sweep := ⟨T.va, T.vb, T.LA, T.LB, T.hc⟩
/-- The recurrence's values, as loaded after the walk. -/
def hs : FVec Ideal S512x1024 .f32 :=
  T.vb.readCov T.sw.stored64 (Rect.unit (s := S512x1024) ![0, 0] S512x1024.size inb_S512x1024_S512x1024_0_0).toLoadRect
/-- The first output. -/
def y : FVec Ideal S512x1024 .bf16 := k0_pay220 T.gl T.hs T.gn
/-- The keys' output. -/
def kc : FVec Ideal S512x256 .f32 := k0_pay46 T.an T.wk
/-- The values' output. -/
def vc : FVec Ideal S512x256 .f32 := k0_pay47 T.an T.wv
/-- The last rows of the input, handed on. -/
def ubOut : FVec Ideal S8x1024 .f32 := k0_pay14 T.u
/-- The recurrence's last row, handed on. -/
def hcOut : FVec Ideal S1x1024 .f32 := k0_pay218 T.sw.v1106

end Tile

variable (m : (ℓ : Loc nD τ sig) → Buf (Elt Ideal) ℓ)

/-- Tile `t` as the run loads it, over what the tile before left. -/
def tileOf (c : Dev nD) (t : Fin cfg0.N) (ub : FVec Ideal S8x1024 .f32) (hc : FVec Ideal S1x1024 .f32) : Tile where
  va := scM0_1.view
  vb := scM0_2.view
  x := (ms0_0 t).view.readAt (Elt Ideal) (Rect.unit (s := S512x2048) ![0, 0] S512x2048.size inb_S512x2048_S512x2048_0_0).toLoadRect ((hs0_0 t).unread (iblk m c 0 t))
  g := (ms0_1 t).view.readAt (Elt Ideal) (Rect.unit (s := S1x2048) ![0, 0] S1x2048.size inb_S1x2048_S1x2048_0_0).toLoadRect ((hs0_1 t).unread (iblk m c 1 t))
  wu := (ms0_2 t).view.readAt (Elt Ideal) (Rect.unit (s := S2048x4656) ![0, 0] S2048x1024.size inb_S2048x4656_S2048x1024_0_0).toLoadRect ((hs0_2 t).unread (iblk m c 2 t))
  wg := (ms0_2 t).view.readAt (Elt Ideal) (Rect.unit (s := S2048x4656) ![0, 1024] S2048x1024.size inb_S2048x4656_S2048x1024_0_1024).toLoadRect ((hs0_2 t).unread (iblk m c 2 t))
  wk := (ms0_2 t).view.readAt (Elt Ideal) (Rect.unit (s := S2048x4656) ![0, 3072] S2048x256.size inb_S2048x4656_S2048x256_0_3072).toLoadRect ((hs0_2 t).unread (iblk m c 2 t))
  wv := (ms0_2 t).view.readAt (Elt Ideal) (Rect.unit (s := S2048x4656) ![0, 3328] S2048x256.size inb_S2048x4656_S2048x256_0_3328).toLoadRect ((hs0_2 t).unread (iblk m c 2 t))
  cw := (ms0_4 t).view.readAt (Elt Ideal) (Rect.unit (s := S4x1024) ![0, 0] S4x1024.size inb_S4x1024_S4x1024_0_0).toLoadRect ((hs0_4 t).unread (iblk m c 4 t))
  cb := (ms0_5 t).view.readAt (Elt Ideal) (Rect.unit (s := S1x1024) ![0, 0] S1x1024.size inb_S1x1024_S1x1024_0_0).toLoadRect ((hs0_5 t).unread (iblk m c 5 t))
  wa0 := (ms0_6 t).view.readAt (Elt Ideal) (Rect.unit (s := S4x256x256) ![0, 0, 0] S1x256x256.size inb_S4x256x256_S1x256x256_0_0_0).toLoadRect ((hs0_6 t).unread (iblk m c 6 t))
  ba0 := (ms0_7 t).view.readAt (Elt Ideal) (Rect.unit (s := S1x1024) ![0, 0] S1x256.size inb_S1x1024_S1x256_0_0).toLoadRect ((hs0_7 t).unread (iblk m c 7 t))
  wx0 := (ms0_8 t).view.readAt (Elt Ideal) (Rect.unit (s := S4x256x256) ![0, 0, 0] S1x256x256.size inb_S4x256x256_S1x256x256_0_0_0).toLoadRect ((hs0_8 t).unread (iblk m c 8 t))
  bx0 := (ms0_9 t).view.readAt (Elt Ideal) (Rect.unit (s := S1x1024) ![0, 0] S1x256.size inb_S1x1024_S1x256_0_0).toLoadRect ((hs0_9 t).unread (iblk m c 9 t))
  wa1 := (ms0_6 t).view.readAt (Elt Ideal) (Rect.unit (s := S4x256x256) ![1, 0, 0] S1x256x256.size inb_S4x256x256_S1x256x256_1_0_0).toLoadRect ((hs0_6 t).unread (iblk m c 6 t))
  ba1 := (ms0_7 t).view.readAt (Elt Ideal) (Rect.unit (s := S1x1024) ![0, 256] S1x256.size inb_S1x1024_S1x256_0_256).toLoadRect ((hs0_7 t).unread (iblk m c 7 t))
  wx1 := (ms0_8 t).view.readAt (Elt Ideal) (Rect.unit (s := S4x256x256) ![1, 0, 0] S1x256x256.size inb_S4x256x256_S1x256x256_1_0_0).toLoadRect ((hs0_8 t).unread (iblk m c 8 t))
  bx1 := (ms0_9 t).view.readAt (Elt Ideal) (Rect.unit (s := S1x1024) ![0, 256] S1x256.size inb_S1x1024_S1x256_0_256).toLoadRect ((hs0_9 t).unread (iblk m c 9 t))
  wa2 := (ms0_6 t).view.readAt (Elt Ideal) (Rect.unit (s := S4x256x256) ![2, 0, 0] S1x256x256.size inb_S4x256x256_S1x256x256_2_0_0).toLoadRect ((hs0_6 t).unread (iblk m c 6 t))
  ba2 := (ms0_7 t).view.readAt (Elt Ideal) (Rect.unit (s := S1x1024) ![0, 512] S1x256.size inb_S1x1024_S1x256_0_512).toLoadRect ((hs0_7 t).unread (iblk m c 7 t))
  wx2 := (ms0_8 t).view.readAt (Elt Ideal) (Rect.unit (s := S4x256x256) ![2, 0, 0] S1x256x256.size inb_S4x256x256_S1x256x256_2_0_0).toLoadRect ((hs0_8 t).unread (iblk m c 8 t))
  bx2 := (ms0_9 t).view.readAt (Elt Ideal) (Rect.unit (s := S1x1024) ![0, 512] S1x256.size inb_S1x1024_S1x256_0_512).toLoadRect ((hs0_9 t).unread (iblk m c 9 t))
  wa3 := (ms0_6 t).view.readAt (Elt Ideal) (Rect.unit (s := S4x256x256) ![3, 0, 0] S1x256x256.size inb_S4x256x256_S1x256x256_3_0_0).toLoadRect ((hs0_6 t).unread (iblk m c 6 t))
  ba3 := (ms0_7 t).view.readAt (Elt Ideal) (Rect.unit (s := S1x1024) ![0, 768] S1x256.size inb_S1x1024_S1x256_0_768).toLoadRect ((hs0_7 t).unread (iblk m c 7 t))
  wx3 := (ms0_8 t).view.readAt (Elt Ideal) (Rect.unit (s := S4x256x256) ![3, 0, 0] S1x256x256.size inb_S4x256x256_S1x256x256_3_0_0).toLoadRect ((hs0_8 t).unread (iblk m c 8 t))
  bx3 := (ms0_9 t).view.readAt (Elt Ideal) (Rect.unit (s := S1x1024) ![0, 768] S1x256.size inb_S1x1024_S1x256_0_768).toLoadRect ((hs0_9 t).unread (iblk m c 9 t))
  lam := (ms0_10 t).view.readAt (Elt Ideal) (Rect.unit (s := S1x1024) ![0, 0] S1x1024.size inb_S1x1024_S1x1024_0_0).toLoadRect ((hs0_10 t).unread (iblk m c 10 t))
  gn := (ms0_11 t).view.readAt (Elt Ideal) (Rect.unit (s := S1x1024) ![0, 0] S1x1024.size inb_S1x1024_S1x1024_0_0).toLoadRect ((hs0_11 t).unread (iblk m c 11 t))
  ub := ub
  hc := hc

/-- The first tile of a sequence: the rows before it are zero. -/
def tileA (c : Dev nD) (t : Fin cfg0.N) : Tile :=
  tileOf m c t (scM0_0.view.readCov (Val := Elt Ideal) [⟨Rect.unit (s := S8x1024) ![0, 0] S8x1024.size inb_S8x1024_S8x1024_0_0, k0_pay9 (F := Ideal)⟩]
      (Rect.unit (s := S8x1024) ![0, 0] S8x1024.size inb_S8x1024_S8x1024_0_0).toLoadRect)
    (scM0_3.view.readCov (Val := Elt Ideal) [⟨Rect.unit (s := S8x1024) ![0, 0] S8x1024.size inb_S8x1024_S8x1024_0_0, k0_pay10 (F := Ideal)⟩]
      (Rect.unit (s := S8x1024) ![0, 0] S1x1024.size inb_S8x1024_S1x1024_0_0).toLoadRect)

/-- A later tile: the rows before it are the carried ones. -/
def tileB (c : Dev nD) (t : Fin cfg0.N) : Tile :=
  tileOf m c t (scM0_0.view.readAt (Elt Ideal) (Rect.unit (s := S8x1024) ![0, 0] S8x1024.size inb_S8x1024_S8x1024_0_0).toLoadRect
      ((Memref.isWhole_whole _).unread (outsAt0 m c (t.val - 1) (Nat.lt_of_le_of_lt (Nat.sub_le _ _) t.isLt)).2.2.2.2.2.2.2.2.2.1))
    (scM0_3.view.readAt (Elt Ideal) (Rect.unit (s := S8x1024) ![0, 0] S1x1024.size inb_S8x1024_S1x1024_0_0).toLoadRect
      ((Memref.isWhole_whole _).unread (outsAt0 m c (t.val - 1) (Nat.lt_of_le_of_lt (Nat.sub_le _ _) t.isLt)).2.2.2.2.2.2.2.2.2.2))

theorem outsA_13 (c : Dev nD) (t : Fin cfg0.N) (h0 : t.val % 4 = 0) : (outsAt0 m c t.val t.isLt).2.1 = (tileA m c t).kc := by
  rw [outsAt0_A m c t h0]
  dsimp only
  delta out0_A_13 kernelRun0_A
  exact View.read_writes_full _ _ _ _ _
theorem outsA_14 (c : Dev nD) (t : Fin cfg0.N) (h0 : t.val % 4 = 0) : (outsAt0 m c t.val t.isLt).2.2.1 = (tileA m c t).vc := by
  rw [outsAt0_A m c t h0]
  dsimp only
  delta out0_A_14 kernelRun0_A
  exact View.read_writes_full _ _ _ _ _
theorem outsA_0 (c : Dev nD) (t : Fin cfg0.N) (h0 : t.val % 4 = 0) : (outsAt0 m c t.val t.isLt).2.2.2.2.2.2.2.2.2.1 = (tileA m c t).ubOut := by
  rw [outsAt0_A m c t h0]
  dsimp only
  delta sout0_A_0 kernelRun0_A
  exact View.read_writes_full _ _ _ _ _
theorem outsB_13 (c : Dev nD) (t : Fin cfg0.N) (h0 : ¬t.val % 4 = 0) : (outsAt0 m c t.val t.isLt).2.1 = (tileB m c t).kc := by
  rw [outsAt0_B m c t h0]
  dsimp only
  delta out0_B_13 kernelRun0_B
  exact View.read_writes_full _ _ _ _ _
theorem outsB_14 (c : Dev nD) (t : Fin cfg0.N) (h0 : ¬t.val % 4 = 0) : (outsAt0 m c t.val t.isLt).2.2.1 = (tileB m c t).vc := by
  rw [outsAt0_B m c t h0]
  dsimp only
  delta out0_B_14 kernelRun0_B
  exact View.read_writes_full _ _ _ _ _
theorem outsB_0 (c : Dev nD) (t : Fin cfg0.N) (h0 : ¬t.val % 4 = 0) : (outsAt0 m c t.val t.isLt).2.2.2.2.2.2.2.2.2.1 = (tileB m c t).ubOut := by
  rw [outsAt0_B m c t h0]
  dsimp only
  delta sout0_B_0 kernelRun0_B
  exact View.read_writes_full _ _ _ _ _

end Cert.KernelIdeal.RowValue

end
-- ==== Proof.InSpec.lean ====
/-
  THE RECURRENT LAYER'S FORMULAS, token by token: over plain functions, so that the kernel's tiles and the reference's arrays can
  both be read as them.
-/
module

public import Idealize.ShloMosaic.Lib.Pointwise
public import Idealize.ShloMosaic.Lib.Tactic

@[expose] public section

noncomputable section

namespace Cert.Rglru

open Idealize.ShloMosaic
open scoped BigOperators

/-- A row over its root mean square, times a weight. -/
def rms {n : ℕ} (q : BitVec 32) (f g : Fin n → EReal) (k : Fin n) : EReal :=
  f k * Ideal.rsqrt (Ideal.div (∑ x, f x * f x) (Ideal.ofBits .f32 q) + Ideal.ofBits .f32 0x358637BD#32) * g k

/-- The gelu, by its tanh formula. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- The softplus. -/
def softplus (l : EReal) : EReal := max l 0 + Ideal.log1p (Ideal.exp (-(max l (-l))))

/-- The logarithm of a decay, of its gate and its parameter's softplus. -/
def logA (r sp : EReal) : EReal := Ideal.ofBits .f32 0xC1000000#32 * r * sp

/-- The gated input as the kernel computes it. -/
def gateB (a i xc : EReal) : EReal :=
  (Ideal.ofBits .f32 0x3F800000#32 - a * a) * Ideal.rsqrt (max (Ideal.ofBits .f32 0x3F800000#32 - a * a) (Ideal.ofBits .f32 0x0DA24260#32)) * (i * xc)

end Cert.Rglru

end
-- ==== Proof.InPay.lean ====
/-
  THE BODY'S PIECES, ELEMENT BY ELEMENT: the normed tokens, the columns of the projection, the gates and their products.
-/
module

public import proofs.«01_k».proof.Proof.InTile
public import proofs.«01_k».proof.Proof.InSpec

@[expose] public section

set_option maxRecDepth 16384

noncomputable section

namespace Cert.KernelIdeal.RowValue

open Cert.KernelIdeal Cert.KernelIdeal.Gen Idealize.ShloMosaic Idealize.ShloMosaic.TcCoe Idealize.SL.Sem
open Cert.Rglru
open scoped BigOperators

theorem an_apply (x : FVec Ideal S512x2048 .f32) (g : FVec Ideal S1x2048 .f32) (r : Fin 512) (k : Fin 2048) :
    k0_pay1 (F := Ideal) x g (ix2 r k) = rms 0x45000000#32 (fun k => x (ix2 r k)) (fun k => g (ix2 0 k)) k := by
  unfold_payloads
  pointwise [rms]

theorem u_apply (a : FVec Ideal S512x2048 .bf16) (w : FVec Ideal S2048x1024 .bf16) (r : Fin 512) (j : Fin 1024) :
    k0_pay8 a w (ix2 r j) = ∑ k : Fin 2048, a (ix2 r k) * w (ix2 k j) := by
  unfold_payloads
  pointwise [dot_S512x2048_S2048x1024_S512x1024_1_0_0_1_n_n]

theorem gl_apply (a : FVec Ideal S512x2048 .bf16) (w : FVec Ideal S2048x1024 .bf16) (r : Fin 512) (j : Fin 1024) :
    k0_pay16 a w (ix2 r j) = ∑ k : Fin 2048, a (ix2 r k) * w (ix2 k j) := by
  unfold_payloads
  pointwise [dot_S512x2048_S2048x1024_S512x1024_1_0_0_1_n_n]

theorem kc_apply (a : FVec Ideal S512x2048 .bf16) (w : FVec Ideal S2048x256 .bf16) (r : Fin 512) (j : Fin 256) :
    k0_pay46 a w (ix2 r j) = ∑ k : Fin 2048, a (ix2 r k) * w (ix2 k j) := by
  unfold_payloads
  pointwise [dot_S512x2048_S2048x256_S512x256_1_0_0_1_n_n]

theorem vc_apply (a : FVec Ideal S512x2048 .bf16) (w : FVec Ideal S2048x256 .bf16) (r : Fin 512) (j : Fin 256) :
    k0_pay47 a w (ix2 r j) = ∑ k : Fin 2048, a (ix2 r k) * w (ix2 k j) := by
  unfold_payloads
  pointwise [dot_S512x2048_S2048x256_S512x256_1_0_0_1_n_n]

theorem y_apply (gl hs : FVec Ideal S512x1024 .f32) (gn : FVec Ideal S1x1024 .f32) (r : Fin 512) (j : Fin 1024) :
    k0_pay220 gl hs gn (ix2 r j)
      = rms 0x44800000#32 (fun j => hs (ix2 r j) * gelu (gl (ix2 r j))) (fun j => gn (ix2 0 j)) j := by
  unfold_payloads
  pointwise [rms, gelu]

theorem sp_apply (lam : FVec Ideal S1x1024 .f32) (j : Fin 1024) : k0_pay18 (F := Ideal) lam (ix2 0 j) = softplus (-lam (ix2 0 j)) := by
  unfold_payloads
  pointwise [softplus]
  rw [if_neg (fun h => h rfl)]
  simp only [zero_sub]
  rfl

/-- A gate, of the columns of one chunk from `o`. -/
def gateOf (x : FVec Ideal S512x1024 .f32) (o : ℕ) (ho : o + 256 ≤ 1024) (w : FVec Ideal S1x256x256 .bf16) (b : FVec Ideal S1x256 .f32) (r : Fin 512) (c : Fin 256) : EReal :=
  Ideal.logistic ((∑ k : Fin 256, x (ix2 r ⟨o + k.val, by omega⟩) * w (ix3 0 k c)) + b (ix2 0 c))

theorem r0_apply (x : FVec Ideal S512x1024 .f32) (w : FVec Ideal S1x256x256 .bf16) (b : FVec Ideal S1x256 .f32) (r : Fin 512) (c : Fin 256) : k0_pay20 x w b (ix2 r c) = gateOf x 0 (by decide) w b r c := by
  unfold_payloads
  pointwise [gateOf, dot_S512x256_S256x256_S512x256_1_0_0_1_n_n]

theorem i0_apply (x : FVec Ideal S512x1024 .f32) (w : FVec Ideal S1x256x256 .bf16) (b : FVec Ideal S1x256 .f32) (r : Fin 512) (c : Fin 256) : k0_pay21 x w b (ix2 r c) = gateOf x 0 (by decide) w b r c := by
  unfold_payloads
  pointwise [gateOf, dot_S512x256_S256x256_S512x256_1_0_0_1_n_n]

theorem i1_apply (x : FVec Ideal S512x1024 .f32) (w : FVec Ideal S1x256x256 .bf16) (b : FVec Ideal S1x256 .f32) (r : Fin 512) (c : Fin 256) : k0_pay35 (k0_pay17 x) w b (ix2 r c) = gateOf x 256 (by decide) w b r c := by
  unfold_payloads
  pointwise [gateOf, dot_S512x256_S256x256_S512x256_1_0_0_1_n_n]

theorem i2_apply (x : FVec Ideal S512x1024 .f32) (w : FVec Ideal S1x256x256 .bf16) (b : FVec Ideal S1x256 .f32) (r : Fin 512) (c : Fin 256) : k0_pay49 (k0_pay17 x) w b (ix2 r c) = gateOf x 512 (by decide) w b r c := by
  unfold_payloads
  pointwise [gateOf, dot_S512x256_S256x256_S512x256_1_0_0_1_n_n]

theorem i3_apply (x : FVec Ideal S512x1024 .f32) (w : FVec Ideal S1x256x256 .bf16) (b : FVec Ideal S1x256 .f32) (r : Fin 512) (c : Fin 256) : k0_pay67 (k0_pay17 x) w b (ix2 r c) = gateOf x 768 (by decide) w b r c := by
  unfold_payloads
  pointwise [gateOf, dot_S512x256_S256x256_S512x256_1_0_0_1_n_n]

theorem a0_apply (x : FVec Ideal S512x1024 .f32) (w : FVec Ideal S1x256x256 .bf16) (b : FVec Ideal S1x256 .f32) (sp : FVec Ideal S1x1024 .f32) (r : Fin 512) (c : Fin 256) : k0_pay22 sp (k0_pay20 x w b) Tile.m8 (ix2 r c)
    = Ideal.exp (logA (gateOf x 0 (by decide) w b r c) (sp (ix2 0 ⟨0 + c.val, by omega⟩))) := by
  unfold_payloads
  pointwise [gateOf, logA, Tile.m8, dot_S512x256_S256x256_S512x256_1_0_0_1_n_n]

theorem a1_apply (x : FVec Ideal S512x1024 .f32) (w : FVec Ideal S1x256x256 .bf16) (b : FVec Ideal S1x256 .f32) (sp : FVec Ideal S1x1024 .f32) (r : Fin 512) (c : Fin 256) : k0_pay36 (k0_pay17 x) sp w b (ix2 r c)
    = Ideal.exp (logA (gateOf x 256 (by decide) w b r c) (sp (ix2 0 ⟨256 + c.val, by omega⟩))) := by
  unfold_payloads
  pointwise [gateOf, logA, Tile.m8, dot_S512x256_S256x256_S512x256_1_0_0_1_n_n]

theorem a2_apply (x : FVec Ideal S512x1024 .f32) (w : FVec Ideal S1x256x256 .bf16) (b : FVec Ideal S1x256 .f32) (sp : FVec Ideal S1x1024 .f32) (r : Fin 512) (c : Fin 256) : k0_pay50 (k0_pay17 x) sp w b (ix2 r c)
    = Ideal.exp (logA (gateOf x 512 (by decide) w b r c) (sp (ix2 0 ⟨512 + c.val, by omega⟩))) := by
  unfold_payloads
  pointwise [gateOf, logA, Tile.m8, dot_S512x256_S256x256_S512x256_1_0_0_1_n_n]

theorem a3_apply (x : FVec Ideal S512x1024 .f32) (w : FVec Ideal S1x256x256 .bf16) (b : FVec Ideal S1x256 .f32) (sp : FVec Ideal S1x1024 .f32) (r : Fin 512) (c : Fin 256) :
    exp (mulf (k0_pay68 (k0_pay17 x) w b) (k0_pay69 sp)) (ix2 r c)
    = Ideal.exp (logA (gateOf x 768 (by decide) w b r c) (sp (ix2 0 ⟨768 + c.val, by omega⟩))) := by
  unfold_payloads
  pointwise [gateOf, logA, dot_S512x256_S256x256_S512x256_1_0_0_1_n_n]

end Cert.KernelIdeal.RowValue

end
-- ==== Proof.InConv.lean ====
/-
  THE CONVOLUTION OVER THE LAST FOUR TOKENS, row by row. The input projection's body reads the row `d` before a row from the block of
  64 groups of 8 rows by a rotation of the rows of each group, a shift by one group, and a choice between the two; before the first
  row it reads the last rows of the tile before, which a scratch buffer keeps.
-/
module

public import proofs.«01_k».proof.Proof.InPay

@[expose] public section

set_option maxRecDepth 16384

noncomputable section

namespace Cert.KernelIdeal.RowValue

open Cert.KernelIdeal Cert.KernelIdeal.Gen Idealize.ShloMosaic Idealize.ShloMosaic.TcCoe Idealize.SL.Sem
open Cert.Rglru
open scoped BigOperators

/-- The rows of a group rotated by `d`. -/
def rotG (d : BitVec 32) (u3 : FVec Ideal S64x8x1024 .f32) : FVec Ideal S64x8x1024 .f32 :=
  dynamicRotate 1 d none u3 rotates_S64x8x1024_d1
/-- The kept rows rotated by `d`. -/
def rotU (d : BitVec 32) (ub : FVec Ideal S8x1024 .f32) : FVec Ideal S8x1024 .f32 :=
  dynamicRotate 0 d none ub rotates_S8x1024_d0
/-- The rotated groups shifted by one, the kept rows first. -/
def prevG (ub : FVec Ideal S8x1024 .f32) (u3 : FVec Ideal S64x8x1024 .f32) : FVec Ideal S64x8x1024 .f32 :=
  concatenate S64x8x1024 0 [⟨S1x8x1024, shapeCast S1x8x1024 ub shapeCasts_S8x1024_S1x8x1024⟩,
    ⟨S63x8x1024, extractStridedSlice S63x8x1024 ![0, 0, 0] u3 slices_S64x8x1024_o0_0_0_S63x8x1024⟩] concatenates_S1x8x1024_S63x8x1024_S64x8x1024_d0
/-- The row `d` before each row. -/
def pastG (d : BitVec 32) (u3 : FVec Ideal S64x8x1024 .f32) (ub : FVec Ideal S8x1024 .f32) : FVec Ideal S64x8x1024 .f32 :=
  select (cmpi .sge (iota .tc S64x8x1024 32 [1] iota_S64x8x1024_d1_w32) (broadcast S64x8x1024 d)) (rotG d u3) (prevG (rotU d ub) (rotG d u3))

theorem rotG_apply (d : ℕ) (hd : d < 8) (A : FVec Ideal S64x8x1024 .f32) (q : Fin 64) (s : Fin 8) (c : Fin 1024) :
    rotG (BitVec.ofNat 32 d) A (ix3 q s c) = A (ix3 q ⟨(s.val + 8 - d) % 8, Nat.mod_lt _ (by decide)⟩ c) := by
  refine dynamicRotate_apply 1 _ A _ _ _ fun b => ?_
  have e : (BitVec.ofNat 32 d).toNat = d := by rw [BitVec.toNat_ofNat]; exact Nat.mod_eq_of_lt (by omega)
  match b with
  | ⟨0, _⟩ => rfl
  | ⟨1, _⟩ => show (s.val + 8 - d) % 8 = (s.val + 8 - (BitVec.ofNat 32 d).toNat % 8) % 8; rw [e, Nat.mod_eq_of_lt hd]
  | ⟨2, _⟩ => rfl

theorem rotU_apply (d : ℕ) (hd : d < 8) (A : FVec Ideal S8x1024 .f32) (s : Fin 8) (c : Fin 1024) :
    rotU (BitVec.ofNat 32 d) A (ix2 s c) = A (ix2 ⟨(s.val + 8 - d) % 8, Nat.mod_lt _ (by decide)⟩ c) := by
  refine dynamicRotate_apply 0 _ A _ _ _ fun b => ?_
  have e : (BitVec.ofNat 32 d).toNat = d := by rw [BitVec.toNat_ofNat]; exact Nat.mod_eq_of_lt (by omega)
  match b with
  | ⟨0, _⟩ => show (s.val + 8 - d) % 8 = (s.val + 8 - (BitVec.ofNat 32 d).toNat % 8) % 8; rw [e, Nat.mod_eq_of_lt hd]
  | ⟨1, _⟩ => rfl

theorem keepG_iff (d : ℕ) (hd : d < 8) (q : Fin 64) (s : Fin 8) (c : Fin 1024) :
    (cmpi .sge (iota .tc S64x8x1024 32 [1] iota_S64x8x1024_d1_w32) (broadcast S64x8x1024 (BitVec.ofNat 32 d)) : IVec S64x8x1024 1) (ix3 q s c)
      = if d ≤ s.val then 1#1 else 0#1 := by
  show IntOp.cmpi .sge (BitVec.ofNat 32 (0 * 8 + s.val)) (BitVec.ofNat 32 d) = _
  rw [Nat.zero_mul, Nat.zero_add]
  exact (by decide : ∀ (d s : Fin 8), IntOp.cmpi .sge (BitVec.ofNat 32 s.val) (BitVec.ofNat 32 d.val) = if d.val ≤ s.val then 1#1 else 0#1) ⟨d, hd⟩ s

theorem prevG_zero (ub : FVec Ideal S8x1024 .f32) (u3 : FVec Ideal S64x8x1024 .f32) (q : Fin 64) (h : q.val = 0) (s : Fin 8) (c : Fin 1024) :
    prevG ub u3 (ix3 q s c) = ub (ix2 s c) := by
  unfold prevG
  refine (concatenate_pair_apply_left (t := S64x8x1024) (s₁ := S1x8x1024) 0 _ _ _ (ix3 q s c) rfl (ix3 (0 : Fin 1) s c : S1x8x1024.Idx) (fun b => by
    match b with
    | ⟨0, _⟩ => show 0 = q.val; omega
    | ⟨1, _⟩ => rfl
    | ⟨2, _⟩ => rfl)).trans ?_
  pointwise

theorem prevG_succ (ub : FVec Ideal S8x1024 .f32) (u3 : FVec Ideal S64x8x1024 .f32) (q : Fin 64) (p : Fin 64) (h : p.val + 1 = q.val) (s : Fin 8) (c : Fin 1024) :
    prevG ub u3 (ix3 q s c) = u3 (ix3 p s c) := by
  unfold prevG
  refine (concatenate_pair_apply_right (t := S64x8x1024) (s₁ := S1x8x1024) (s₂ := S63x8x1024) 0 _ _ _ (ix3 q s c) rfl rfl (ix3 (⟨p.val, by omega⟩ : Fin 63) s c : S63x8x1024.Idx) (fun b hb => by
    match b, hb with
    | ⟨0, _⟩, hb => exact absurd rfl hb
    | ⟨1, _⟩, _ => rfl
    | ⟨2, _⟩, _ => rfl) h).trans ?_
  pointwise

/-- Row `d` before row `s` of group `q`. -/
theorem pastG_apply (d : ℕ) (hd : d < 8) (h1 : 1 ≤ d) (u3 : FVec Ideal S64x8x1024 .f32) (ub : FVec Ideal S8x1024 .f32)
    (u : Fin 512 → Fin 1024 → EReal) (hu : ∀ (q : Fin 64) (s : Fin 8) (c : Fin 1024), u3 (ix3 q s c) = u ⟨8 * q.val + s.val, by omega⟩ c)
    (q : Fin 64) (s : Fin 8) (c : Fin 1024) :
    pastG (BitVec.ofNat 32 d) u3 ub (ix3 q s c)
      = if h : d ≤ 8 * q.val + s.val then u ⟨8 * q.val + s.val - d, by omega⟩ c else ub (ix2 ⟨(8 + (8 * q.val + s.val) - d) % 8, Nat.mod_lt _ (by decide)⟩ c) := by
  have e : pastG (BitVec.ofNat 32 d) u3 ub (ix3 q s c)
      = Scalar.select ((cmpi .sge (iota .tc S64x8x1024 32 [1] iota_S64x8x1024_d1_w32) (broadcast S64x8x1024 (BitVec.ofNat 32 d)) : IVec S64x8x1024 1) (ix3 q s c))
        (rotG (BitVec.ofNat 32 d) u3 (ix3 q s c)) (prevG (rotU (BitVec.ofNat 32 d) ub) (rotG (BitVec.ofNat 32 d) u3) (ix3 q s c)) := rfl
  rw [e, keepG_iff d hd]
  by_cases hk : d ≤ s.val
  · rw [if_pos hk, dif_pos (by omega), rotG_apply d hd, hu]
    refine congrArg (fun i => u i c) (Fin.ext ?_)
    show 8 * q.val + (s.val + 8 - d) % 8 = 8 * q.val + s.val - d
    omega
  · rw [if_neg hk]
    show prevG (rotU (BitVec.ofNat 32 d) ub) (rotG (BitVec.ofNat 32 d) u3) (ix3 q s c) = _
    by_cases hq : q.val = 0
    · rw [prevG_zero _ _ q hq, rotU_apply d hd, dif_neg (by omega)]
      refine congrArg (fun i => ub (ix2 i c)) (Fin.ext ?_)
      show (s.val + 8 - d) % 8 = (8 + (8 * q.val + s.val) - d) % 8
      omega
    · rw [prevG_succ _ _ q ⟨q.val - 1, by omega⟩ (by show q.val - 1 + 1 = q.val; omega), rotG_apply d hd, hu, dif_pos (by omega)]
      refine congrArg (fun i => u i c) (Fin.ext ?_)
      show 8 * (q.val - 1) + (s.val + 8 - d) % 8 = 8 * q.val + s.val - d
      omega

theorem pay11_apply (a : FVec Ideal S512x2048 .bf16) (w : FVec Ideal S2048x1024 .bf16) (q : Fin 64) (s : Fin 8) (c : Fin 1024) :
    k0_pay11 a w (ix3 q s c) = k0_pay8 a w (ix2 ⟨8 * q.val + s.val, by omega⟩ c) := by
  unfold k0_pay11
  generalize k0_pay8 a w = u
  obtain ⟨q, hq⟩ := q
  obtain ⟨s, hs⟩ := s
  pointwise
  exact congrArg (fun i : Fin 512 => u (ix2 i c)) (Fin.ext (congrArg (· + s) (Nat.mul_comm q 8)))

theorem pay13_apply (a : FVec Ideal S512x2048 .bf16) (w : FVec Ideal S2048x1024 .bf16) (cw : FVec Ideal S4x1024 .f32) (cb : FVec Ideal S1x1024 .f32)
    (q : Fin 64) (s : Fin 8) (c : Fin 1024) :
    k0_pay13 a w cw cb (ix3 q s c) = cb (ix2 0 c) + k0_pay8 a w (ix2 ⟨8 * q.val + s.val, by omega⟩ c) * cw (ix2 3 c) := by
  rw [← pay11_apply]
  unfold k0_pay13 k0_pay12
  generalize k0_pay11 a w = u
  pointwise

theorem pay15_eq (u3 : FVec Ideal S64x8x1024 .f32) (ub : FVec Ideal S8x1024 .f32) (cw : FVec Ideal S4x1024 .f32) (p : FVec Ideal S64x8x1024 .f32)
    (q : Fin 64) (s : Fin 8) (c : Fin 1024) (r : Fin 512) (hr : r.val = 8 * q.val + s.val) :
    k0_pay15 u3 ub cw (iota .tc S64x8x1024 32 [1] iota_S64x8x1024_d1_w32) p (ix2 r c)
      = ((p (ix3 q s c) + pastG 1#32 u3 ub (ix3 q s c) * cw (ix2 2 c)) + pastG 2#32 u3 ub (ix3 q s c) * cw (ix2 1 c))
          + pastG 3#32 u3 ub (ix3 q s c) * cw (ix2 0 c) := by
  have e : k0_pay15 u3 ub cw (iota .tc S64x8x1024 32 [1] iota_S64x8x1024_d1_w32) p
      = shapeCast S512x1024 (addf (addf (addf p (mulf (pastG 1#32 u3 ub) (broadcastTo S64x8x1024 (shapeCast S1x1x1024 (shapeCast S1024
          (extractStridedSlice S1x1024 ![2, 0] cw slices_S4x1024_o2_0_S1x1024) shapeCasts_S1x1024_S1024) shapeCasts_S1024_S1x1x1024) broadcasts_S1x1x1024_S64x8x1024)))
        (mulf (pastG 2#32 u3 ub) (broadcastTo S64x8x1024 (shapeCast S1x1x1024 (shapeCast S1024
          (extractStridedSlice S1x1024 ![1, 0] cw slices_S4x1024_o1_0_S1x1024) shapeCasts_S1x1024_S1024) shapeCasts_S1024_S1x1x1024) broadcasts_S1x1x1024_S64x8x1024)))
        (mulf (pastG 3#32 u3 ub) (broadcastTo S64x8x1024 (shapeCast S1x1x1024 (shapeCast S1024
          (extractStridedSlice S1x1024 ![0, 0] cw slices_S4x1024_o0_0_S1x1024) shapeCasts_S1x1024_S1024) shapeCasts_S1024_S1x1x1024) broadcasts_S1x1x1024_S64x8x1024)))
        shapeCasts_S64x8x1024_S512x1024 := rfl
  rw [e]
  generalize pastG 1#32 u3 ub = p1
  generalize pastG 2#32 u3 ub = p2
  generalize pastG 3#32 u3 ub = p3
  have b1 : r.val / 8 < 64 := by have := r.isLt; clear hr; omega
  have b2 : r.val % 8 < 8 := Nat.mod_lt _ (by decide)
  have hq : q = ⟨r.val / 8, b1⟩ := Fin.ext (by show q.val = r.val / 8; omega)
  have hs : s = ⟨r.val % 8, b2⟩ := Fin.ext (by show s.val = r.val % 8; omega)
  rw [hq, hs]
  pointwise

/-- The convolution at a row and a column, over the rows `u` of the tile and the rows `ub` kept from the tile before. -/
def convOf (u : Fin 512 → EReal) (ub : Fin 8 → EReal) (cw : Fin 4 → EReal) (cb : EReal) (r : Fin 512) : EReal :=
  let past := fun d : ℕ => if h : d ≤ r.val then u ⟨r.val - d, by omega⟩ else ub ⟨(8 + r.val - d) % 8, Nat.mod_lt _ (by decide)⟩
  ((cb + u r * cw 3 + past 1 * cw 2) + past 2 * cw 1) + past 3 * cw 0

theorem Tile.xc_apply (T : Tile) (r : Fin 512) (c : Fin 1024) :
    T.xc (ix2 r c) = convOf (fun r => T.u (ix2 r c)) (fun r => T.ub (ix2 r c)) (fun k => T.cw (ix2 k c)) (T.cb (ix2 0 c)) r := by
  have h8 : r.val = 8 * (r.val / 8) + r.val % 8 := by omega
  have key := fun (d : ℕ) (hd : d < 8) (h1 : 1 ≤ d) => pastG_apply d hd h1 (k0_pay11 T.an T.wu) T.ub (fun r c => T.u (ix2 r c))
    (fun q s c => pay11_apply T.an T.wu q s c) ⟨r.val / 8, by omega⟩ ⟨r.val % 8, by omega⟩ c
  have key' : ∀ (d : ℕ) (hd : d < 8) (h1 : 1 ≤ d), pastG (BitVec.ofNat 32 d) (k0_pay11 T.an T.wu) T.ub (ix3 ⟨r.val / 8, by omega⟩ ⟨r.val % 8, by omega⟩ c)
      = if h : d ≤ r.val then T.u (ix2 ⟨r.val - d, by omega⟩ c) else T.ub (ix2 ⟨(8 + r.val - d) % 8, Nat.mod_lt _ (by decide)⟩ c) := by
    intro d hd h1
    rw [key d hd h1]
    by_cases h : d ≤ r.val
    · rw [dif_pos h, dif_pos (by show d ≤ 8 * (r.val / 8) + r.val % 8; omega)]
      refine congrArg (fun i => T.u (ix2 i c)) (Fin.ext ?_)
      show 8 * (r.val / 8) + r.val % 8 - d = r.val - d
      omega
    · rw [dif_neg h, dif_neg (by show ¬ d ≤ 8 * (r.val / 8) + r.val % 8; omega)]
      refine congrArg (fun i => T.ub (ix2 i c)) (Fin.ext ?_)
      show (8 + (8 * (r.val / 8) + r.val % 8) - d) % 8 = (8 + r.val - d) % 8
      rw [← h8]
  unfold Tile.xc
  rw [pay15_eq _ _ _ _ ⟨r.val / 8, by omega⟩ ⟨r.val % 8, by omega⟩ c r h8, pay13_apply]
  have e1 := key' 1 (by decide) (by decide)
  have e2 := key' 2 (by decide) (by decide)
  have e3 := key' 3 (by decide) (by decide)
  have ecw : k0_pay12 T.cw = T.cw := shapeCast_same _ _
  rw [show (1#32 : BitVec 32) = BitVec.ofNat 32 1 from rfl, show (2#32 : BitVec 32) = BitVec.ofNat 32 2 from rfl,
    show (3#32 : BitVec 32) = BitVec.ofNat 32 3 from rfl, e1, e2, e3, ecw]
  have eu : k0_pay8 T.an T.wu (ix2 ⟨8 * (r.val / 8) + r.val % 8, by omega⟩ c) = T.u (ix2 r c) :=
    congrArg (fun i => T.u (ix2 i c)) (Fin.ext h8.symm)
  show ((_ + k0_pay8 T.an T.wu (ix2 ⟨8 * (r.val / 8) + r.val % 8, by omega⟩ c) * _ + _) + _) + _ = _
  rw [eu]
  rfl

theorem Tile.ubOut_apply (T : Tile) (s : Fin 8) (c : Fin 1024) : T.ubOut (ix2 s c) = T.u (ix2 ⟨504 + s.val, by omega⟩ c) := by
  unfold Tile.ubOut k0_pay14
  generalize T.u = u
  pointwise

end Cert.KernelIdeal.RowValue
-- ==== Proof.InPayB.lean ====
/-
  THE DECAYS AND GATED INPUTS OF A TILE, chunk by chunk: what the body stores is the scan of these.
-/
module

public import proofs.«01_k».proof.Proof.InPay

@[expose] public section

set_option maxRecDepth 16384

noncomputable section

namespace Cert.KernelIdeal.RowValue

open Cert.KernelIdeal Cert.KernelIdeal.Gen Idealize.ShloMosaic Idealize.ShloMosaic.TcCoe Idealize.SL.Sem
open Cert.Rglru
open scoped BigOperators

/-- The gated input, of the decays, the input gates and the chunk of the convolution. -/
def b0Of (a i xs : FVec Ideal S512x256 .f32) : FVec Ideal S512x256 .f32 :=
  mulf (mulf (subf (broadcast S512x256 (Scalar.ofBits .f32 0x3F800000#32)) (mulf a a)) (rsqrt (maximumf (subf (broadcast S512x256 (Scalar.ofBits .f32 0x3F800000#32)) (mulf a a)) (broadcast S512x256 (Scalar.ofBits .f32 0x0DA24260#32))))) (mulf i xs)

theorem b0Of_apply (a i xs : FVec Ideal S512x256 .f32) (r : Fin 512) (c : Fin 256) :
    b0Of a i xs (ix2 r c) = gateB (a (ix2 r c)) (i (ix2 r c)) (xs (ix2 r c)) := by
  pointwise [b0Of, gateB]

theorem xs0_apply (x : FVec Ideal S512x1024 .f32) (r : Fin 512) (c : Fin 256) :
    extractStridedSlice S512x256 ![0, 0] x slices_S512x1024_o0_0_S512x256 (ix2 r c) = x (ix2 r ⟨0 + c.val, by omega⟩) := by
  pointwise

theorem xs1_apply (x : FVec Ideal S512x1024 .f32) (r : Fin 512) (c : Fin 256) :
    extractStridedSlice S512x256 ![0, 256] x slices_S512x1024_o0_256_S512x256 (ix2 r c) = x (ix2 r ⟨256 + c.val, by omega⟩) := by
  pointwise

theorem xs2_apply (x : FVec Ideal S512x1024 .f32) (r : Fin 512) (c : Fin 256) :
    extractStridedSlice S512x256 ![0, 512] x slices_S512x1024_o0_512_S512x256 (ix2 r c) = x (ix2 r ⟨512 + c.val, by omega⟩) := by
  pointwise

theorem xs3_apply (x : FVec Ideal S512x1024 .f32) (r : Fin 512) (c : Fin 256) :
    extractStridedSlice S512x256 ![0, 768] x slices_S512x1024_o0_768_S512x256 (ix2 r c) = x (ix2 r ⟨768 + c.val, by omega⟩) := by
  pointwise

namespace Tile

variable (T : Tile)

/-- The decays of chunk 0. -/
def aa0 : FVec Ideal S512x256 .f32 := k0_pay22 T.sp (k0_pay20 T.xc T.wa0 T.ba0) Tile.m8
/-- The gated inputs of chunk 0. -/
def bb0 : FVec Ideal S512x256 .f32 :=
  b0Of T.aa0 (k0_pay21 T.xc T.wx0 T.bx0) (extractStridedSlice S512x256 ![0, 0] T.xc slices_S512x1024_o0_0_S512x256)

theorem pa0_eq : T.pa0 = scanA T.aa0 := by
  unfold pa0 k0_pay31
  exact shapeCast_same _ _

theorem pb0_eq : T.pb0 = scanB T.aa0 T.bb0 := by
  unfold pb0 k0_pay32
  exact shapeCast_same _ _

theorem aa0_apply (r : Fin 512) (c : Fin 256) : T.aa0 (ix2 r c)
    = Ideal.exp (logA (gateOf T.xc 0 (by decide) T.wa0 T.ba0 r c) (T.sp (ix2 0 ⟨0 + c.val, by omega⟩))) := a0_apply _ _ _ _ _ _

theorem bb0_apply (r : Fin 512) (c : Fin 256) : T.bb0 (ix2 r c)
    = gateB (T.aa0 (ix2 r c)) (gateOf T.xc 0 (by decide) T.wx0 T.bx0 r c) (T.xc (ix2 r ⟨0 + c.val, by omega⟩)) := by
  refine (b0Of_apply _ _ _ _ _).trans ?_
  rw [xs0_apply]
  exact congrArg (fun z => gateB _ z _) (i0_apply _ _ _ _ _)

/-- The decays of chunk 1. -/
def aa1 : FVec Ideal S512x256 .f32 := k0_pay36 T.xb T.sp T.wa1 T.ba1
/-- The gated inputs of chunk 1. -/
def bb1 : FVec Ideal S512x256 .f32 :=
  b0Of T.aa1 (k0_pay35 T.xb T.wx1 T.bx1) (extractStridedSlice S512x256 ![0, 256] T.xc slices_S512x1024_o0_256_S512x256)

theorem pa1_eq : T.pa1 = scanA T.aa1 := by
  unfold pa1 k0_pay43
  exact shapeCast_same _ _

theorem pb1_eq : T.pb1 = scanB T.aa1 T.bb1 := by
  unfold pb1 k0_pay45
  exact shapeCast_same _ _

theorem aa1_apply (r : Fin 512) (c : Fin 256) : T.aa1 (ix2 r c)
    = Ideal.exp (logA (gateOf T.xc 256 (by decide) T.wa1 T.ba1 r c) (T.sp (ix2 0 ⟨256 + c.val, by omega⟩))) := a1_apply _ _ _ _ _ _

theorem bb1_apply (r : Fin 512) (c : Fin 256) : T.bb1 (ix2 r c)
    = gateB (T.aa1 (ix2 r c)) (gateOf T.xc 256 (by decide) T.wx1 T.bx1 r c) (T.xc (ix2 r ⟨256 + c.val, by omega⟩)) := by
  refine (b0Of_apply _ _ _ _ _).trans ?_
  rw [xs1_apply]
  exact congrArg (fun z => gateB _ z _) (i1_apply _ _ _ _ _)

/-- The decays of chunk 2. -/
def aa2 : FVec Ideal S512x256 .f32 := k0_pay50 T.xb T.sp T.wa2 T.ba2
/-- The gated inputs of chunk 2. -/
def bb2 : FVec Ideal S512x256 .f32 :=
  b0Of T.aa2 (k0_pay49 T.xb T.wx2 T.bx2) (extractStridedSlice S512x256 ![0, 512] T.xc slices_S512x1024_o0_512_S512x256)

theorem pa2_eq : T.pa2 = scanA T.aa2 := by
  unfold pa2 k0_pay57
  exact shapeCast_same _ _

theorem pb2_eq : T.pb2 = scanB T.aa2 T.bb2 := by
  unfold pb2 k0_pay59
  exact shapeCast_same _ _

theorem aa2_apply (r : Fin 512) (c : Fin 256) : T.aa2 (ix2 r c)
    = Ideal.exp (logA (gateOf T.xc 512 (by decide) T.wa2 T.ba2 r c) (T.sp (ix2 0 ⟨512 + c.val, by omega⟩))) := a2_apply _ _ _ _ _ _

theorem bb2_apply (r : Fin 512) (c : Fin 256) : T.bb2 (ix2 r c)
    = gateB (T.aa2 (ix2 r c)) (gateOf T.xc 512 (by decide) T.wx2 T.bx2 r c) (T.xc (ix2 r ⟨512 + c.val, by omega⟩)) := by
  refine (b0Of_apply _ _ _ _ _).trans ?_
  rw [xs2_apply]
  exact congrArg (fun z => gateB _ z _) (i2_apply _ _ _ _ _)

/-- The decays of chunk 3. -/
def aa3 : FVec Ideal S512x256 .f32 := exp (mulf (k0_pay68 T.xb T.wa3 T.ba3) (k0_pay69 T.sp))
/-- The gated inputs of chunk 3. -/
def bb3 : FVec Ideal S512x256 .f32 :=
  b0Of T.aa3 (k0_pay67 T.xb T.wx3 T.bx3) (extractStridedSlice S512x256 ![0, 768] T.xc slices_S512x1024_o0_768_S512x256)

theorem pa3_eq : T.pa3 = scanA T.aa3 := by
  unfold pa3 k0_pay77
  exact shapeCast_same _ _

theorem pb3_eq : T.pb3 = scanB T.aa3 T.bb3 := by
  unfold pb3 k0_pay79
  exact shapeCast_same _ _

theorem aa3_apply (r : Fin 512) (c : Fin 256) : T.aa3 (ix2 r c)
    = Ideal.exp (logA (gateOf T.xc 768 (by decide) T.wa3 T.ba3 r c) (T.sp (ix2 0 ⟨768 + c.val, by omega⟩))) := a3_apply _ _ _ _ _ _

theorem bb3_apply (r : Fin 512) (c : Fin 256) : T.bb3 (ix2 r c)
    = gateB (T.aa3 (ix2 r c)) (gateOf T.xc 768 (by decide) T.wx3 T.bx3 r c) (T.xc (ix2 r ⟨768 + c.val, by omega⟩)) := by
  refine (b0Of_apply _ _ _ _ _).trans ?_
  rw [xs3_apply]
  exact congrArg (fun z => gateB _ z _) (i3_apply _ _ _ _ _)

end Tile

end Cert.KernelIdeal.RowValue

end
-- ==== Proof.InStep.lean ====
/-
  ONE TILE OF THE RECURRENCE. The decays and the gated inputs of a tile lie in four chunks of 256 columns; a walk over the tile's 64
  groups gives, at row `r`, what `h ↦ a * h + b` gives after the rows up to `r`, starting from the row carried in.
-/
module

public import proofs.«01_k».proof.Proof.InConv
public import proofs.«01_k».proof.Proof.InPayB
public import proofs.«01_k».proof.Proof.InScan

@[expose] public section

set_option maxRecDepth 16384

noncomputable section

namespace Cert.KernelIdeal.RowValue

open Cert.KernelIdeal Cert.KernelIdeal.Gen Idealize.ShloMosaic Idealize.ShloMosaic.TcCoe Idealize.SL.Sem
open Cert.Rglru
open scoped BigOperators

/-- A column's chunk. -/
def chOf (j : Fin 1024) : Fin 4 := ⟨j.val / 256, by omega⟩
/-- A column's place in its chunk. -/
def inCh (j : Fin 1024) : Fin 256 := ⟨j.val % 256, Nat.mod_lt _ (by decide)⟩

/-- Four arrays by number. -/
def pick {α : Type} (p0 p1 p2 p3 : α) : Fin 4 → α
  | ⟨0, _⟩ => p0
  | ⟨1, _⟩ => p1
  | ⟨2, _⟩ => p2
  | ⟨3, _⟩ => p3

theorem chunk_hit (o : ℕ) (inb) (P : FVec Ideal S512x256 .f32) (L : List (View.Piece (Elt Ideal) S512x1024 .f32)) (r : Fin 512) (j : Fin 1024)
    (c : Fin 256) (h : j.val = o + c.val) :
    View.canon (⟨Rect.unit (s := S512x1024) ![0, o] S512x256.size inb, P⟩ :: L) (ix2 r j) = P (ix2 r c) := by
  have e : (ix2 r j : S512x1024.Idx) = (Rect.unit (s := S512x1024) ![0, o] S512x256.size inb).emb (ix2 r c) := by
    funext a
    refine Fin.ext ?_
    match a with
    | ⟨0, _⟩ => show r.val = 0 + 1 * r.val; omega
    | ⟨1, _⟩ => show j.val = o + 1 * c.val; omega
  rw [e, View.canon_cons_emb]

theorem chunk_miss (o : ℕ) (inb) (P : FVec Ideal S512x256 .f32) (L : List (View.Piece (Elt Ideal) S512x1024 .f32)) (r : Fin 512) (j : Fin 1024)
    (h : j.val < o) :
    View.canon (⟨Rect.unit (s := S512x1024) ![0, o] S512x256.size inb, P⟩ :: L) (ix2 r j) = View.canon L (ix2 r j) := by
  refine View.canon_cons_of_not_mem _ _ (fun hm => ?_)
  have hh := ((Rect.mem_set_unit (s := S512x1024) (off := ![0, o]) (size := S512x256.size) (inb := inb)).mp hm 1).1
  have hh' : o ≤ j.val := hh
  omega

theorem canon4 (P3 P2 P1 P0 : FVec Ideal S512x256 .f32) (i3 i2 i1 i0) (r : Fin 512) (j : Fin 1024) :
    View.canon (Val := Elt Ideal) (s := S512x1024) (e := .f32) [⟨Rect.unit (s := S512x1024) ![0, 768] S512x256.size i3, P3⟩, ⟨Rect.unit (s := S512x1024) ![0, 512] S512x256.size i2, P2⟩,
      ⟨Rect.unit (s := S512x1024) ![0, 256] S512x256.size i1, P1⟩, ⟨Rect.unit (s := S512x1024) ![0, 0] S512x256.size i0, P0⟩] (ix2 r j)
      = pick P0 P1 P2 P3 (chOf j) (ix2 r (inCh j)) := by
  have hj := j.isLt
  have hm : (inCh j).val = j.val % 256 := rfl
  have hc : ∀ k (hk : k < 4), j.val / 256 = k → chOf j = ⟨k, hk⟩ := fun k hk e => Fin.ext e
  by_cases h3 : 768 ≤ j.val
  · rw [chunk_hit 768 _ _ _ r j (inCh j) (by omega), hc 3 (by decide) (by omega)]; rfl
  rw [chunk_miss 768 _ _ _ r j (by omega)]
  by_cases h2 : 512 ≤ j.val
  · rw [chunk_hit 512 _ _ _ r j (inCh j) (by omega), hc 2 (by decide) (by omega)]; rfl
  rw [chunk_miss 512 _ _ _ r j (by omega)]
  by_cases h1 : 256 ≤ j.val
  · rw [chunk_hit 256 _ _ _ r j (inCh j) (by omega), hc 1 (by decide) (by omega)]; rfl
  rw [chunk_miss 256 _ _ _ r j (by omega), chunk_hit 0 _ _ _ r j (inCh j) (by omega), hc 0 (by decide) (by omega)]; rfl

namespace Tile

variable (T : Tile)

/-- A row's decays. -/
def aR (r : Fin 512) (j : Fin 1024) : EReal := pick T.aa0 T.aa1 T.aa2 T.aa3 (chOf j) (ix2 r (inCh j))
/-- A row's gated inputs. -/
def bR (r : Fin 512) (j : Fin 1024) : EReal := pick T.bb0 T.bb1 T.bb2 T.bb3 (chOf j) (ix2 r (inCh j))

theorem A_eq (q : Fin 64) (s : Fin 8) (j : Fin 1024) :
    T.sw.A (ix2 (rowOf q.val s) j) = scA (tileRow (pick T.aa0 T.aa1 T.aa2 T.aa3 (chOf j)) q.val (inCh j)) s.val := by
  rw [← scanA_apply]
  refine (canon4 T.pa3 T.pa2 T.pa1 T.pa0 _ _ _ _ _ _).trans ?_
  rw [pa0_eq, pa1_eq, pa2_eq, pa3_eq]
  generalize chOf j = k
  match k with
  | ⟨0, _⟩ => rfl
  | ⟨1, _⟩ => rfl
  | ⟨2, _⟩ => rfl
  | ⟨3, _⟩ => rfl

theorem B_eq (q : Fin 64) (s : Fin 8) (j : Fin 1024) :
    T.sw.B (ix2 (rowOf q.val s) j) = scB (tileRow (pick T.aa0 T.aa1 T.aa2 T.aa3 (chOf j)) q.val (inCh j))
      (tileRow (pick T.bb0 T.bb1 T.bb2 T.bb3 (chOf j)) q.val (inCh j)) s.val := by
  rw [← scanB_apply]
  refine (canon4 T.pb3 T.pb2 T.pb1 T.pb0 _ _ _ _ _ _).trans ?_
  rw [pb0_eq, pb1_eq, pb2_eq, pb3_eq]
  generalize chOf j = k
  match k with
  | ⟨0, _⟩ => rfl
  | ⟨1, _⟩ => rfl
  | ⟨2, _⟩ => rfl
  | ⟨3, _⟩ => rfl

/-- The recurrence over a tile's rows. -/
def Rec (j : Fin 1024) (H : ℕ → EReal) : Prop :=
  H 0 = T.hc (ix2 0 j) ∧ ∀ r : Fin 512, H (r.val + 1) = T.aR r j * H r.val + T.bR r j

variable {T} {j : Fin 1024} {H : ℕ → EReal}

theorem Rec.grp (hR : T.Rec j H) (ha : ∀ r, 0 ≤ T.aR r j ∧ T.aR r j ≠ ⊤) (q : Fin 64) (hq : T.sw.crow q.val (ix2 0 j) = H (8 * q.val)) (s : Fin 8) :
    T.sw.hgrp q.val (ix2 s j) = H (8 * q.val + s.val + 1) := by
  rw [Sweep.hgrp_apply, A_eq, B_eq, hq]
  refine scan_eq _ _ (fun n => H (8 * q.val + n)) (fun n => ha _) (fun n hn => ?_) s.val s.isLt
  have e := hR.2 (rowOf q.val ⟨n % 8, Nat.mod_lt _ (by decide)⟩)
  have ev : (rowOf q.val ⟨n % 8, Nat.mod_lt _ (by decide)⟩ : Fin 512).val = 8 * q.val + n := by
    show (8 * q.val + n % 8) % 512 = 8 * q.val + n
    have := q.isLt
    omega
  rw [ev] at e
  exact e

theorem Rec.crow (hR : T.Rec j H) (ha : ∀ r, 0 ≤ T.aR r j ∧ T.aR r j ≠ ⊤) : ∀ q : ℕ, q ≤ 64 → T.sw.crow q (ix2 0 j) = H (8 * q)
  | 0, _ => hR.1.symm
  | q + 1, hq => by
    rw [Sweep.crow_succ]
    exact Rec.grp hR ha ⟨q, hq⟩ (Rec.crow hR ha q (by omega)) 7

/-- The walked array at a row. -/
theorem Rec.hs (hR : T.Rec j H) (ha : ∀ r, 0 ≤ T.aR r j ∧ T.aR r j ≠ ⊤) (r : Fin 512) : T.hs (ix2 r j) = H (r.val + 1) := by
  have e : T.hs (ix2 r j) = View.canon T.sw.stored64 (ix2 r j) := by
    unfold Tile.hs
    rw [View.readCov_eq_canon']
    refine congrArg (View.canon T.sw.stored64) (funext fun a => Fin.ext ?_)
    match a with
    | ⟨0, _⟩ => show 0 + 1 * r.val = r.val; omega
    | ⟨1, _⟩ => show 0 + 1 * j.val = j.val; omega
  rw [e, Sweep.walked]
  have hr := r.isLt
  refine (Rec.grp hR ha ⟨r.val / 8, by omega⟩ (Rec.crow hR ha _ (by show r.val / 8 ≤ 64; omega)) ⟨r.val % 8, by omega⟩).trans ?_
  refine congrArg H ?_
  show 8 * (r.val / 8) + r.val % 8 + 1 = r.val + 1
  omega

/-- The row handed on. -/
theorem Rec.hcOut (hR : T.Rec j H) (ha : ∀ r, 0 ≤ T.aR r j ∧ T.aR r j ≠ ⊤) : T.hcOut (ix2 0 j) = H 512 := by
  unfold Tile.hcOut
  rw [Sweep.carryOut]
  exact Rec.crow hR ha 64 (by decide)

end Tile

end Cert.KernelIdeal.RowValue

end
-- ==== Proof.InArgs.lean ====
/-
  THE RECURRENT LAYER, number by number: the input projection, the convolution over the last four tokens, the two gates, the decay and
  the recurrence, of the layer's arguments; and that the kernel's form of the gated input is the reference's where the gates are open.
-/
module

public import proofs.«01_k».proof.Proof.InSpec
public import Idealize.ShloMosaic.Lib.Pointwise
public import Idealize.ShloMosaic.Lib.IdealHost

@[expose] public section

set_option maxRecDepth 16384

noncomputable section

namespace Cert.Rglru

open Idealize.ShloMosaic
open scoped BigOperators

/-- The layer's arguments. -/
structure Args where
  /-- the residual stream -/
  x : Fin 16 → Fin 2048 → Fin 2048 → EReal
  /-- the norm's weights -/
  g : Fin 2048 → EReal
  /-- the projection's weights -/
  w : Fin 2048 → Fin 4656 → EReal
  /-- the convolution's weights -/
  cw : Fin 4 → Fin 1024 → EReal
  /-- the convolution's bias -/
  cb : Fin 1024 → EReal
  /-- the recurrence gate's weights, block by block -/
  wa : Fin 16 → Fin 64 → Fin 64 → EReal
  /-- the recurrence gate's bias -/
  ba : Fin 16 → Fin 64 → EReal
  /-- the input gate's weights, block by block -/
  wx : Fin 16 → Fin 64 → Fin 64 → EReal
  /-- the input gate's bias -/
  bx : Fin 16 → Fin 64 → EReal
  /-- the decay's parameter -/
  lam : Fin 1024 → EReal
  /-- the result norm's weights -/
  gn : Fin 1024 → EReal

namespace Args

variable (A : Args)

/-- The projection of the normed tokens. -/
def z (b : Fin 16) (s : Fin 2048) (n : Fin 4656) : EReal := ∑ k : Fin 2048, rms 0x45000000#32 (A.x b s) A.g k * A.w k n
/-- The recurrence's columns. -/
def u (b : Fin 16) (s : Fin 2048) (j : Fin 1024) : EReal := A.z b s ⟨j.val, by omega⟩
/-- The column `d` tokens back; zero before the first. -/
def up (b : Fin 16) (s : Fin 2048) (d : ℕ) (j : Fin 1024) : EReal := if d ≤ s.val then A.u b ⟨s.val - d, by omega⟩ j else 0
/-- The convolution. -/
def xc (b : Fin 16) (s : Fin 2048) (j : Fin 1024) : EReal :=
  ((A.cb j + A.u b s j * A.cw 3 j + A.up b s 1 j * A.cw 2 j) + A.up b s 2 j * A.cw 1 j) + A.up b s 3 j * A.cw 0 j
/-- A gate, of its block's weights. -/
def gate (w : Fin 16 → Fin 64 → Fin 64 → EReal) (v : Fin 16 → Fin 64 → EReal) (b : Fin 16) (s : Fin 2048) (j : Fin 1024) : EReal :=
  Ideal.logistic ((∑ i : Fin 64, A.xc b s ⟨64 * (j.val / 64) + i.val, by omega⟩ * w ⟨j.val / 64, by omega⟩ i ⟨j.val % 64, by omega⟩)
    + v ⟨j.val / 64, by omega⟩ ⟨j.val % 64, by omega⟩)
/-- The logarithm of the decay. -/
def la (b : Fin 16) (s : Fin 2048) (j : Fin 1024) : EReal := logA (A.gate A.wa A.ba b s j) (softplus (-(A.lam j)))
/-- The decay. -/
def a (b : Fin 16) (s : Fin 2048) (j : Fin 1024) : EReal := Ideal.exp (A.la b s j)
/-- The gated input, as the kernel computes it. -/
def bK (b : Fin 16) (s : Fin 2048) (j : Fin 1024) : EReal := gateB (A.a b s j) (A.gate A.wx A.bx b s j) (A.xc b s j)
/-- The gated input, as the reference computes it. -/
def bR (b : Fin 16) (s : Fin 2048) (j : Fin 1024) : EReal :=
  Ideal.sqrt (-(Ideal.expm1 (Ideal.ofBits .f32 0x40000000#32 * A.la b s j))) * (A.gate A.wx A.bx b s j * A.xc b s j)
/-- The recurrence, over the kernel's gated inputs. -/
def h (b : Fin 16) (j : Fin 1024) : ℕ → EReal
  | 0 => 0
  | n + 1 => A.a b ⟨n % 2048, Nat.mod_lt _ (by decide)⟩ j * h b j n + A.bK b ⟨n % 2048, Nat.mod_lt _ (by decide)⟩ j
/-- The recurrence, over the reference's gated inputs. -/
def hR (b : Fin 16) (j : Fin 1024) : ℕ → EReal
  | 0 => 0
  | n + 1 => A.a b ⟨n % 2048, Nat.mod_lt _ (by decide)⟩ j * hR b j n + A.bR b ⟨n % 2048, Nat.mod_lt _ (by decide)⟩ j
/-- The layer's first result, of a recurrence. -/
def y (h : Fin 16 → Fin 1024 → ℕ → EReal) (b : Fin 16) (s : Fin 2048) (j : Fin 1024) : EReal :=
  rms 0x44800000#32 (fun j => h b j (s.val + 1) * gelu (A.z b s ⟨1024 + j.val, by omega⟩)) A.gn j

/-- Every gate is open: `1 - a * a` is at least the guard, or zero. -/
def Open : Prop := ∀ b s j, Ideal.ofBits .f32 0x0DA24260#32 ≤ Ideal.ofBits .f32 0x3F800000#32 - A.a b s j * A.a b s j
  ∨ Ideal.ofBits .f32 0x3F800000#32 - A.a b s j * A.a b s j = 0

end Args

/-! ## The decay lies between 0 and 1 -/

theorem exp_nonneg (x : EReal) : 0 ≤ Ideal.exp x := by
  induction x using EReal.rec with
  | bot => exact le_refl _
  | top => exact le_top
  | coe r => exact EReal.coe_nonneg.mpr (Real.exp_pos r).le

theorem logistic_nonneg (x : EReal) : 0 ≤ Ideal.logistic x := by
  have h : (0 : EReal) ≤ 1 + Ideal.exp (-x) := add_nonneg zero_le_one (exp_nonneg _)
  unfold Ideal.logistic Ideal.div
  split_ifs with h1 h2
  · exact le_top
  · exact absurd zero_lt_one h2
  · rw [one_mul]
    exact EReal.inv_nonneg_of_nonneg h

theorem log1p_nonneg (x : EReal) (h : 0 ≤ x) : 0 ≤ Ideal.log1p x := by
  induction x using EReal.rec with
  | bot => exact absurd h (by simp)
  | top =>
    show 0 ≤ Ideal.log (1 + ⊤)
    rw [show (1 : EReal) + ⊤ = ⊤ from EReal.add_top_of_ne_bot (EReal.coe_ne_bot 1)]
    exact le_top
  | coe r =>
    have hr : (0 : ℝ) ≤ r := EReal.coe_nonneg.mp h
    have e : (1 : EReal) + (r : EReal) = ((1 + r : ℝ) : EReal) := by rw [EReal.coe_add]; rfl
    unfold Ideal.log1p
    rw [e]
    show 0 ≤ (if 1 + r ≤ 0 then ⊥ else (Real.log (1 + r) : EReal))
    rw [if_neg (by linarith)]
    exact EReal.coe_nonneg.mpr (Real.log_nonneg (by linarith))

theorem softplus_nonneg (l : EReal) : 0 ≤ softplus l :=
  add_nonneg (le_max_right _ _) (log1p_nonneg _ (exp_nonneg _))

theorem neg_eight : Ideal.ofBits .f32 0xC1000000#32 = ((-8 : ℝ) : EReal) := by
  simp [Ideal.ofBits, Ideal.ieee]
  rw [← EReal.coe_mul]
  norm_num

theorem two : Ideal.ofBits .f32 0x40000000#32 = ((2 : ℝ) : EReal) := by
  simp [Ideal.ofBits, Ideal.ieee]
  rw [← EReal.coe_mul]
  norm_num

theorem logA_nonpos (r sp : EReal) (hr : 0 ≤ r) (hs : 0 ≤ sp) : logA r sp ≤ 0 := by
  unfold logA
  have h1 : Ideal.ofBits .f32 0xC1000000#32 * r ≤ 0 := by
    rw [neg_eight]
    exact EReal.mul_nonpos_iff.mpr (Or.inr ⟨by exact_mod_cast (by norm_num : (-8 : ℝ) ≤ 0), hr⟩)
  exact EReal.mul_nonpos_iff.mpr (Or.inr ⟨h1, hs⟩)

/-- The exponential of a number at most 0 is a real between 0 and 1. -/
theorem exp_unit (l : EReal) (h : l ≤ 0) : ∃ a : ℝ, Ideal.exp l = (a : EReal) ∧ 0 ≤ a ∧ a ≤ 1 ∧
    Ideal.exp (Ideal.ofBits .f32 0x40000000#32 * l) = ((a * a : ℝ) : EReal) := by
  induction l using EReal.rec with
  | bot =>
    refine ⟨0, rfl, le_refl _, zero_le_one, ?_⟩
    rw [two, EReal.coe_mul_bot_of_pos (by norm_num)]
    show (0 : EReal) = _
    simp
  | top => exact absurd h (by simp)
  | coe r =>
    have hr : r ≤ 0 := by exact_mod_cast h
    refine ⟨Real.exp r, rfl, (Real.exp_pos r).le, Real.exp_le_one_iff.mpr hr, ?_⟩
    rw [two, ← EReal.coe_mul]
    show ((Real.exp (2 * r) : ℝ) : EReal) = _
    rw [two_mul, Real.exp_add]

theorem guard_pos : ∃ g : ℝ, Ideal.ofBits .f32 0x0DA24260#32 = (g : EReal) ∧ 0 < g := by
  refine ⟨_, by simp [Ideal.ofBits, Ideal.ieee]; norm_cast, ?_⟩
  positivity

/-- Where the gate is open, `y * rsqrt (max y guard)` is the square root of `y`, which is minus `expm1` of twice the exponent. -/
theorem root_eq (l : EReal) (h : l ≤ 0)
    (ho : Ideal.ofBits .f32 0x0DA24260#32 ≤ Ideal.ofBits .f32 0x3F800000#32 - Ideal.exp l * Ideal.exp l
      ∨ Ideal.ofBits .f32 0x3F800000#32 - Ideal.exp l * Ideal.exp l = 0) :
    (Ideal.ofBits .f32 0x3F800000#32 - Ideal.exp l * Ideal.exp l)
        * Ideal.rsqrt (max (Ideal.ofBits .f32 0x3F800000#32 - Ideal.exp l * Ideal.exp l) (Ideal.ofBits .f32 0x0DA24260#32))
      = Ideal.sqrt (-(Ideal.expm1 (Ideal.ofBits .f32 0x40000000#32 * l))) := by
  obtain ⟨a, ha, h0, h1, h2⟩ := exp_unit l h
  obtain ⟨g, hg, gpos⟩ := guard_pos
  have e1 : Ideal.ofBits .f32 0x3F800000#32 - Ideal.exp l * Ideal.exp l = ((1 - a * a : ℝ) : EReal) := by
    rw [Ideal.ofBits_one_f32, ha, ← EReal.coe_mul, EReal.coe_sub]; rfl
  have e2 : -(Ideal.expm1 (Ideal.ofBits .f32 0x40000000#32 * l)) = ((1 - a * a : ℝ) : EReal) := by
    unfold Ideal.expm1
    rw [h2, show (1 : EReal) = ((1 : ℝ) : EReal) from rfl, ← EReal.coe_sub, ← EReal.coe_neg]
    congr 1; ring
  rw [e1, hg] at ho
  rw [e1, e2, hg]
  have hy : (0 : ℝ) ≤ 1 - a * a := by nlinarith
  generalize 1 - a * a = y at *
  rcases ho with ho | ho
  · have hgy : g ≤ y := by exact_mod_cast ho
    have ypos : 0 < y := lt_of_lt_of_le gpos hgy
    rw [max_eq_left ho]
    show ((y : ℝ) : EReal) * (if y < 0 then (⊥ : EReal) else if y = 0 then (⊤ : EReal) else (((Real.sqrt y)⁻¹ : ℝ) : EReal)) = if y < 0 then (⊥ : EReal) else (Real.sqrt y : EReal)
    rw [if_neg (by linarith), if_neg (ne_of_gt ypos), if_neg (by linarith), ← EReal.coe_mul]
    congr 1
    rw [← div_eq_mul_inv, Real.div_sqrt]
  · have y0 : y = 0 := by exact_mod_cast ho
    subst y0
    show ((0 : ℝ) : EReal) * _ = if (0 : ℝ) < 0 then (⊥ : EReal) else (Real.sqrt 0 : EReal)
    simp

namespace Args

variable (A : Args)

theorem la_nonpos (b : Fin 16) (s : Fin 2048) (j : Fin 1024) : A.la b s j ≤ 0 :=
  logA_nonpos _ _ (logistic_nonneg _) (softplus_nonneg _)

theorem a_unit (b : Fin 16) (s : Fin 2048) (j : Fin 1024) : 0 ≤ A.a b s j ∧ A.a b s j ≠ ⊤ := by
  obtain ⟨a, ha, h0, _⟩ := exp_unit _ (A.la_nonpos b s j)
  unfold Args.a
  rw [ha]
  exact ⟨EReal.coe_nonneg.mpr h0, EReal.coe_ne_top _⟩

variable {A}

theorem Open.b (ho : A.Open) (b : Fin 16) (s : Fin 2048) (j : Fin 1024) : A.bK b s j = A.bR b s j := by
  unfold bK bR gateB
  exact congrArg (· * _) (root_eq _ (A.la_nonpos b s j) (ho b s j))

theorem Open.h (ho : A.Open) (b : Fin 16) (j : Fin 1024) : ∀ n, A.h b j n = A.hR b j n
  | 0 => rfl
  | n + 1 => by show _ * A.h b j n + _ = _ * A.hR b j n + _; rw [Open.h ho b j n, Open.b ho]

theorem Open.y (ho : A.Open) (b : Fin 16) (s : Fin 2048) (j : Fin 1024) : A.y A.h b s j = A.y A.hR b s j := by
  unfold Args.y
  refine congrArg (fun f => rms _ f A.gn j) (funext fun j => ?_)
  rw [Open.h ho]

end Args

/-- A sum over 256 places of which only those of one block of 64 count. -/
theorem blockSum (f : Fin 256 → EReal) (q : Fin 4) (h : ∀ a : Fin 256, a.val / 64 ≠ q.val → f a = 0) :
    ∑ a, f a = ∑ i : Fin 64, f ⟨64 * q.val + i.val, by omega⟩ := by
  have e : ∑ a, f a = ∑ p : Fin 4 × Fin 64, f (finProdFinEquiv p) := (Equiv.sum_comp (finProdFinEquiv (m := 4) (n := 64)) f).symm
  rw [e, Fintype.sum_prod_type, Finset.sum_eq_single q]
  · refine Finset.sum_congr rfl fun i _ => congrArg f (Fin.ext ?_)
    show i.val + 64 * q.val = 64 * q.val + i.val
    omega
  · intro p _ hp
    refine Finset.sum_eq_zero fun i _ => h _ ?_
    show ¬ (i.val + 64 * p.val) / 64 = q.val
    intro hh
    exact hp (Fin.ext (by omega))
  · intro hh; exact absurd (Finset.mem_univ q) hh

end Cert.Rglru

end
-- ==== Proof.InAt.lean ====
/-
  A TILE AGAINST THE LAYER. Of a tile that holds the tokens `512 p …` of sequence `b`, with the rows and the recurrence's value carried
  into it: its convolution, gates, decays and gated inputs are the layer's at those tokens, and what it hands on is carried on.
-/
module

public import proofs.«01_k».proof.Proof.InStep
public import proofs.«01_k».proof.Proof.InArgs

@[expose] public section

set_option maxRecDepth 16384

noncomputable section

namespace Cert.KernelIdeal.RowValue

open Cert.KernelIdeal Cert.KernelIdeal.Gen Idealize.ShloMosaic Idealize.ShloMosaic.TcCoe Idealize.SL.Sem
open Cert.Rglru
open scoped BigOperators

/-- Row `r` of part `p` of a sequence. -/
def pos (p : Fin 4) (r : Fin 512) : Fin 2048 := ⟨512 * p.val + r.val, by omega⟩
/-- Four blocks of 64 on the diagonal of a chunk of 256. -/
def bd (w : Fin 16 → Fin 64 → Fin 64 → EReal) (k : ℕ) (hk : k < 4) (a c : Fin 256) : EReal :=
  if a.val / 64 = c.val / 64 then w ⟨4 * k + a.val / 64, by omega⟩ ⟨a.val % 64, by omega⟩ ⟨c.val % 64, by omega⟩ else 0
/-- A chunk of a gate's bias. -/
def bv (v : Fin 16 → Fin 64 → EReal) (k : ℕ) (hk : k < 4) (c : Fin 256) : EReal :=
  v ⟨4 * k + c.val / 64, by omega⟩ ⟨c.val % 64, by omega⟩

/-- The tile's loads are the layer's arguments at part `p` of sequence `b`. -/
structure Tile.Loads (T : Tile) (A : Args) (b : Fin 16) (p : Fin 4) : Prop where
  x : ∀ r k, T.x (ix2 r k) = A.x b (pos p r) k
  g : ∀ k, T.g (ix2 0 k) = A.g k
  wu : ∀ k (j : Fin 1024), T.wu (ix2 k j) = A.w k ⟨j.val, by omega⟩
  wg : ∀ k (j : Fin 1024), T.wg (ix2 k j) = A.w k ⟨1024 + j.val, by omega⟩
  wk : ∀ k (j : Fin 256), T.wk (ix2 k j) = A.w k ⟨3072 + j.val, by omega⟩
  wv : ∀ k (j : Fin 256), T.wv (ix2 k j) = A.w k ⟨3328 + j.val, by omega⟩
  cw : ∀ k j, T.cw (ix2 k j) = A.cw k j
  cb : ∀ j, T.cb (ix2 0 j) = A.cb j
  wa0 : ∀ a c, T.wa0 (ix3 0 a c) = bd A.wa 0 (by decide) a c
  ba0 : ∀ c, T.ba0 (ix2 0 c) = bv A.ba 0 (by decide) c
  wx0 : ∀ a c, T.wx0 (ix3 0 a c) = bd A.wx 0 (by decide) a c
  bx0 : ∀ c, T.bx0 (ix2 0 c) = bv A.bx 0 (by decide) c
  wa1 : ∀ a c, T.wa1 (ix3 0 a c) = bd A.wa 1 (by decide) a c
  ba1 : ∀ c, T.ba1 (ix2 0 c) = bv A.ba 1 (by decide) c
  wx1 : ∀ a c, T.wx1 (ix3 0 a c) = bd A.wx 1 (by decide) a c
  bx1 : ∀ c, T.bx1 (ix2 0 c) = bv A.bx 1 (by decide) c
  wa2 : ∀ a c, T.wa2 (ix3 0 a c) = bd A.wa 2 (by decide) a c
  ba2 : ∀ c, T.ba2 (ix2 0 c) = bv A.ba 2 (by decide) c
  wx2 : ∀ a c, T.wx2 (ix3 0 a c) = bd A.wx 2 (by decide) a c
  bx2 : ∀ c, T.bx2 (ix2 0 c) = bv A.bx 2 (by decide) c
  wa3 : ∀ a c, T.wa3 (ix3 0 a c) = bd A.wa 3 (by decide) a c
  ba3 : ∀ c, T.ba3 (ix2 0 c) = bv A.ba 3 (by decide) c
  wx3 : ∀ a c, T.wx3 (ix3 0 a c) = bd A.wx 3 (by decide) a c
  bx3 : ∀ c, T.bx3 (ix2 0 c) = bv A.bx 3 (by decide) c
  lam : ∀ j, T.lam (ix2 0 j) = A.lam j
  gn : ∀ j, T.gn (ix2 0 j) = A.gn j

/-- And what is carried into it is the layer's. -/
structure Tile.At (T : Tile) (A : Args) (b : Fin 16) (p : Fin 4) : Prop extends T.Loads A b p where
  ub : ∀ (s : Fin 8) j, T.ub (ix2 s j) = if p.val = 0 then 0 else A.u b ⟨(512 * p.val + 2040 + s.val) % 2048, Nat.mod_lt _ (by decide)⟩ j
  hc : ∀ j, T.hc (ix2 0 j) = A.h b j (512 * p.val)

namespace Tile

variable {T : Tile} {A : Args} {b : Fin 16} {p : Fin 4}

theorem Loads.an_eq (hT : T.Loads A b p) (r : Fin 512) (k : Fin 2048) : T.an (ix2 r k) = rms 0x45000000#32 (A.x b (pos p r)) A.g k := by
  refine (an_apply _ _ _ _).trans ?_
  rw [funext (hT.x r), funext hT.g]

theorem Loads.u_eq (hT : T.Loads A b p) (r : Fin 512) (j : Fin 1024) : T.u (ix2 r j) = A.u b (pos p r) j := by
  refine (u_apply _ _ _ _).trans ?_
  unfold Args.u Args.z
  refine Finset.sum_congr rfl fun k _ => ?_
  rw [hT.an_eq, hT.wu]

theorem Loads.gl_eq (hT : T.Loads A b p) (r : Fin 512) (j : Fin 1024) : T.gl (ix2 r j) = A.z b (pos p r) ⟨1024 + j.val, by omega⟩ := by
  refine (gl_apply _ _ _ _).trans ?_
  unfold Args.z
  refine Finset.sum_congr rfl fun k _ => ?_
  rw [hT.an_eq, hT.wg]

theorem Loads.kc_eq (hT : T.Loads A b p) (r : Fin 512) (j : Fin 256) : T.kc (ix2 r j) = A.z b (pos p r) ⟨3072 + j.val, by omega⟩ := by
  refine (kc_apply _ _ _ _).trans ?_
  unfold Args.z
  refine Finset.sum_congr rfl fun k _ => ?_
  rw [hT.an_eq, hT.wk]

theorem Loads.vc_eq (hT : T.Loads A b p) (r : Fin 512) (j : Fin 256) : T.vc (ix2 r j) = A.z b (pos p r) ⟨3328 + j.val, by omega⟩ := by
  refine (vc_apply _ _ _ _).trans ?_
  unfold Args.z
  refine Finset.sum_congr rfl fun k _ => ?_
  rw [hT.an_eq, hT.wv]

theorem Loads.sp_eq (hT : T.Loads A b p) (j : Fin 1024) : T.sp (ix2 0 j) = softplus (-(A.lam j)) := by
  refine (sp_apply _ _).trans ?_
  rw [hT.lam]

theorem At.past (hT : T.At A b p) (r : Fin 512) (j : Fin 1024) (d : ℕ) (hd : d < 8) (h1 : 1 ≤ d) :
    (if h : d ≤ r.val then T.u (ix2 ⟨r.val - d, by omega⟩ j) else T.ub (ix2 ⟨(8 + r.val - d) % 8, Nat.mod_lt _ (by decide)⟩ j)) = A.up b (pos p r) d j := by
  have hp := p.isLt
  have hr := r.isLt
  have ev : (pos p r).val = 512 * p.val + r.val := rfl
  unfold Args.up
  by_cases h : d ≤ r.val
  · rw [dif_pos h, if_pos (by omega), hT.u_eq]
    refine congrArg (fun s => A.u b s j) (Fin.ext ?_)
    show 512 * p.val + (r.val - d) = 512 * p.val + r.val - d
    omega
  · rw [dif_neg h, hT.ub]
    by_cases h0 : p.val = 0
    · rw [if_pos h0, if_neg (by omega)]
    · rw [if_neg h0, if_pos (by omega)]
      refine congrArg (fun s => A.u b s j) (Fin.ext ?_)
      show (512 * p.val + 2040 + (8 + r.val - d) % 8) % 2048 = 512 * p.val + r.val - d
      omega

theorem At.xc_eq (hT : T.At A b p) (r : Fin 512) (j : Fin 1024) : T.xc (ix2 r j) = A.xc b (pos p r) j := by
  rw [xc_apply]
  have e1 := hT.past r j 1 (by decide) (by decide)
  have e2 := hT.past r j 2 (by decide) (by decide)
  have e3 := hT.past r j 3 (by decide) (by decide)
  unfold convOf Args.xc
  dsimp only
  rw [e1, e2, e3, hT.u_eq, hT.cb, hT.cw, hT.cw, hT.cw, hT.cw]

theorem At.gateOf_eq (hT : T.At A b p) (k : ℕ) (hk : k < 4) (o : ℕ) (ho : o = 256 * k) (ho' : o + 256 ≤ 1024) (w : FVec Ideal S1x256x256 .bf16)
    (v : FVec Ideal S1x256 .f32) (W : Fin 16 → Fin 64 → Fin 64 → EReal) (V : Fin 16 → Fin 64 → EReal)
    (hw : ∀ a c, w (ix3 0 a c) = bd W k hk a c) (hv : ∀ c, v (ix2 0 c) = bv V k hk c) (r : Fin 512) (c : Fin 256) :
    gateOf T.xc o ho' w v r c = A.gate W V b (pos p r) ⟨256 * k + c.val, by omega⟩ := by
  subst ho
  have hc := c.isLt
  unfold gateOf Args.gate
  have q1 : (256 * k + c.val) / 64 = 4 * k + c.val / 64 := by omega
  have q2 : (256 * k + c.val) % 64 = c.val % 64 := by omega
  refine congrArg Ideal.logistic (congrArg₂ (· + ·) ?_ ?_)
  · rw [blockSum _ ⟨c.val / 64, by omega⟩ (fun a ha => by
      have hne : ¬ a.val / 64 = c.val / 64 := ha
      rw [hw]; unfold bd; rw [if_neg hne, mul_zero])]
    refine Finset.sum_congr rfl fun i _ => ?_
    have hi := i.isLt
    rw [hT.xc_eq, hw]
    unfold bd
    have e1 : (64 * (c.val / 64) + i.val) / 64 = c.val / 64 := by omega
    have e2 : (64 * (c.val / 64) + i.val) % 64 = i.val := by omega
    rw [if_pos e1]
    refine congrArg₂ (· * ·) (congrArg (A.xc b (pos p r)) (Fin.ext ?_)) ?_
    · show 256 * k + (64 * (c.val / 64) + i.val) = 64 * ((256 * k + c.val) / 64) + i.val
      omega
    · have f1 : (⟨4 * k + (64 * (c.val / 64) + i.val) / 64, by omega⟩ : Fin 16) = ⟨(256 * k + c.val) / 64, by omega⟩ := Fin.ext (by show 4 * k + (64 * (c.val / 64) + i.val) / 64 = (256 * k + c.val) / 64; omega)
      have f2 : (⟨(64 * (c.val / 64) + i.val) % 64, by omega⟩ : Fin 64) = i := Fin.ext e2
      have f3 : (⟨c.val % 64, by omega⟩ : Fin 64) = ⟨(256 * k + c.val) % 64, by omega⟩ := Fin.ext q2.symm
      show W ⟨4 * k + (64 * (c.val / 64) + i.val) / 64, by omega⟩ ⟨(64 * (c.val / 64) + i.val) % 64, by omega⟩ ⟨c.val % 64, by omega⟩ = _
      rw [f1, f2, f3]
  · rw [hv]
    unfold bv
    exact congrArg₂ V (Fin.ext q1.symm) (Fin.ext q2.symm)

namespace At

theorem aa0_eq (hT : T.At A b p) (r : Fin 512) (c : Fin 256) : T.aa0 (ix2 r c) = A.a b (pos p r) ⟨256 * 0 + c.val, by omega⟩ := by
  rw [aa0_apply, hT.gateOf_eq 0 (by decide) 0 rfl (by decide) T.wa0 T.ba0 A.wa A.ba hT.wa0 hT.ba0 r c, hT.sp_eq]
  rfl
theorem bb0_eq (hT : T.At A b p) (r : Fin 512) (c : Fin 256) : T.bb0 (ix2 r c) = A.bK b (pos p r) ⟨256 * 0 + c.val, by omega⟩ := by
  rw [bb0_apply, hT.aa0_eq, hT.gateOf_eq 0 (by decide) 0 rfl (by decide) T.wx0 T.bx0 A.wx A.bx hT.wx0 hT.bx0 r c, hT.xc_eq]
  rfl
theorem aa1_eq (hT : T.At A b p) (r : Fin 512) (c : Fin 256) : T.aa1 (ix2 r c) = A.a b (pos p r) ⟨256 * 1 + c.val, by omega⟩ := by
  rw [aa1_apply, hT.gateOf_eq 1 (by decide) 256 rfl (by decide) T.wa1 T.ba1 A.wa A.ba hT.wa1 hT.ba1 r c, hT.sp_eq]
  rfl
theorem bb1_eq (hT : T.At A b p) (r : Fin 512) (c : Fin 256) : T.bb1 (ix2 r c) = A.bK b (pos p r) ⟨256 * 1 + c.val, by omega⟩ := by
  rw [bb1_apply, hT.aa1_eq, hT.gateOf_eq 1 (by decide) 256 rfl (by decide) T.wx1 T.bx1 A.wx A.bx hT.wx1 hT.bx1 r c, hT.xc_eq]
  rfl
theorem aa2_eq (hT : T.At A b p) (r : Fin 512) (c : Fin 256) : T.aa2 (ix2 r c) = A.a b (pos p r) ⟨256 * 2 + c.val, by omega⟩ := by
  rw [aa2_apply, hT.gateOf_eq 2 (by decide) 512 rfl (by decide) T.wa2 T.ba2 A.wa A.ba hT.wa2 hT.ba2 r c, hT.sp_eq]
  rfl
theorem bb2_eq (hT : T.At A b p) (r : Fin 512) (c : Fin 256) : T.bb2 (ix2 r c) = A.bK b (pos p r) ⟨256 * 2 + c.val, by omega⟩ := by
  rw [bb2_apply, hT.aa2_eq, hT.gateOf_eq 2 (by decide) 512 rfl (by decide) T.wx2 T.bx2 A.wx A.bx hT.wx2 hT.bx2 r c, hT.xc_eq]
  rfl
theorem aa3_eq (hT : T.At A b p) (r : Fin 512) (c : Fin 256) : T.aa3 (ix2 r c) = A.a b (pos p r) ⟨256 * 3 + c.val, by omega⟩ := by
  rw [aa3_apply, hT.gateOf_eq 3 (by decide) 768 rfl (by decide) T.wa3 T.ba3 A.wa A.ba hT.wa3 hT.ba3 r c, hT.sp_eq]
  rfl
theorem bb3_eq (hT : T.At A b p) (r : Fin 512) (c : Fin 256) : T.bb3 (ix2 r c) = A.bK b (pos p r) ⟨256 * 3 + c.val, by omega⟩ := by
  rw [bb3_apply, hT.aa3_eq, hT.gateOf_eq 3 (by decide) 768 rfl (by decide) T.wx3 T.bx3 A.wx A.bx hT.wx3 hT.bx3 r c, hT.xc_eq]
  rfl

theorem aR_eq (hT : T.At A b p) (r : Fin 512) (j : Fin 1024) : T.aR r j = A.a b (pos p r) j := by
  have e : ∀ k, j.val / 256 = k → 256 * k + (inCh j).val = j.val := fun k hk => by show 256 * k + j.val % 256 = j.val; omega
  unfold aR
  have hk : j.val / 256 = (chOf j).val := rfl
  revert hk
  generalize chOf j = k
  intro hk
  match k, hk with
  | ⟨0, _⟩, hk => exact (hT.aa0_eq r (inCh j)).trans (congrArg (A.a b (pos p r)) (Fin.ext (e 0 hk)))
  | ⟨1, _⟩, hk => exact (hT.aa1_eq r (inCh j)).trans (congrArg (A.a b (pos p r)) (Fin.ext (e 1 hk)))
  | ⟨2, _⟩, hk => exact (hT.aa2_eq r (inCh j)).trans (congrArg (A.a b (pos p r)) (Fin.ext (e 2 hk)))
  | ⟨3, _⟩, hk => exact (hT.aa3_eq r (inCh j)).trans (congrArg (A.a b (pos p r)) (Fin.ext (e 3 hk)))

theorem bR_eq (hT : T.At A b p) (r : Fin 512) (j : Fin 1024) : T.bR r j = A.bK b (pos p r) j := by
  have e : ∀ k, j.val / 256 = k → 256 * k + (inCh j).val = j.val := fun k hk => by show 256 * k + j.val % 256 = j.val; omega
  unfold bR
  have hk : j.val / 256 = (chOf j).val := rfl
  revert hk
  generalize chOf j = k
  intro hk
  match k, hk with
  | ⟨0, _⟩, hk => exact (hT.bb0_eq r (inCh j)).trans (congrArg (A.bK b (pos p r)) (Fin.ext (e 0 hk)))
  | ⟨1, _⟩, hk => exact (hT.bb1_eq r (inCh j)).trans (congrArg (A.bK b (pos p r)) (Fin.ext (e 1 hk)))
  | ⟨2, _⟩, hk => exact (hT.bb2_eq r (inCh j)).trans (congrArg (A.bK b (pos p r)) (Fin.ext (e 2 hk)))
  | ⟨3, _⟩, hk => exact (hT.bb3_eq r (inCh j)).trans (congrArg (A.bK b (pos p r)) (Fin.ext (e 3 hk)))

/-- The tile's recurrence is the layer's. -/
theorem recur (hT : T.At A b p) (j : Fin 1024) : T.Rec j (fun n => A.h b j (512 * p.val + n)) := by
  refine ⟨(hT.hc j).symm, fun r => ?_⟩
  have hr := r.isLt
  have hp := p.isLt
  rw [hT.aR_eq, hT.bR_eq]
  show A.a b ⟨(512 * p.val + r.val) % 2048, _⟩ j * A.h b j (512 * p.val + r.val) + A.bK b ⟨(512 * p.val + r.val) % 2048, _⟩ j = _
  have e : (⟨(512 * p.val + r.val) % 2048, Nat.mod_lt _ (by decide)⟩ : Fin 2048) = pos p r := Fin.ext (Nat.mod_eq_of_lt (by omega))
  rw [e]

theorem decays (hT : T.At A b p) (j : Fin 1024) (r : Fin 512) : 0 ≤ T.aR r j ∧ T.aR r j ≠ ⊤ := by
  rw [hT.aR_eq]; exact A.a_unit _ _ _

/-- The first output. -/
theorem y_eq (hT : T.At A b p) (r : Fin 512) (j : Fin 1024) : T.y (ix2 r j) = A.y A.h b (pos p r) j := by
  refine (y_apply _ _ _ _ _).trans ?_
  unfold Args.y
  rw [funext hT.gn]
  refine congrArg (fun f => rms _ f A.gn j) (funext fun j => ?_)
  rw [(hT.recur j).hs (hT.decays j), hT.gl_eq]
  rfl

/-- The rows handed on. -/
theorem ubOut_eq (hT : T.At A b p) (s : Fin 8) (j : Fin 1024) : T.ubOut (ix2 s j) = A.u b ⟨512 * p.val + 504 + s.val, by omega⟩ j := by
  rw [ubOut_apply, hT.u_eq]
  refine congrArg (fun s => A.u b s j) (Fin.ext ?_)
  show 512 * p.val + (504 + s.val) = 512 * p.val + 504 + s.val
  omega

/-- The recurrence's value handed on. -/
theorem hcOut_eq (hT : T.At A b p) (j : Fin 1024) : T.hcOut (ix2 0 j) = A.h b j (512 * p.val + 512) :=
  (hT.recur j).hcOut (hT.decays j)

end At

end Tile

end Cert.KernelIdeal.RowValue

end
-- ==== Proof.InHost.lean ====
/-
  THE ARRAYS THE INPUT PROJECTION READS, of the layer's arguments: reshapes, a cast, and the gates' blocks laid on the diagonal of chunks.
-/
module

public import proofs.«01_k».proof.Proof.InAt

@[expose] public section

set_option maxRecDepth 16384

noncomputable section

namespace Cert.KernelIdeal.RowValue

open Cert.KernelIdeal Cert.KernelIdeal.Gen Idealize.ShloMosaic Idealize.ShloMosaic.TcCoe Idealize.SL.Sem
open Cert.Rglru
open scoped BigOperators

/-- The identity of size 4, in floats. -/
def eye : FVec Ideal S4x4 .f32 :=
  uitofp .f32 (cmpi .eq (addi (iotaInDim S4x4 32 0) (broadcastInDim S4x4 ![] bcast_S_S4x4 (constantI S_ 32 0#32))) (iotaInDim S4x4 32 1) : IVec S4x4 1)

/-- Sixteen blocks of 64, four on the diagonal of each chunk of 256. -/
def diag (v : FVec Ideal S1x16x64x64 .f32) : FVec Ideal S4x256x256 .bf16 :=
  truncf .bf16 (shapeCast S4x256x256 (mulf
    (broadcastInDim S4x4x64x4x64 ![0, 1, 2, 3, 4] bcast_S4x4x64x1x64_S4x4x64x4x64_0_1_2_3_4 (broadcastInDim S4x4x64x1x64 ![0, 1, 2, 4] bcast_S4x4x64x64_S4x4x64x1x64_0_1_2_4
      (shapeCast S4x4x64x64 (shapeCast S16x64x64 v shapeCasts_S1x16x64x64_S16x64x64) shapeCasts_S16x64x64_S4x4x64x64)))
    (broadcastInDim S4x4x64x4x64 ![0, 1, 2, 3, 4] bcast_S1x4x1x4x1_S4x4x64x4x64_0_1_2_3_4 (broadcastInDim S1x4x1x4x1 ![1, 3] bcast_S4x4_S1x4x1x4x1_1_3 eye))
    : FVec Ideal S4x4x64x4x64 .f32) shapeCasts_S4x4x64x4x64_S4x256x256) bitsLt_bf16_f32

variable (m : (ℓ : Loc nD τ sig) → Buf (Elt Ideal) ℓ)

theorem V_eq (c : Dev nD) (b : Ref sig .tc) : V m c b = StableHlo.after hostOps0_2 (StableHlo.after hostOps0_1 (StableHlo.after hostOps0 (fun b => m (c, b)))) (Proc.devRef .tc b) := by
  show StableHlo.after (hostOps0 ++ (hostOps0_1 ++ (hostOps0_2 ++ []))) _ _ = _
  rw [StableHlo.after_append, StableHlo.after_append, List.append_nil]

theorem V_v0 (c : Dev nD) : V m c main_v0 = shapeCast S32768x2048 (m ((c : Thread nD τ).loc main_arg0)) shapeCasts_S16x2048x2048_S32768x2048 := by
  rw [V_eq]
  show StableHlo.after hostOps0_2 (StableHlo.after hostOps0_1 (StableHlo.after hostOps0 _)) (Proc.devRef .tc main_v0) = _
  after_results <;> rfl

theorem V_v2 (c : Dev nD) : V m c main_v2 = (truncf .bf16 (shapeCast S2048x4656 (m ((c : Thread nD τ).loc main_arg2) : FVec Ideal S1x2048x4656 .f32) shapeCasts_S1x2048x4656_S2048x4656) bitsLt_bf16_f32 : FVec Ideal S2048x4656 .bf16) := by
  rw [V_eq]
  show StableHlo.after hostOps0_2 (StableHlo.after hostOps0_1 (StableHlo.after hostOps0 _)) (Proc.devRef .tc main_v2) = _
  after_results <;> rfl

theorem V_v12 (c : Dev nD) : V m c main_v12 = shapeCast S4x1024 (m ((c : Thread nD τ).loc main_arg3)) shapeCasts_S1x4x1024_S4x1024 := by
  rw [V_eq]
  show StableHlo.after hostOps0_2 (StableHlo.after hostOps0_1 (StableHlo.after hostOps0 _)) (Proc.devRef .tc main_v12) = _
  after_results <;> rfl

theorem V_v14 (c : Dev nD) : V m c main_v14 = shapeCast S1x1024 (shapeCast S1024 (m ((c : Thread nD τ).loc main_arg4)) shapeCasts_S1x1024_S1024) shapeCasts_S1024_S1x1024 := by
  rw [V_eq]
  show StableHlo.after hostOps0_2 (StableHlo.after hostOps0_1 (StableHlo.after hostOps0 _)) (Proc.devRef .tc main_v14) = _
  after_results <;> rfl

theorem V_v29 (c : Dev nD) : V m c main_v29 = diag (m ((c : Thread nD τ).loc main_arg5)) := by
  rw [V_eq]
  show StableHlo.after hostOps0_2 (StableHlo.after hostOps0_1 (StableHlo.after hostOps0 _)) (Proc.devRef .tc main_v29) = _
  after_results <;> rfl

theorem V_v31 (c : Dev nD) : V m c main_v31 = shapeCast S1x1024 (shapeCast S16x64 (m ((c : Thread nD τ).loc main_arg6)) shapeCasts_S1x16x64_S16x64) shapeCasts_S16x64_S1x1024 := by
  rw [V_eq]
  show StableHlo.after hostOps0_2 (StableHlo.after hostOps0_1 (StableHlo.after hostOps0 _)) (Proc.devRef .tc main_v31) = _
  after_results <;> rfl

theorem V_v46 (c : Dev nD) : V m c main_v46 = diag (m ((c : Thread nD τ).loc main_arg7)) := by
  rw [V_eq]
  show StableHlo.after hostOps0_2 (StableHlo.after hostOps0_1 (StableHlo.after hostOps0 _)) (Proc.devRef .tc main_v46) = _
  after_results <;> rfl

theorem V_v48 (c : Dev nD) : V m c main_v48 = shapeCast S1x1024 (shapeCast S16x64 (m ((c : Thread nD τ).loc main_arg8)) shapeCasts_S1x16x64_S16x64) shapeCasts_S16x64_S1x1024 := by
  rw [V_eq]
  show StableHlo.after hostOps0_2 (StableHlo.after hostOps0_1 (StableHlo.after hostOps0 _)) (Proc.devRef .tc main_v48) = _
  after_results <;> rfl

theorem V_v50 (c : Dev nD) : V m c main_v50 = shapeCast S1x1024 (shapeCast S1024 (m ((c : Thread nD τ).loc main_arg9)) shapeCasts_S1x1024_S1024) shapeCasts_S1024_S1x1024 := by
  rw [V_eq]
  show StableHlo.after hostOps0_2 (StableHlo.after hostOps0_1 (StableHlo.after hostOps0 _)) (Proc.devRef .tc main_v50) = _
  after_results <;> rfl

theorem V_v52 (c : Dev nD) : V m c main_v52 = shapeCast S1x1024 (shapeCast S1024 (m ((c : Thread nD τ).loc main_arg10)) shapeCasts_S1x1024_S1024) shapeCasts_S1024_S1x1024 := by
  rw [V_eq]
  show StableHlo.after hostOps0_2 (StableHlo.after hostOps0_1 (StableHlo.after hostOps0 _)) (Proc.devRef .tc main_v52) = _
  after_results <;> rfl

theorem V_v54 (c : Dev nD) : V m c main_v54 = shapeCast S1x2048 (shapeCast S2048 (m ((c : Thread nD τ).loc main_arg1)) shapeCasts_S1x2048_S2048) shapeCasts_S2048_S1x2048 := by
  rw [V_eq]
  show StableHlo.after hostOps0_2 (StableHlo.after hostOps0_1 (StableHlo.after hostOps0 _)) (Proc.devRef .tc main_v54) = _
  after_results <;> rfl

theorem x_at (v : FVec Ideal S16x2048x2048 .f32) (r : Fin 32768) (k : Fin 2048) :
    shapeCast S32768x2048 v shapeCasts_S16x2048x2048_S32768x2048 (ix2 r k) = v (ix3 ⟨r.val / 2048, by omega⟩ ⟨r.val % 2048, by omega⟩ k) := by
  pointwise
theorem w_at (v : FVec Ideal S1x2048x4656 .f32) (k : Fin 2048) (n : Fin 4656) :
    (truncf .bf16 (shapeCast S2048x4656 v shapeCasts_S1x2048x4656_S2048x4656) bitsLt_bf16_f32 : FVec Ideal S2048x4656 .bf16) (ix2 k n) = v (ix3 0 k n) := by
  pointwise
theorem cw_at (v : FVec Ideal S1x4x1024 .f32) (k : Fin 4) (j : Fin 1024) :
    shapeCast S4x1024 v shapeCasts_S1x4x1024_S4x1024 (ix2 k j) = v (ix3 0 k j) := by
  pointwise
theorem row_at (v : FVec Ideal S1x1024 .f32) (j : Fin 1024) :
    shapeCast S1x1024 (shapeCast S1024 v shapeCasts_S1x1024_S1024) shapeCasts_S1024_S1x1024 (ix2 0 j) = v (ix2 0 j) := by
  pointwise
theorem g_at (v : FVec Ideal S1x2048 .f32) (j : Fin 2048) :
    shapeCast S1x2048 (shapeCast S2048 v shapeCasts_S1x2048_S2048) shapeCasts_S2048_S1x2048 (ix2 0 j) = v (ix2 0 j) := by
  pointwise
theorem bias_at (v : FVec Ideal S1x16x64 .f32) (j : Fin 1024) :
    shapeCast S1x1024 (shapeCast S16x64 v shapeCasts_S1x16x64_S16x64) shapeCasts_S16x64_S1x1024 (ix2 0 j) = v (ix3 0 ⟨j.val / 64, by omega⟩ ⟨j.val % 64, by omega⟩) := by
  pointwise
theorem eye_at (p q : Fin 4) : eye (ix2 p q) = if p.val = q.val then 1 else 0 := by
  have hb : (cmpi .eq (addi (iotaInDim S4x4 32 0) (broadcastInDim S4x4 ![] bcast_S_S4x4 (constantI S_ 32 0#32))) (iotaInDim S4x4 32 1) : IVec S4x4 1) (ix2 p q) = if p.val = q.val then 1#1 else 0#1 := by
    revert p q
    decide +kernel
  unfold eye
  show (((_ : BitVec 1).toNat : ℝ) : EReal) = _
  rw [hb]
  split_ifs <;> simp
theorem diag_at (v : FVec Ideal S1x16x64x64 .f32) (k : Fin 4) (a c : Fin 256) :
    diag v (ix3 k a c) = v (ix4 0 ⟨k.val * 4 + a.val / 64, by omega⟩ ⟨a.val % 64, by omega⟩ ⟨c.val % 64, by omega⟩)
      * (if a.val / 64 = c.val / 64 then 1 else 0) := by
  rw [← eye_at ⟨a.val / 64, by omega⟩ ⟨c.val / 64, by omega⟩]
  pointwise [diag]

end Cert.KernelIdeal.RowValue

end
-- ==== Proof.InBlk.lean ====
/-
  WHAT A TILE LOADS: its windows' blocks are rows of the layer's arguments.
-/
module

public import proofs.«01_k».proof.Proof.InHost

@[expose] public section

set_option maxRecDepth 16384

noncomputable section

namespace Cert.KernelIdeal.RowValue

open Cert.KernelIdeal Cert.KernelIdeal.Gen Idealize.ShloMosaic Idealize.ShloMosaic.TcCoe Idealize.SL.Sem
open Cert.Rglru
open scoped BigOperators

variable (m : (ℓ : Loc nD τ sig) → Buf (Elt Ideal) ℓ)

/-- The layer's arguments, of the memory the run starts from. -/
def kArgs (c : Dev nD) : Args where
  x b s k := (m ((c : Thread nD τ).loc main_arg0) : FVec Ideal S16x2048x2048 .f32) (ix3 b s k)
  g k := (m ((c : Thread nD τ).loc main_arg1) : FVec Ideal S1x2048 .f32) (ix2 0 k)
  w k n := (m ((c : Thread nD τ).loc main_arg2) : FVec Ideal S1x2048x4656 .f32) (ix3 0 k n)
  cw k j := (m ((c : Thread nD τ).loc main_arg3) : FVec Ideal S1x4x1024 .f32) (ix3 0 k j)
  cb j := (m ((c : Thread nD τ).loc main_arg4) : FVec Ideal S1x1024 .f32) (ix2 0 j)
  wa n i o := (m ((c : Thread nD τ).loc main_arg5) : FVec Ideal S1x16x64x64 .f32) (ix4 0 n i o)
  ba n o := (m ((c : Thread nD τ).loc main_arg6) : FVec Ideal S1x16x64 .f32) (ix3 0 n o)
  wx n i o := (m ((c : Thread nD τ).loc main_arg7) : FVec Ideal S1x16x64x64 .f32) (ix4 0 n i o)
  bx n o := (m ((c : Thread nD τ).loc main_arg8) : FVec Ideal S1x16x64 .f32) (ix3 0 n o)
  lam j := (m ((c : Thread nD τ).loc main_arg9) : FVec Ideal S1x1024 .f32) (ix2 0 j)
  gn j := (m ((c : Thread nD τ).loc main_arg10) : FVec Ideal S1x1024 .f32) (ix2 0 j)

/-- A load through a window's stage reads the window's block. -/
theorem load_apply {sh : Shape} {e : EltTy} (M : Memref sig .tc .vmem sh e) (h : M.IsWhole) (X : sh.Idx → Elt Ideal e) (off size : Fin sh.rank → ℕ) (inb)
    (x : (Rect.unit off size inb).shape.Idx) (i : sh.Idx) (hi : ∀ a, (i a : ℕ) = off a + x a) :
    M.view.readAt (Elt Ideal) (Rect.unit off size inb).toLoadRect (h.unread X) x = X i := by
  rw [View.readAt_eq_ld, h.read_unread]
  exact View.ld_unit_apply_of X off size inb x i hi

theorem lt64 (t : Fin cfg0.N) : t.val < 64 := lt_of_lt_of_eq t.isLt N_0

/-- The row tiles move with the point. -/
theorem idxx (t : Fin cfg0.N) : win0_0.index t 0 = t.val ∧ win0_0.index t 1 = 0 :=
  (by decide +kernel : ∀ t : Fin grid0.N, win0_0.index t 0 = t.val ∧ win0_0.index t 1 = 0) t

/-- The weights stay. -/
theorem idxw (t : Fin cfg0.N) : (win0_1.index t 0 = 0 ∧ win0_1.index t 1 = 0) ∧ (win0_2.index t 0 = 0 ∧ win0_2.index t 1 = 0) ∧ (win0_4.index t 0 = 0 ∧ win0_4.index t 1 = 0) ∧ (win0_5.index t 0 = 0 ∧ win0_5.index t 1 = 0) ∧ (win0_6.index t 0 = 0 ∧ win0_6.index t 1 = 0 ∧ win0_6.index t 2 = 0) ∧ (win0_7.index t 0 = 0 ∧ win0_7.index t 1 = 0) ∧ (win0_8.index t 0 = 0 ∧ win0_8.index t 1 = 0 ∧ win0_8.index t 2 = 0) ∧ (win0_9.index t 0 = 0 ∧ win0_9.index t 1 = 0) ∧ (win0_10.index t 0 = 0 ∧ win0_10.index t 1 = 0) ∧ (win0_11.index t 0 = 0 ∧ win0_11.index t 1 = 0) :=
  (by decide +kernel : ∀ t : Fin grid0.N, (win0_1.index t 0 = 0 ∧ win0_1.index t 1 = 0) ∧ (win0_2.index t 0 = 0 ∧ win0_2.index t 1 = 0) ∧ (win0_4.index t 0 = 0 ∧ win0_4.index t 1 = 0) ∧ (win0_5.index t 0 = 0 ∧ win0_5.index t 1 = 0) ∧ (win0_6.index t 0 = 0 ∧ win0_6.index t 1 = 0 ∧ win0_6.index t 2 = 0) ∧ (win0_7.index t 0 = 0 ∧ win0_7.index t 1 = 0) ∧ (win0_8.index t 0 = 0 ∧ win0_8.index t 1 = 0 ∧ win0_8.index t 2 = 0) ∧ (win0_9.index t 0 = 0 ∧ win0_9.index t 1 = 0) ∧ (win0_10.index t 0 = 0 ∧ win0_10.index t 1 = 0) ∧ (win0_11.index t 0 = 0 ∧ win0_11.index t 1 = 0)) t

/-- The sequence and the part of tile `t`. -/
def seqOf (t : Fin cfg0.N) : Fin 16 := ⟨t.val / 4, by have := lt64 t; omega⟩
def partOf (t : Fin cfg0.N) : Fin 4 := ⟨t.val % 4, by omega⟩

theorem blk0 (c : Dev nD) (t : Fin cfg0.N) (r : Fin 512) (k : Fin 2048) : (iblk m c 0 t : Vec Ideal S512x2048 .f32) (ix2 r k)
    = (kArgs m c).x (seqOf t) (pos (partOf t) r) k := by
  have ht := lt64 t
  have hr := r.isLt
  have hp : (partOf t).val = t.val % 4 := rfl
  unfold iblk
  rw [View.read_apply]
  show V m c main_v0 _ = _
  rw [V_v0]
  have e : ((cfg0.win 0).blk t).view.emb (ix2 r k) = (ix2 ⟨512 * t.val + r.val, by omega⟩ k : S32768x2048.Idx) := funext fun a => Fin.ext (by
    match a with
    | ⟨0, _⟩ => show win0_0.index t 0 * 512 + 1 * r.val = 512 * t.val + r.val; rw [(idxx t).1]; omega
    | ⟨1, _⟩ => show win0_0.index t 1 * 2048 + 1 * k.val = k.val; rw [(idxx t).2]; omega)
  rw [e, x_at]
  have e1 : (⟨(512 * t.val + r.val) / 2048, by omega⟩ : Fin 16) = seqOf t := Fin.ext (by show (512 * t.val + r.val) / 2048 = t.val / 4; omega)
  have e2 : (⟨(512 * t.val + r.val) % 2048, by omega⟩ : Fin 2048) = pos (partOf t) r := Fin.ext (by show (512 * t.val + r.val) % 2048 = 512 * (t.val % 4) + r.val; omega)
  show (m ((c : Thread nD τ).loc main_arg0) : FVec Ideal S16x2048x2048 .f32) (ix3 ⟨(512 * t.val + r.val) / 2048, _⟩ ⟨(512 * t.val + r.val) % 2048, _⟩ k) = (m ((c : Thread nD τ).loc main_arg0) : FVec Ideal S16x2048x2048 .f32) (ix3 (seqOf t) (pos (partOf t) r) k)
  rw [← e1, ← e2]

theorem blk1 (c : Dev nD) (t : Fin cfg0.N) (k : Fin 2048) : (iblk m c 1 t : Vec Ideal S1x2048 .f32) (ix2 0 k)
    = (kArgs m c).g k := by
  unfold iblk
  rw [View.read_apply]
  show V m c main_v54 _ = _
  rw [V_v54]
  have e : ((cfg0.win 1).blk t).view.emb (ix2 0 k) = (ix2 0 k : S1x2048.Idx) := funext fun a => Fin.ext (by
    match a with
    | ⟨0, _⟩ => show win0_1.index t 0 * 1 + 1 * 0 = 0; rw [(idxw t).1.1]; try omega
    | ⟨1, _⟩ => show win0_1.index t 1 * 2048 + 1 * k.val = k.val; rw [(idxw t).1.2]; omega)
  rw [e]
  exact g_at _ _

theorem blk2 (c : Dev nD) (t : Fin cfg0.N) (r : Fin 2048) (k : Fin 4656) : (iblk m c 2 t : Vec Ideal S2048x4656 .bf16) (ix2 r k)
    = (kArgs m c).w r k := by
  unfold iblk
  rw [View.read_apply]
  show V m c main_v2 _ = _
  rw [V_v2]
  have e : ((cfg0.win 2).blk t).view.emb (ix2 r k) = (ix2 r k : S2048x4656.Idx) := funext fun a => Fin.ext (by
    match a with
    | ⟨0, _⟩ => show win0_2.index t 0 * 2048 + 1 * r.val = r.val; rw [(idxw t).2.1.1]; try omega
    | ⟨1, _⟩ => show win0_2.index t 1 * 4656 + 1 * k.val = k.val; rw [(idxw t).2.1.2]; omega)
  rw [e]
  exact w_at _ _ _

theorem blk4 (c : Dev nD) (t : Fin cfg0.N) (r : Fin 4) (k : Fin 1024) : (iblk m c 4 t : Vec Ideal S4x1024 .f32) (ix2 r k)
    = (kArgs m c).cw r k := by
  unfold iblk
  rw [View.read_apply]
  show V m c main_v12 _ = _
  rw [V_v12]
  have e : ((cfg0.win 4).blk t).view.emb (ix2 r k) = (ix2 r k : S4x1024.Idx) := funext fun a => Fin.ext (by
    match a with
    | ⟨0, _⟩ => show win0_4.index t 0 * 4 + 1 * r.val = r.val; rw [(idxw t).2.2.1.1]; try omega
    | ⟨1, _⟩ => show win0_4.index t 1 * 1024 + 1 * k.val = k.val; rw [(idxw t).2.2.1.2]; omega)
  rw [e]
  exact cw_at _ _ _

theorem blk5 (c : Dev nD) (t : Fin cfg0.N) (k : Fin 1024) : (iblk m c 5 t : Vec Ideal S1x1024 .f32) (ix2 0 k)
    = (kArgs m c).cb k := by
  unfold iblk
  rw [View.read_apply]
  show V m c main_v14 _ = _
  rw [V_v14]
  have e : ((cfg0.win 5).blk t).view.emb (ix2 0 k) = (ix2 0 k : S1x1024.Idx) := funext fun a => Fin.ext (by
    match a with
    | ⟨0, _⟩ => show win0_5.index t 0 * 1 + 1 * 0 = 0; rw [(idxw t).2.2.2.1.1]; try omega
    | ⟨1, _⟩ => show win0_5.index t 1 * 1024 + 1 * k.val = k.val; rw [(idxw t).2.2.2.1.2]; omega)
  rw [e]
  exact row_at _ _

theorem blk6 (c : Dev nD) (t : Fin cfg0.N) (r : Fin 4) (k n : Fin 256) : (iblk m c 6 t : Vec Ideal S4x256x256 .bf16) (ix3 r k n)
    = bd (kArgs m c).wa r.val r.isLt k n := by
  unfold iblk
  rw [View.read_apply]
  show V m c main_v29 _ = _
  rw [V_v29]
  have e : ((cfg0.win 6).blk t).view.emb (ix3 r k n) = (ix3 r k n : S4x256x256.Idx) := funext fun a => Fin.ext (by
    match a with
    | ⟨0, _⟩ => show win0_6.index t 0 * 4 + 1 * r.val = r.val; rw [(idxw t).2.2.2.2.1.1]; omega
    | ⟨1, _⟩ => show win0_6.index t 1 * 256 + 1 * k.val = k.val; rw [(idxw t).2.2.2.2.1.2.1]; omega
    | ⟨2, _⟩ => show win0_6.index t 2 * 256 + 1 * n.val = n.val; rw [(idxw t).2.2.2.2.1.2.2]; omega)
  rw [e]
  refine (diag_at _ r k n).trans ?_
  have e1 : (⟨r.val * 4 + k.val / 64, by omega⟩ : Fin 16) = ⟨4 * r.val + k.val / 64, by omega⟩ := Fin.ext (by show r.val * 4 + k.val / 64 = 4 * r.val + k.val / 64; omega)
  rw [e1]
  unfold bd
  split_ifs
  · rw [mul_one]; rfl
  · rw [mul_zero]

theorem blk7 (c : Dev nD) (t : Fin cfg0.N) (k : Fin 1024) : (iblk m c 7 t : Vec Ideal S1x1024 .f32) (ix2 0 k)
    = (kArgs m c).ba ⟨k.val / 64, by omega⟩ ⟨k.val % 64, by omega⟩ := by
  unfold iblk
  rw [View.read_apply]
  show V m c main_v31 _ = _
  rw [V_v31]
  have e : ((cfg0.win 7).blk t).view.emb (ix2 0 k) = (ix2 0 k : S1x1024.Idx) := funext fun a => Fin.ext (by
    match a with
    | ⟨0, _⟩ => show win0_7.index t 0 * 1 + 1 * 0 = 0; rw [(idxw t).2.2.2.2.2.1.1]; try omega
    | ⟨1, _⟩ => show win0_7.index t 1 * 1024 + 1 * k.val = k.val; rw [(idxw t).2.2.2.2.2.1.2]; omega)
  rw [e]
  exact bias_at _ _

theorem blk8 (c : Dev nD) (t : Fin cfg0.N) (r : Fin 4) (k n : Fin 256) : (iblk m c 8 t : Vec Ideal S4x256x256 .bf16) (ix3 r k n)
    = bd (kArgs m c).wx r.val r.isLt k n := by
  unfold iblk
  rw [View.read_apply]
  show V m c main_v46 _ = _
  rw [V_v46]
  have e : ((cfg0.win 8).blk t).view.emb (ix3 r k n) = (ix3 r k n : S4x256x256.Idx) := funext fun a => Fin.ext (by
    match a with
    | ⟨0, _⟩ => show win0_8.index t 0 * 4 + 1 * r.val = r.val; rw [(idxw t).2.2.2.2.2.2.1.1]; omega
    | ⟨1, _⟩ => show win0_8.index t 1 * 256 + 1 * k.val = k.val; rw [(idxw t).2.2.2.2.2.2.1.2.1]; omega
    | ⟨2, _⟩ => show win0_8.index t 2 * 256 + 1 * n.val = n.val; rw [(idxw t).2.2.2.2.2.2.1.2.2]; omega)
  rw [e]
  refine (diag_at _ r k n).trans ?_
  have e1 : (⟨r.val * 4 + k.val / 64, by omega⟩ : Fin 16) = ⟨4 * r.val + k.val / 64, by omega⟩ := Fin.ext (by show r.val * 4 + k.val / 64 = 4 * r.val + k.val / 64; omega)
  rw [e1]
  unfold bd
  split_ifs
  · rw [mul_one]; rfl
  · rw [mul_zero]

theorem blk9 (c : Dev nD) (t : Fin cfg0.N) (k : Fin 1024) : (iblk m c 9 t : Vec Ideal S1x1024 .f32) (ix2 0 k)
    = (kArgs m c).bx ⟨k.val / 64, by omega⟩ ⟨k.val % 64, by omega⟩ := by
  unfold iblk
  rw [View.read_apply]
  show V m c main_v48 _ = _
  rw [V_v48]
  have e : ((cfg0.win 9).blk t).view.emb (ix2 0 k) = (ix2 0 k : S1x1024.Idx) := funext fun a => Fin.ext (by
    match a with
    | ⟨0, _⟩ => show win0_9.index t 0 * 1 + 1 * 0 = 0; rw [(idxw t).2.2.2.2.2.2.2.1.1]; try omega
    | ⟨1, _⟩ => show win0_9.index t 1 * 1024 + 1 * k.val = k.val; rw [(idxw t).2.2.2.2.2.2.2.1.2]; omega)
  rw [e]
  exact bias_at _ _

theorem blk10 (c : Dev nD) (t : Fin cfg0.N) (k : Fin 1024) : (iblk m c 10 t : Vec Ideal S1x1024 .f32) (ix2 0 k)
    = (kArgs m c).lam k := by
  unfold iblk
  rw [View.read_apply]
  show V m c main_v50 _ = _
  rw [V_v50]
  have e : ((cfg0.win 10).blk t).view.emb (ix2 0 k) = (ix2 0 k : S1x1024.Idx) := funext fun a => Fin.ext (by
    match a with
    | ⟨0, _⟩ => show win0_10.index t 0 * 1 + 1 * 0 = 0; rw [(idxw t).2.2.2.2.2.2.2.2.1.1]; try omega
    | ⟨1, _⟩ => show win0_10.index t 1 * 1024 + 1 * k.val = k.val; rw [(idxw t).2.2.2.2.2.2.2.2.1.2]; omega)
  rw [e]
  exact row_at _ _

theorem blk11 (c : Dev nD) (t : Fin cfg0.N) (k : Fin 1024) : (iblk m c 11 t : Vec Ideal S1x1024 .f32) (ix2 0 k)
    = (kArgs m c).gn k := by
  unfold iblk
  rw [View.read_apply]
  show V m c main_v52 _ = _
  rw [V_v52]
  have e : ((cfg0.win 11).blk t).view.emb (ix2 0 k) = (ix2 0 k : S1x1024.Idx) := funext fun a => Fin.ext (by
    match a with
    | ⟨0, _⟩ => show win0_11.index t 0 * 1 + 1 * 0 = 0; rw [(idxw t).2.2.2.2.2.2.2.2.2.1]; try omega
    | ⟨1, _⟩ => show win0_11.index t 1 * 1024 + 1 * k.val = k.val; rw [(idxw t).2.2.2.2.2.2.2.2.2.2]; omega)
  rw [e]
  exact row_at _ _

theorem bias_chunk (v : Fin 16 → Fin 64 → EReal) (k : ℕ) (hk : k < 4) (c : Fin 256) :
    v ⟨(256 * k + c.val) / 64, by omega⟩ ⟨(256 * k + c.val) % 64, by omega⟩ = bv v k hk c := by
  have hc := c.isLt
  have e1 : (⟨(256 * k + c.val) / 64, by omega⟩ : Fin 16) = ⟨4 * k + c.val / 64, by omega⟩ := Fin.ext (by show (256 * k + c.val) / 64 = 4 * k + c.val / 64; omega)
  have e2 : (⟨(256 * k + c.val) % 64, by omega⟩ : Fin 64) = ⟨c.val % 64, by omega⟩ := Fin.ext (by show (256 * k + c.val) % 64 = c.val % 64; omega)
  unfold bv
  rw [e1, e2]

set_option maxHeartbeats 4000000 in
/-- The tile's loads are the layer's arguments. -/
theorem loads (c : Dev nD) (t : Fin cfg0.N) (ub : FVec Ideal S8x1024 .f32) (hc : FVec Ideal S1x1024 .f32) :
    (tileOf m c t ub hc).Loads (kArgs m c) (seqOf t) (partOf t) where
  x r k := (load_apply (ms0_0 t) (hs0_0 t) (iblk m c 0 t) _ _ _ _ (ix2 r k) (fun a => by
    match a with
    | ⟨0, _⟩ => show r.val = 0 + r.val; omega
    | ⟨1, _⟩ => show k.val = 0 + k.val; omega)).trans (blk0 m c t r k)
  g k := (load_apply (ms0_1 t) (hs0_1 t) (iblk m c 1 t) _ _ _ _ (ix2 0 k) (fun a => by
    match a with
    | ⟨0, _⟩ => show 0 = 0 + 0; omega
    | ⟨1, _⟩ => show k.val = 0 + k.val; omega)).trans (blk1 m c t k)
  wu k j := (load_apply (ms0_2 t) (hs0_2 t) (iblk m c 2 t) _ _ _ _ (ix2 k ⟨j.val, by omega⟩) (fun a => by
    match a with
    | ⟨0, _⟩ => show k.val = 0 + k.val; omega
    | ⟨1, _⟩ => show j.val = 0 + j.val; omega)).trans (blk2 m c t k _)
  wg k j := (load_apply (ms0_2 t) (hs0_2 t) (iblk m c 2 t) _ _ _ _ (ix2 k ⟨1024 + j.val, by omega⟩) (fun a => by
    match a with
    | ⟨0, _⟩ => show k.val = 0 + k.val; omega
    | ⟨1, _⟩ => show 1024 + j.val = 1024 + j.val; omega)).trans (blk2 m c t k _)
  wk k j := (load_apply (ms0_2 t) (hs0_2 t) (iblk m c 2 t) _ _ _ _ (ix2 k ⟨3072 + j.val, by omega⟩) (fun a => by
    match a with
    | ⟨0, _⟩ => show k.val = 0 + k.val; omega
    | ⟨1, _⟩ => show 3072 + j.val = 3072 + j.val; omega)).trans (blk2 m c t k _)
  wv k j := (load_apply (ms0_2 t) (hs0_2 t) (iblk m c 2 t) _ _ _ _ (ix2 k ⟨3328 + j.val, by omega⟩) (fun a => by
    match a with
    | ⟨0, _⟩ => show k.val = 0 + k.val; omega
    | ⟨1, _⟩ => show 3328 + j.val = 3328 + j.val; omega)).trans (blk2 m c t k _)
  cw k j := (load_apply (ms0_4 t) (hs0_4 t) (iblk m c 4 t) _ _ _ _ (ix2 k j) (fun a => by
    match a with
    | ⟨0, _⟩ => show k.val = 0 + k.val; omega
    | ⟨1, _⟩ => show j.val = 0 + j.val; omega)).trans (blk4 m c t k j)
  cb j := (load_apply (ms0_5 t) (hs0_5 t) (iblk m c 5 t) _ _ _ _ (ix2 0 j) (fun a => by
    match a with
    | ⟨0, _⟩ => show 0 = 0 + 0; omega
    | ⟨1, _⟩ => show j.val = 0 + j.val; omega)).trans (blk5 m c t j)
  wa0 p c' := (load_apply (ms0_6 t) (hs0_6 t) (iblk m c 6 t) _ _ _ _ (ix3 0 p c') (fun a => by
    match a with
    | ⟨0, _⟩ => show 0 = 0 + 0; omega
    | ⟨1, _⟩ => show p.val = 0 + p.val; omega
    | ⟨2, _⟩ => show c'.val = 0 + c'.val; omega)).trans (blk6 m c t 0 p c')
  ba0 c' := (load_apply (ms0_7 t) (hs0_7 t) (iblk m c 7 t) _ _ _ _ (ix2 0 ⟨0 + c'.val, by omega⟩) (fun a => by
    match a with
    | ⟨0, _⟩ => show 0 = 0 + 0; omega
    | ⟨1, _⟩ => show 0 + c'.val = 0 + c'.val; omega)).trans ((blk7 m c t _).trans (bias_chunk _ 0 (by decide) c'))
  wx0 p c' := (load_apply (ms0_8 t) (hs0_8 t) (iblk m c 8 t) _ _ _ _ (ix3 0 p c') (fun a => by
    match a with
    | ⟨0, _⟩ => show 0 = 0 + 0; omega
    | ⟨1, _⟩ => show p.val = 0 + p.val; omega
    | ⟨2, _⟩ => show c'.val = 0 + c'.val; omega)).trans (blk8 m c t 0 p c')
  bx0 c' := (load_apply (ms0_9 t) (hs0_9 t) (iblk m c 9 t) _ _ _ _ (ix2 0 ⟨0 + c'.val, by omega⟩) (fun a => by
    match a with
    | ⟨0, _⟩ => show 0 = 0 + 0; omega
    | ⟨1, _⟩ => show 0 + c'.val = 0 + c'.val; omega)).trans ((blk9 m c t _).trans (bias_chunk _ 0 (by decide) c'))
  wa1 p c' := (load_apply (ms0_6 t) (hs0_6 t) (iblk m c 6 t) _ _ _ _ (ix3 1 p c') (fun a => by
    match a with
    | ⟨0, _⟩ => show 1 = 1 + 0; omega
    | ⟨1, _⟩ => show p.val = 0 + p.val; omega
    | ⟨2, _⟩ => show c'.val = 0 + c'.val; omega)).trans (blk6 m c t 1 p c')
  ba1 c' := (load_apply (ms0_7 t) (hs0_7 t) (iblk m c 7 t) _ _ _ _ (ix2 0 ⟨256 + c'.val, by omega⟩) (fun a => by
    match a with
    | ⟨0, _⟩ => show 0 = 0 + 0; omega
    | ⟨1, _⟩ => show 256 + c'.val = 256 + c'.val; omega)).trans ((blk7 m c t _).trans (bias_chunk _ 1 (by decide) c'))
  wx1 p c' := (load_apply (ms0_8 t) (hs0_8 t) (iblk m c 8 t) _ _ _ _ (ix3 1 p c') (fun a => by
    match a with
    | ⟨0, _⟩ => show 1 = 1 + 0; omega
    | ⟨1, _⟩ => show p.val = 0 + p.val; omega
    | ⟨2, _⟩ => show c'.val = 0 + c'.val; omega)).trans (blk8 m c t 1 p c')
  bx1 c' := (load_apply (ms0_9 t) (hs0_9 t) (iblk m c 9 t) _ _ _ _ (ix2 0 ⟨256 + c'.val, by omega⟩) (fun a => by
    match a with
    | ⟨0, _⟩ => show 0 = 0 + 0; omega
    | ⟨1, _⟩ => show 256 + c'.val = 256 + c'.val; omega)).trans ((blk9 m c t _).trans (bias_chunk _ 1 (by decide) c'))
  wa2 p c' := (load_apply (ms0_6 t) (hs0_6 t) (iblk m c 6 t) _ _ _ _ (ix3 2 p c') (fun a => by
    match a with
    | ⟨0, _⟩ => show 2 = 2 + 0; omega
    | ⟨1, _⟩ => show p.val = 0 + p.val; omega
    | ⟨2, _⟩ => show c'.val = 0 + c'.val; omega)).trans (blk6 m c t 2 p c')
  ba2 c' := (load_apply (ms0_7 t) (hs0_7 t) (iblk m c 7 t) _ _ _ _ (ix2 0 ⟨512 + c'.val, by omega⟩) (fun a => by
    match a with
    | ⟨0, _⟩ => show 0 = 0 + 0; omega
    | ⟨1, _⟩ => show 512 + c'.val = 512 + c'.val; omega)).trans ((blk7 m c t _).trans (bias_chunk _ 2 (by decide) c'))
  wx2 p c' := (load_apply (ms0_8 t) (hs0_8 t) (iblk m c 8 t) _ _ _ _ (ix3 2 p c') (fun a => by
    match a with
    | ⟨0, _⟩ => show 2 = 2 + 0; omega
    | ⟨1, _⟩ => show p.val = 0 + p.val; omega
    | ⟨2, _⟩ => show c'.val = 0 + c'.val; omega)).trans (blk8 m c t 2 p c')
  bx2 c' := (load_apply (ms0_9 t) (hs0_9 t) (iblk m c 9 t) _ _ _ _ (ix2 0 ⟨512 + c'.val, by omega⟩) (fun a => by
    match a with
    | ⟨0, _⟩ => show 0 = 0 + 0; omega
    | ⟨1, _⟩ => show 512 + c'.val = 512 + c'.val; omega)).trans ((blk9 m c t _).trans (bias_chunk _ 2 (by decide) c'))
  wa3 p c' := (load_apply (ms0_6 t) (hs0_6 t) (iblk m c 6 t) _ _ _ _ (ix3 3 p c') (fun a => by
    match a with
    | ⟨0, _⟩ => show 3 = 3 + 0; omega
    | ⟨1, _⟩ => show p.val = 0 + p.val; omega
    | ⟨2, _⟩ => show c'.val = 0 + c'.val; omega)).trans (blk6 m c t 3 p c')
  ba3 c' := (load_apply (ms0_7 t) (hs0_7 t) (iblk m c 7 t) _ _ _ _ (ix2 0 ⟨768 + c'.val, by omega⟩) (fun a => by
    match a with
    | ⟨0, _⟩ => show 0 = 0 + 0; omega
    | ⟨1, _⟩ => show 768 + c'.val = 768 + c'.val; omega)).trans ((blk7 m c t _).trans (bias_chunk _ 3 (by decide) c'))
  wx3 p c' := (load_apply (ms0_8 t) (hs0_8 t) (iblk m c 8 t) _ _ _ _ (ix3 3 p c') (fun a => by
    match a with
    | ⟨0, _⟩ => show 3 = 3 + 0; omega
    | ⟨1, _⟩ => show p.val = 0 + p.val; omega
    | ⟨2, _⟩ => show c'.val = 0 + c'.val; omega)).trans (blk8 m c t 3 p c')
  bx3 c' := (load_apply (ms0_9 t) (hs0_9 t) (iblk m c 9 t) _ _ _ _ (ix2 0 ⟨768 + c'.val, by omega⟩) (fun a => by
    match a with
    | ⟨0, _⟩ => show 0 = 0 + 0; omega
    | ⟨1, _⟩ => show 768 + c'.val = 768 + c'.val; omega)).trans ((blk9 m c t _).trans (bias_chunk _ 3 (by decide) c'))
  lam j := (load_apply (ms0_10 t) (hs0_10 t) (iblk m c 10 t) _ _ _ _ (ix2 0 j) (fun a => by
    match a with
    | ⟨0, _⟩ => show 0 = 0 + 0; omega
    | ⟨1, _⟩ => show j.val = 0 + j.val; omega)).trans (blk10 m c t j)
  gn j := (load_apply (ms0_11 t) (hs0_11 t) (iblk m c 11 t) _ _ _ _ (ix2 0 j) (fun a => by
    match a with
    | ⟨0, _⟩ => show 0 = 0 + 0; omega
    | ⟨1, _⟩ => show j.val = 0 + j.val; omega)).trans (blk11 m c t j)

end Cert.KernelIdeal.RowValue

end
-- ==== Proof.InWalkA.lean ====
/-
  THE WALK'S RESULT IN THE RUN, at a sequence's first tile. The stores the run makes while it walks the groups are the walk's, one by one; so
  the first output and the recurrence's carried row are those of the tile's walk.
-/
module

public import proofs.«01_k».proof.Proof.InTile

@[expose] public section

set_option maxRecDepth 65536
set_option maxHeartbeats 4000000

noncomputable section

namespace Cert.KernelIdeal.RowValue

open Cert.KernelIdeal Cert.KernelIdeal.Gen Idealize.ShloMosaic Idealize.ShloMosaic.TcCoe Idealize.SL.Sem

namespace WalkA

variable (m : (ℓ : Loc nD τ sig) → Buf (Elt Ideal) ℓ) (c : Dev nD) (t : Fin cfg0.N)

/-- The tile. -/
def T : Tile := tileA m c t
/-- Its walk. -/
def G : Sweep := (T m c t).sw
theorem e_v534 : kernelRun0_A.sl.v534 (F := Ideal) c scM0_3 = (G m c t).h0 := rfl
theorem e_HS1_4 : kernelRun0_A.sl.HS1_4 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (iblk m c 0 t) (iblk m c 1 t) (iblk m c 2 t) (iblk m c 4 t) (iblk m c 5 t) (iblk m c 6 t) (iblk m c 7 t) (iblk m c 10 t) = (G m c t).LA := by
  show _ = (T m c t).LA
  delta kernelRun0_A.sl.HS1_4 Tile.LA
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl)))
  · delta Tile.pa3; rfl
  · delta Tile.pa2; rfl
  · delta Tile.pa1; rfl
  · delta Tile.pa0; rfl
theorem e_HS2_4 : kernelRun0_A.sl.HS2_4 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (iblk m c 0 t) (iblk m c 1 t) (iblk m c 2 t) (iblk m c 4 t) (iblk m c 5 t) (iblk m c 6 t) (iblk m c 7 t) (iblk m c 8 t) (iblk m c 9 t) (iblk m c 10 t) = (G m c t).stored0 := by
  show _ = (T m c t).LB
  delta kernelRun0_A.sl.HS2_4 Tile.LB
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl)))
  · delta Tile.pb3; rfl
  · delta Tile.pb2; rfl
  · delta Tile.pb1; rfl
  · delta Tile.pb0; rfl
theorem e_v535 : kernelRun0_A.sl.v535 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_2 (iblk m c 0 t) (iblk m c 1 t) (iblk m c 2 t) (iblk m c 4 t) (iblk m c 5 t) (iblk m c 6 t) (iblk m c 7 t) (iblk m c 8 t) (iblk m c 9 t) (iblk m c 10 t) = (G m c t).v535 := by
  delta kernelRun0_A.sl.v535 Sweep.v535
  rw [e_HS2_4]
  try rfl
theorem e_v536 : kernelRun0_A.sl.v536 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v536 := by
  delta kernelRun0_A.sl.v536 Sweep.v536
  rw [e_HS1_4]
  try rfl
theorem e_stored1 : kernelRun0_A.sl.HS2_5 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored1 := by
  delta kernelRun0_A.sl.HS2_5 Sweep.stored1
  rw [e_v534, e_v535, e_v536, e_HS2_4]
  try rfl
theorem e_v544 : kernelRun0_A.sl.v544 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v544 := by
  delta kernelRun0_A.sl.v544 Sweep.v544
  rw [e_stored1]
  try rfl
theorem e_v545 : kernelRun0_A.sl.v545 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v545 := by
  delta kernelRun0_A.sl.v545 Sweep.v545
  rw [e_HS1_4]
  try rfl
theorem e_stored2 : kernelRun0_A.sl.HS2_6 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored2 := by
  delta kernelRun0_A.sl.HS2_6 Sweep.stored2
  rw [e_v534, e_v535, e_v536, e_v544, e_v545, e_stored1]
  try rfl
theorem e_v553 : kernelRun0_A.sl.v553 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v553 := by
  delta kernelRun0_A.sl.v553 Sweep.v553
  rw [e_stored2]
  try rfl
theorem e_v554 : kernelRun0_A.sl.v554 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v554 := by
  delta kernelRun0_A.sl.v554 Sweep.v554
  rw [e_HS1_4]
  try rfl
theorem e_stored3 : kernelRun0_A.sl.HS2_7 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored3 := by
  delta kernelRun0_A.sl.HS2_7 Sweep.stored3
  rw [e_v534, e_v535, e_v536, e_v544, e_v545, e_v553, e_v554, e_stored2]
  try rfl
theorem e_v562 : kernelRun0_A.sl.v562 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v562 := by
  delta kernelRun0_A.sl.v562 Sweep.v562
  rw [e_stored3]
  try rfl
theorem e_v563 : kernelRun0_A.sl.v563 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v563 := by
  delta kernelRun0_A.sl.v563 Sweep.v563
  rw [e_HS1_4]
  try rfl
theorem e_v566 : kernelRun0_A.sl.r_28 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v566 := by
  delta kernelRun0_A.sl.r_28 Sweep.v566
  rw [e_v534, e_v535, e_v536, e_v544, e_v545, e_v553, e_v554, e_v562, e_v563]
  try rfl
theorem e_stored4 : kernelRun0_A.sl.HS2_8 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored4 := by
  delta kernelRun0_A.sl.HS2_8 Sweep.stored4
  rw [e_v566, e_stored3]
  try rfl
theorem e_v571 : kernelRun0_A.sl.v571 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v571 := by
  delta kernelRun0_A.sl.v571 Sweep.v571
  rw [e_stored4]
  try rfl
theorem e_v572 : kernelRun0_A.sl.v572 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v572 := by
  delta kernelRun0_A.sl.v572 Sweep.v572
  rw [e_HS1_4]
  try rfl
theorem e_stored5 : kernelRun0_A.sl.HS2_9 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored5 := by
  delta kernelRun0_A.sl.HS2_9 Sweep.stored5
  rw [e_v566, e_v571, e_v572, e_stored4]
  try rfl
theorem e_v580 : kernelRun0_A.sl.v580 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v580 := by
  delta kernelRun0_A.sl.v580 Sweep.v580
  rw [e_stored5]
  try rfl
theorem e_v581 : kernelRun0_A.sl.v581 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v581 := by
  delta kernelRun0_A.sl.v581 Sweep.v581
  rw [e_HS1_4]
  try rfl
theorem e_stored6 : kernelRun0_A.sl.HS2_10 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored6 := by
  delta kernelRun0_A.sl.HS2_10 Sweep.stored6
  rw [e_v566, e_v571, e_v572, e_v580, e_v581, e_stored5]
  try rfl
theorem e_v589 : kernelRun0_A.sl.v589 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v589 := by
  delta kernelRun0_A.sl.v589 Sweep.v589
  rw [e_stored6]
  try rfl
theorem e_v590 : kernelRun0_A.sl.v590 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v590 := by
  delta kernelRun0_A.sl.v590 Sweep.v590
  rw [e_HS1_4]
  try rfl
theorem e_stored7 : kernelRun0_A.sl.HS2_11 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored7 := by
  delta kernelRun0_A.sl.HS2_11 Sweep.stored7
  rw [e_v566, e_v571, e_v572, e_v580, e_v581, e_v589, e_v590, e_stored6]
  try rfl
theorem e_v598 : kernelRun0_A.sl.v598 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v598 := by
  delta kernelRun0_A.sl.v598 Sweep.v598
  rw [e_stored7]
  try rfl
theorem e_v599 : kernelRun0_A.sl.v599 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v599 := by
  delta kernelRun0_A.sl.v599 Sweep.v599
  rw [e_HS1_4]
  try rfl
theorem e_v602 : kernelRun0_A.sl.r_29 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v602 := by
  delta kernelRun0_A.sl.r_29 Sweep.v602
  rw [e_v566, e_v571, e_v572, e_v580, e_v581, e_v589, e_v590, e_v598, e_v599]
  try rfl
theorem e_stored8 : kernelRun0_A.sl.HS2_12 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored8 := by
  delta kernelRun0_A.sl.HS2_12 Sweep.stored8
  rw [e_v602, e_stored7]
  try rfl
theorem e_v607 : kernelRun0_A.sl.v607 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v607 := by
  delta kernelRun0_A.sl.v607 Sweep.v607
  rw [e_stored8]
  try rfl
theorem e_v608 : kernelRun0_A.sl.v608 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v608 := by
  delta kernelRun0_A.sl.v608 Sweep.v608
  rw [e_HS1_4]
  try rfl
theorem e_stored9 : kernelRun0_A.sl.HS2_13 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored9 := by
  delta kernelRun0_A.sl.HS2_13 Sweep.stored9
  rw [e_v602, e_v607, e_v608, e_stored8]
  try rfl
theorem e_v616 : kernelRun0_A.sl.v616 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v616 := by
  delta kernelRun0_A.sl.v616 Sweep.v616
  rw [e_stored9]
  try rfl
theorem e_v617 : kernelRun0_A.sl.v617 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v617 := by
  delta kernelRun0_A.sl.v617 Sweep.v617
  rw [e_HS1_4]
  try rfl
theorem e_stored10 : kernelRun0_A.sl.HS2_14 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored10 := by
  delta kernelRun0_A.sl.HS2_14 Sweep.stored10
  rw [e_v602, e_v607, e_v608, e_v616, e_v617, e_stored9]
  try rfl
theorem e_v625 : kernelRun0_A.sl.v625 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v625 := by
  delta kernelRun0_A.sl.v625 Sweep.v625
  rw [e_stored10]
  try rfl
theorem e_v626 : kernelRun0_A.sl.v626 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v626 := by
  delta kernelRun0_A.sl.v626 Sweep.v626
  rw [e_HS1_4]
  try rfl
theorem e_stored11 : kernelRun0_A.sl.HS2_15 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored11 := by
  delta kernelRun0_A.sl.HS2_15 Sweep.stored11
  rw [e_v602, e_v607, e_v608, e_v616, e_v617, e_v625, e_v626, e_stored10]
  try rfl
theorem e_v634 : kernelRun0_A.sl.v634 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v634 := by
  delta kernelRun0_A.sl.v634 Sweep.v634
  rw [e_stored11]
  try rfl
theorem e_v633 : kernelRun0_A.sl.r_30 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v633 := by
  delta kernelRun0_A.sl.r_30 Sweep.v633
  rw [e_v602, e_v607, e_v608, e_v616, e_v617, e_v625, e_v626]
  try rfl
theorem e_v635 : kernelRun0_A.sl.v635 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v635 := by
  delta kernelRun0_A.sl.v635 Sweep.v635
  rw [e_HS1_4]
  try rfl
theorem e_stored12 : kernelRun0_A.sl.HS2_16 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored12 := by
  delta kernelRun0_A.sl.HS2_16 Sweep.stored12
  rw [e_v633, e_v634, e_v635, e_stored11]
  try rfl
theorem e_v643 : kernelRun0_A.sl.v643 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v643 := by
  delta kernelRun0_A.sl.v643 Sweep.v643
  rw [e_stored12]
  try rfl
theorem e_v644 : kernelRun0_A.sl.v644 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v644 := by
  delta kernelRun0_A.sl.v644 Sweep.v644
  rw [e_HS1_4]
  try rfl
theorem e_stored13 : kernelRun0_A.sl.HS2_17 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored13 := by
  delta kernelRun0_A.sl.HS2_17 Sweep.stored13
  rw [e_v633, e_v634, e_v635, e_v643, e_v644, e_stored12]
  try rfl
theorem e_v652 : kernelRun0_A.sl.v652 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v652 := by
  delta kernelRun0_A.sl.v652 Sweep.v652
  rw [e_stored13]
  try rfl
theorem e_v653 : kernelRun0_A.sl.v653 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v653 := by
  delta kernelRun0_A.sl.v653 Sweep.v653
  rw [e_HS1_4]
  try rfl
theorem e_stored14 : kernelRun0_A.sl.HS2_18 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored14 := by
  delta kernelRun0_A.sl.HS2_18 Sweep.stored14
  rw [e_v633, e_v634, e_v635, e_v643, e_v644, e_v652, e_v653, e_stored13]
  try rfl
theorem e_v661 : kernelRun0_A.sl.v661 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v661 := by
  delta kernelRun0_A.sl.v661 Sweep.v661
  rw [e_stored14]
  try rfl
theorem e_v662 : kernelRun0_A.sl.v662 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v662 := by
  delta kernelRun0_A.sl.v662 Sweep.v662
  rw [e_HS1_4]
  try rfl
theorem e_stored15 : kernelRun0_A.sl.HS2_19 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored15 := by
  delta kernelRun0_A.sl.HS2_19 Sweep.stored15
  rw [e_v633, e_v634, e_v635, e_v643, e_v644, e_v652, e_v653, e_v661, e_v662, e_stored14]
  try rfl
theorem e_v669 : kernelRun0_A.sl.r_31 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v669 := by
  delta kernelRun0_A.sl.r_31 Sweep.v669
  rw [e_v633, e_v634, e_v635, e_v643, e_v644, e_v652, e_v653, e_v661, e_v662]
  try rfl
theorem e_v670 : kernelRun0_A.sl.v670 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v670 := by
  delta kernelRun0_A.sl.v670 Sweep.v670
  rw [e_stored15]
  try rfl
theorem e_v671 : kernelRun0_A.sl.v671 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v671 := by
  delta kernelRun0_A.sl.v671 Sweep.v671
  rw [e_HS1_4]
  try rfl
theorem e_stored16 : kernelRun0_A.sl.HS2_20 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored16 := by
  delta kernelRun0_A.sl.HS2_20 Sweep.stored16
  rw [e_v669, e_v670, e_v671, e_stored15]
  try rfl
theorem e_v679 : kernelRun0_A.sl.v679 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v679 := by
  delta kernelRun0_A.sl.v679 Sweep.v679
  rw [e_stored16]
  try rfl
theorem e_v680 : kernelRun0_A.sl.v680 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v680 := by
  delta kernelRun0_A.sl.v680 Sweep.v680
  rw [e_HS1_4]
  try rfl
theorem e_stored17 : kernelRun0_A.sl.HS2_21 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored17 := by
  delta kernelRun0_A.sl.HS2_21 Sweep.stored17
  rw [e_v669, e_v670, e_v671, e_v679, e_v680, e_stored16]
  try rfl
theorem e_v688 : kernelRun0_A.sl.v688 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v688 := by
  delta kernelRun0_A.sl.v688 Sweep.v688
  rw [e_stored17]
  try rfl
theorem e_v689 : kernelRun0_A.sl.v689 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v689 := by
  delta kernelRun0_A.sl.v689 Sweep.v689
  rw [e_HS1_4]
  try rfl
theorem e_stored18 : kernelRun0_A.sl.HS2_22 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored18 := by
  delta kernelRun0_A.sl.HS2_22 Sweep.stored18
  rw [e_v669, e_v670, e_v671, e_v679, e_v680, e_v688, e_v689, e_stored17]
  try rfl
theorem e_v697 : kernelRun0_A.sl.v697 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v697 := by
  delta kernelRun0_A.sl.v697 Sweep.v697
  rw [e_stored18]
  try rfl
theorem e_v698 : kernelRun0_A.sl.v698 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v698 := by
  delta kernelRun0_A.sl.v698 Sweep.v698
  rw [e_HS1_4]
  try rfl
theorem e_v701 : kernelRun0_A.sl.r_32 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v701 := by
  delta kernelRun0_A.sl.r_32 Sweep.v701
  rw [e_v669, e_v670, e_v671, e_v679, e_v680, e_v688, e_v689, e_v697, e_v698]
  try rfl
theorem e_stored19 : kernelRun0_A.sl.HS2_23 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored19 := by
  delta kernelRun0_A.sl.HS2_23 Sweep.stored19
  rw [e_v701, e_stored18]
  try rfl
theorem e_v706 : kernelRun0_A.sl.v706 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v706 := by
  delta kernelRun0_A.sl.v706 Sweep.v706
  rw [e_stored19]
  try rfl
theorem e_v707 : kernelRun0_A.sl.v707 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v707 := by
  delta kernelRun0_A.sl.v707 Sweep.v707
  rw [e_HS1_4]
  try rfl
theorem e_stored20 : kernelRun0_A.sl.HS2_24 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored20 := by
  delta kernelRun0_A.sl.HS2_24 Sweep.stored20
  rw [e_v701, e_v706, e_v707, e_stored19]
  try rfl
theorem e_v715 : kernelRun0_A.sl.v715 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v715 := by
  delta kernelRun0_A.sl.v715 Sweep.v715
  rw [e_stored20]
  try rfl
theorem e_v716 : kernelRun0_A.sl.v716 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v716 := by
  delta kernelRun0_A.sl.v716 Sweep.v716
  rw [e_HS1_4]
  try rfl
theorem e_stored21 : kernelRun0_A.sl.HS2_25 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored21 := by
  delta kernelRun0_A.sl.HS2_25 Sweep.stored21
  rw [e_v701, e_v706, e_v707, e_v715, e_v716, e_stored20]
  try rfl
theorem e_v724 : kernelRun0_A.sl.v724 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v724 := by
  delta kernelRun0_A.sl.v724 Sweep.v724
  rw [e_stored21]
  try rfl
theorem e_v725 : kernelRun0_A.sl.v725 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v725 := by
  delta kernelRun0_A.sl.v725 Sweep.v725
  rw [e_HS1_4]
  try rfl
theorem e_stored22 : kernelRun0_A.sl.HS2_26 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored22 := by
  delta kernelRun0_A.sl.HS2_26 Sweep.stored22
  rw [e_v701, e_v706, e_v707, e_v715, e_v716, e_v724, e_v725, e_stored21]
  try rfl
theorem e_v733 : kernelRun0_A.sl.v733 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v733 := by
  delta kernelRun0_A.sl.v733 Sweep.v733
  rw [e_stored22]
  try rfl
theorem e_v734 : kernelRun0_A.sl.v734 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v734 := by
  delta kernelRun0_A.sl.v734 Sweep.v734
  rw [e_HS1_4]
  try rfl
theorem e_v737 : kernelRun0_A.sl.r_33 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v737 := by
  delta kernelRun0_A.sl.r_33 Sweep.v737
  rw [e_v701, e_v706, e_v707, e_v715, e_v716, e_v724, e_v725, e_v733, e_v734]
  try rfl
theorem e_stored23 : kernelRun0_A.sl.HS2_27 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored23 := by
  delta kernelRun0_A.sl.HS2_27 Sweep.stored23
  rw [e_v737, e_stored22]
  try rfl
theorem e_v742 : kernelRun0_A.sl.v742 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v742 := by
  delta kernelRun0_A.sl.v742 Sweep.v742
  rw [e_stored23]
  try rfl
theorem e_v743 : kernelRun0_A.sl.v743 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v743 := by
  delta kernelRun0_A.sl.v743 Sweep.v743
  rw [e_HS1_4]
  try rfl
theorem e_stored24 : kernelRun0_A.sl.HS2_28 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored24 := by
  delta kernelRun0_A.sl.HS2_28 Sweep.stored24
  rw [e_v737, e_v742, e_v743, e_stored23]
  try rfl
theorem e_v751 : kernelRun0_A.sl.v751 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v751 := by
  delta kernelRun0_A.sl.v751 Sweep.v751
  rw [e_stored24]
  try rfl
theorem e_v752 : kernelRun0_A.sl.v752 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v752 := by
  delta kernelRun0_A.sl.v752 Sweep.v752
  rw [e_HS1_4]
  try rfl
theorem e_stored25 : kernelRun0_A.sl.HS2_29 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored25 := by
  delta kernelRun0_A.sl.HS2_29 Sweep.stored25
  rw [e_v737, e_v742, e_v743, e_v751, e_v752, e_stored24]
  try rfl
theorem e_v760 : kernelRun0_A.sl.v760 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v760 := by
  delta kernelRun0_A.sl.v760 Sweep.v760
  rw [e_stored25]
  try rfl
theorem e_v761 : kernelRun0_A.sl.v761 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v761 := by
  delta kernelRun0_A.sl.v761 Sweep.v761
  rw [e_HS1_4]
  try rfl
theorem e_stored26 : kernelRun0_A.sl.HS2_30 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored26 := by
  delta kernelRun0_A.sl.HS2_30 Sweep.stored26
  rw [e_v737, e_v742, e_v743, e_v751, e_v752, e_v760, e_v761, e_stored25]
  try rfl
theorem e_v769 : kernelRun0_A.sl.v769 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v769 := by
  delta kernelRun0_A.sl.v769 Sweep.v769
  rw [e_stored26]
  try rfl
theorem e_v768 : kernelRun0_A.sl.r_34 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v768 := by
  delta kernelRun0_A.sl.r_34 Sweep.v768
  rw [e_v737, e_v742, e_v743, e_v751, e_v752, e_v760, e_v761]
  try rfl
theorem e_v770 : kernelRun0_A.sl.v770 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v770 := by
  delta kernelRun0_A.sl.v770 Sweep.v770
  rw [e_HS1_4]
  try rfl
theorem e_stored27 : kernelRun0_A.sl.HS2_31 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored27 := by
  delta kernelRun0_A.sl.HS2_31 Sweep.stored27
  rw [e_v768, e_v769, e_v770, e_stored26]
  try rfl
theorem e_v778 : kernelRun0_A.sl.v778 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v778 := by
  delta kernelRun0_A.sl.v778 Sweep.v778
  rw [e_stored27]
  try rfl
theorem e_v779 : kernelRun0_A.sl.v779 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v779 := by
  delta kernelRun0_A.sl.v779 Sweep.v779
  rw [e_HS1_4]
  try rfl
theorem e_stored28 : kernelRun0_A.sl.HS2_32 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored28 := by
  delta kernelRun0_A.sl.HS2_32 Sweep.stored28
  rw [e_v768, e_v769, e_v770, e_v778, e_v779, e_stored27]
  try rfl
theorem e_v787 : kernelRun0_A.sl.v787 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v787 := by
  delta kernelRun0_A.sl.v787 Sweep.v787
  rw [e_stored28]
  try rfl
theorem e_v788 : kernelRun0_A.sl.v788 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v788 := by
  delta kernelRun0_A.sl.v788 Sweep.v788
  rw [e_HS1_4]
  try rfl
theorem e_stored29 : kernelRun0_A.sl.HS2_33 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored29 := by
  delta kernelRun0_A.sl.HS2_33 Sweep.stored29
  rw [e_v768, e_v769, e_v770, e_v778, e_v779, e_v787, e_v788, e_stored28]
  try rfl
theorem e_v796 : kernelRun0_A.sl.v796 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v796 := by
  delta kernelRun0_A.sl.v796 Sweep.v796
  rw [e_stored29]
  try rfl
theorem e_v797 : kernelRun0_A.sl.v797 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v797 := by
  delta kernelRun0_A.sl.v797 Sweep.v797
  rw [e_HS1_4]
  try rfl
theorem e_stored30 : kernelRun0_A.sl.HS2_34 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored30 := by
  delta kernelRun0_A.sl.HS2_34 Sweep.stored30
  rw [e_v768, e_v769, e_v770, e_v778, e_v779, e_v787, e_v788, e_v796, e_v797, e_stored29]
  try rfl
theorem e_v804 : kernelRun0_A.sl.r_35 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v804 := by
  delta kernelRun0_A.sl.r_35 Sweep.v804
  rw [e_v768, e_v769, e_v770, e_v778, e_v779, e_v787, e_v788, e_v796, e_v797]
  try rfl
theorem e_v805 : kernelRun0_A.sl.v805 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v805 := by
  delta kernelRun0_A.sl.v805 Sweep.v805
  rw [e_stored30]
  try rfl
theorem e_v806 : kernelRun0_A.sl.v806 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v806 := by
  delta kernelRun0_A.sl.v806 Sweep.v806
  rw [e_HS1_4]
  try rfl
theorem e_stored31 : kernelRun0_A.sl.HS2_35 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored31 := by
  delta kernelRun0_A.sl.HS2_35 Sweep.stored31
  rw [e_v804, e_v805, e_v806, e_stored30]
  try rfl
theorem e_v814 : kernelRun0_A.sl.v814 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v814 := by
  delta kernelRun0_A.sl.v814 Sweep.v814
  rw [e_stored31]
  try rfl
theorem e_v815 : kernelRun0_A.sl.v815 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v815 := by
  delta kernelRun0_A.sl.v815 Sweep.v815
  rw [e_HS1_4]
  try rfl
theorem e_stored32 : kernelRun0_A.sl.HS2_36 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored32 := by
  delta kernelRun0_A.sl.HS2_36 Sweep.stored32
  rw [e_v804, e_v805, e_v806, e_v814, e_v815, e_stored31]
  try rfl
theorem e_v823 : kernelRun0_A.sl.v823 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v823 := by
  delta kernelRun0_A.sl.v823 Sweep.v823
  rw [e_stored32]
  try rfl
theorem e_v824 : kernelRun0_A.sl.v824 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v824 := by
  delta kernelRun0_A.sl.v824 Sweep.v824
  rw [e_HS1_4]
  try rfl
theorem e_stored33 : kernelRun0_A.sl.HS2_37 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored33 := by
  delta kernelRun0_A.sl.HS2_37 Sweep.stored33
  rw [e_v804, e_v805, e_v806, e_v814, e_v815, e_v823, e_v824, e_stored32]
  try rfl
theorem e_v832 : kernelRun0_A.sl.v832 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v832 := by
  delta kernelRun0_A.sl.v832 Sweep.v832
  rw [e_stored33]
  try rfl
theorem e_v833 : kernelRun0_A.sl.v833 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v833 := by
  delta kernelRun0_A.sl.v833 Sweep.v833
  rw [e_HS1_4]
  try rfl
theorem e_v836 : kernelRun0_A.sl.r_36 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v836 := by
  delta kernelRun0_A.sl.r_36 Sweep.v836
  rw [e_v804, e_v805, e_v806, e_v814, e_v815, e_v823, e_v824, e_v832, e_v833]
  try rfl
theorem e_stored34 : kernelRun0_A.sl.HS2_38 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored34 := by
  delta kernelRun0_A.sl.HS2_38 Sweep.stored34
  rw [e_v836, e_stored33]
  try rfl
theorem e_v841 : kernelRun0_A.sl.v841 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v841 := by
  delta kernelRun0_A.sl.v841 Sweep.v841
  rw [e_stored34]
  try rfl
theorem e_v842 : kernelRun0_A.sl.v842 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v842 := by
  delta kernelRun0_A.sl.v842 Sweep.v842
  rw [e_HS1_4]
  try rfl
theorem e_stored35 : kernelRun0_A.sl.HS2_39 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored35 := by
  delta kernelRun0_A.sl.HS2_39 Sweep.stored35
  rw [e_v836, e_v841, e_v842, e_stored34]
  try rfl
theorem e_v850 : kernelRun0_A.sl.v850 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v850 := by
  delta kernelRun0_A.sl.v850 Sweep.v850
  rw [e_stored35]
  try rfl
theorem e_v851 : kernelRun0_A.sl.v851 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v851 := by
  delta kernelRun0_A.sl.v851 Sweep.v851
  rw [e_HS1_4]
  try rfl
theorem e_stored36 : kernelRun0_A.sl.HS2_40 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored36 := by
  delta kernelRun0_A.sl.HS2_40 Sweep.stored36
  rw [e_v836, e_v841, e_v842, e_v850, e_v851, e_stored35]
  try rfl
theorem e_v859 : kernelRun0_A.sl.v859 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v859 := by
  delta kernelRun0_A.sl.v859 Sweep.v859
  rw [e_stored36]
  try rfl
theorem e_v860 : kernelRun0_A.sl.v860 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v860 := by
  delta kernelRun0_A.sl.v860 Sweep.v860
  rw [e_HS1_4]
  try rfl
theorem e_stored37 : kernelRun0_A.sl.HS2_41 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored37 := by
  delta kernelRun0_A.sl.HS2_41 Sweep.stored37
  rw [e_v836, e_v841, e_v842, e_v850, e_v851, e_v859, e_v860, e_stored36]
  try rfl
theorem e_v868 : kernelRun0_A.sl.v868 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v868 := by
  delta kernelRun0_A.sl.v868 Sweep.v868
  rw [e_stored37]
  try rfl
theorem e_v869 : kernelRun0_A.sl.v869 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v869 := by
  delta kernelRun0_A.sl.v869 Sweep.v869
  rw [e_HS1_4]
  try rfl
theorem e_v872 : kernelRun0_A.sl.r_37 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v872 := by
  delta kernelRun0_A.sl.r_37 Sweep.v872
  rw [e_v836, e_v841, e_v842, e_v850, e_v851, e_v859, e_v860, e_v868, e_v869]
  try rfl
theorem e_stored38 : kernelRun0_A.sl.HS2_42 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored38 := by
  delta kernelRun0_A.sl.HS2_42 Sweep.stored38
  rw [e_v872, e_stored37]
  try rfl
theorem e_v877 : kernelRun0_A.sl.v877 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v877 := by
  delta kernelRun0_A.sl.v877 Sweep.v877
  rw [e_stored38]
  try rfl
theorem e_v878 : kernelRun0_A.sl.v878 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v878 := by
  delta kernelRun0_A.sl.v878 Sweep.v878
  rw [e_HS1_4]
  try rfl
theorem e_stored39 : kernelRun0_A.sl.HS2_43 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored39 := by
  delta kernelRun0_A.sl.HS2_43 Sweep.stored39
  rw [e_v872, e_v877, e_v878, e_stored38]
  try rfl
theorem e_v886 : kernelRun0_A.sl.v886 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v886 := by
  delta kernelRun0_A.sl.v886 Sweep.v886
  rw [e_stored39]
  try rfl
theorem e_v887 : kernelRun0_A.sl.v887 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v887 := by
  delta kernelRun0_A.sl.v887 Sweep.v887
  rw [e_HS1_4]
  try rfl
theorem e_stored40 : kernelRun0_A.sl.HS2_44 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored40 := by
  delta kernelRun0_A.sl.HS2_44 Sweep.stored40
  rw [e_v872, e_v877, e_v878, e_v886, e_v887, e_stored39]
  try rfl
theorem e_v895 : kernelRun0_A.sl.v895 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v895 := by
  delta kernelRun0_A.sl.v895 Sweep.v895
  rw [e_stored40]
  try rfl
theorem e_v896 : kernelRun0_A.sl.v896 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v896 := by
  delta kernelRun0_A.sl.v896 Sweep.v896
  rw [e_HS1_4]
  try rfl
theorem e_stored41 : kernelRun0_A.sl.HS2_45 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored41 := by
  delta kernelRun0_A.sl.HS2_45 Sweep.stored41
  rw [e_v872, e_v877, e_v878, e_v886, e_v887, e_v895, e_v896, e_stored40]
  try rfl
theorem e_v904 : kernelRun0_A.sl.v904 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v904 := by
  delta kernelRun0_A.sl.v904 Sweep.v904
  rw [e_stored41]
  try rfl
theorem e_v903 : kernelRun0_A.sl.r_38 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v903 := by
  delta kernelRun0_A.sl.r_38 Sweep.v903
  rw [e_v872, e_v877, e_v878, e_v886, e_v887, e_v895, e_v896]
  try rfl
theorem e_v905 : kernelRun0_A.sl.v905 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v905 := by
  delta kernelRun0_A.sl.v905 Sweep.v905
  rw [e_HS1_4]
  try rfl
theorem e_stored42 : kernelRun0_A.sl.HS2_46 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored42 := by
  delta kernelRun0_A.sl.HS2_46 Sweep.stored42
  rw [e_v903, e_v904, e_v905, e_stored41]
  try rfl
theorem e_v913 : kernelRun0_A.sl.v913 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v913 := by
  delta kernelRun0_A.sl.v913 Sweep.v913
  rw [e_stored42]
  try rfl
theorem e_v914 : kernelRun0_A.sl.v914 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v914 := by
  delta kernelRun0_A.sl.v914 Sweep.v914
  rw [e_HS1_4]
  try rfl
theorem e_stored43 : kernelRun0_A.sl.HS2_47 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored43 := by
  delta kernelRun0_A.sl.HS2_47 Sweep.stored43
  rw [e_v903, e_v904, e_v905, e_v913, e_v914, e_stored42]
  try rfl
theorem e_v922 : kernelRun0_A.sl.v922 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v922 := by
  delta kernelRun0_A.sl.v922 Sweep.v922
  rw [e_stored43]
  try rfl
theorem e_v923 : kernelRun0_A.sl.v923 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v923 := by
  delta kernelRun0_A.sl.v923 Sweep.v923
  rw [e_HS1_4]
  try rfl
theorem e_stored44 : kernelRun0_A.sl.HS2_48 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored44 := by
  delta kernelRun0_A.sl.HS2_48 Sweep.stored44
  rw [e_v903, e_v904, e_v905, e_v913, e_v914, e_v922, e_v923, e_stored43]
  try rfl
theorem e_v931 : kernelRun0_A.sl.v931 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v931 := by
  delta kernelRun0_A.sl.v931 Sweep.v931
  rw [e_stored44]
  try rfl
theorem e_v932 : kernelRun0_A.sl.v932 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v932 := by
  delta kernelRun0_A.sl.v932 Sweep.v932
  rw [e_HS1_4]
  try rfl
theorem e_stored45 : kernelRun0_A.sl.HS2_49 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored45 := by
  delta kernelRun0_A.sl.HS2_49 Sweep.stored45
  rw [e_v903, e_v904, e_v905, e_v913, e_v914, e_v922, e_v923, e_v931, e_v932, e_stored44]
  try rfl
theorem e_v939 : kernelRun0_A.sl.r_39 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v939 := by
  delta kernelRun0_A.sl.r_39 Sweep.v939
  rw [e_v903, e_v904, e_v905, e_v913, e_v914, e_v922, e_v923, e_v931, e_v932]
  try rfl
theorem e_v940 : kernelRun0_A.sl.v940 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v940 := by
  delta kernelRun0_A.sl.v940 Sweep.v940
  rw [e_stored45]
  try rfl
theorem e_v941 : kernelRun0_A.sl.v941 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v941 := by
  delta kernelRun0_A.sl.v941 Sweep.v941
  rw [e_HS1_4]
  try rfl
theorem e_stored46 : kernelRun0_A.sl.HS2_50 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored46 := by
  delta kernelRun0_A.sl.HS2_50 Sweep.stored46
  rw [e_v939, e_v940, e_v941, e_stored45]
  try rfl
theorem e_v949 : kernelRun0_A.sl.v949 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v949 := by
  delta kernelRun0_A.sl.v949 Sweep.v949
  rw [e_stored46]
  try rfl
theorem e_v950 : kernelRun0_A.sl.v950 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v950 := by
  delta kernelRun0_A.sl.v950 Sweep.v950
  rw [e_HS1_4]
  try rfl
theorem e_stored47 : kernelRun0_A.sl.HS2_51 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored47 := by
  delta kernelRun0_A.sl.HS2_51 Sweep.stored47
  rw [e_v939, e_v940, e_v941, e_v949, e_v950, e_stored46]
  try rfl
theorem e_v958 : kernelRun0_A.sl.v958 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v958 := by
  delta kernelRun0_A.sl.v958 Sweep.v958
  rw [e_stored47]
  try rfl
theorem e_v959 : kernelRun0_A.sl.v959 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v959 := by
  delta kernelRun0_A.sl.v959 Sweep.v959
  rw [e_HS1_4]
  try rfl
theorem e_stored48 : kernelRun0_A.sl.HS2_52 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored48 := by
  delta kernelRun0_A.sl.HS2_52 Sweep.stored48
  rw [e_v939, e_v940, e_v941, e_v949, e_v950, e_v958, e_v959, e_stored47]
  try rfl
theorem e_v967 : kernelRun0_A.sl.v967 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v967 := by
  delta kernelRun0_A.sl.v967 Sweep.v967
  rw [e_stored48]
  try rfl
theorem e_v968 : kernelRun0_A.sl.v968 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v968 := by
  delta kernelRun0_A.sl.v968 Sweep.v968
  rw [e_HS1_4]
  try rfl
theorem e_v971 : kernelRun0_A.sl.r_40 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v971 := by
  delta kernelRun0_A.sl.r_40 Sweep.v971
  rw [e_v939, e_v940, e_v941, e_v949, e_v950, e_v958, e_v959, e_v967, e_v968]
  try rfl
theorem e_stored49 : kernelRun0_A.sl.HS2_53 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored49 := by
  delta kernelRun0_A.sl.HS2_53 Sweep.stored49
  rw [e_v971, e_stored48]
  try rfl
theorem e_v976 : kernelRun0_A.sl.v976 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v976 := by
  delta kernelRun0_A.sl.v976 Sweep.v976
  rw [e_stored49]
  try rfl
theorem e_v977 : kernelRun0_A.sl.v977 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v977 := by
  delta kernelRun0_A.sl.v977 Sweep.v977
  rw [e_HS1_4]
  try rfl
theorem e_stored50 : kernelRun0_A.sl.HS2_54 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored50 := by
  delta kernelRun0_A.sl.HS2_54 Sweep.stored50
  rw [e_v971, e_v976, e_v977, e_stored49]
  try rfl
theorem e_v985 : kernelRun0_A.sl.v985 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v985 := by
  delta kernelRun0_A.sl.v985 Sweep.v985
  rw [e_stored50]
  try rfl
theorem e_v986 : kernelRun0_A.sl.v986 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v986 := by
  delta kernelRun0_A.sl.v986 Sweep.v986
  rw [e_HS1_4]
  try rfl
theorem e_stored51 : kernelRun0_A.sl.HS2_55 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored51 := by
  delta kernelRun0_A.sl.HS2_55 Sweep.stored51
  rw [e_v971, e_v976, e_v977, e_v985, e_v986, e_stored50]
  try rfl
theorem e_v994 : kernelRun0_A.sl.v994 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v994 := by
  delta kernelRun0_A.sl.v994 Sweep.v994
  rw [e_stored51]
  try rfl
theorem e_v995 : kernelRun0_A.sl.v995 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v995 := by
  delta kernelRun0_A.sl.v995 Sweep.v995
  rw [e_HS1_4]
  try rfl
theorem e_stored52 : kernelRun0_A.sl.HS2_56 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored52 := by
  delta kernelRun0_A.sl.HS2_56 Sweep.stored52
  rw [e_v971, e_v976, e_v977, e_v985, e_v986, e_v994, e_v995, e_stored51]
  try rfl
theorem e_v1003 : kernelRun0_A.sl.v1003 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v1003 := by
  delta kernelRun0_A.sl.v1003 Sweep.v1003
  rw [e_stored52]
  try rfl
theorem e_v1004 : kernelRun0_A.sl.v1004 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v1004 := by
  delta kernelRun0_A.sl.v1004 Sweep.v1004
  rw [e_HS1_4]
  try rfl
theorem e_v1007 : kernelRun0_A.sl.r_41 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v1007 := by
  delta kernelRun0_A.sl.r_41 Sweep.v1007
  rw [e_v971, e_v976, e_v977, e_v985, e_v986, e_v994, e_v995, e_v1003, e_v1004]
  try rfl
theorem e_stored53 : kernelRun0_A.sl.HS2_57 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored53 := by
  delta kernelRun0_A.sl.HS2_57 Sweep.stored53
  rw [e_v1007, e_stored52]
  try rfl
theorem e_v1012 : kernelRun0_A.sl.v1012 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v1012 := by
  delta kernelRun0_A.sl.v1012 Sweep.v1012
  rw [e_stored53]
  try rfl
theorem e_v1013 : kernelRun0_A.sl.v1013 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v1013 := by
  delta kernelRun0_A.sl.v1013 Sweep.v1013
  rw [e_HS1_4]
  try rfl
theorem e_stored54 : kernelRun0_A.sl.HS2_58 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored54 := by
  delta kernelRun0_A.sl.HS2_58 Sweep.stored54
  rw [e_v1007, e_v1012, e_v1013, e_stored53]
  try rfl
theorem e_v1021 : kernelRun0_A.sl.v1021 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v1021 := by
  delta kernelRun0_A.sl.v1021 Sweep.v1021
  rw [e_stored54]
  try rfl
theorem e_v1022 : kernelRun0_A.sl.v1022 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v1022 := by
  delta kernelRun0_A.sl.v1022 Sweep.v1022
  rw [e_HS1_4]
  try rfl
theorem e_stored55 : kernelRun0_A.sl.HS2_59 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored55 := by
  delta kernelRun0_A.sl.HS2_59 Sweep.stored55
  rw [e_v1007, e_v1012, e_v1013, e_v1021, e_v1022, e_stored54]
  try rfl
theorem e_v1030 : kernelRun0_A.sl.v1030 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v1030 := by
  delta kernelRun0_A.sl.v1030 Sweep.v1030
  rw [e_stored55]
  try rfl
theorem e_v1031 : kernelRun0_A.sl.v1031 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v1031 := by
  delta kernelRun0_A.sl.v1031 Sweep.v1031
  rw [e_HS1_4]
  try rfl
theorem e_stored56 : kernelRun0_A.sl.HS2_60 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored56 := by
  delta kernelRun0_A.sl.HS2_60 Sweep.stored56
  rw [e_v1007, e_v1012, e_v1013, e_v1021, e_v1022, e_v1030, e_v1031, e_stored55]
  try rfl
theorem e_v1039 : kernelRun0_A.sl.v1039 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v1039 := by
  delta kernelRun0_A.sl.v1039 Sweep.v1039
  rw [e_stored56]
  try rfl
theorem e_v1038 : kernelRun0_A.sl.r_42 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v1038 := by
  delta kernelRun0_A.sl.r_42 Sweep.v1038
  rw [e_v1007, e_v1012, e_v1013, e_v1021, e_v1022, e_v1030, e_v1031]
  try rfl
theorem e_v1040 : kernelRun0_A.sl.v1040 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v1040 := by
  delta kernelRun0_A.sl.v1040 Sweep.v1040
  rw [e_HS1_4]
  try rfl
theorem e_stored57 : kernelRun0_A.sl.HS2_61 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored57 := by
  delta kernelRun0_A.sl.HS2_61 Sweep.stored57
  rw [e_v1038, e_v1039, e_v1040, e_stored56]
  try rfl
theorem e_v1048 : kernelRun0_A.sl.v1048 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v1048 := by
  delta kernelRun0_A.sl.v1048 Sweep.v1048
  rw [e_stored57]
  try rfl
theorem e_v1049 : kernelRun0_A.sl.v1049 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v1049 := by
  delta kernelRun0_A.sl.v1049 Sweep.v1049
  rw [e_HS1_4]
  try rfl
theorem e_stored58 : kernelRun0_A.sl.HS2_62 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored58 := by
  delta kernelRun0_A.sl.HS2_62 Sweep.stored58
  rw [e_v1038, e_v1039, e_v1040, e_v1048, e_v1049, e_stored57]
  try rfl
theorem e_v1057 : kernelRun0_A.sl.v1057 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v1057 := by
  delta kernelRun0_A.sl.v1057 Sweep.v1057
  rw [e_stored58]
  try rfl
theorem e_v1058 : kernelRun0_A.sl.v1058 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v1058 := by
  delta kernelRun0_A.sl.v1058 Sweep.v1058
  rw [e_HS1_4]
  try rfl
theorem e_stored59 : kernelRun0_A.sl.HS2_63 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored59 := by
  delta kernelRun0_A.sl.HS2_63 Sweep.stored59
  rw [e_v1038, e_v1039, e_v1040, e_v1048, e_v1049, e_v1057, e_v1058, e_stored58]
  try rfl
theorem e_v1066 : kernelRun0_A.sl.v1066 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v1066 := by
  delta kernelRun0_A.sl.v1066 Sweep.v1066
  rw [e_stored59]
  try rfl
theorem e_v1067 : kernelRun0_A.sl.v1067 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v1067 := by
  delta kernelRun0_A.sl.v1067 Sweep.v1067
  rw [e_HS1_4]
  try rfl
theorem e_stored60 : kernelRun0_A.sl.HS2_64 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored60 := by
  delta kernelRun0_A.sl.HS2_64 Sweep.stored60
  rw [e_v1038, e_v1039, e_v1040, e_v1048, e_v1049, e_v1057, e_v1058, e_v1066, e_v1067, e_stored59]
  try rfl
theorem e_v1074 : kernelRun0_A.sl.r_43 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v1074 := by
  delta kernelRun0_A.sl.r_43 Sweep.v1074
  rw [e_v1038, e_v1039, e_v1040, e_v1048, e_v1049, e_v1057, e_v1058, e_v1066, e_v1067]
  try rfl
theorem e_v1075 : kernelRun0_A.sl.v1075 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v1075 := by
  delta kernelRun0_A.sl.v1075 Sweep.v1075
  rw [e_stored60]
  try rfl
theorem e_v1076 : kernelRun0_A.sl.v1076 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v1076 := by
  delta kernelRun0_A.sl.v1076 Sweep.v1076
  rw [e_HS1_4]
  try rfl
theorem e_stored61 : kernelRun0_A.sl.HS2_65 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored61 := by
  delta kernelRun0_A.sl.HS2_65 Sweep.stored61
  rw [e_v1074, e_v1075, e_v1076, e_stored60]
  try rfl
theorem e_v1084 : kernelRun0_A.sl.v1084 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v1084 := by
  delta kernelRun0_A.sl.v1084 Sweep.v1084
  rw [e_stored61]
  try rfl
theorem e_v1085 : kernelRun0_A.sl.v1085 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v1085 := by
  delta kernelRun0_A.sl.v1085 Sweep.v1085
  rw [e_HS1_4]
  try rfl
theorem e_stored62 : kernelRun0_A.sl.HS2_66 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored62 := by
  delta kernelRun0_A.sl.HS2_66 Sweep.stored62
  rw [e_v1074, e_v1075, e_v1076, e_v1084, e_v1085, e_stored61]
  try rfl
theorem e_v1093 : kernelRun0_A.sl.v1093 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v1093 := by
  delta kernelRun0_A.sl.v1093 Sweep.v1093
  rw [e_stored62]
  try rfl
theorem e_v1094 : kernelRun0_A.sl.v1094 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v1094 := by
  delta kernelRun0_A.sl.v1094 Sweep.v1094
  rw [e_HS1_4]
  try rfl
theorem e_stored63 : kernelRun0_A.sl.HS2_67 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored63 := by
  delta kernelRun0_A.sl.HS2_67 Sweep.stored63
  rw [e_v1074, e_v1075, e_v1076, e_v1084, e_v1085, e_v1093, e_v1094, e_stored62]
  try rfl
theorem e_v1102 : kernelRun0_A.sl.v1102 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v1102 := by
  delta kernelRun0_A.sl.v1102 Sweep.v1102
  rw [e_stored63]
  try rfl
theorem e_v1103 : kernelRun0_A.sl.v1103 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 scM0_1 (iblk m c 0 t) (iblk m c 1 t) (iblk m c 2 t) (iblk m c 4 t) (iblk m c 5 t) (iblk m c 6 t) (iblk m c 7 t) (iblk m c 10 t) = (G m c t).v1103 := by
  delta kernelRun0_A.sl.v1103 Sweep.v1103
  rw [e_HS1_4]
  try rfl
theorem e_v1106 : kernelRun0_A.sl.r_44 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).v1106 := by
  delta kernelRun0_A.sl.r_44 Sweep.v1106
  rw [e_v1074, e_v1075, e_v1076, e_v1084, e_v1085, e_v1093, e_v1094, e_v1102, e_v1103]
  try rfl
theorem e_stored64 : kernelRun0_A.sl.HS2_68 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 (iblk m c 0 t) (iblk m c 1 t) (iblk m c 2 t) (iblk m c 4 t) (iblk m c 5 t) (iblk m c 6 t) (iblk m c 7 t) (iblk m c 8 t) (iblk m c 9 t) (iblk m c 10 t) = (G m c t).stored64 := by
  delta kernelRun0_A.sl.HS2_68 Sweep.stored64
  rw [e_v1106, e_stored63]
  try rfl

end WalkA

variable (m : (ℓ : Loc nD τ sig) → Buf (Elt Ideal) ℓ)

theorem outsA_12 (c : Dev nD) (t : Fin cfg0.N) (h0 : t.val % 4 = 0) : (outsAt0 m c t.val t.isLt).1 = (tileA m c t).y := by
  rw [outsAt0_A m c t h0]
  dsimp only
  delta out0_A_12 kernelRun0_A
  refine (View.read_writes_full _ _ _ _ _).trans ?_
  delta Tile.y Tile.hs kernelRun0_A.sl.r_45 kernelRun0_A.sl.v1118
  rw [WalkA.e_stored64]
  rfl
theorem outsA_3 (c : Dev nD) (t : Fin cfg0.N) (h0 : t.val % 4 = 0) (j : Fin 1024) :
    (outsAt0 m c t.val t.isLt).2.2.2.2.2.2.2.2.2.2 (ix2 0 j) = (tileA m c t).hcOut (ix2 0 j) := by
  rw [outsAt0_A m c t h0]
  dsimp only
  delta sout0_A_3 kernelRun0_A
  refine (View.read_writes_cons_unit_of_mem _ _ _ _ _ (ix2 0 j) (ix2 0 j) rfl (fun a => by
    match a with
    | ⟨0, _⟩ => rfl
    | ⟨1, _⟩ => exact (Nat.zero_add _).symm)).trans ?_
  rw [WalkA.e_v1106]
  rfl

end Cert.KernelIdeal.RowValue

end
-- ==== Proof.InWalkB.lean ====
/-
  THE WALK'S RESULT IN THE RUN, at a later tile. The stores the run makes while it walks the groups are the walk's, one by one; so
  the first output and the recurrence's carried row are those of the tile's walk.
-/
module

public import proofs.«01_k».proof.Proof.InTile

@[expose] public section

set_option maxRecDepth 65536
set_option maxHeartbeats 4000000

noncomputable section

namespace Cert.KernelIdeal.RowValue

open Cert.KernelIdeal Cert.KernelIdeal.Gen Idealize.ShloMosaic Idealize.ShloMosaic.TcCoe Idealize.SL.Sem

namespace WalkB

variable (m : (ℓ : Loc nD τ sig) → Buf (Elt Ideal) ℓ) (c : Dev nD) (t : Fin cfg0.N) (xs0 xs3 : FVec Ideal S8x1024 .f32)

/-- The tile, over what the tile before left. -/
def T : Tile := tileOf m c t
  (scM0_0.view.readAt (Elt Ideal) (Rect.unit (s := S8x1024) ![0, 0] S8x1024.size inb_S8x1024_S8x1024_0_0).toLoadRect ((Memref.isWhole_whole _).unread xs0))
  (scM0_3.view.readAt (Elt Ideal) (Rect.unit (s := S8x1024) ![0, 0] S1x1024.size inb_S8x1024_S1x1024_0_0).toLoadRect ((Memref.isWhole_whole _).unread xs3))
/-- Its walk. -/
def G : Sweep := (T m c t xs0 xs3).sw
theorem e_v534 : kernelRun0_B.sl.r_29 (F := Ideal) c scM0_3 (Memref.isWhole_whole _) xs3 = (G m c t xs0 xs3).h0 := rfl
theorem e_HS1_4 : kernelRun0_B.sl.HS1_4 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) (iblk m c 0 t) (iblk m c 1 t) (iblk m c 2 t) (iblk m c 4 t) (iblk m c 5 t) (iblk m c 6 t) (iblk m c 7 t) (iblk m c 10 t) xs0 = (G m c t xs0 xs3).LA := by
  show _ = (T m c t xs0 xs3).LA
  delta kernelRun0_B.sl.HS1_4 Tile.LA
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl)))
  · delta Tile.pa3; rfl
  · delta Tile.pa2; rfl
  · delta Tile.pa1; rfl
  · delta Tile.pa0; rfl
theorem e_HS2_4 : kernelRun0_B.sl.HS2_4 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 = (G m c t xs0 xs3).stored0 := by
  show _ = (T m c t xs0 xs3).LB
  delta kernelRun0_B.sl.HS2_4 Tile.LB
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl)))
  · delta Tile.pb3; rfl
  · delta Tile.pb2; rfl
  · delta Tile.pb1; rfl
  · delta Tile.pb0; rfl
theorem e_v535 : kernelRun0_B.sl.v535 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_2 (iblk m c 0 t) (iblk m c 1 t) (iblk m c 2 t) (iblk m c 4 t) (iblk m c 5 t) (iblk m c 6 t) (iblk m c 7 t) (iblk m c 8 t) (iblk m c 9 t) (iblk m c 10 t) xs0 = (G m c t xs0 xs3).v535 := by
  delta kernelRun0_B.sl.v535 Sweep.v535
  rw [e_HS2_4]
  try rfl
theorem e_v536 : kernelRun0_B.sl.v536 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v536 := by
  delta kernelRun0_B.sl.v536 Sweep.v536
  rw [e_HS1_4]
  try rfl
theorem e_stored1 : kernelRun0_B.sl.HS2_5 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored1 := by
  delta kernelRun0_B.sl.HS2_5 Sweep.stored1
  rw [e_v534, e_v535, e_v536, e_HS2_4]
  try rfl
theorem e_v544 : kernelRun0_B.sl.v544 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v544 := by
  delta kernelRun0_B.sl.v544 Sweep.v544
  rw [e_stored1]
  try rfl
theorem e_v545 : kernelRun0_B.sl.v545 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v545 := by
  delta kernelRun0_B.sl.v545 Sweep.v545
  rw [e_HS1_4]
  try rfl
theorem e_stored2 : kernelRun0_B.sl.HS2_6 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored2 := by
  delta kernelRun0_B.sl.HS2_6 Sweep.stored2
  rw [e_v534, e_v535, e_v536, e_v544, e_v545, e_stored1]
  try rfl
theorem e_v553 : kernelRun0_B.sl.v553 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v553 := by
  delta kernelRun0_B.sl.v553 Sweep.v553
  rw [e_stored2]
  try rfl
theorem e_v554 : kernelRun0_B.sl.v554 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v554 := by
  delta kernelRun0_B.sl.v554 Sweep.v554
  rw [e_HS1_4]
  try rfl
theorem e_stored3 : kernelRun0_B.sl.HS2_7 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored3 := by
  delta kernelRun0_B.sl.HS2_7 Sweep.stored3
  rw [e_v534, e_v535, e_v536, e_v544, e_v545, e_v553, e_v554, e_stored2]
  try rfl
theorem e_v562 : kernelRun0_B.sl.v562 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v562 := by
  delta kernelRun0_B.sl.v562 Sweep.v562
  rw [e_stored3]
  try rfl
theorem e_v563 : kernelRun0_B.sl.v563 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v563 := by
  delta kernelRun0_B.sl.v563 Sweep.v563
  rw [e_HS1_4]
  try rfl
theorem e_v566 : kernelRun0_B.sl.r_30 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v566 := by
  delta kernelRun0_B.sl.r_30 Sweep.v566
  rw [e_v534, e_v535, e_v536, e_v544, e_v545, e_v553, e_v554, e_v562, e_v563]
  try rfl
theorem e_stored4 : kernelRun0_B.sl.HS2_8 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored4 := by
  delta kernelRun0_B.sl.HS2_8 Sweep.stored4
  rw [e_v566, e_stored3]
  try rfl
theorem e_v571 : kernelRun0_B.sl.v571 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v571 := by
  delta kernelRun0_B.sl.v571 Sweep.v571
  rw [e_stored4]
  try rfl
theorem e_v572 : kernelRun0_B.sl.v572 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v572 := by
  delta kernelRun0_B.sl.v572 Sweep.v572
  rw [e_HS1_4]
  try rfl
theorem e_stored5 : kernelRun0_B.sl.HS2_9 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored5 := by
  delta kernelRun0_B.sl.HS2_9 Sweep.stored5
  rw [e_v566, e_v571, e_v572, e_stored4]
  try rfl
theorem e_v580 : kernelRun0_B.sl.v580 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v580 := by
  delta kernelRun0_B.sl.v580 Sweep.v580
  rw [e_stored5]
  try rfl
theorem e_v581 : kernelRun0_B.sl.v581 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v581 := by
  delta kernelRun0_B.sl.v581 Sweep.v581
  rw [e_HS1_4]
  try rfl
theorem e_stored6 : kernelRun0_B.sl.HS2_10 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored6 := by
  delta kernelRun0_B.sl.HS2_10 Sweep.stored6
  rw [e_v566, e_v571, e_v572, e_v580, e_v581, e_stored5]
  try rfl
theorem e_v589 : kernelRun0_B.sl.v589 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v589 := by
  delta kernelRun0_B.sl.v589 Sweep.v589
  rw [e_stored6]
  try rfl
theorem e_v590 : kernelRun0_B.sl.v590 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v590 := by
  delta kernelRun0_B.sl.v590 Sweep.v590
  rw [e_HS1_4]
  try rfl
theorem e_stored7 : kernelRun0_B.sl.HS2_11 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored7 := by
  delta kernelRun0_B.sl.HS2_11 Sweep.stored7
  rw [e_v566, e_v571, e_v572, e_v580, e_v581, e_v589, e_v590, e_stored6]
  try rfl
theorem e_v598 : kernelRun0_B.sl.v598 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v598 := by
  delta kernelRun0_B.sl.v598 Sweep.v598
  rw [e_stored7]
  try rfl
theorem e_v599 : kernelRun0_B.sl.v599 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v599 := by
  delta kernelRun0_B.sl.v599 Sweep.v599
  rw [e_HS1_4]
  try rfl
theorem e_v602 : kernelRun0_B.sl.r_31 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v602 := by
  delta kernelRun0_B.sl.r_31 Sweep.v602
  rw [e_v566, e_v571, e_v572, e_v580, e_v581, e_v589, e_v590, e_v598, e_v599]
  try rfl
theorem e_stored8 : kernelRun0_B.sl.HS2_12 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored8 := by
  delta kernelRun0_B.sl.HS2_12 Sweep.stored8
  rw [e_v602, e_stored7]
  try rfl
theorem e_v607 : kernelRun0_B.sl.v607 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v607 := by
  delta kernelRun0_B.sl.v607 Sweep.v607
  rw [e_stored8]
  try rfl
theorem e_v608 : kernelRun0_B.sl.v608 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v608 := by
  delta kernelRun0_B.sl.v608 Sweep.v608
  rw [e_HS1_4]
  try rfl
theorem e_stored9 : kernelRun0_B.sl.HS2_13 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored9 := by
  delta kernelRun0_B.sl.HS2_13 Sweep.stored9
  rw [e_v602, e_v607, e_v608, e_stored8]
  try rfl
theorem e_v616 : kernelRun0_B.sl.v616 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v616 := by
  delta kernelRun0_B.sl.v616 Sweep.v616
  rw [e_stored9]
  try rfl
theorem e_v617 : kernelRun0_B.sl.v617 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v617 := by
  delta kernelRun0_B.sl.v617 Sweep.v617
  rw [e_HS1_4]
  try rfl
theorem e_stored10 : kernelRun0_B.sl.HS2_14 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored10 := by
  delta kernelRun0_B.sl.HS2_14 Sweep.stored10
  rw [e_v602, e_v607, e_v608, e_v616, e_v617, e_stored9]
  try rfl
theorem e_v625 : kernelRun0_B.sl.v625 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v625 := by
  delta kernelRun0_B.sl.v625 Sweep.v625
  rw [e_stored10]
  try rfl
theorem e_v626 : kernelRun0_B.sl.v626 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v626 := by
  delta kernelRun0_B.sl.v626 Sweep.v626
  rw [e_HS1_4]
  try rfl
theorem e_stored11 : kernelRun0_B.sl.HS2_15 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored11 := by
  delta kernelRun0_B.sl.HS2_15 Sweep.stored11
  rw [e_v602, e_v607, e_v608, e_v616, e_v617, e_v625, e_v626, e_stored10]
  try rfl
theorem e_v634 : kernelRun0_B.sl.v634 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v634 := by
  delta kernelRun0_B.sl.v634 Sweep.v634
  rw [e_stored11]
  try rfl
theorem e_v633 : kernelRun0_B.sl.r_32 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v633 := by
  delta kernelRun0_B.sl.r_32 Sweep.v633
  rw [e_v602, e_v607, e_v608, e_v616, e_v617, e_v625, e_v626]
  try rfl
theorem e_v635 : kernelRun0_B.sl.v635 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v635 := by
  delta kernelRun0_B.sl.v635 Sweep.v635
  rw [e_HS1_4]
  try rfl
theorem e_stored12 : kernelRun0_B.sl.HS2_16 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored12 := by
  delta kernelRun0_B.sl.HS2_16 Sweep.stored12
  rw [e_v633, e_v634, e_v635, e_stored11]
  try rfl
theorem e_v643 : kernelRun0_B.sl.v643 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v643 := by
  delta kernelRun0_B.sl.v643 Sweep.v643
  rw [e_stored12]
  try rfl
theorem e_v644 : kernelRun0_B.sl.v644 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v644 := by
  delta kernelRun0_B.sl.v644 Sweep.v644
  rw [e_HS1_4]
  try rfl
theorem e_stored13 : kernelRun0_B.sl.HS2_17 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored13 := by
  delta kernelRun0_B.sl.HS2_17 Sweep.stored13
  rw [e_v633, e_v634, e_v635, e_v643, e_v644, e_stored12]
  try rfl
theorem e_v652 : kernelRun0_B.sl.v652 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v652 := by
  delta kernelRun0_B.sl.v652 Sweep.v652
  rw [e_stored13]
  try rfl
theorem e_v653 : kernelRun0_B.sl.v653 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v653 := by
  delta kernelRun0_B.sl.v653 Sweep.v653
  rw [e_HS1_4]
  try rfl
theorem e_stored14 : kernelRun0_B.sl.HS2_18 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored14 := by
  delta kernelRun0_B.sl.HS2_18 Sweep.stored14
  rw [e_v633, e_v634, e_v635, e_v643, e_v644, e_v652, e_v653, e_stored13]
  try rfl
theorem e_v661 : kernelRun0_B.sl.v661 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v661 := by
  delta kernelRun0_B.sl.v661 Sweep.v661
  rw [e_stored14]
  try rfl
theorem e_v662 : kernelRun0_B.sl.v662 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v662 := by
  delta kernelRun0_B.sl.v662 Sweep.v662
  rw [e_HS1_4]
  try rfl
theorem e_stored15 : kernelRun0_B.sl.HS2_19 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored15 := by
  delta kernelRun0_B.sl.HS2_19 Sweep.stored15
  rw [e_v633, e_v634, e_v635, e_v643, e_v644, e_v652, e_v653, e_v661, e_v662, e_stored14]
  try rfl
theorem e_v669 : kernelRun0_B.sl.r_33 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v669 := by
  delta kernelRun0_B.sl.r_33 Sweep.v669
  rw [e_v633, e_v634, e_v635, e_v643, e_v644, e_v652, e_v653, e_v661, e_v662]
  try rfl
theorem e_v670 : kernelRun0_B.sl.v670 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v670 := by
  delta kernelRun0_B.sl.v670 Sweep.v670
  rw [e_stored15]
  try rfl
theorem e_v671 : kernelRun0_B.sl.v671 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v671 := by
  delta kernelRun0_B.sl.v671 Sweep.v671
  rw [e_HS1_4]
  try rfl
theorem e_stored16 : kernelRun0_B.sl.HS2_20 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored16 := by
  delta kernelRun0_B.sl.HS2_20 Sweep.stored16
  rw [e_v669, e_v670, e_v671, e_stored15]
  try rfl
theorem e_v679 : kernelRun0_B.sl.v679 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v679 := by
  delta kernelRun0_B.sl.v679 Sweep.v679
  rw [e_stored16]
  try rfl
theorem e_v680 : kernelRun0_B.sl.v680 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v680 := by
  delta kernelRun0_B.sl.v680 Sweep.v680
  rw [e_HS1_4]
  try rfl
theorem e_stored17 : kernelRun0_B.sl.HS2_21 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored17 := by
  delta kernelRun0_B.sl.HS2_21 Sweep.stored17
  rw [e_v669, e_v670, e_v671, e_v679, e_v680, e_stored16]
  try rfl
theorem e_v688 : kernelRun0_B.sl.v688 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v688 := by
  delta kernelRun0_B.sl.v688 Sweep.v688
  rw [e_stored17]
  try rfl
theorem e_v689 : kernelRun0_B.sl.v689 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v689 := by
  delta kernelRun0_B.sl.v689 Sweep.v689
  rw [e_HS1_4]
  try rfl
theorem e_stored18 : kernelRun0_B.sl.HS2_22 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored18 := by
  delta kernelRun0_B.sl.HS2_22 Sweep.stored18
  rw [e_v669, e_v670, e_v671, e_v679, e_v680, e_v688, e_v689, e_stored17]
  try rfl
theorem e_v697 : kernelRun0_B.sl.v697 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v697 := by
  delta kernelRun0_B.sl.v697 Sweep.v697
  rw [e_stored18]
  try rfl
theorem e_v698 : kernelRun0_B.sl.v698 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v698 := by
  delta kernelRun0_B.sl.v698 Sweep.v698
  rw [e_HS1_4]
  try rfl
theorem e_v701 : kernelRun0_B.sl.r_34 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v701 := by
  delta kernelRun0_B.sl.r_34 Sweep.v701
  rw [e_v669, e_v670, e_v671, e_v679, e_v680, e_v688, e_v689, e_v697, e_v698]
  try rfl
theorem e_stored19 : kernelRun0_B.sl.HS2_23 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored19 := by
  delta kernelRun0_B.sl.HS2_23 Sweep.stored19
  rw [e_v701, e_stored18]
  try rfl
theorem e_v706 : kernelRun0_B.sl.v706 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v706 := by
  delta kernelRun0_B.sl.v706 Sweep.v706
  rw [e_stored19]
  try rfl
theorem e_v707 : kernelRun0_B.sl.v707 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v707 := by
  delta kernelRun0_B.sl.v707 Sweep.v707
  rw [e_HS1_4]
  try rfl
theorem e_stored20 : kernelRun0_B.sl.HS2_24 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored20 := by
  delta kernelRun0_B.sl.HS2_24 Sweep.stored20
  rw [e_v701, e_v706, e_v707, e_stored19]
  try rfl
theorem e_v715 : kernelRun0_B.sl.v715 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v715 := by
  delta kernelRun0_B.sl.v715 Sweep.v715
  rw [e_stored20]
  try rfl
theorem e_v716 : kernelRun0_B.sl.v716 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v716 := by
  delta kernelRun0_B.sl.v716 Sweep.v716
  rw [e_HS1_4]
  try rfl
theorem e_stored21 : kernelRun0_B.sl.HS2_25 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored21 := by
  delta kernelRun0_B.sl.HS2_25 Sweep.stored21
  rw [e_v701, e_v706, e_v707, e_v715, e_v716, e_stored20]
  try rfl
theorem e_v724 : kernelRun0_B.sl.v724 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v724 := by
  delta kernelRun0_B.sl.v724 Sweep.v724
  rw [e_stored21]
  try rfl
theorem e_v725 : kernelRun0_B.sl.v725 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v725 := by
  delta kernelRun0_B.sl.v725 Sweep.v725
  rw [e_HS1_4]
  try rfl
theorem e_stored22 : kernelRun0_B.sl.HS2_26 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored22 := by
  delta kernelRun0_B.sl.HS2_26 Sweep.stored22
  rw [e_v701, e_v706, e_v707, e_v715, e_v716, e_v724, e_v725, e_stored21]
  try rfl
theorem e_v733 : kernelRun0_B.sl.v733 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v733 := by
  delta kernelRun0_B.sl.v733 Sweep.v733
  rw [e_stored22]
  try rfl
theorem e_v734 : kernelRun0_B.sl.v734 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v734 := by
  delta kernelRun0_B.sl.v734 Sweep.v734
  rw [e_HS1_4]
  try rfl
theorem e_v737 : kernelRun0_B.sl.r_35 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v737 := by
  delta kernelRun0_B.sl.r_35 Sweep.v737
  rw [e_v701, e_v706, e_v707, e_v715, e_v716, e_v724, e_v725, e_v733, e_v734]
  try rfl
theorem e_stored23 : kernelRun0_B.sl.HS2_27 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored23 := by
  delta kernelRun0_B.sl.HS2_27 Sweep.stored23
  rw [e_v737, e_stored22]
  try rfl
theorem e_v742 : kernelRun0_B.sl.v742 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v742 := by
  delta kernelRun0_B.sl.v742 Sweep.v742
  rw [e_stored23]
  try rfl
theorem e_v743 : kernelRun0_B.sl.v743 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v743 := by
  delta kernelRun0_B.sl.v743 Sweep.v743
  rw [e_HS1_4]
  try rfl
theorem e_stored24 : kernelRun0_B.sl.HS2_28 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored24 := by
  delta kernelRun0_B.sl.HS2_28 Sweep.stored24
  rw [e_v737, e_v742, e_v743, e_stored23]
  try rfl
theorem e_v751 : kernelRun0_B.sl.v751 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v751 := by
  delta kernelRun0_B.sl.v751 Sweep.v751
  rw [e_stored24]
  try rfl
theorem e_v752 : kernelRun0_B.sl.v752 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v752 := by
  delta kernelRun0_B.sl.v752 Sweep.v752
  rw [e_HS1_4]
  try rfl
theorem e_stored25 : kernelRun0_B.sl.HS2_29 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored25 := by
  delta kernelRun0_B.sl.HS2_29 Sweep.stored25
  rw [e_v737, e_v742, e_v743, e_v751, e_v752, e_stored24]
  try rfl
theorem e_v760 : kernelRun0_B.sl.v760 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v760 := by
  delta kernelRun0_B.sl.v760 Sweep.v760
  rw [e_stored25]
  try rfl
theorem e_v761 : kernelRun0_B.sl.v761 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v761 := by
  delta kernelRun0_B.sl.v761 Sweep.v761
  rw [e_HS1_4]
  try rfl
theorem e_stored26 : kernelRun0_B.sl.HS2_30 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored26 := by
  delta kernelRun0_B.sl.HS2_30 Sweep.stored26
  rw [e_v737, e_v742, e_v743, e_v751, e_v752, e_v760, e_v761, e_stored25]
  try rfl
theorem e_v769 : kernelRun0_B.sl.v769 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v769 := by
  delta kernelRun0_B.sl.v769 Sweep.v769
  rw [e_stored26]
  try rfl
theorem e_v768 : kernelRun0_B.sl.r_36 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v768 := by
  delta kernelRun0_B.sl.r_36 Sweep.v768
  rw [e_v737, e_v742, e_v743, e_v751, e_v752, e_v760, e_v761]
  try rfl
theorem e_v770 : kernelRun0_B.sl.v770 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v770 := by
  delta kernelRun0_B.sl.v770 Sweep.v770
  rw [e_HS1_4]
  try rfl
theorem e_stored27 : kernelRun0_B.sl.HS2_31 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored27 := by
  delta kernelRun0_B.sl.HS2_31 Sweep.stored27
  rw [e_v768, e_v769, e_v770, e_stored26]
  try rfl
theorem e_v778 : kernelRun0_B.sl.v778 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v778 := by
  delta kernelRun0_B.sl.v778 Sweep.v778
  rw [e_stored27]
  try rfl
theorem e_v779 : kernelRun0_B.sl.v779 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v779 := by
  delta kernelRun0_B.sl.v779 Sweep.v779
  rw [e_HS1_4]
  try rfl
theorem e_stored28 : kernelRun0_B.sl.HS2_32 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored28 := by
  delta kernelRun0_B.sl.HS2_32 Sweep.stored28
  rw [e_v768, e_v769, e_v770, e_v778, e_v779, e_stored27]
  try rfl
theorem e_v787 : kernelRun0_B.sl.v787 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v787 := by
  delta kernelRun0_B.sl.v787 Sweep.v787
  rw [e_stored28]
  try rfl
theorem e_v788 : kernelRun0_B.sl.v788 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v788 := by
  delta kernelRun0_B.sl.v788 Sweep.v788
  rw [e_HS1_4]
  try rfl
theorem e_stored29 : kernelRun0_B.sl.HS2_33 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored29 := by
  delta kernelRun0_B.sl.HS2_33 Sweep.stored29
  rw [e_v768, e_v769, e_v770, e_v778, e_v779, e_v787, e_v788, e_stored28]
  try rfl
theorem e_v796 : kernelRun0_B.sl.v796 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v796 := by
  delta kernelRun0_B.sl.v796 Sweep.v796
  rw [e_stored29]
  try rfl
theorem e_v797 : kernelRun0_B.sl.v797 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v797 := by
  delta kernelRun0_B.sl.v797 Sweep.v797
  rw [e_HS1_4]
  try rfl
theorem e_stored30 : kernelRun0_B.sl.HS2_34 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored30 := by
  delta kernelRun0_B.sl.HS2_34 Sweep.stored30
  rw [e_v768, e_v769, e_v770, e_v778, e_v779, e_v787, e_v788, e_v796, e_v797, e_stored29]
  try rfl
theorem e_v804 : kernelRun0_B.sl.r_37 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v804 := by
  delta kernelRun0_B.sl.r_37 Sweep.v804
  rw [e_v768, e_v769, e_v770, e_v778, e_v779, e_v787, e_v788, e_v796, e_v797]
  try rfl
theorem e_v805 : kernelRun0_B.sl.v805 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v805 := by
  delta kernelRun0_B.sl.v805 Sweep.v805
  rw [e_stored30]
  try rfl
theorem e_v806 : kernelRun0_B.sl.v806 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v806 := by
  delta kernelRun0_B.sl.v806 Sweep.v806
  rw [e_HS1_4]
  try rfl
theorem e_stored31 : kernelRun0_B.sl.HS2_35 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored31 := by
  delta kernelRun0_B.sl.HS2_35 Sweep.stored31
  rw [e_v804, e_v805, e_v806, e_stored30]
  try rfl
theorem e_v814 : kernelRun0_B.sl.v814 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v814 := by
  delta kernelRun0_B.sl.v814 Sweep.v814
  rw [e_stored31]
  try rfl
theorem e_v815 : kernelRun0_B.sl.v815 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v815 := by
  delta kernelRun0_B.sl.v815 Sweep.v815
  rw [e_HS1_4]
  try rfl
theorem e_stored32 : kernelRun0_B.sl.HS2_36 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored32 := by
  delta kernelRun0_B.sl.HS2_36 Sweep.stored32
  rw [e_v804, e_v805, e_v806, e_v814, e_v815, e_stored31]
  try rfl
theorem e_v823 : kernelRun0_B.sl.v823 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v823 := by
  delta kernelRun0_B.sl.v823 Sweep.v823
  rw [e_stored32]
  try rfl
theorem e_v824 : kernelRun0_B.sl.v824 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v824 := by
  delta kernelRun0_B.sl.v824 Sweep.v824
  rw [e_HS1_4]
  try rfl
theorem e_stored33 : kernelRun0_B.sl.HS2_37 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored33 := by
  delta kernelRun0_B.sl.HS2_37 Sweep.stored33
  rw [e_v804, e_v805, e_v806, e_v814, e_v815, e_v823, e_v824, e_stored32]
  try rfl
theorem e_v832 : kernelRun0_B.sl.v832 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v832 := by
  delta kernelRun0_B.sl.v832 Sweep.v832
  rw [e_stored33]
  try rfl
theorem e_v833 : kernelRun0_B.sl.v833 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v833 := by
  delta kernelRun0_B.sl.v833 Sweep.v833
  rw [e_HS1_4]
  try rfl
theorem e_v836 : kernelRun0_B.sl.r_38 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v836 := by
  delta kernelRun0_B.sl.r_38 Sweep.v836
  rw [e_v804, e_v805, e_v806, e_v814, e_v815, e_v823, e_v824, e_v832, e_v833]
  try rfl
theorem e_stored34 : kernelRun0_B.sl.HS2_38 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored34 := by
  delta kernelRun0_B.sl.HS2_38 Sweep.stored34
  rw [e_v836, e_stored33]
  try rfl
theorem e_v841 : kernelRun0_B.sl.v841 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v841 := by
  delta kernelRun0_B.sl.v841 Sweep.v841
  rw [e_stored34]
  try rfl
theorem e_v842 : kernelRun0_B.sl.v842 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v842 := by
  delta kernelRun0_B.sl.v842 Sweep.v842
  rw [e_HS1_4]
  try rfl
theorem e_stored35 : kernelRun0_B.sl.HS2_39 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored35 := by
  delta kernelRun0_B.sl.HS2_39 Sweep.stored35
  rw [e_v836, e_v841, e_v842, e_stored34]
  try rfl
theorem e_v850 : kernelRun0_B.sl.v850 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v850 := by
  delta kernelRun0_B.sl.v850 Sweep.v850
  rw [e_stored35]
  try rfl
theorem e_v851 : kernelRun0_B.sl.v851 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v851 := by
  delta kernelRun0_B.sl.v851 Sweep.v851
  rw [e_HS1_4]
  try rfl
theorem e_stored36 : kernelRun0_B.sl.HS2_40 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored36 := by
  delta kernelRun0_B.sl.HS2_40 Sweep.stored36
  rw [e_v836, e_v841, e_v842, e_v850, e_v851, e_stored35]
  try rfl
theorem e_v859 : kernelRun0_B.sl.v859 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v859 := by
  delta kernelRun0_B.sl.v859 Sweep.v859
  rw [e_stored36]
  try rfl
theorem e_v860 : kernelRun0_B.sl.v860 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v860 := by
  delta kernelRun0_B.sl.v860 Sweep.v860
  rw [e_HS1_4]
  try rfl
theorem e_stored37 : kernelRun0_B.sl.HS2_41 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored37 := by
  delta kernelRun0_B.sl.HS2_41 Sweep.stored37
  rw [e_v836, e_v841, e_v842, e_v850, e_v851, e_v859, e_v860, e_stored36]
  try rfl
theorem e_v868 : kernelRun0_B.sl.v868 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v868 := by
  delta kernelRun0_B.sl.v868 Sweep.v868
  rw [e_stored37]
  try rfl
theorem e_v869 : kernelRun0_B.sl.v869 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v869 := by
  delta kernelRun0_B.sl.v869 Sweep.v869
  rw [e_HS1_4]
  try rfl
theorem e_v872 : kernelRun0_B.sl.r_39 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v872 := by
  delta kernelRun0_B.sl.r_39 Sweep.v872
  rw [e_v836, e_v841, e_v842, e_v850, e_v851, e_v859, e_v860, e_v868, e_v869]
  try rfl
theorem e_stored38 : kernelRun0_B.sl.HS2_42 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored38 := by
  delta kernelRun0_B.sl.HS2_42 Sweep.stored38
  rw [e_v872, e_stored37]
  try rfl
theorem e_v877 : kernelRun0_B.sl.v877 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v877 := by
  delta kernelRun0_B.sl.v877 Sweep.v877
  rw [e_stored38]
  try rfl
theorem e_v878 : kernelRun0_B.sl.v878 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v878 := by
  delta kernelRun0_B.sl.v878 Sweep.v878
  rw [e_HS1_4]
  try rfl
theorem e_stored39 : kernelRun0_B.sl.HS2_43 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored39 := by
  delta kernelRun0_B.sl.HS2_43 Sweep.stored39
  rw [e_v872, e_v877, e_v878, e_stored38]
  try rfl
theorem e_v886 : kernelRun0_B.sl.v886 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v886 := by
  delta kernelRun0_B.sl.v886 Sweep.v886
  rw [e_stored39]
  try rfl
theorem e_v887 : kernelRun0_B.sl.v887 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v887 := by
  delta kernelRun0_B.sl.v887 Sweep.v887
  rw [e_HS1_4]
  try rfl
theorem e_stored40 : kernelRun0_B.sl.HS2_44 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored40 := by
  delta kernelRun0_B.sl.HS2_44 Sweep.stored40
  rw [e_v872, e_v877, e_v878, e_v886, e_v887, e_stored39]
  try rfl
theorem e_v895 : kernelRun0_B.sl.v895 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v895 := by
  delta kernelRun0_B.sl.v895 Sweep.v895
  rw [e_stored40]
  try rfl
theorem e_v896 : kernelRun0_B.sl.v896 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v896 := by
  delta kernelRun0_B.sl.v896 Sweep.v896
  rw [e_HS1_4]
  try rfl
theorem e_stored41 : kernelRun0_B.sl.HS2_45 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored41 := by
  delta kernelRun0_B.sl.HS2_45 Sweep.stored41
  rw [e_v872, e_v877, e_v878, e_v886, e_v887, e_v895, e_v896, e_stored40]
  try rfl
theorem e_v904 : kernelRun0_B.sl.v904 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v904 := by
  delta kernelRun0_B.sl.v904 Sweep.v904
  rw [e_stored41]
  try rfl
theorem e_v903 : kernelRun0_B.sl.r_40 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v903 := by
  delta kernelRun0_B.sl.r_40 Sweep.v903
  rw [e_v872, e_v877, e_v878, e_v886, e_v887, e_v895, e_v896]
  try rfl
theorem e_v905 : kernelRun0_B.sl.v905 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v905 := by
  delta kernelRun0_B.sl.v905 Sweep.v905
  rw [e_HS1_4]
  try rfl
theorem e_stored42 : kernelRun0_B.sl.HS2_46 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored42 := by
  delta kernelRun0_B.sl.HS2_46 Sweep.stored42
  rw [e_v903, e_v904, e_v905, e_stored41]
  try rfl
theorem e_v913 : kernelRun0_B.sl.v913 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v913 := by
  delta kernelRun0_B.sl.v913 Sweep.v913
  rw [e_stored42]
  try rfl
theorem e_v914 : kernelRun0_B.sl.v914 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v914 := by
  delta kernelRun0_B.sl.v914 Sweep.v914
  rw [e_HS1_4]
  try rfl
theorem e_stored43 : kernelRun0_B.sl.HS2_47 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored43 := by
  delta kernelRun0_B.sl.HS2_47 Sweep.stored43
  rw [e_v903, e_v904, e_v905, e_v913, e_v914, e_stored42]
  try rfl
theorem e_v922 : kernelRun0_B.sl.v922 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v922 := by
  delta kernelRun0_B.sl.v922 Sweep.v922
  rw [e_stored43]
  try rfl
theorem e_v923 : kernelRun0_B.sl.v923 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v923 := by
  delta kernelRun0_B.sl.v923 Sweep.v923
  rw [e_HS1_4]
  try rfl
theorem e_stored44 : kernelRun0_B.sl.HS2_48 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored44 := by
  delta kernelRun0_B.sl.HS2_48 Sweep.stored44
  rw [e_v903, e_v904, e_v905, e_v913, e_v914, e_v922, e_v923, e_stored43]
  try rfl
theorem e_v931 : kernelRun0_B.sl.v931 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v931 := by
  delta kernelRun0_B.sl.v931 Sweep.v931
  rw [e_stored44]
  try rfl
theorem e_v932 : kernelRun0_B.sl.v932 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v932 := by
  delta kernelRun0_B.sl.v932 Sweep.v932
  rw [e_HS1_4]
  try rfl
theorem e_stored45 : kernelRun0_B.sl.HS2_49 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored45 := by
  delta kernelRun0_B.sl.HS2_49 Sweep.stored45
  rw [e_v903, e_v904, e_v905, e_v913, e_v914, e_v922, e_v923, e_v931, e_v932, e_stored44]
  try rfl
theorem e_v939 : kernelRun0_B.sl.r_41 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v939 := by
  delta kernelRun0_B.sl.r_41 Sweep.v939
  rw [e_v903, e_v904, e_v905, e_v913, e_v914, e_v922, e_v923, e_v931, e_v932]
  try rfl
theorem e_v940 : kernelRun0_B.sl.v940 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v940 := by
  delta kernelRun0_B.sl.v940 Sweep.v940
  rw [e_stored45]
  try rfl
theorem e_v941 : kernelRun0_B.sl.v941 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v941 := by
  delta kernelRun0_B.sl.v941 Sweep.v941
  rw [e_HS1_4]
  try rfl
theorem e_stored46 : kernelRun0_B.sl.HS2_50 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored46 := by
  delta kernelRun0_B.sl.HS2_50 Sweep.stored46
  rw [e_v939, e_v940, e_v941, e_stored45]
  try rfl
theorem e_v949 : kernelRun0_B.sl.v949 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v949 := by
  delta kernelRun0_B.sl.v949 Sweep.v949
  rw [e_stored46]
  try rfl
theorem e_v950 : kernelRun0_B.sl.v950 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v950 := by
  delta kernelRun0_B.sl.v950 Sweep.v950
  rw [e_HS1_4]
  try rfl
theorem e_stored47 : kernelRun0_B.sl.HS2_51 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored47 := by
  delta kernelRun0_B.sl.HS2_51 Sweep.stored47
  rw [e_v939, e_v940, e_v941, e_v949, e_v950, e_stored46]
  try rfl
theorem e_v958 : kernelRun0_B.sl.v958 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v958 := by
  delta kernelRun0_B.sl.v958 Sweep.v958
  rw [e_stored47]
  try rfl
theorem e_v959 : kernelRun0_B.sl.v959 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v959 := by
  delta kernelRun0_B.sl.v959 Sweep.v959
  rw [e_HS1_4]
  try rfl
theorem e_stored48 : kernelRun0_B.sl.HS2_52 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored48 := by
  delta kernelRun0_B.sl.HS2_52 Sweep.stored48
  rw [e_v939, e_v940, e_v941, e_v949, e_v950, e_v958, e_v959, e_stored47]
  try rfl
theorem e_v967 : kernelRun0_B.sl.v967 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v967 := by
  delta kernelRun0_B.sl.v967 Sweep.v967
  rw [e_stored48]
  try rfl
theorem e_v968 : kernelRun0_B.sl.v968 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v968 := by
  delta kernelRun0_B.sl.v968 Sweep.v968
  rw [e_HS1_4]
  try rfl
theorem e_v971 : kernelRun0_B.sl.r_42 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v971 := by
  delta kernelRun0_B.sl.r_42 Sweep.v971
  rw [e_v939, e_v940, e_v941, e_v949, e_v950, e_v958, e_v959, e_v967, e_v968]
  try rfl
theorem e_stored49 : kernelRun0_B.sl.HS2_53 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored49 := by
  delta kernelRun0_B.sl.HS2_53 Sweep.stored49
  rw [e_v971, e_stored48]
  try rfl
theorem e_v976 : kernelRun0_B.sl.v976 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v976 := by
  delta kernelRun0_B.sl.v976 Sweep.v976
  rw [e_stored49]
  try rfl
theorem e_v977 : kernelRun0_B.sl.v977 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v977 := by
  delta kernelRun0_B.sl.v977 Sweep.v977
  rw [e_HS1_4]
  try rfl
theorem e_stored50 : kernelRun0_B.sl.HS2_54 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored50 := by
  delta kernelRun0_B.sl.HS2_54 Sweep.stored50
  rw [e_v971, e_v976, e_v977, e_stored49]
  try rfl
theorem e_v985 : kernelRun0_B.sl.v985 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v985 := by
  delta kernelRun0_B.sl.v985 Sweep.v985
  rw [e_stored50]
  try rfl
theorem e_v986 : kernelRun0_B.sl.v986 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v986 := by
  delta kernelRun0_B.sl.v986 Sweep.v986
  rw [e_HS1_4]
  try rfl
theorem e_stored51 : kernelRun0_B.sl.HS2_55 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored51 := by
  delta kernelRun0_B.sl.HS2_55 Sweep.stored51
  rw [e_v971, e_v976, e_v977, e_v985, e_v986, e_stored50]
  try rfl
theorem e_v994 : kernelRun0_B.sl.v994 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v994 := by
  delta kernelRun0_B.sl.v994 Sweep.v994
  rw [e_stored51]
  try rfl
theorem e_v995 : kernelRun0_B.sl.v995 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v995 := by
  delta kernelRun0_B.sl.v995 Sweep.v995
  rw [e_HS1_4]
  try rfl
theorem e_stored52 : kernelRun0_B.sl.HS2_56 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored52 := by
  delta kernelRun0_B.sl.HS2_56 Sweep.stored52
  rw [e_v971, e_v976, e_v977, e_v985, e_v986, e_v994, e_v995, e_stored51]
  try rfl
theorem e_v1003 : kernelRun0_B.sl.v1003 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v1003 := by
  delta kernelRun0_B.sl.v1003 Sweep.v1003
  rw [e_stored52]
  try rfl
theorem e_v1004 : kernelRun0_B.sl.v1004 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v1004 := by
  delta kernelRun0_B.sl.v1004 Sweep.v1004
  rw [e_HS1_4]
  try rfl
theorem e_v1007 : kernelRun0_B.sl.r_43 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v1007 := by
  delta kernelRun0_B.sl.r_43 Sweep.v1007
  rw [e_v971, e_v976, e_v977, e_v985, e_v986, e_v994, e_v995, e_v1003, e_v1004]
  try rfl
theorem e_stored53 : kernelRun0_B.sl.HS2_57 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored53 := by
  delta kernelRun0_B.sl.HS2_57 Sweep.stored53
  rw [e_v1007, e_stored52]
  try rfl
theorem e_v1012 : kernelRun0_B.sl.v1012 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v1012 := by
  delta kernelRun0_B.sl.v1012 Sweep.v1012
  rw [e_stored53]
  try rfl
theorem e_v1013 : kernelRun0_B.sl.v1013 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v1013 := by
  delta kernelRun0_B.sl.v1013 Sweep.v1013
  rw [e_HS1_4]
  try rfl
theorem e_stored54 : kernelRun0_B.sl.HS2_58 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored54 := by
  delta kernelRun0_B.sl.HS2_58 Sweep.stored54
  rw [e_v1007, e_v1012, e_v1013, e_stored53]
  try rfl
theorem e_v1021 : kernelRun0_B.sl.v1021 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v1021 := by
  delta kernelRun0_B.sl.v1021 Sweep.v1021
  rw [e_stored54]
  try rfl
theorem e_v1022 : kernelRun0_B.sl.v1022 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v1022 := by
  delta kernelRun0_B.sl.v1022 Sweep.v1022
  rw [e_HS1_4]
  try rfl
theorem e_stored55 : kernelRun0_B.sl.HS2_59 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored55 := by
  delta kernelRun0_B.sl.HS2_59 Sweep.stored55
  rw [e_v1007, e_v1012, e_v1013, e_v1021, e_v1022, e_stored54]
  try rfl
theorem e_v1030 : kernelRun0_B.sl.v1030 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v1030 := by
  delta kernelRun0_B.sl.v1030 Sweep.v1030
  rw [e_stored55]
  try rfl
theorem e_v1031 : kernelRun0_B.sl.v1031 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v1031 := by
  delta kernelRun0_B.sl.v1031 Sweep.v1031
  rw [e_HS1_4]
  try rfl
theorem e_stored56 : kernelRun0_B.sl.HS2_60 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored56 := by
  delta kernelRun0_B.sl.HS2_60 Sweep.stored56
  rw [e_v1007, e_v1012, e_v1013, e_v1021, e_v1022, e_v1030, e_v1031, e_stored55]
  try rfl
theorem e_v1039 : kernelRun0_B.sl.v1039 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v1039 := by
  delta kernelRun0_B.sl.v1039 Sweep.v1039
  rw [e_stored56]
  try rfl
theorem e_v1038 : kernelRun0_B.sl.r_44 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v1038 := by
  delta kernelRun0_B.sl.r_44 Sweep.v1038
  rw [e_v1007, e_v1012, e_v1013, e_v1021, e_v1022, e_v1030, e_v1031]
  try rfl
theorem e_v1040 : kernelRun0_B.sl.v1040 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v1040 := by
  delta kernelRun0_B.sl.v1040 Sweep.v1040
  rw [e_HS1_4]
  try rfl
theorem e_stored57 : kernelRun0_B.sl.HS2_61 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored57 := by
  delta kernelRun0_B.sl.HS2_61 Sweep.stored57
  rw [e_v1038, e_v1039, e_v1040, e_stored56]
  try rfl
theorem e_v1048 : kernelRun0_B.sl.v1048 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v1048 := by
  delta kernelRun0_B.sl.v1048 Sweep.v1048
  rw [e_stored57]
  try rfl
theorem e_v1049 : kernelRun0_B.sl.v1049 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v1049 := by
  delta kernelRun0_B.sl.v1049 Sweep.v1049
  rw [e_HS1_4]
  try rfl
theorem e_stored58 : kernelRun0_B.sl.HS2_62 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored58 := by
  delta kernelRun0_B.sl.HS2_62 Sweep.stored58
  rw [e_v1038, e_v1039, e_v1040, e_v1048, e_v1049, e_stored57]
  try rfl
theorem e_v1057 : kernelRun0_B.sl.v1057 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v1057 := by
  delta kernelRun0_B.sl.v1057 Sweep.v1057
  rw [e_stored58]
  try rfl
theorem e_v1058 : kernelRun0_B.sl.v1058 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v1058 := by
  delta kernelRun0_B.sl.v1058 Sweep.v1058
  rw [e_HS1_4]
  try rfl
theorem e_stored59 : kernelRun0_B.sl.HS2_63 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored59 := by
  delta kernelRun0_B.sl.HS2_63 Sweep.stored59
  rw [e_v1038, e_v1039, e_v1040, e_v1048, e_v1049, e_v1057, e_v1058, e_stored58]
  try rfl
theorem e_v1066 : kernelRun0_B.sl.v1066 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v1066 := by
  delta kernelRun0_B.sl.v1066 Sweep.v1066
  rw [e_stored59]
  try rfl
theorem e_v1067 : kernelRun0_B.sl.v1067 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v1067 := by
  delta kernelRun0_B.sl.v1067 Sweep.v1067
  rw [e_HS1_4]
  try rfl
theorem e_stored60 : kernelRun0_B.sl.HS2_64 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored60 := by
  delta kernelRun0_B.sl.HS2_64 Sweep.stored60
  rw [e_v1038, e_v1039, e_v1040, e_v1048, e_v1049, e_v1057, e_v1058, e_v1066, e_v1067, e_stored59]
  try rfl
theorem e_v1074 : kernelRun0_B.sl.r_45 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v1074 := by
  delta kernelRun0_B.sl.r_45 Sweep.v1074
  rw [e_v1038, e_v1039, e_v1040, e_v1048, e_v1049, e_v1057, e_v1058, e_v1066, e_v1067]
  try rfl
theorem e_v1075 : kernelRun0_B.sl.v1075 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v1075 := by
  delta kernelRun0_B.sl.v1075 Sweep.v1075
  rw [e_stored60]
  try rfl
theorem e_v1076 : kernelRun0_B.sl.v1076 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v1076 := by
  delta kernelRun0_B.sl.v1076 Sweep.v1076
  rw [e_HS1_4]
  try rfl
theorem e_stored61 : kernelRun0_B.sl.HS2_65 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored61 := by
  delta kernelRun0_B.sl.HS2_65 Sweep.stored61
  rw [e_v1074, e_v1075, e_v1076, e_stored60]
  try rfl
theorem e_v1084 : kernelRun0_B.sl.v1084 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v1084 := by
  delta kernelRun0_B.sl.v1084 Sweep.v1084
  rw [e_stored61]
  try rfl
theorem e_v1085 : kernelRun0_B.sl.v1085 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v1085 := by
  delta kernelRun0_B.sl.v1085 Sweep.v1085
  rw [e_HS1_4]
  try rfl
theorem e_stored62 : kernelRun0_B.sl.HS2_66 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored62 := by
  delta kernelRun0_B.sl.HS2_66 Sweep.stored62
  rw [e_v1074, e_v1075, e_v1076, e_v1084, e_v1085, e_stored61]
  try rfl
theorem e_v1093 : kernelRun0_B.sl.v1093 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v1093 := by
  delta kernelRun0_B.sl.v1093 Sweep.v1093
  rw [e_stored62]
  try rfl
theorem e_v1094 : kernelRun0_B.sl.v1094 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v1094 := by
  delta kernelRun0_B.sl.v1094 Sweep.v1094
  rw [e_HS1_4]
  try rfl
theorem e_stored63 : kernelRun0_B.sl.HS2_67 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored63 := by
  delta kernelRun0_B.sl.HS2_67 Sweep.stored63
  rw [e_v1074, e_v1075, e_v1076, e_v1084, e_v1085, e_v1093, e_v1094, e_stored62]
  try rfl
theorem e_v1102 : kernelRun0_B.sl.v1102 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v1102 := by
  delta kernelRun0_B.sl.v1102 Sweep.v1102
  rw [e_stored63]
  try rfl
theorem e_v1103 : kernelRun0_B.sl.v1103 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_10 t) (hs0_10 t) scM0_0 (Memref.isWhole_whole _) scM0_1 (iblk m c 0 t) (iblk m c 1 t) (iblk m c 2 t) (iblk m c 4 t) (iblk m c 5 t) (iblk m c 6 t) (iblk m c 7 t) (iblk m c 10 t) xs0 = (G m c t xs0 xs3).v1103 := by
  delta kernelRun0_B.sl.v1103 Sweep.v1103
  rw [e_HS1_4]
  try rfl
theorem e_v1106 : kernelRun0_B.sl.r_46 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).v1106 := by
  delta kernelRun0_B.sl.r_46 Sweep.v1106
  rw [e_v1074, e_v1075, e_v1076, e_v1084, e_v1085, e_v1093, e_v1094, e_v1102, e_v1103]
  try rfl
theorem e_stored64 : kernelRun0_B.sl.HS2_68 (F := Ideal) c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 scM0_2 scM0_3 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) xs0 xs3 = (G m c t xs0 xs3).stored64 := by
  delta kernelRun0_B.sl.HS2_68 Sweep.stored64
  rw [e_v1106, e_stored63]
  try rfl

end WalkB

variable (m : (ℓ : Loc nD τ sig) → Buf (Elt Ideal) ℓ)

theorem outsB_12 (c : Dev nD) (t : Fin cfg0.N) (h0 : ¬t.val % 4 = 0) : (outsAt0 m c t.val t.isLt).1 = (tileB m c t).y := by
  rw [outsAt0_B m c t h0]
  dsimp only
  delta out0_B_12 kernelRun0_B
  refine (View.read_writes_full _ _ _ _ _).trans ?_
  delta Tile.y Tile.hs kernelRun0_B.sl.r_47 kernelRun0_B.sl.v1118
  rw [WalkB.e_stored64]
  rfl
theorem outsB_3 (c : Dev nD) (t : Fin cfg0.N) (h0 : ¬t.val % 4 = 0) (j : Fin 1024) :
    (outsAt0 m c t.val t.isLt).2.2.2.2.2.2.2.2.2.2 (ix2 0 j) = (tileB m c t).hcOut (ix2 0 j) := by
  rw [outsAt0_B m c t h0]
  dsimp only
  delta sout0_B_3 kernelRun0_B
  refine (View.read_writes_cons_unit_of_mem _ _ _ _ _ (ix2 0 j) (ix2 0 j) rfl (fun a => by
    match a with
    | ⟨0, _⟩ => rfl
    | ⟨1, _⟩ => exact (Nat.zero_add _).symm)).trans ?_
  rw [WalkB.e_v1106]
  rfl

end Cert.KernelIdeal.RowValue

end
-- ==== Proof.InAll.lean ====
/-
  ALL TILES: what the run carries from a tile to the next is the layer's, by induction over the tiles; so the three arrays are the layer's.
-/
module

public import proofs.«01_k».proof.Proof.InBlk
public import proofs.«01_k».proof.Proof.InWalkA
public import proofs.«01_k».proof.Proof.InWalkB
public import proofs.«01_k».proof.Proof.Gen.KernelIdeal.Value

@[expose] public section

set_option maxRecDepth 16384

noncomputable section

namespace Cert.KernelIdeal.RowValue

open Cert.KernelIdeal Cert.KernelIdeal.Gen Idealize.ShloMosaic Idealize.ShloMosaic.TcCoe Idealize.SL.Sem
open Cert.Rglru
open scoped BigOperators

variable (m : (ℓ : Loc nD τ sig) → Buf (Elt Ideal) ℓ)

theorem zero9 (i : S8x1024.Idx) : k0_pay9 (F := Ideal) i = 0 := by
  idx_vars i
  unfold k0_pay9
  pointwise

theorem zero10 (i : S8x1024.Idx) : k0_pay10 (F := Ideal) i = 0 := by
  idx_vars i
  unfold k0_pay10
  pointwise

/-- A load of a buffer one store filled reads that store's value. -/
theorem cov_apply (M : Memref sig .tc .vmem S8x1024 .f32) (w : S8x1024.Idx → Elt Ideal .f32) (off size : Fin 2 → ℕ) (inb) (inb')
    (x : (Rect.unit (s := S8x1024) off size inb).shape.Idx) (hw : ∀ i, w i = (0 : EReal)) :
    M.view.readCov (Val := Elt Ideal) [⟨Rect.unit (s := S8x1024) ![0, 0] S8x1024.size inb', w⟩] (Rect.unit off size inb).toLoadRect x = (0 : EReal) := by
  rw [View.readCov_eq_canon']
  have key : ∀ i : S8x1024.Idx, View.canon (Val := Elt Ideal) (s := S8x1024) (e := .f32) [⟨Rect.unit (s := S8x1024) ![0, 0] S8x1024.size inb', w⟩] i = (0 : EReal) := by
    intro i
    have hi : i = (Rect.unit (s := S8x1024) ![0, 0] S8x1024.size inb').emb i := funext fun a => Fin.ext (by
      match a with
      | ⟨0, _⟩ => show (i 0).val = 0 + 1 * (i 0).val; omega
      | ⟨1, _⟩ => show (i 1).val = 0 + 1 * (i 1).val; omega)
    rw [hi, View.canon_cons_emb]
    exact hw _
  exact key _

/-- The first tile of a sequence starts from nothing. -/
theorem atA (c : Dev nD) (t : Fin cfg0.N) (h0 : t.val % 4 = 0) : (tileA m c t).At (kArgs m c) (seqOf t) (partOf t) where
  toLoads := loads m c t _ _
  ub s j := by
    rw [if_pos (show (partOf t).val = 0 from h0)]
    exact cov_apply scM0_0 _ _ _ _ _ _ zero9
  hc j := by
    have e : 512 * (partOf t).val = 0 := by rw [show (partOf t).val = 0 from h0]
    rw [e]
    exact cov_apply scM0_3 _ _ _ _ _ _ zero10

/-- What tile `t` leaves is the layer's. -/
structure Left (c : Dev nD) (t : Fin cfg0.N) : Prop where
  y : ∀ r j, (outsAt0 m c t.val t.isLt).1 (ix2 r j) = (kArgs m c).y (kArgs m c).h (seqOf t) (pos (partOf t) r) j
  kc : ∀ r (j : Fin 256), (outsAt0 m c t.val t.isLt).2.1 (ix2 r j) = (kArgs m c).z (seqOf t) (pos (partOf t) r) ⟨3072 + j.val, by omega⟩
  vc : ∀ r (j : Fin 256), (outsAt0 m c t.val t.isLt).2.2.1 (ix2 r j) = (kArgs m c).z (seqOf t) (pos (partOf t) r) ⟨3328 + j.val, by omega⟩
  ub : ∀ (s : Fin 8) j, (outsAt0 m c t.val t.isLt).2.2.2.2.2.2.2.2.2.1 (ix2 s j) = (kArgs m c).u (seqOf t) ⟨512 * (partOf t).val + 504 + s.val, by have := (partOf t).isLt; omega⟩ j
  hc : ∀ j, (outsAt0 m c t.val t.isLt).2.2.2.2.2.2.2.2.2.2 (ix2 0 j) = (kArgs m c).h (seqOf t) j (512 * (partOf t).val + 512)

theorem leftA (c : Dev nD) (t : Fin cfg0.N) (h0 : t.val % 4 = 0) : Left m c t where
  y r j := by rw [outsA_12 m c t h0]; exact (atA m c t h0).y_eq r j
  kc r j := by rw [outsA_13 m c t h0]; exact (atA m c t h0).kc_eq r j
  vc r j := by rw [outsA_14 m c t h0]; exact (atA m c t h0).vc_eq r j
  ub s j := by rw [outsA_0 m c t h0]; exact (atA m c t h0).ubOut_eq s j
  hc j := (outsA_3 m c t h0 j).trans ((atA m c t h0).hcOut_eq j)

/-- A later tile starts from what the tile before left. -/
theorem atB (c : Dev nD) (t : Fin cfg0.N) (h0 : ¬t.val % 4 = 0)
    (hl : Left m c ⟨t.val - 1, Nat.lt_of_le_of_lt (Nat.sub_le _ _) t.isLt⟩) : (tileB m c t).At (kArgs m c) (seqOf t) (partOf t) where
  toLoads := loads m c t _ _
  ub s j := by
    have hs := s.isLt
    rw [if_neg (show ¬(partOf t).val = 0 from h0)]
    refine (load_apply scM0_0 (Memref.isWhole_whole _) _ _ _ _ _ (ix2 s j) (fun a => by
      match a with
      | ⟨0, _⟩ => show s.val = 0 + s.val; omega
      | ⟨1, _⟩ => show j.val = 0 + j.val; omega)).trans ((hl.ub s j).trans ?_)
    have e1 : seqOf (⟨t.val - 1, Nat.lt_of_le_of_lt (Nat.sub_le _ _) t.isLt⟩ : Fin cfg0.N) = seqOf t := Fin.ext (by show (t.val - 1) / 4 = t.val / 4; omega)
    rw [e1]
    refine congrArg (fun q => (kArgs m c).u (seqOf t) q j) (Fin.ext ?_)
    show 512 * ((t.val - 1) % 4) + 504 + s.val = (512 * (t.val % 4) + 2040 + s.val) % 2048
    omega
  hc j := by
    refine (load_apply scM0_3 (Memref.isWhole_whole _) _ _ _ _ _ (ix2 0 j) (fun a => by
      match a with
      | ⟨0, _⟩ => show 0 = 0 + 0; omega
      | ⟨1, _⟩ => show j.val = 0 + j.val; omega)).trans ((hl.hc j).trans ?_)
    have e1 : seqOf (⟨t.val - 1, Nat.lt_of_le_of_lt (Nat.sub_le _ _) t.isLt⟩ : Fin cfg0.N) = seqOf t := Fin.ext (by show (t.val - 1) / 4 = t.val / 4; omega)
    rw [e1]
    refine congrArg ((kArgs m c).h (seqOf t) j) ?_
    show 512 * ((t.val - 1) % 4) + 512 = 512 * (t.val % 4)
    omega

theorem leftB (c : Dev nD) (t : Fin cfg0.N) (h0 : ¬t.val % 4 = 0)
    (hl : Left m c ⟨t.val - 1, Nat.lt_of_le_of_lt (Nat.sub_le _ _) t.isLt⟩) : Left m c t where
  y r j := by rw [outsB_12 m c t h0]; exact (atB m c t h0 hl).y_eq r j
  kc r j := by rw [outsB_13 m c t h0]; exact (atB m c t h0 hl).kc_eq r j
  vc r j := by rw [outsB_14 m c t h0]; exact (atB m c t h0 hl).vc_eq r j
  ub s j := by rw [outsB_0 m c t h0]; exact (atB m c t h0 hl).ubOut_eq s j
  hc j := (outsB_3 m c t h0 j).trans ((atB m c t h0 hl).hcOut_eq j)

theorem left (c : Dev nD) : ∀ (n : ℕ) (hn : n < cfg0.N), Left m c ⟨n, hn⟩
  | 0, hn => leftA m c ⟨0, hn⟩ rfl
  | n + 1, hn => by
    by_cases h0 : (n + 1) % 4 = 0
    · exact leftA m c ⟨n + 1, hn⟩ h0
    · exact leftB m c ⟨n + 1, hn⟩ h0 (left c n (Nat.lt_of_succ_lt hn))

/-! ## The arrays -/

/-- The layer's rows, one sequence after the other. -/
def rows {n : ℕ} (f : Fin 16 → Fin 2048 → Fin n → EReal) : (⟨2, ![32768, n]⟩ : Shape).Idx → EReal := fun i =>
  f ⟨(i 0).val / 2048, by have h : (i 0).val < 32768 := (i 0).isLt; omega⟩ ⟨(i 0).val % 2048, by omega⟩ (i 1)

theorem rows_apply {n : ℕ} (f : Fin 16 → Fin 2048 → Fin n → EReal) (t : Fin cfg0.N) (r : Fin 512) (j : Fin n) (i : (⟨2, ![32768, n]⟩ : Shape).Idx)
    (h0 : (i 0).val = 512 * t.val + r.val) (h1 : (i 1).val = j.val) : rows f i = f (seqOf t) (pos (partOf t) r) j := by
  have hr := r.isLt
  have ht := lt64 t
  unfold rows
  have e0 : (⟨(i 0).val / 2048, by have h : (i 0).val < 32768 := (i 0).isLt; omega⟩ : Fin 16) = seqOf t := Fin.ext (by show (i 0).val / 2048 = t.val / 4; omega)
  have e1 : (⟨(i 0).val % 2048, by omega⟩ : Fin 2048) = pos (partOf t) r := Fin.ext (by show (i 0).val % 2048 = 512 * (t.val % 4) + r.val; omega)
  have e2 : i 1 = j := Fin.ext h1
  rw [e0, e1, e2]

theorem idx12 (t : Fin cfg0.N) : win0_12.index t 0 = t.val ∧ win0_12.index t 1 = 0 :=
  (by decide +kernel : ∀ t : Fin grid0.N, win0_12.index t 0 = t.val ∧ win0_12.index t 1 = 0) t

theorem final12 (c : Dev nD) : (dats m 0 c).arrAt 12 cfg0.N = (rows (fun b s j => (kArgs m c).y (kArgs m c).h b s j) : Buf (Elt Ideal) ((c : Thread nD τ).loc main_v55_0)) :=
  (dats m 0 c).arrAt_eq_of_cover 12 _ (fun t hf => by
    rw [Value.flushed12]
    funext j
    change S512x1024.Idx at j
    idx_vars j
    rw [View.read_apply]
    refine ((left m c t.val t.isLt).y j0 j1).trans (rows_apply (fun b s j => (kArgs m c).y (kArgs m c).h b s j) t j0 j1 _ ?_ ?_).symm
    · show win0_12.index t 0 * 512 + 1 * j0.val = 512 * t.val + j0.val; rw [(idx12 t).1]; omega
    · show win0_12.index t 1 * 1024 + 1 * j1.val = j1.val; rw [(idx12 t).2]; omega) fun i => by
    have h0 : (i 0 : Nat) < 32768 := (i 0).isLt
    have h1 : (i 1 : Nat) < 1024 := (i 1).isLt
    exact (Value.covered_iff12 i).mpr ⟨Nat.zero_le _, h0, Nat.zero_le _, h1⟩

theorem idx13 (t : Fin cfg0.N) : win0_13.index t 0 = t.val ∧ win0_13.index t 1 = 0 :=
  (by decide +kernel : ∀ t : Fin grid0.N, win0_13.index t 0 = t.val ∧ win0_13.index t 1 = 0) t

theorem final13 (c : Dev nD) : (dats m 0 c).arrAt 13 cfg0.N = (rows (fun b s (j : Fin 256) => (kArgs m c).z b s ⟨3072 + j.val, by omega⟩) : Buf (Elt Ideal) ((c : Thread nD τ).loc main_v55_1)) :=
  (dats m 0 c).arrAt_eq_of_cover 13 _ (fun t hf => by
    rw [Value.flushed13]
    funext j
    change S512x256.Idx at j
    idx_vars j
    rw [View.read_apply]
    refine ((left m c t.val t.isLt).kc j0 j1).trans (rows_apply (fun b s (j : Fin 256) => (kArgs m c).z b s ⟨3072 + j.val, by omega⟩) t j0 j1 _ ?_ ?_).symm
    · show win0_13.index t 0 * 512 + 1 * j0.val = 512 * t.val + j0.val; rw [(idx13 t).1]; omega
    · show win0_13.index t 1 * 256 + 1 * j1.val = j1.val; rw [(idx13 t).2]; omega) fun i => by
    have h0 : (i 0 : Nat) < 32768 := (i 0).isLt
    have h1 : (i 1 : Nat) < 256 := (i 1).isLt
    exact (Value.covered_iff13 i).mpr ⟨Nat.zero_le _, h0, Nat.zero_le _, h1⟩

theorem idx14 (t : Fin cfg0.N) : win0_14.index t 0 = t.val ∧ win0_14.index t 1 = 0 :=
  (by decide +kernel : ∀ t : Fin grid0.N, win0_14.index t 0 = t.val ∧ win0_14.index t 1 = 0) t

theorem final14 (c : Dev nD) : (dats m 0 c).arrAt 14 cfg0.N = (rows (fun b s (j : Fin 256) => (kArgs m c).z b s ⟨3328 + j.val, by omega⟩) : Buf (Elt Ideal) ((c : Thread nD τ).loc main_v55_2)) :=
  (dats m 0 c).arrAt_eq_of_cover 14 _ (fun t hf => by
    rw [Value.flushed14]
    funext j
    change S512x256.Idx at j
    idx_vars j
    rw [View.read_apply]
    refine ((left m c t.val t.isLt).vc j0 j1).trans (rows_apply (fun b s (j : Fin 256) => (kArgs m c).z b s ⟨3328 + j.val, by omega⟩) t j0 j1 _ ?_ ?_).symm
    · show win0_14.index t 0 * 512 + 1 * j0.val = 512 * t.val + j0.val; rw [(idx14 t).1]; omega
    · show win0_14.index t 1 * 256 + 1 * j1.val = j1.val; rw [(idx14 t).2]; omega) fun i => by
    have h0 : (i 0 : Nat) < 32768 := (i 0).isLt
    have h1 : (i 1 : Nat) < 256 := (i 1).isLt
    exact (Value.covered_iff14 i).mpr ⟨Nat.zero_le _, h0, Nat.zero_le _, h1⟩

end Cert.KernelIdeal.RowValue

end
-- ==== Proof.RefHost.lean ====
/-
  WHAT THE REFERENCE'S LINES LEAVE, stretch by stretch: the input projection, the convolution, the gates, the decay and the gated
  input before the loop, and the gated, normed rows after it.
-/
module

public import proofs.«01_k».proof.Proof.RefKeep
public import Idealize.ShloMosaic.Lib.Pointwise
public import Idealize.ShloMosaic.Lib.IdealHost

@[expose] public section

set_option maxRecDepth 16384

noncomputable section

namespace Cert.ReferenceIdeal.RowValue

open Idealize.ShloMosaic Idealize.ShloMosaic.TcCoe Idealize.ShloMosaic.StableHlo
open Cert.ReferenceIdeal.Gen Cert.ReferenceIdeal.Value

/-- The normed tokens. -/
def normT (x : FVec Ideal S16x2048x2048 .f32) (g : FVec Ideal S1x2048 .f32) : FVec Ideal S16x2048x2048 .f32 :=
  mulf (mulf x (broadcastInDim S16x2048x2048 ![0, 1, 2] bcast_S16x2048x1_S16x2048x2048_0_1_2 (Host.rsqrt (addf (Host.divf
    (broadcastInDim S16x2048x1 ![0, 1] bcast_S16x2048_S16x2048x1_0_1 (Host.reduceAdd (mulf x x) (constant S_ .f32 0x00000000#32) reducesTo_S16x2048x2048_S16x2048_d2 h_S_))
    (broadcastInDim S16x2048x1 ![] bcast_S_S16x2048x1 (constant S_ .f32 0x45000000#32)))
    (broadcastInDim S16x2048x1 ![] bcast_S_S16x2048x1 (constant S_ .f32 0x358637BD#32))))))
  (broadcastInDim S16x2048x2048 ![0, 1, 2] bcast_S1x1x2048_S16x2048x2048_0_1_2 (broadcastInDim S1x1x2048 ![2] bcast_S2048_S1x1x2048_2 (shapeCast S2048 g shapeCasts_S1x2048_S2048)))

/-- The projection. -/
def projT (x : FVec Ideal S16x2048x2048 .f32) (g : FVec Ideal S1x2048 .f32) (w : FVec Ideal S1x2048x4656 .f32) : FVec Ideal S16x2048x4656 .f32 :=
  Host.dotGeneral dot_S16x2048x2048_S2048x4656_S16x2048x4656_2_0_01_1_n_n none (normT x g) (shapeCast S2048x4656 w shapeCasts_S1x2048x4656_S2048x4656)

/-- The recurrence's columns after three zero tokens. -/
def padT (u : FVec Ideal S16x2048x1024 .f32) : FVec Ideal S16x2051x1024 .f32 :=
  pad S16x2051x1024 ![0, 3, 0] ![0, 0, 0] ![0, 0, 0] u (sitofp .f32 (constantI S_ 32 0#32) : FVec Ideal S_ .f32) pads_S16x2048x1024_S16x2051x1024_000_300_000 h_S_

/-- One row of the convolution's weights, at every token. -/
def tapT (w : FVec Ideal S1x1x1024 .f32) : FVec Ideal S16x2048x1024 .f32 :=
  broadcastInDim S16x2048x1024 ![0, 1, 2] bcast_S1x1x1024_S16x2048x1024_0_1_2 (broadcastInDim S1x1x1024 ![2] bcast_S1024_S1x1x1024_2 (shapeCast S1024 w shapeCasts_S1x1x1024_S1024))

/-- A row of 1024 at every token. -/
def rowT (b : FVec Ideal S1024 .f32) : FVec Ideal S16x2048x1024 .f32 :=
  broadcastInDim S16x2048x1024 ![0, 1, 2] bcast_S1x1x1024_S16x2048x1024_0_1_2 (broadcastInDim S1x1x1024 ![2] bcast_S1024_S1x1x1024_2 b)

/-- The convolution over the last four tokens. -/
def convT (p : FVec Ideal S16x2051x1024 .f32) (cw : FVec Ideal S1x4x1024 .f32) (cb : FVec Ideal S1x1024 .f32) : FVec Ideal S16x2048x1024 .f32 :=
  addf (rowT (shapeCast S1024 cb shapeCasts_S1x1024_S1024)) (addf (addf (addf (addf (broadcastInDim S16x2048x1024 ![] bcast_S_S16x2048x1024 (constant S_ .f32 0x00000000#32))
    (mulf (extractStridedSlice S16x2048x1024 ![0, 0, 0] p slices_S16x2051x1024_S16x2048x1024_0_0_0) (tapT (extractStridedSlice S1x1x1024 ![0, 0, 0] cw slices_S1x4x1024_S1x1x1024_0_0_0))))
    (mulf (extractStridedSlice S16x2048x1024 ![0, 1, 0] p slices_S16x2051x1024_S16x2048x1024_0_1_0) (tapT (extractStridedSlice S1x1x1024 ![0, 1, 0] cw slices_S1x4x1024_S1x1x1024_0_1_0))))
    (mulf (extractStridedSlice S16x2048x1024 ![0, 2, 0] p slices_S16x2051x1024_S16x2048x1024_0_2_0) (tapT (extractStridedSlice S1x1x1024 ![0, 2, 0] cw slices_S1x4x1024_S1x1x1024_0_2_0))))
    (mulf (extractStridedSlice S16x2048x1024 ![0, 3, 0] p slices_S16x2051x1024_S16x2048x1024_0_3_0) (tapT (extractStridedSlice S1x1x1024 ![0, 3, 0] cw slices_S1x4x1024_S1x1x1024_0_3_0))))

/-- A gate. -/
def gateT (xc : FVec Ideal S16x2048x1024 .f32) (w : FVec Ideal S1x16x64x64 .f32) (b : FVec Ideal S1x16x64 .f32) : FVec Ideal S16x2048x1024 .f32 :=
  shapeCast S16x2048x1024 (Host.divf (broadcastInDim S16x2048x16x64 ![] bcast_S_S16x2048x16x64 (constant S_ .f32 0x3F800000#32))
    (addf (broadcastInDim S16x2048x16x64 ![] bcast_S_S16x2048x16x64 (constant S_ .f32 0x3F800000#32)) (Host.exp (Host.negf
      (addf (transpose S16x2048x16x64 [2, 3, 0, 1] (Host.dotGeneral dot_S16x64x64_S16x2048x16x64_S16x64x16x2048_1_3_2_01_0_2 none
          (shapeCast S16x64x64 w shapeCasts_S1x16x64x64_S16x64x64) (shapeCast S16x2048x16x64 xc shapeCasts_S16x2048x1024_S16x2048x16x64) : FVec Ideal S16x64x16x2048 .f32) transposes_S16x64x16x2048_S16x2048x16x64_2_3_0_1)
        (broadcastInDim S16x2048x16x64 ![0, 1, 2, 3] bcast_S1x1x16x64_S16x2048x16x64_0_1_2_3 (broadcastInDim S1x1x16x64 ![2, 3] bcast_S16x64_S1x1x16x64_2_3 (shapeCast S16x64 b shapeCasts_S1x16x64_S16x64))))))) : FVec Ideal S16x2048x16x64 .f32) shapeCasts_S16x2048x16x64_S16x2048x1024

/-- The softplus. -/
def spT (l : FVec Ideal S1024 .f32) : FVec Ideal S1024 .f32 :=
  select (cmpf .une (subf l (broadcastInDim S1024 ![] bcast_S_S1024 (constant S_ .f32 0x00000000#32))) (subf l (broadcastInDim S1024 ![] bcast_S_S1024 (constant S_ .f32 0x00000000#32))))
    (addf l (broadcastInDim S1024 ![] bcast_S_S1024 (constant S_ .f32 0x00000000#32)))
    (addf (maximumf l (broadcastInDim S1024 ![] bcast_S_S1024 (constant S_ .f32 0x00000000#32)))
      (Host.log1p (Host.exp (Host.negf (Host.absf (subf l (broadcastInDim S1024 ![] bcast_S_S1024 (constant S_ .f32 0x00000000#32))))))))

/-- The logarithm of the decay. -/
def laT (r8 : FVec Ideal S16x2048x1024 .f32) (sp : FVec Ideal S1024 .f32) : FVec Ideal S16x2048x1024 .f32 := mulf r8 (rowT sp)

/-- The gated input. -/
def gbT (la ig xc : FVec Ideal S16x2048x1024 .f32) : FVec Ideal S16x2048x1024 .f32 :=
  mulf (Host.sqrt (Host.negf (Host.expm1 (mulf (broadcastInDim S16x2048x1024 ![] bcast_S_S16x2048x1024 (constant S_ .f32 0x40000000#32)) la)))) (mulf ig xc)

/-- The gated recurrence. -/
def hgT (hs : FVec Ideal S2048x16x1024 .f32) (z : FVec Ideal S16x2048x1024 .f32) : FVec Ideal S16x2048x1024 .f32 :=
  mulf (transpose S16x2048x1024 [1, 0, 2] hs transposes_S2048x16x1024_S16x2048x1024_1_0_2)
    (mulf z (mulf (broadcastInDim S16x2048x1024 ![] bcast_S_S16x2048x1024 (constant S_ .f32 0x3F000000#32))
      (addf (broadcastInDim S16x2048x1024 ![] bcast_S_S16x2048x1024 (constant S_ .f32 0x3F800000#32))
        (Host.tanh (mulf (broadcastInDim S16x2048x1024 ![] bcast_S_S16x2048x1024 (constant S_ .f32 0x3F4C422A#32))
          (addf z (mulf (broadcastInDim S16x2048x1024 ![] bcast_S_S16x2048x1024 (constant S_ .f32 0x3D372713#32)) (mulf (mulf z z) z))))))))

/-- The rows of the result. -/
def outT (q : FVec Ideal S16x2048x1024 .f32) (gn : FVec Ideal S1x1024 .f32) : FVec Ideal S32768x1024 .bf16 :=
  truncf .bf16 (shapeCast S32768x1024 (mulf (mulf q (broadcastInDim S16x2048x1024 ![0, 1, 2] bcast_S16x2048x1_S16x2048x1024_0_1_2 (Host.rsqrt (addf (Host.divf
    (broadcastInDim S16x2048x1 ![0, 1] bcast_S16x2048_S16x2048x1_0_1 (Host.reduceAdd (mulf q q) (constant S_ .f32 0x00000000#32) reducesTo_S16x2048x1024_S16x2048_d2 h_S_))
    (broadcastInDim S16x2048x1 ![] bcast_S_S16x2048x1 (constant S_ .f32 0x44800000#32)))
    (broadcastInDim S16x2048x1 ![] bcast_S_S16x2048x1 (constant S_ .f32 0x358637BD#32)))))) (rowT (shapeCast S1024 gn shapeCasts_S1x1024_S1024)) : FVec Ideal S16x2048x1024 .f32) shapeCasts_S16x2048x1024_S32768x1024) bitsLt_bf16_f32

variable (V0 : Valuation τ sig (Elt Ideal))

/-! ## The stretches, from any contents -/

set_option maxHeartbeats 4000000

theorem a0_v16 : after hostOps0 V0 (Proc.devRef .tc main_v16) = extractStridedSlice S16x2048x1024 ![0, 0, 0] (projT (V0 (Proc.devRef .tc main_arg0)) (V0 (Proc.devRef .tc main_arg1)) (V0 (Proc.devRef .tc main_arg2))) slices_S16x2048x4656_S16x2048x1024_0_0_0 := by
  after_results <;> rfl
theorem a0_v17 : after hostOps0 V0 (Proc.devRef .tc main_v17) = extractStridedSlice S16x2048x1024 ![0, 0, 1024] (projT (V0 (Proc.devRef .tc main_arg0)) (V0 (Proc.devRef .tc main_arg1)) (V0 (Proc.devRef .tc main_arg2))) slices_S16x2048x4656_S16x2048x1024_0_0_1024 := by
  after_results <;> rfl
theorem a0_v18 : after hostOps0 V0 (Proc.devRef .tc main_v18) = extractStridedSlice S16x2048x256 ![0, 0, 3072] (projT (V0 (Proc.devRef .tc main_arg0)) (V0 (Proc.devRef .tc main_arg1)) (V0 (Proc.devRef .tc main_arg2))) slices_S16x2048x4656_S16x2048x256_0_0_3072 := by
  after_results <;> rfl
theorem a0_v19 : after hostOps0 V0 (Proc.devRef .tc main_v19) = extractStridedSlice S16x2048x256 ![0, 0, 3328] (projT (V0 (Proc.devRef .tc main_arg0)) (V0 (Proc.devRef .tc main_arg1)) (V0 (Proc.devRef .tc main_arg2))) slices_S16x2048x4656_S16x2048x256_0_0_3328 := by
  after_results <;> rfl
theorem a0_c : after hostOps0 V0 (Proc.devRef .tc main_c) = constantI S_ 32 0#32 := by
  after_results <;> rfl

theorem a1_v20 (hc : V0 (Proc.devRef .tc main_c) = constantI S_ 32 0#32) : after hostOps0_1 V0 (Proc.devRef .tc main_v20) = padT (V0 (Proc.devRef .tc main_v16)) := by
  unfold padT
  rw [← hc]
  after_results <;> rfl

theorem a2_v53 : after hostOps0_2 V0 (Proc.devRef .tc main_v53) = convT (V0 (Proc.devRef .tc main_v20)) (V0 (Proc.devRef .tc main_arg3)) (V0 (Proc.devRef .tc main_arg4)) := by
  after_results <;> rfl
theorem a2_v84 : after hostOps0_2 V0 (Proc.devRef .tc main_v84) = mulf (broadcastInDim S16x2048x1024 ![] bcast_S_S16x2048x1024 (constant S_ .f32 0xC1000000#32))
    (gateT (convT (V0 (Proc.devRef .tc main_v20)) (V0 (Proc.devRef .tc main_arg3)) (V0 (Proc.devRef .tc main_arg4))) (V0 (Proc.devRef .tc main_arg5)) (V0 (Proc.devRef .tc main_arg6))) := by
  after_results <;> rfl
theorem a2_v82 : after hostOps0_2 V0 (Proc.devRef .tc main_v82) = gateT (convT (V0 (Proc.devRef .tc main_v20)) (V0 (Proc.devRef .tc main_arg3)) (V0 (Proc.devRef .tc main_arg4))) (V0 (Proc.devRef .tc main_arg7)) (V0 (Proc.devRef .tc main_arg8)) := by
  after_results <;> rfl
theorem a2_v86 : after hostOps0_2 V0 (Proc.devRef .tc main_v86) = (Host.negf (shapeCast S1024 (V0 (Proc.devRef .tc main_arg9) : FVec Ideal S1x1024 .f32) shapeCasts_S1x1024_S1024 : FVec Ideal S1024 .f32) : FVec Ideal S1024 .f32) := by
  after_results <;> rfl

theorem a3_v87 : after hostOps0_3 V0 (Proc.devRef .tc main_v87) = spT (V0 (Proc.devRef .tc main_v86)) := by
  after_results <;> rfl

theorem a4_0 : after hostOps0_4 V0 (Proc.devRef .tc main_v103_0) = transpose S2048x16x1024 [1, 0, 2] (Host.exp (laT (V0 (Proc.devRef .tc main_v84)) (V0 (Proc.devRef .tc main_v87)))) transposes_S16x2048x1024_S2048x16x1024_1_0_2 := by
  after_results <;> rfl
theorem a4_1 : after hostOps0_4 V0 (Proc.devRef .tc main_v103_1) = transpose S2048x16x1024 [1, 0, 2] (gbT (laT (V0 (Proc.devRef .tc main_v84)) (V0 (Proc.devRef .tc main_v87))) (V0 (Proc.devRef .tc main_v82)) (V0 (Proc.devRef .tc main_v53))) transposes_S16x2048x1024_S2048x16x1024_1_0_2 := by
  after_results <;> rfl
theorem a4_3 : after hostOps0_4 V0 (Proc.devRef .tc main_v103_3) = (broadcastInDim S16x1024 ![] bcast_S_S16x1024 (constant S_ .f32 0x00000000#32) : FVec Ideal S16x1024 .f32) := by
  after_results <;> rfl

theorem a5_v134 : after hostOps0_5 V0 (Proc.devRef .tc main_v134) = outT (hgT (V0 (Proc.devRef .tc main_v103_4)) (V0 (Proc.devRef .tc main_v17))) (V0 (Proc.devRef .tc main_arg10)) := by
  after_results <;> rfl
theorem a5_v135 : after hostOps0_5 V0 (Proc.devRef .tc main_v135) = shapeCast S32768x256 (V0 (Proc.devRef .tc main_v18) : FVec Ideal S16x2048x256 .f32) shapeCasts_S16x2048x256_S32768x256 := by
  after_results <;> rfl
theorem a5_v136 : after hostOps0_5 V0 (Proc.devRef .tc main_v136) = shapeCast S32768x256 (V0 (Proc.devRef .tc main_v19) : FVec Ideal S16x2048x256 .f32) shapeCasts_S16x2048x256_S32768x256 := by
  after_results <;> rfl

end Cert.ReferenceIdeal.RowValue

end
-- ==== Proof.RefElem.lean ====
/-
  THE REFERENCE'S LINES, number by number: each stretch's arrays at an index, of the arrays it reads at their indices.
-/
module

public import proofs.«01_k».proof.Proof.RefHost
public import proofs.«01_k».proof.Proof.InArgs
public import Idealize.ShloMosaic.Lib.DynamicIndex
public import Idealize.ShloMosaic.Lib.Pipeline.Value

@[expose] public section

set_option maxRecDepth 16384

noncomputable section

namespace Cert.ReferenceIdeal.RowValue

open Idealize.ShloMosaic Idealize.ShloMosaic.TcCoe Idealize.ShloMosaic.StableHlo
open Cert.ReferenceIdeal.Gen Cert.ReferenceIdeal.Value
open Cert.Rglru
open scoped BigOperators

set_option maxHeartbeats 1000000

theorem normT_at (x : FVec Ideal S16x2048x2048 .f32) (g : FVec Ideal S1x2048 .f32) (b : Fin 16) (s k : Fin 2048) :
    normT x g (ix3 b s k) = rms 0x45000000#32 (fun k => x (ix3 b s k)) (fun k => g (ix2 0 k)) k := by
  pointwise [normT, rms]

theorem projT_at (x : FVec Ideal S16x2048x2048 .f32) (g : FVec Ideal S1x2048 .f32) (w : FVec Ideal S1x2048x4656 .f32) (b : Fin 16) (s : Fin 2048) (n : Fin 4656) :
    projT x g w (ix3 b s n) = ∑ k : Fin 2048, rms 0x45000000#32 (fun k => x (ix3 b s k)) (fun k => g (ix2 0 k)) k * w (ix3 0 k n) := by
  unfold projT
  simp only [← normT_at]
  generalize normT x g = v
  pointwise [dot_S16x2048x2048_S2048x4656_S16x2048x4656_2_0_01_1_n_n]

theorem padT_at (u : FVec Ideal S16x2048x1024 .f32) (b : Fin 16) (s : Fin 2048) (d : ℕ) (hd : d ≤ 3) (j : Fin 1024) :
    padT u (ix3 b ⟨s.val + (3 - d), by omega⟩ j) = if h : d ≤ s.val then u (ix3 b ⟨s.val - d, by omega⟩ j) else 0 := by
  have e0 : FloatOps.sitofp (F := Ideal) FTy.f32 (0#32 : BitVec 32) = (0 : EReal) := by
    show (((0#32 : BitVec 32).toInt : ℝ) : EReal) = 0
    simp
  split_ifs with h
  · pointwise [padT]
    rw [dif_pos (by omega)]
    exact congrArg (fun q => u (ix3 b q j)) (Fin.ext (by show s.val + (3 - d) - 3 = s.val - d; omega))
  · pointwise [padT]
    rw [dif_neg (by omega)]
    exact e0

theorem rowT_at (v : FVec Ideal S1024 .f32) (b : Fin 16) (s : Fin 2048) (j : Fin 1024) : rowT v (ix3 b s j) = v (ix1 j) := by
  pointwise [rowT]

theorem convT_at (p : FVec Ideal S16x2051x1024 .f32) (cw : FVec Ideal S1x4x1024 .f32) (cb : FVec Ideal S1x1024 .f32) (b : Fin 16) (s : Fin 2048) (j : Fin 1024) :
    convT p cw cb (ix3 b s j) = cb (ix2 0 j) + ((((0 + p (ix3 b ⟨s.val, by omega⟩ j) * cw (ix3 0 0 j)) + p (ix3 b ⟨1 + s.val, by omega⟩ j) * cw (ix3 0 1 j))
      + p (ix3 b ⟨2 + s.val, by omega⟩ j) * cw (ix3 0 2 j)) + p (ix3 b ⟨3 + s.val, by omega⟩ j) * cw (ix3 0 3 j)) := by
  pointwise [convT, rowT, tapT]

theorem gateT_at (xc : FVec Ideal S16x2048x1024 .f32) (w : FVec Ideal S1x16x64x64 .f32) (v : FVec Ideal S1x16x64 .f32) (b : Fin 16) (s : Fin 2048) (j : Fin 1024) :
    gateT xc w v (ix3 b s j) = Ideal.logistic ((∑ i : Fin 64, w (ix4 0 ⟨j.val / 64, by omega⟩ i ⟨j.val % 64, by omega⟩) * xc (ix3 b s ⟨j.val / 64 * 64 + i.val, by omega⟩))
      + v (ix3 0 ⟨j.val / 64, by omega⟩ ⟨j.val % 64, by omega⟩)) := by
  pointwise [gateT, Ideal.logistic, Ideal.ofBits_one_f32, dot_S16x64x64_S16x2048x16x64_S16x64x16x2048_1_3_2_01_0_2]

theorem spT_at (l : FVec Ideal S1024 .f32) (j : Fin 1024) : spT l (ix1 j) = softplus (l (ix1 j)) := by
  pointwise [spT, softplus]
  rw [if_neg (fun h => h rfl)]
  rfl

theorem neg_row_at (l : FVec Ideal S1x1024 .f32) (j : Fin 1024) : (Host.negf (shapeCast S1024 l shapeCasts_S1x1024_S1024 : FVec Ideal S1024 .f32)) (ix1 j) = -(l (ix2 0 j)) := by
  pointwise

theorem eight_at (r : FVec Ideal S16x2048x1024 .f32) (sp : FVec Ideal S1024 .f32) (b : Fin 16) (s : Fin 2048) (j : Fin 1024) :
    laT (mulf (broadcastInDim S16x2048x1024 ![] bcast_S_S16x2048x1024 (constant S_ .f32 0xC1000000#32)) r) sp (ix3 b s j) = logA (r (ix3 b s j)) (sp (ix1 j)) := by
  pointwise [laT, rowT, logA]

theorem gbT_at (la ig xc : FVec Ideal S16x2048x1024 .f32) (b : Fin 16) (s : Fin 2048) (j : Fin 1024) :
    gbT la ig xc (ix3 b s j) = Ideal.sqrt (-(Ideal.expm1 (Ideal.ofBits .f32 0x40000000#32 * la (ix3 b s j)))) * (ig (ix3 b s j) * xc (ix3 b s j)) := by
  pointwise [gbT, Ideal.expm1]

theorem exp_at (la : FVec Ideal S16x2048x1024 .f32) (t : Fin 2048) (b : Fin 16) (j : Fin 1024) :
    transpose S2048x16x1024 [1, 0, 2] (Host.exp la) transposes_S16x2048x1024_S2048x16x1024_1_0_2 (ix3 t b j) = Ideal.exp (la (ix3 b t j)) := by
  pointwise

theorem tr_at (v : FVec Ideal S16x2048x1024 .f32) (t : Fin 2048) (b : Fin 16) (j : Fin 1024) :
    transpose S2048x16x1024 [1, 0, 2] v transposes_S16x2048x1024_S2048x16x1024_1_0_2 (ix3 t b j) = v (ix3 b t j) := by
  pointwise

theorem zero_at (b : Fin 16) (j : Fin 1024) : (broadcastInDim S16x1024 ![] bcast_S_S16x1024 (constant S_ .f32 0x00000000#32) : FVec Ideal S16x1024 .f32) (ix2 b j) = 0 := by
  pointwise

theorem hgT_at (hs : FVec Ideal S2048x16x1024 .f32) (z : FVec Ideal S16x2048x1024 .f32) (b : Fin 16) (s : Fin 2048) (j : Fin 1024) :
    hgT hs z (ix3 b s j) = hs (ix3 s b j) * gelu (z (ix3 b s j)) := by
  have e : ∀ z : EReal, z * z * z = z * (z * z) := fun z => mul_assoc z z z
  pointwise [hgT, gelu, e]

theorem outT_at (q : FVec Ideal S16x2048x1024 .f32) (gn : FVec Ideal S1x1024 .f32) (r : Fin 32768) (j : Fin 1024) :
    outT q gn (ix2 r j) = rms 0x44800000#32 (fun j => q (ix3 ⟨r.val / 2048, by omega⟩ ⟨r.val % 2048, by omega⟩ j)) (fun j => gn (ix2 0 j)) j := by
  pointwise [outT, rowT, rms]

theorem cols_at (v : FVec Ideal S16x2048x256 .f32) (r : Fin 32768) (j : Fin 256) :
    shapeCast S32768x256 v shapeCasts_S16x2048x256_S32768x256 (ix2 r j) = v (ix3 ⟨r.val / 2048, by omega⟩ ⟨r.val % 2048, by omega⟩ j) := by
  pointwise

theorem sl0_at (v : FVec Ideal S16x2048x4656 .f32) (b : Fin 16) (s : Fin 2048) (j : Fin 1024) :
    extractStridedSlice S16x2048x1024 ![0, 0, 0] v slices_S16x2048x4656_S16x2048x1024_0_0_0 (ix3 b s j) = v (ix3 b s ⟨j.val, by omega⟩) := by
  pointwise
theorem sl1_at (v : FVec Ideal S16x2048x4656 .f32) (b : Fin 16) (s : Fin 2048) (j : Fin 1024) :
    extractStridedSlice S16x2048x1024 ![0, 0, 1024] v slices_S16x2048x4656_S16x2048x1024_0_0_1024 (ix3 b s j) = v (ix3 b s ⟨1024 + j.val, by omega⟩) := by
  pointwise
theorem sl2_at (v : FVec Ideal S16x2048x4656 .f32) (b : Fin 16) (s : Fin 2048) (j : Fin 256) :
    extractStridedSlice S16x2048x256 ![0, 0, 3072] v slices_S16x2048x4656_S16x2048x256_0_0_3072 (ix3 b s j) = v (ix3 b s ⟨3072 + j.val, by omega⟩) := by
  pointwise
theorem sl3_at (v : FVec Ideal S16x2048x4656 .f32) (b : Fin 16) (s : Fin 2048) (j : Fin 256) :
    extractStridedSlice S16x2048x256 ![0, 0, 3328] v slices_S16x2048x4656_S16x2048x256_0_0_3328 (ix3 b s j) = v (ix3 b s ⟨3328 + j.val, by omega⟩) := by
  pointwise

/-! ## One trip of the loop -/

/-- The starts of the trip's row. -/
def starts (k : ℕ) : Fin 3 → ℤ := ![(k : ℤ), 0, 0]

/-- A row of an array of 2048 rows, read by a counter. -/
theorem dyn_at (v : FVec Ideal S2048x16x1024 .f32) (k : ℕ) (hk : k < 2048) (b : Fin 16) (j : Fin 1024) :
    shapeCast S16x1024 (Host.dynamicSlice S1x16x1024 v (starts k) sliceFits_S2048x16x1024_S1x16x1024) shapeCasts_S1x16x1024_S16x1024 (ix2 b j) = v (ix3 ⟨k, hk⟩ b j) := by
  have hf : S2048x16x1024.Slices ![k, 0, 0] S1x16x1024 := ⟨rfl, fun a => by
    match a with
    | ⟨0, _⟩ => show k + 1 ≤ 2048; omega
    | ⟨1, _⟩ => show 0 + 16 ≤ 16; omega
    | ⟨2, _⟩ => show 0 + 1024 ≤ 1024; omega⟩
  rw [Host.dynamicSlice_eq_extractStridedSlice S1x16x1024 v (starts k) ![k, 0, 0] _ hf (fun a => by
    match a with
    | ⟨0, _⟩ => rfl
    | ⟨1, _⟩ => rfl
    | ⟨2, _⟩ => rfl)]
  pointwise

/-- A row of an array of 2048 rows, written by a counter. -/
theorem upd_at (v : FVec Ideal S2048x16x1024 .f32) (r : FVec Ideal S16x1024 .f32) (k : ℕ) (hk : k < 2048) (t : Fin 2048) (b : Fin 16) (j : Fin 1024) :
    Host.dynamicUpdateSlice v (broadcastInDim S1x16x1024 ![1, 2] bcast_S16x1024_S1x16x1024_1_2 r : FVec Ideal S1x16x1024 .f32) (starts k) updateFits_S2048x16x1024_S1x16x1024 (ix3 t b j)
      = if t.val = k then r (ix2 b j) else v (ix3 t b j) := by
  have hf : S2048x16x1024.Slices ![k, 0, 0] S1x16x1024 := ⟨rfl, fun a => by
    match a with
    | ⟨0, _⟩ => show k + 1 ≤ 2048; omega
    | ⟨1, _⟩ => show 0 + 16 ≤ 16; omega
    | ⟨2, _⟩ => show 0 + 1024 ≤ 1024; omega⟩
  rw [Host.dynamicUpdateSlice_eq_updateSlice v _ (starts k) _ ![k, 0, 0] (fun a => by
    match a with
    | ⟨0, _⟩ => show (min (max (k : ℤ) 0) ((2048 - 1 : ℕ) : ℤ)).toNat = k; omega
    | ⟨1, _⟩ => rfl
    | ⟨2, _⟩ => rfl) hf]
  unfold updateSlice
  by_cases h : t.val = k
  · rw [if_pos h, dif_pos (fun a => by
      match a with
      | ⟨0, _⟩ => show k ≤ t.val ∧ t.val < k + 1; omega
      | ⟨1, _⟩ => show 0 ≤ b.val ∧ b.val < 0 + 16; omega
      | ⟨2, _⟩ => show 0 ≤ j.val ∧ j.val < 0 + 1024; omega)]
    have e : ∀ i : S1x16x1024.Idx, i = ix3 0 b j → (broadcastInDim S1x16x1024 ![1, 2] bcast_S16x1024_S1x16x1024_1_2 r : FVec Ideal S1x16x1024 .f32) i = r (ix2 b j) := by
      rintro _ rfl
      pointwise
    refine e _ (funext fun a => Fin.ext ?_)
    match a with
    | ⟨0, _⟩ => show t.val - k = 0; omega
    | ⟨1, _⟩ => show b.val - 0 = b.val; omega
    | ⟨2, _⟩ => show j.val - 0 = j.val; omega
  · rw [if_neg h, dif_neg (fun hh => h (by
      have h0 : k ≤ t.val ∧ t.val < k + 1 := hh 0
      omega))]

end Cert.ReferenceIdeal.RowValue

end
-- ==== Proof.RefVal.lean ====
/-
  THE REFERENCE OF THE RECURRENT CALL ends at the layer's numbers: the lines before the loop leave the decay and the gated input of
  every token, the loop's trip `k` leaves token `k`'s recurrence, and the line after gates and norms it.
-/
module

public import proofs.«01_k».proof.Proof.RefElem

@[expose] public section

set_option maxRecDepth 16384

noncomputable section

namespace Cert.ReferenceIdeal.RowValue

open Idealize.ShloMosaic Idealize.ShloMosaic.TcCoe Idealize.ShloMosaic.StableHlo
open Cert.ReferenceIdeal Cert.ReferenceIdeal.Gen Cert.ReferenceIdeal.Value
open Cert.Rglru
open scoped BigOperators

variable (m : (ℓ : Loc nD τ sig) → Buf (Elt Ideal) ℓ)

/-- The layer's arguments, of the reference's buffers. -/
def rArgs (c : Dev nD) : Args where
  x b s k := (m ((c.tc : Thread nD τ).loc main_arg0) : FVec Ideal S16x2048x2048 .f32) (ix3 b s k)
  g k := (m ((c.tc : Thread nD τ).loc main_arg1) : FVec Ideal S1x2048 .f32) (ix2 0 k)
  w k n := (m ((c.tc : Thread nD τ).loc main_arg2) : FVec Ideal S1x2048x4656 .f32) (ix3 0 k n)
  cw k j := (m ((c.tc : Thread nD τ).loc main_arg3) : FVec Ideal S1x4x1024 .f32) (ix3 0 k j)
  cb j := (m ((c.tc : Thread nD τ).loc main_arg4) : FVec Ideal S1x1024 .f32) (ix2 0 j)
  wa n i o := (m ((c.tc : Thread nD τ).loc main_arg5) : FVec Ideal S1x16x64x64 .f32) (ix4 0 n i o)
  ba n o := (m ((c.tc : Thread nD τ).loc main_arg6) : FVec Ideal S1x16x64 .f32) (ix3 0 n o)
  wx n i o := (m ((c.tc : Thread nD τ).loc main_arg7) : FVec Ideal S1x16x64x64 .f32) (ix4 0 n i o)
  bx n o := (m ((c.tc : Thread nD τ).loc main_arg8) : FVec Ideal S1x16x64 .f32) (ix3 0 n o)
  lam j := (m ((c.tc : Thread nD τ).loc main_arg9) : FVec Ideal S1x1024 .f32) (ix2 0 j)
  gn j := (m ((c.tc : Thread nD τ).loc main_arg10) : FVec Ideal S1x1024 .f32) (ix2 0 j)

/-! ## The stages, of the arguments -/

/-- The projection of the reference's buffers. -/
def P (c : Dev nD) : FVec Ideal S16x2048x4656 .f32 :=
  projT (m ((c.tc : Thread nD τ).loc main_arg0)) (m ((c.tc : Thread nD τ).loc main_arg1)) (m ((c.tc : Thread nD τ).loc main_arg2))
/-- The recurrence's columns. -/
def U (c : Dev nD) : FVec Ideal S16x2048x1024 .f32 := extractStridedSlice S16x2048x1024 ![0, 0, 0] (P m c) slices_S16x2048x4656_S16x2048x1024_0_0_0
/-- The convolution. -/
def X (c : Dev nD) : FVec Ideal S16x2048x1024 .f32 := convT (padT (U m c)) (m ((c.tc : Thread nD τ).loc main_arg3)) (m ((c.tc : Thread nD τ).loc main_arg4))
/-- The recurrence gate. -/
def GA (c : Dev nD) : FVec Ideal S16x2048x1024 .f32 := gateT (X m c) (m ((c.tc : Thread nD τ).loc main_arg5)) (m ((c.tc : Thread nD τ).loc main_arg6))
/-- The input gate. -/
def GX (c : Dev nD) : FVec Ideal S16x2048x1024 .f32 := gateT (X m c) (m ((c.tc : Thread nD τ).loc main_arg7)) (m ((c.tc : Thread nD τ).loc main_arg8))
/-- The logarithm of the decay. -/
def LA (c : Dev nD) : FVec Ideal S16x2048x1024 .f32 :=
  laT (mulf (broadcastInDim S16x2048x1024 ![] bcast_S_S16x2048x1024 (constant S_ .f32 0xC1000000#32)) (GA m c))
    (spT (Host.negf (shapeCast S1024 (m ((c.tc : Thread nD τ).loc main_arg9) : FVec Ideal S1x1024 .f32) shapeCasts_S1x1024_S1024 : FVec Ideal S1024 .f32)))

theorem P_at (c : Dev nD) (b : Fin 16) (s : Fin 2048) (n : Fin 4656) : P m c (ix3 b s n) = (rArgs m c).z b s n := projT_at _ _ _ b s n

theorem U_at (c : Dev nD) (b : Fin 16) (s : Fin 2048) (j : Fin 1024) : U m c (ix3 b s j) = (rArgs m c).u b s j :=
  (sl0_at _ b s j).trans (P_at m c b s _)

theorem up_at (c : Dev nD) (b : Fin 16) (s : Fin 2048) (d : ℕ) (hd : d ≤ 3) (j : Fin 1024) :
    padT (U m c) (ix3 b ⟨s.val + (3 - d), by omega⟩ j) = (rArgs m c).up b s d j := by
  rw [padT_at _ b s d hd j]
  unfold Args.up
  split_ifs with h
  · exact U_at m c b _ j
  · rfl

theorem sum4 (k a b c d : EReal) : k + ((((0 + a) + b) + c) + d) = ((k + d + c) + b) + a := by
  rw [zero_add]; abel

theorem X_at (c : Dev nD) (b : Fin 16) (s : Fin 2048) (j : Fin 1024) : X m c (ix3 b s j) = (rArgs m c).xc b s j := by
  have h0 : padT (U m c) (ix3 b ⟨s.val, by omega⟩ j) = (rArgs m c).up b s 3 j := up_at m c b s 3 (le_refl _) j
  have h1 : padT (U m c) (ix3 b ⟨1 + s.val, by omega⟩ j) = (rArgs m c).up b s 2 j := by
    rw [← up_at m c b s 2 (by decide) j]
    exact congrArg (fun q => padT (U m c) (ix3 b q j)) (Fin.ext (Nat.add_comm _ _))
  have h2 : padT (U m c) (ix3 b ⟨2 + s.val, by omega⟩ j) = (rArgs m c).up b s 1 j := by
    rw [← up_at m c b s 1 (by decide) j]
    exact congrArg (fun q => padT (U m c) (ix3 b q j)) (Fin.ext (Nat.add_comm _ _))
  have h3 : padT (U m c) (ix3 b ⟨3 + s.val, by omega⟩ j) = (rArgs m c).u b s j := by
    refine Eq.trans (congrArg (fun q => padT (U m c) (ix3 b q j)) (Fin.ext (Nat.add_comm _ _) : _ = (⟨s.val + (3 - 0), by omega⟩ : Fin 2051))) ?_
    exact up_at m c b s 0 (by decide) j
  unfold X
  rw [convT_at, h0, h1, h2, h3, sum4]
  rfl

theorem gate_at (c : Dev nD) (w : FVec Ideal S1x16x64x64 .f32) (v : FVec Ideal S1x16x64 .f32) (b : Fin 16) (s : Fin 2048) (j : Fin 1024) :
    gateT (X m c) w v (ix3 b s j) = (rArgs m c).gate (fun n i o => w (ix4 0 n i o)) (fun n o => v (ix3 0 n o)) b s j := by
  rw [gateT_at]
  unfold Args.gate
  refine congrArg Ideal.logistic (congrArg (· + _) (Finset.sum_congr rfl fun i _ => ?_))
  rw [X_at, mul_comm]
  exact congrArg (fun q => (rArgs m c).xc b s q * _) (Fin.ext (by show j.val / 64 * 64 + i.val = 64 * (j.val / 64) + i.val; omega))

theorem LA_at (c : Dev nD) (b : Fin 16) (s : Fin 2048) (j : Fin 1024) : LA m c (ix3 b s j) = (rArgs m c).la b s j := by
  unfold LA
  rw [eight_at, spT_at, neg_row_at]
  unfold GA
  rw [gate_at]
  rfl

theorem GB_at (c : Dev nD) (b : Fin 16) (s : Fin 2048) (j : Fin 1024) : gbT (LA m c) (GX m c) (X m c) (ix3 b s j) = (rArgs m c).bR b s j := by
  rw [gbT_at, LA_at, X_at]
  unfold GX
  rw [gate_at]
  rfl

/-! ## Before the loop -/

/-- After the first line; and after each of the next. -/
abbrev B0 (c : Dev nD) : Valuation τ sig (Elt Ideal) := after hostOps0 (launchContents m c)
abbrev B1 (c : Dev nD) : Valuation τ sig (Elt Ideal) := after hostOps0_1 (B0 m c)
abbrev B2 (c : Dev nD) : Valuation τ sig (Elt Ideal) := after hostOps0_2 (B1 m c)
abbrev B3 (c : Dev nD) : Valuation τ sig (Elt Ideal) := after hostOps0_3 (B2 m c)

theorem entry_eq (c : Dev nD) : entryContents preI m c = after hostOps0_4 (B3 m c) := rfl

theorem B1_arg (c : Dev nD) (r : Ref sig .tc) (h : r ∉ hostOps0_W) (h1 : r ∉ hostOps0_1_W) : B1 m c (Proc.devRef .tc r) = m ((c.tc : Thread nD τ).loc r) :=
  (after_of_writes_sub _ _ hostOps0_1_writes h1).trans (after_of_writes_sub _ _ hostOps0_writes h)

theorem B1_v20 (c : Dev nD) : B1 m c (Proc.devRef .tc main_v20) = padT (U m c) :=
  (a1_v20 (B0 m c) (a0_c _)).trans (congrArg padT (a0_v16 (launchContents m c)))

theorem B2_v53 (c : Dev nD) : B2 m c (Proc.devRef .tc main_v53) = X m c := by
  refine (a2_v53 (B1 m c)).trans ?_
  rw [B1_v20, B1_arg m c main_arg3 (by decide) (by decide), B1_arg m c main_arg4 (by decide) (by decide)]
  rfl

theorem B2_v84 (c : Dev nD) : B2 m c (Proc.devRef .tc main_v84) = mulf (broadcastInDim S16x2048x1024 ![] bcast_S_S16x2048x1024 (constant S_ .f32 0xC1000000#32)) (GA m c) := by
  refine (a2_v84 (B1 m c)).trans ?_
  rw [B1_v20, B1_arg m c main_arg3 (by decide) (by decide), B1_arg m c main_arg4 (by decide) (by decide), B1_arg m c main_arg5 (by decide) (by decide), B1_arg m c main_arg6 (by decide) (by decide)]
  rfl

theorem B2_v82 (c : Dev nD) : B2 m c (Proc.devRef .tc main_v82) = GX m c := by
  refine (a2_v82 (B1 m c)).trans ?_
  rw [B1_v20, B1_arg m c main_arg3 (by decide) (by decide), B1_arg m c main_arg4 (by decide) (by decide), B1_arg m c main_arg7 (by decide) (by decide), B1_arg m c main_arg8 (by decide) (by decide)]
  rfl

theorem B3_la (c : Dev nD) : laT (B3 m c (Proc.devRef .tc main_v84)) (B3 m c (Proc.devRef .tc main_v87)) = LA m c := by
  have e84 : B3 m c (Proc.devRef .tc main_v84) = B2 m c (Proc.devRef .tc main_v84) := after_of_writes_sub _ _ hostOps0_3_writes (by decide)
  rw [e84, B2_v84, show B3 m c (Proc.devRef .tc main_v87) = _ from a3_v87 (B2 m c), show B2 m c (Proc.devRef .tc main_v86) = _ from a2_v86 (B1 m c), B1_arg m c main_arg9 (by decide) (by decide)]
  rfl

theorem entry_0 (c : Dev nD) (t : Fin 2048) (b : Fin 16) (j : Fin 1024) :
    (entryContents preI m c (Proc.devRef .tc main_v103_0) : FVec Ideal S2048x16x1024 .f32) (ix3 t b j) = (rArgs m c).a b t j := by
  rw [entry_eq, a4_0, B3_la, exp_at, LA_at]
  rfl

theorem entry_1 (c : Dev nD) (t : Fin 2048) (b : Fin 16) (j : Fin 1024) :
    (entryContents preI m c (Proc.devRef .tc main_v103_1) : FVec Ideal S2048x16x1024 .f32) (ix3 t b j) = (rArgs m c).bR b t j := by
  have e82 : B3 m c (Proc.devRef .tc main_v82) = B2 m c (Proc.devRef .tc main_v82) := after_of_writes_sub _ _ hostOps0_3_writes (by decide)
  have e53 : B3 m c (Proc.devRef .tc main_v53) = B2 m c (Proc.devRef .tc main_v53) := after_of_writes_sub _ _ hostOps0_3_writes (by decide)
  rw [entry_eq, a4_1, B3_la, e82, e53, B2_v82, B2_v53, tr_at, GB_at]

theorem entry_3 (c : Dev nD) (b : Fin 16) (j : Fin 1024) :
    (entryContents preI m c (Proc.devRef .tc main_v103_3) : FVec Ideal S16x1024 .f32) (ix2 b j) = (0 : EReal) := by
  rw [entry_eq, a4_3, zero_at]

/-- A column block of the projection is there after the loop too. -/
theorem entry_keep (c : Dev nD) (r : Ref sig .tc) (h1 : r ∉ hostOps0_1_W) (h2 : r ∉ hostOps0_2_W) (h3 : r ∉ hostOps0_3_W) (h4 : r ∉ hostOps0_4_W) :
    entryContents preI m c (Proc.devRef .tc r) = B0 m c (Proc.devRef .tc r) :=
  (((after_of_writes_sub _ (B3 m c) hostOps0_4_writes h4).trans (after_of_writes_sub _ (B2 m c) hostOps0_3_writes h3)).trans
    (after_of_writes_sub _ (B1 m c) hostOps0_2_writes h2)).trans (after_of_writes_sub _ (B0 m c) hostOps0_1_writes h1)

/-! ## The loop -/

theorem start_eq (V0 : Valuation τ sig (Elt Ideal)) (k : ℕ) (hk : k < 2048) (h : V0 (Proc.devRef .tc main_v103_2) = fun _ => Scf.iv 0#32 1#32 k) :
    (fun a : Fin 3 => (((![V0 (Proc.devRef .tc main_v103_2), constantI S_ 32 0#32, constantI S_ 32 0#32] : Fin 3 → (⟨S_, .i32⟩ : BufTy).Contents (Elt Ideal))) a (Shape.Idx.first h_S_)).toInt) = starts k := by
  have e : (Scf.iv 0#32 1#32 k : BitVec 32) = BitVec.ofNat 32 k := by simp [Scf.iv]
  funext a
  match a with
  | ⟨0, _⟩ =>
    show BitVec.toInt ((V0 (Proc.devRef .tc main_v103_2) : IVec S_ 32) (Shape.Idx.first h_S_)) = (k : ℤ)
    rw [h]
    show BitVec.toInt (Scf.iv 0#32 1#32 k : BitVec 32) = (k : ℤ)
    rw [e]
    exact toInt_ofNat_of_lt (by omega)
  | ⟨1, _⟩ => rfl
  | ⟨2, _⟩ => rfl

theorem res_at (V0 : Valuation τ sig (Elt Ideal)) (k : ℕ) (hk : k < 2048) (h : V0 (Proc.devRef .tc main_v103_2) = fun _ => Scf.iv 0#32 1#32 k)
    (D I : FVec Ideal S2048x16x1024 .f32) (S : FVec Ideal S16x1024 .f32) (hD : V0 (Proc.devRef .tc main_v103_0) = D) (hI : V0 (Proc.devRef .tc main_v103_1) = I)
    (hS : V0 (Proc.devRef .tc main_v103_3) = S) (b : Fin 16) (j : Fin 1024) :
    (res_main_while0b_v140 V0 : FVec Ideal S16x1024 .f32) (ix2 b j) = D (ix3 ⟨k, hk⟩ b j) * S (ix2 b j) + I (ix3 ⟨k, hk⟩ b j) := by
  rw [← dyn_at D k hk b j, ← dyn_at I k hk b j, ← start_eq V0 k hk h, ← hD, ← hI, ← hS]
  rfl

/-- What the loop holds after `k` trips. -/
structure Held (c : Dev nD) (k : ℕ) (V0 : Valuation τ sig (Elt Ideal)) : Prop where
  decay : ∀ t b j, (V0 (Proc.devRef .tc main_v103_0) : FVec Ideal S2048x16x1024 .f32) (ix3 t b j) = (rArgs m c).a b t j
  input : ∀ t b j, (V0 (Proc.devRef .tc main_v103_1) : FVec Ideal S2048x16x1024 .f32) (ix3 t b j) = (rArgs m c).bR b t j
  state : ∀ b j, (V0 (Proc.devRef .tc main_v103_3) : FVec Ideal S16x1024 .f32) (ix2 b j) = (rArgs m c).hR b j k
  done : ∀ (t : Fin 2048) b j, t.val < k → (V0 (Proc.devRef .tc main_v103_4) : FVec Ideal S2048x16x1024 .f32) (ix3 t b j) = (rArgs m c).hR b j (t.val + 1)

theorem Held.cond {c : Dev nD} {k : ℕ} {V0 : Valuation τ sig (Elt Ideal)} (h : Held m c k V0) : Held m c k (after condOps V0) := by
  have e := cond_keeps V0
  constructor
  · rw [e main_v103_0 (by decide)]; exact h.decay
  · rw [e main_v103_1 (by decide)]; exact h.input
  · rw [e main_v103_3 (by decide)]; exact h.state
  · rw [e main_v103_4 (by decide)]; exact h.done

theorem Held.trip {c : Dev nD} {k : ℕ} (hk : k < 2048) {V0 : Valuation τ sig (Elt Ideal)} (hc : V0 (Proc.devRef .tc main_v103_2) = fun _ => Scf.iv 0#32 1#32 k)
    (h : Held m c k V0) : Held m c (k + 1) (afterL bodyI V0) := by
  have hr : ∀ b j, (res_main_while0b_v140 V0 : FVec Ideal S16x1024 .f32) (ix2 b j) = (rArgs m c).hR b j (k + 1) := fun b j => by
    rw [res_at V0 k hk hc _ _ _ rfl rfl rfl b j, h.decay, h.input, h.state]
    have e : (⟨k, hk⟩ : Fin 2048) = ⟨k % 2048, Nat.mod_lt _ (by decide)⟩ := Fin.ext (Nat.mod_eq_of_lt hk).symm
    rw [e]
    rfl
  constructor
  · intro t b j; rw [trip_main_v103_0]; exact h.decay t b j
  · intro t b j; rw [trip_main_v103_1]; exact h.input t b j
  · intro b j; rw [trip_main_v103_3]; exact hr b j
  · intro t b j ht
    have hu := upd_at (V0 (Proc.devRef .tc main_v103_4)) (res_main_while0b_v140 V0) k hk t b j
    rw [← start_eq V0 k hk hc] at hu
    rw [trip_main_v103_4]
    refine hu.trans ?_
    split_ifs with e
    · rw [e]; exact hr b j
    · exact h.done t b j (by omega)

theorem held (c : Dev nD) : ∀ k, k ≤ 2048 → Held m c k (atK m k c)
  | 0, _ => ⟨entry_0 m c, entry_1 m c, entry_3 m c, fun t _ _ h => absurd h (Nat.not_lt_zero _)⟩
  | k + 1, hk => by
    have h := (held c k (by omega)).cond
    show Held m c (k + 1) (atTrip condOps bodyI (entryContents preI m) (k + 1) c)
    rw [atTrip_succ]
    exact h.trip m (by omega) ((cond_keeps _ main_v103_2 (by decide)).trans (atK_ctr m c k))

/-! ## After the loop -/

/-- The contents the line after the loop reads. -/
abbrev M (c : Dev nD) : Valuation τ sig (Elt Ideal) := after condOps (atTrip condOps bodyI (entryContents preI m) 2048 c)

theorem final_eq (c : Dev nD) : finalContents condOps preI bodyI postI 2048 m c = after hostOps0_5 (M m c) := rfl

theorem M_keep (c : Dev nD) (r : Ref sig .tc) (h : r ∉ tripW) (h1 : r ∉ hostOps0_1_W) (h2 : r ∉ hostOps0_2_W) (h3 : r ∉ hostOps0_3_W) (h4 : r ∉ hostOps0_4_W) :
    M m c (Proc.devRef .tc r) = B0 m c (Proc.devRef .tc r) := (mid_keep m c r h).trans (entry_keep m c r h1 h2 h3 h4)

theorem final134 (c : Dev nD) (r : Fin 32768) (j : Fin 1024) :
    (finalContents condOps preI bodyI postI 2048 m c (Proc.devRef .tc main_v134) : FVec Ideal S32768x1024 .bf16) (ix2 r j)
      = (rArgs m c).y (rArgs m c).hR ⟨r.val / 2048, by omega⟩ ⟨r.val % 2048, by omega⟩ j := by
  have e10 : M m c (Proc.devRef .tc main_arg10) = m ((c.tc : Thread nD τ).loc main_arg10) := (mid_keep m c main_arg10 (by decide)).trans (pre_keep _ main_arg10 (by decide))
  rw [final_eq, a5_v134, M_keep m c main_v17 (by decide) (by decide) (by decide) (by decide) (by decide), e10, outT_at]
  unfold Args.y
  refine congrArg (fun f => rms _ f _ j) (funext fun j => ?_)
  have hd := ((held m c 2048 (le_refl _)).cond).done ⟨r.val % 2048, by omega⟩ ⟨r.val / 2048, by omega⟩ j (Nat.mod_lt _ (by decide))
  rw [hgT_at, show B0 m c (Proc.devRef .tc main_v17) = _ from a0_v17 _]
  refine congrArg₂ (fun p q : EReal => p * gelu q) hd ?_
  exact (sl1_at _ _ _ _).trans (P_at m c _ _ _)

theorem final135 (c : Dev nD) (r : Fin 32768) (j : Fin 256) :
    (finalContents condOps preI bodyI postI 2048 m c (Proc.devRef .tc main_v135) : FVec Ideal S32768x256 .f32) (ix2 r j)
      = (rArgs m c).z ⟨r.val / 2048, by omega⟩ ⟨r.val % 2048, by omega⟩ ⟨3072 + j.val, by omega⟩ := by
  rw [final_eq, a5_v135, M_keep m c main_v18 (by decide) (by decide) (by decide) (by decide) (by decide), cols_at, show B0 m c (Proc.devRef .tc main_v18) = _ from a0_v18 _]
  exact (sl2_at _ _ _ _).trans (P_at m c _ _ _)

theorem final136 (c : Dev nD) (r : Fin 32768) (j : Fin 256) :
    (finalContents condOps preI bodyI postI 2048 m c (Proc.devRef .tc main_v136) : FVec Ideal S32768x256 .f32) (ix2 r j)
      = (rArgs m c).z ⟨r.val / 2048, by omega⟩ ⟨r.val % 2048, by omega⟩ ⟨3328 + j.val, by omega⟩ := by
  rw [final_eq, a5_v136, M_keep m c main_v19 (by decide) (by decide) (by decide) (by decide) (by decide), cols_at, show B0 m c (Proc.devRef .tc main_v19) = _ from a0_v19 _]
  exact (sl3_at _ _ _ _).trans (P_at m c _ _ _)

end Cert.ReferenceIdeal.RowValue

end
-- ==== Proof.InPre.lean ====
/-
  THE PRECONDITION, of the layer's numbers: where it holds, every gate is open.
-/
module

public import proofs.«01_k».proof.Proof.RefVal
public import proofs.«01_k».proof.Proof.Gen.Pre_gates_open

@[expose] public section

set_option maxRecDepth 16384

noncomputable section

namespace Cert.ReferenceIdeal.RowValue

open Idealize.ShloMosaic Idealize.ShloMosaic.TcCoe Idealize.ShloMosaic.StableHlo
open Cert.ReferenceIdeal Cert.ReferenceIdeal.Gen Cert.ReferenceIdeal.Value
open Cert.Rglru
open scoped BigOperators

/-- The recurrence's columns after three zero tokens, the zero written as a float. -/
def padT' (u : FVec Ideal S16x2048x1024 .f32) : FVec Ideal S16x2051x1024 .f32 :=
  pad S16x2051x1024 ![0, 3, 0] ![0, 0, 0] ![0, 0, 0] u (constant S_ .f32 0x00000000#32 : FVec Ideal S_ .f32) pads_S16x2048x1024_S16x2051x1024_000_300_000 h_S_

theorem padT'_eq (u : FVec Ideal S16x2048x1024 .f32) : padT' u = padT u := by
  unfold padT' padT
  refine congrArg (fun z => pad S16x2051x1024 ![0, 3, 0] ![0, 0, 0] ![0, 0, 0] u z pads_S16x2048x1024_S16x2051x1024_000_300_000 h_S_) (funext fun _ => ?_)
  show Ideal.ofBits .f32 0x00000000#32 = (((0#32 : BitVec 32).toInt : ℝ) : EReal)
  rw [Ideal.ofBits_zero_f32]
  simp

/-- The softplus, without the test of its argument. -/
def spT' (l : FVec Ideal S1024 .f32) : FVec Ideal S1024 .f32 :=
  addf (maximumf l (broadcastInDim S1024 ![] bcast_S_S1024 (constant S_ .f32 0x00000000#32))) (Host.log1p (Host.exp (Host.negf (Host.absf l))))

theorem spT'_at (l : FVec Ideal S1024 .f32) (j : Fin 1024) : spT' l (ix1 j) = softplus (l (ix1 j)) := by
  pointwise [spT', softplus]
  rfl

/-- One minus the square. -/
def offT (e : FVec Ideal S16x2048x1024 .f32) : FVec Ideal S16x2048x1024 .f32 :=
  subf (broadcastInDim S16x2048x1024 ![] bcast_S_S16x2048x1024 (constant S_ .f32 0x3F800000#32)) (mulf (Host.exp e) (Host.exp e))

/-- The precondition's test. -/
def testT (y : FVec Ideal S16x2048x1024 .f32) : IVec S16x2048x1024 1 :=
  ori (cmpf .oge y (broadcastInDim S16x2048x1024 ![] bcast_S_S16x2048x1024 (constant S_ .f32 0x0DA24260#32)))
    (cmpf .oeq y (broadcastInDim S16x2048x1024 ![] bcast_S_S16x2048x1024 (constant S_ .f32 0x00000000#32)))

theorem offT_at (e : FVec Ideal S16x2048x1024 .f32) (b : Fin 16) (s : Fin 2048) (j : Fin 1024) :
    offT e (ix3 b s j) = Ideal.ofBits .f32 0x3F800000#32 - Ideal.exp (e (ix3 b s j)) * Ideal.exp (e (ix3 b s j)) := by
  pointwise [offT]

theorem testT_at (y : FVec Ideal S16x2048x1024 .f32) (b : Fin 16) (s : Fin 2048) (j : Fin 1024) (h : testT y (ix3 b s j) = 1#1) :
    Ideal.ofBits .f32 0x0DA24260#32 ≤ y (ix3 b s j) ∨ y (ix3 b s j) = 0 := by
  by_contra hn
  rw [not_or] at hn
  have h1 : testT y (ix3 b s j) = BitVec.ofBool (decide (Ideal.ofBits .f32 0x0DA24260#32 ≤ y (ix3 b s j))) ||| BitVec.ofBool (decide (y (ix3 b s j) = Ideal.ofBits .f32 0x00000000#32)) := rfl
  rw [h1, Ideal.ofBits_zero_f32, decide_eq_false hn.1, decide_eq_false hn.2] at h
  exact absurd h (by decide)

set_option maxHeartbeats 4000000 in
/-- The precondition's function is the test of one minus the square of the decay, by the reference's own lines. -/
theorem pre_eq (x : FVec Ideal S16x2048x2048 .f32) (g : FVec Ideal S1x2048 .f32) (w : FVec Ideal S1x2048x4656 .f32) (cw : FVec Ideal S1x4x1024 .f32)
    (cb : FVec Ideal S1x1024 .f32) (wa : FVec Ideal S1x16x64x64 .f32) (ba : FVec Ideal S1x16x64 .f32) (wx : FVec Ideal S1x16x64x64 .f32)
    (bx : FVec Ideal S1x16x64 .f32) (lam gn : FVec Ideal S1x1024 .f32) :
    Cert.Pre_gates_open.fn (F := Ideal) x g w cw cb wa ba wx bx lam gn
      = testT (offT (laT (mulf (broadcastInDim S16x2048x1024 ![] bcast_S_S16x2048x1024 (constant S_ .f32 0xC1000000#32))
          (gateT (convT (padT' (extractStridedSlice S16x2048x1024 ![0, 0, 0] (projT x g w) slices_S16x2048x4656_S16x2048x1024_0_0_0)) cw cb) wa ba))
        (spT' (Host.negf (shapeCast S1024 lam shapeCasts_S1x1024_S1024 : FVec Ideal S1024 .f32))))) := rfl

/-- Where the precondition holds, every gate is open. -/
theorem open_of_pre (m : (ℓ : Loc nD τ sig) → Buf (Elt Ideal) ℓ) (c : Dev nD)
    (h : Cert.Pre_gates_open.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10)) = (fun _ => 1#1)) :
    (rArgs m c).Open := by
  intro b s j
  rw [pre_eq] at h
  have ht := testT_at _ b s j (congrFun h (ix3 b s j))
  rw [offT_at, eight_at, spT'_at, padT'_eq, neg_row_at] at ht
  have hg := gate_at m c (m ((c.tc : Thread nD τ).loc main_arg5)) (m ((c.tc : Thread nD τ).loc main_arg6)) b s j
  unfold X U P at hg
  rw [hg] at ht
  exact ht

end Cert.ReferenceIdeal.RowValue

end
-- ==== Proof.InVal.lean ====
/-
  THE RECURRENT CALL'S CLAIM: on equal arguments the call and its reference end at equal arrays, where every gate is open.
-/
module

public import proofs.«01_k».proof.Defs
public import proofs.«01_k».proof.Proof.InAll
public import proofs.«01_k».proof.Proof.InPre

@[expose] public section

set_option maxRecDepth 16384

noncomputable section

namespace Cert.Proof

open Idealize.ShloMosaic Idealize.ShloMosaic.TcCoe Idealize.SL.Sem
open Cert.KernelIdeal.RowValue (rows kArgs)
open Cert.ReferenceIdeal.RowValue (rArgs)

/-- Equal buffers are equal arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    : rArgs m' c = kArgs m c := by
  unfold rArgs kArgs
  rw [e0, e1, e2, e3, e4, e5, e6, e7, e8, e9, e10]

/-- A function of two indices is rows where it is at every pair. -/
theorem eq_rows {n : ℕ} (v : (⟨2, ![32768, n]⟩ : Shape).Idx → EReal) (f : Fin 16 → Fin 2048 → Fin n → EReal)
    (h : ∀ (r : Fin 32768) (j : Fin n), v (ix2 r j) = f ⟨r.val / 2048, by omega⟩ ⟨r.val % 2048, by omega⟩ j) : v = rows f := by
  funext i
  have hi : i = ix2 (i 0 : Fin 32768) (i 1 : Fin n) := funext fun a => by
    match a with
    | ⟨0, _⟩ => rfl
    | ⟨1, _⟩ => rfl
  exact (congrArg v hi).trans (h (i 0 : Fin 32768) (i 1 : Fin n))

/-- On equal arguments, with every gate open, the recurrent call and its reference end at equal arrays. -/
theorem algebraic_in : Cert.algebraic_KernelIdeal_ReferenceIdeal_pre_gates_open (hKernelIdeal := Cert.KernelIdeal.Gen.facts)
    (hReferenceIdeal := Cert.ReferenceIdeal.Gen.facts) (hPre_gates_open := Cert.Pre_gates_open.Gen.facts) := by
  intro m g m' g' hp hag
  have ha : ∀ c : Dev Cert.KernelIdeal.nD, rArgs m' c = kArgs m c := fun c => by
    obtain ⟨e0, e1, e2, e3, e4, e5, e6, e7, e8, e9, e10⟩ := hag c
    exact args_eq m m' c e0 e1 e2 e3 e4 e5 e6 e7 e8 e9 e10
  have ho : ∀ c : Dev Cert.KernelIdeal.nD, (kArgs m c).Open := fun c => by
    rw [← ha c]
    refine Cert.ReferenceIdeal.RowValue.open_of_pre m' c ?_
    have h := hp c
    obtain ⟨e0, e1, e2, e3, e4, e5, e6, e7, e8, e9, e10⟩ := hag c
    rw [e0, e1, e2, e3, e4, e5, e6, e7, e8, e9, e10]
    exact h
  refine ⟨fun c => rows (fun b s j => (kArgs m c).y (kArgs m c).h b s j), fun c => rows (fun b s (j : Fin 256) => (kArgs m c).z b s ⟨3072 + j.val, by omega⟩),
    fun c => rows (fun b s (j : Fin 256) => (kArgs m c).z b s ⟨3328 + j.val, by omega⟩), ?_, ?_⟩
  · refine (θ_run _ _ _).mono (fun r h c => ?_) (Cert.KernelIdeal.Value.run_blocks m g)
    obtain ⟨h0, h1, h2, _, _, _, _, _, _, hargs⟩ := h c
    exact ⟨h0.trans (Cert.KernelIdeal.RowValue.final12 m c), h1.trans (Cert.KernelIdeal.RowValue.final13 m c), h2.trans (Cert.KernelIdeal.RowValue.final14 m c), hargs⟩
  · refine (θ_run _ _ _).mono (fun r h c => ⟨(h c _ rfl).trans ?_, (h c _ rfl).trans ?_, (h c _ rfl).trans ?_, (h c _ rfl).trans (Cert.ReferenceIdeal.RowValue.args_keep m' c 0), (h c _ rfl).trans (Cert.ReferenceIdeal.RowValue.args_keep m' c 1), (h c _ rfl).trans (Cert.ReferenceIdeal.RowValue.args_keep m' c 2), (h c _ rfl).trans (Cert.ReferenceIdeal.RowValue.args_keep m' c 3), (h c _ rfl).trans (Cert.ReferenceIdeal.RowValue.args_keep m' c 4), (h c _ rfl).trans (Cert.ReferenceIdeal.RowValue.args_keep m' c 5), (h c _ rfl).trans (Cert.ReferenceIdeal.RowValue.args_keep m' c 6), (h c _ rfl).trans (Cert.ReferenceIdeal.RowValue.args_keep m' c 7), (h c _ rfl).trans (Cert.ReferenceIdeal.RowValue.args_keep m' c 8), (h c _ rfl).trans (Cert.ReferenceIdeal.RowValue.args_keep m' c 9), (h c _ rfl).trans (Cert.ReferenceIdeal.RowValue.args_keep m' c 10)⟩) (Cert.ReferenceIdeal.Value.run_fold m' g')
    · refine eq_rows _ _ fun r j => ?_
      rw [(ho c).y, ← ha c]
      exact Cert.ReferenceIdeal.RowValue.final134 m' c r j
    · refine eq_rows _ _ fun r j => ?_
      rw [← ha c]
      exact Cert.ReferenceIdeal.RowValue.final135 m' c r j
    · refine eq_rows _ _ fun r j => ?_
      rw [← ha c]
      exact Cert.ReferenceIdeal.RowValue.final136 m' c r j

end Cert.Proof

end
-- ==== Proof.lean ====
/- The claims of `Cert.Claim`, assembled: the frames and runs are the generated modules', the values are proved in
   `OutVal`, `MlpVal`, `PleVal` and, for the recurrence, in `InVal` and the modules it imports. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.OutProj.Frame
public import proofs.«01_k».proof.Proof.Gen.Mlp.Frame
public import proofs.«01_k».proof.Proof.Gen.Ple.Frame
public import Idealize.ShloMosaic.Lib.Quiescent
public import proofs.«01_k».proof.Proof.RefKeep
public import proofs.«01_k».proof.Proof.OutVal
public import proofs.«01_k».proof.Proof.MlpVal
public import proofs.«01_k».proof.Proof.PleVal
public import proofs.«01_k».proof.Proof.InVal
public import proofs.«01_k».proof.Proof.Gen.Pre_gates_open

@[expose] public section

namespace Cert.Proof

open Idealize.ShloMosaic Idealize.ShloMosaic.TcCoe Idealize.SL.Sem

/-- Every claim. -/
theorem claim : Cert.Claim :=
  ⟨Cert.Kernel.Gen.facts, Cert.KernelIdeal.Gen.facts, Cert.ReferenceIdeal.Gen.facts, Cert.OutProj.Gen.facts, Cert.OutProjIdeal.Gen.facts, Cert.OutRefIdeal.Gen.facts, Cert.Mlp.Gen.facts, Cert.MlpIdeal.Gen.facts, Cert.MlpRefIdeal.Gen.facts, Cert.Ple.Gen.facts, Cert.PleIdeal.Gen.facts, Cert.PleRefIdeal.Gen.facts, Cert.Pre_gates_open.Gen.facts,
    fun m ρ _ => Cert.Kernel.Gen.frame m ρ,
    fun m ρ _ => Cert.KernelIdeal.Gen.frame m ρ,
    fun m ρ _ => Cert.KernelIdeal.Gen.frame m ρ,
    fun m ρ _ => (θ_run _ _ _).mono (fun r h => ⟨fun c => ⟨(h c _ rfl).trans (Cert.ReferenceIdeal.RowValue.args_keep m c 0), (h c _ rfl).trans (Cert.ReferenceIdeal.RowValue.args_keep m c 1), (h c _ rfl).trans (Cert.ReferenceIdeal.RowValue.args_keep m c 2), (h c _ rfl).trans (Cert.ReferenceIdeal.RowValue.args_keep m c 3), (h c _ rfl).trans (Cert.ReferenceIdeal.RowValue.args_keep m c 4), (h c _ rfl).trans (Cert.ReferenceIdeal.RowValue.args_keep m c 5), (h c _ rfl).trans (Cert.ReferenceIdeal.RowValue.args_keep m c 6), (h c _ rfl).trans (Cert.ReferenceIdeal.RowValue.args_keep m c 7), (h c _ rfl).trans (Cert.ReferenceIdeal.RowValue.args_keep m c 8), (h c _ rfl).trans (Cert.ReferenceIdeal.RowValue.args_keep m c 9), (h c _ rfl).trans (Cert.ReferenceIdeal.RowValue.args_keep m c 10)⟩, sem_eq_zero_of_no_sems rfl r.2⟩) (Cert.ReferenceIdeal.Value.run_fold m ρ),
    fun m ρ _ => (θ_run _ _ _).mono (fun r h => ⟨fun c => ⟨(h c _ rfl).trans (Cert.ReferenceIdeal.RowValue.args_keep m c 0), (h c _ rfl).trans (Cert.ReferenceIdeal.RowValue.args_keep m c 1), (h c _ rfl).trans (Cert.ReferenceIdeal.RowValue.args_keep m c 2), (h c _ rfl).trans (Cert.ReferenceIdeal.RowValue.args_keep m c 3), (h c _ rfl).trans (Cert.ReferenceIdeal.RowValue.args_keep m c 4), (h c _ rfl).trans (Cert.ReferenceIdeal.RowValue.args_keep m c 5), (h c _ rfl).trans (Cert.ReferenceIdeal.RowValue.args_keep m c 6), (h c _ rfl).trans (Cert.ReferenceIdeal.RowValue.args_keep m c 7), (h c _ rfl).trans (Cert.ReferenceIdeal.RowValue.args_keep m c 8), (h c _ rfl).trans (Cert.ReferenceIdeal.RowValue.args_keep m c 9), (h c _ rfl).trans (Cert.ReferenceIdeal.RowValue.args_keep m c 10)⟩, sem_eq_zero_of_no_sems rfl r.2⟩) (Cert.ReferenceIdeal.Value.run_fold m ρ),
    fun m ρ _ => Cert.OutProj.Gen.frame m ρ,
    fun m ρ _ => Cert.OutProjIdeal.Gen.frame m ρ,
    fun m ρ _ => (θ_run _ _ _).mono (fun r h => ⟨fun c => (h c).2.2, sem_eq_zero_of_no_sems rfl r.2⟩) (Cert.OutRefIdeal.Value.run m ρ),
    fun m ρ _ => Cert.Mlp.Gen.frame m ρ,
    fun m ρ _ => Cert.MlpIdeal.Gen.frame m ρ,
    fun m ρ _ => (θ_run _ _ _).mono (fun r h => ⟨fun c => (h c).2, sem_eq_zero_of_no_sems rfl r.2⟩) (Cert.MlpRefIdeal.Value.run m ρ),
    fun m ρ _ => Cert.Ple.Gen.frame m ρ,
    fun m ρ _ => Cert.PleIdeal.Gen.frame m ρ,
    fun m ρ _ => (θ_run _ _ _).mono (fun r h => ⟨fun c => (h c).2, sem_eq_zero_of_no_sems rfl r.2⟩) (Cert.PleRefIdeal.Value.run m ρ),
    trivial, algebraic_in, trivial, algebraic_out, trivial, algebraic_mlp, trivial, algebraic_ple⟩

end Cert.Proof
